-- ==== Defs.lean ====
def Pre_Kernel [hPre_groups_laid : Cert.Pre_groups_laid.Facts] (m : (ℓ : Loc Cert.Kernel.nD Cert.Kernel.τ Cert.Kernel.sig) → Buf (Elt Bits) ℓ) : Prop :=
  ∀ c : Dev Cert.Kernel.nD,
    (Cert.Pre_groups_laid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_Reference [hPre_groups_laid : Cert.Pre_groups_laid.Facts] (m : (ℓ : Loc Cert.Reference.nD Cert.Reference.τ Cert.Reference.sig) → Buf (Elt Bits) ℓ) : Prop :=
  ∀ c : Dev Cert.Reference.nD,
    (Cert.Pre_groups_laid.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjPlainIdeal (m : (ℓ : Loc Cert.ProjPlainIdeal.nD Cert.ProjPlainIdeal.τ Cert.ProjPlainIdeal.sig) → Buf (Elt Ideal) ℓ) : Prop :=
  True

def Pre_Comb (m : (ℓ : Loc Cert.Comb.nD Cert.Comb.τ Cert.Comb.sig) → Buf (Elt Bits) ℓ) : Prop :=
  True

def Pre_CombIdeal (m : (ℓ : Loc Cert.CombIdeal.nD Cert.CombIdeal.τ Cert.CombIdeal.sig) → Buf (Elt Ideal) ℓ) : Prop :=
  True

def Pre_CombPlainIdeal (m : (ℓ : Loc Cert.CombPlainIdeal.nD Cert.CombPlainIdeal.τ Cert.CombPlainIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixPlainIdeal (m : (ℓ : Loc Cert.MixPlainIdeal.nD Cert.MixPlainIdeal.τ Cert.MixPlainIdeal.sig) → Buf (Elt Ideal) ℓ) : Prop :=
  True

def quiescent_Kernel [hKernel : Cert.Kernel.Facts] [hPre_groups_laid : Cert.Pre_groups_laid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Reference [hReference : Cert.Reference.Facts] [hPre_groups_laid : Cert.Pre_groups_laid.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjPlainIdeal [hProjPlainIdeal : Cert.ProjPlainIdeal.Facts] : Prop :=
  ∀ (m : (ℓ : Loc Cert.ProjPlainIdeal.nD Cert.ProjPlainIdeal.τ Cert.ProjPlainIdeal.sig) → Buf (Elt Ideal) ℓ) (g : Dev Cert.ProjPlainIdeal.nD → PrngReg), Pre_ProjPlainIdeal m →
    θ_run (Cert.ProjPlainIdeal.defs (F := Ideal)) (onTc (τ := Cert.ProjPlainIdeal.τ) (Cert.ProjPlainIdeal.main (F := Ideal))) ⟨m, fun _ => 0, g⟩ (fun r => (∀ c : Dev Cert.ProjPlainIdeal.nD,
      r.2.mem ((c.tc : Thread Cert.ProjPlainIdeal.nD Cert.ProjPlainIdeal.τ).loc Cert.ProjPlainIdeal.main_arg0) = m ((c.tc : Thread Cert.ProjPlainIdeal.nD Cert.ProjPlainIdeal.τ).loc Cert.ProjPlainIdeal.main_arg0)
      ∧ r.2.mem ((c.tc : Thread Cert.ProjPlainIdeal.nD Cert.ProjPlainIdeal.τ).loc Cert.ProjPlainIdeal.main_arg1) = m ((c.tc : Thread Cert.ProjPlainIdeal.nD Cert.ProjPlainIdeal.τ).loc Cert.ProjPlainIdeal.main_arg1)
      ∧ r.2.mem ((c.tc : Thread Cert.ProjPlainIdeal.nD Cert.ProjPlainIdeal.τ).loc Cert.ProjPlainIdeal.main_arg2) = m ((c.tc : Thread Cert.ProjPlainIdeal.nD Cert.ProjPlainIdeal.τ).loc Cert.ProjPlainIdeal.main_arg2)
      ∧ r.2.mem ((c.tc : Thread Cert.ProjPlainIdeal.nD Cert.ProjPlainIdeal.τ).loc Cert.ProjPlainIdeal.main_arg3) = m ((c.tc : Thread Cert.ProjPlainIdeal.nD Cert.ProjPlainIdeal.τ).loc Cert.ProjPlainIdeal.main_arg3))
      ∧ r.2.sem = fun _ => 0)

def quiescent_Comb [hComb : Cert.Comb.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2)
      ∧ r.2.mem ((c.tc : Thread Cert.Comb.nD Cert.Comb.τ).loc Cert.Comb.main_arg3) = m ((c.tc : Thread Cert.Comb.nD Cert.Comb.τ).loc Cert.Comb.main_arg3)
      ∧ r.2.mem ((c.tc : Thread Cert.Comb.nD Cert.Comb.τ).loc Cert.Comb.main_arg4) = m ((c.tc : Thread Cert.Comb.nD Cert.Comb.τ).loc Cert.Comb.main_arg4)
      ∧ r.2.mem ((c.tc : Thread Cert.Comb.nD Cert.Comb.τ).loc Cert.Comb.main_arg5) = m ((c.tc : Thread Cert.Comb.nD Cert.Comb.τ).loc Cert.Comb.main_arg5)
      ∧ r.2.mem ((c.tc : Thread Cert.Comb.nD Cert.Comb.τ).loc Cert.Comb.main_arg6) = m ((c.tc : Thread Cert.Comb.nD Cert.Comb.τ).loc Cert.Comb.main_arg6)
      ∧ r.2.mem ((c.tc : Thread Cert.Comb.nD Cert.Comb.τ).loc Cert.Comb.main_arg7) = m ((c.tc : Thread Cert.Comb.nD Cert.Comb.τ).loc Cert.Comb.main_arg7)
      ∧ r.2.mem ((c.tc : Thread Cert.Comb.nD Cert.Comb.τ).loc Cert.Comb.main_arg8) = m ((c.tc : Thread Cert.Comb.nD Cert.Comb.τ).loc Cert.Comb.main_arg8))
      ∧ r.2.sem = fun _ => 0)

def quiescent_CombIdeal [hCombIdeal : Cert.CombIdeal.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
      ∧ r.2.mem ((c.tc : Thread Cert.CombIdeal.nD Cert.CombIdeal.τ).loc Cert.CombIdeal.main_arg5) = m ((c.tc : Thread Cert.CombIdeal.nD Cert.CombIdeal.τ).loc Cert.CombIdeal.main_arg5)
      ∧ r.2.mem ((c.tc : Thread Cert.CombIdeal.nD Cert.CombIdeal.τ).loc Cert.CombIdeal.main_arg6) = m ((c.tc : Thread Cert.CombIdeal.nD Cert.CombIdeal.τ).loc Cert.CombIdeal.main_arg6)
      ∧ r.2.mem ((c.tc : Thread Cert.CombIdeal.nD Cert.CombIdeal.τ).loc Cert.CombIdeal.main_arg7) = m ((c.tc : Thread Cert.CombIdeal.nD Cert.CombIdeal.τ).loc Cert.CombIdeal.main_arg7)
      ∧ r.2.mem ((c.tc : Thread Cert.CombIdeal.nD Cert.CombIdeal.τ).loc Cert.CombIdeal.main_arg8) = m ((c.tc : Thread Cert.CombIdeal.nD Cert.CombIdeal.τ).loc Cert.CombIdeal.main_arg8))
      ∧ r.2.sem = fun _ => 0)

def quiescent_CombPlainIdeal [hCombPlainIdeal : Cert.CombPlainIdeal.Facts] : Prop :=
  ∀ (m : (ℓ : Loc Cert.CombPlainIdeal.nD Cert.CombPlainIdeal.τ Cert.CombPlainIdeal.sig) → Buf (Elt Ideal) ℓ) (g : Dev Cert.CombPlainIdeal.nD → PrngReg), Pre_CombPlainIdeal m →
    θ_run (Cert.CombPlainIdeal.defs (F := Ideal)) (onTc (τ := Cert.CombPlainIdeal.τ) (Cert.CombPlainIdeal.main (F := Ideal))) ⟨m, fun _ => 0, g⟩ (fun r => (∀ c : Dev Cert.CombPlainIdeal.nD,
      r.2.mem ((c.tc : Thread Cert.CombPlainIdeal.nD Cert.CombPlainIdeal.τ).loc Cert.CombPlainIdeal.main_arg0) = m ((c.tc : Thread Cert.CombPlainIdeal.nD Cert.CombPlainIdeal.τ).loc Cert.CombPlainIdeal.main_arg0)
      ∧ r.2.mem ((c.tc : Thread Cert.CombPlainIdeal.nD Cert.CombPlainIdeal.τ).loc Cert.CombPlainIdeal.main_arg1) = m ((c.tc : Thread Cert.CombPlainIdeal.nD Cert.CombPlainIdeal.τ).loc Cert.CombPlainIdeal.main_arg1)
      ∧ r.2.mem ((c.tc : Thread Cert.CombPlainIdeal.nD Cert.CombPlainIdeal.τ).loc Cert.CombPlainIdeal.main_arg2) = m ((c.tc : Thread Cert.CombPlainIdeal.nD Cert.CombPlainIdeal.τ).loc Cert.CombPlainIdeal.main_arg2)
      ∧ r.2.mem ((c.tc : Thread Cert.CombPlainIdeal.nD Cert.CombPlainIdeal.τ).loc Cert.CombPlainIdeal.main_arg3) = m ((c.tc : Thread Cert.CombPlainIdeal.nD Cert.CombPlainIdeal.τ).loc Cert.CombPlainIdeal.main_arg3)
      ∧ r.2.mem ((c.tc : Thread Cert.CombPlainIdeal.nD Cert.CombPlainIdeal.τ).loc Cert.CombPlainIdeal.main_arg4) = m ((c.tc : Thread Cert.CombPlainIdeal.nD Cert.CombPlainIdeal.τ).loc Cert.CombPlainIdeal.main_arg4)
      ∧ r.2.mem ((c.tc : Thread Cert.CombPlainIdeal.nD Cert.CombPlainIdeal.τ).loc Cert.CombPlainIdeal.main_arg5) = m ((c.tc : Thread Cert.CombPlainIdeal.nD Cert.CombPlainIdeal.τ).loc Cert.CombPlainIdeal.main_arg5)
      ∧ r.2.mem ((c.tc : Thread Cert.CombPlainIdeal.nD Cert.CombPlainIdeal.τ).loc Cert.CombPlainIdeal.main_arg6) = m ((c.tc : Thread Cert.CombPlainIdeal.nD Cert.CombPlainIdeal.τ).loc Cert.CombPlainIdeal.main_arg6)
      ∧ r.2.mem ((c.tc : Thread Cert.CombPlainIdeal.nD Cert.CombPlainIdeal.τ).loc Cert.CombPlainIdeal.main_arg7) = m ((c.tc : Thread Cert.CombPlainIdeal.nD Cert.CombPlainIdeal.τ).loc Cert.CombPlainIdeal.main_arg7)
      ∧ r.2.mem ((c.tc : Thread Cert.CombPlainIdeal.nD Cert.CombPlainIdeal.τ).loc Cert.CombPlainIdeal.main_arg8) = m ((c.tc : Thread Cert.CombPlainIdeal.nD Cert.CombPlainIdeal.τ).loc Cert.CombPlainIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixPlainIdeal [hMixPlainIdeal : Cert.MixPlainIdeal.Facts] : Prop :=
  ∀ (m : (ℓ : Loc Cert.MixPlainIdeal.nD Cert.MixPlainIdeal.τ Cert.MixPlainIdeal.sig) → Buf (Elt Ideal) ℓ) (g : Dev Cert.MixPlainIdeal.nD → PrngReg), Pre_MixPlainIdeal m →
    θ_run (Cert.MixPlainIdeal.defs (F := Ideal)) (onTc (τ := Cert.MixPlainIdeal.τ) (Cert.MixPlainIdeal.main (F := Ideal))) ⟨m, fun _ => 0, g⟩ (fun r => (∀ c : Dev Cert.MixPlainIdeal.nD,
      r.2.mem ((c.tc : Thread Cert.MixPlainIdeal.nD Cert.MixPlainIdeal.τ).loc Cert.MixPlainIdeal.main_arg0) = m ((c.tc : Thread Cert.MixPlainIdeal.nD Cert.MixPlainIdeal.τ).loc Cert.MixPlainIdeal.main_arg0)
      ∧ r.2.mem ((c.tc : Thread Cert.MixPlainIdeal.nD Cert.MixPlainIdeal.τ).loc Cert.MixPlainIdeal.main_arg1) = m ((c.tc : Thread Cert.MixPlainIdeal.nD Cert.MixPlainIdeal.τ).loc Cert.MixPlainIdeal.main_arg1)
      ∧ r.2.mem ((c.tc : Thread Cert.MixPlainIdeal.nD Cert.MixPlainIdeal.τ).loc Cert.MixPlainIdeal.main_arg2) = m ((c.tc : Thread Cert.MixPlainIdeal.nD Cert.MixPlainIdeal.τ).loc Cert.MixPlainIdeal.main_arg2)
      ∧ r.2.mem ((c.tc : Thread Cert.MixPlainIdeal.nD Cert.MixPlainIdeal.τ).loc Cert.MixPlainIdeal.main_arg3) = m ((c.tc : Thread Cert.MixPlainIdeal.nD Cert.MixPlainIdeal.τ).loc Cert.MixPlainIdeal.main_arg3)
      ∧ r.2.mem ((c.tc : Thread Cert.MixPlainIdeal.nD Cert.MixPlainIdeal.τ).loc Cert.MixPlainIdeal.main_arg4) = m ((c.tc : Thread Cert.MixPlainIdeal.nD Cert.MixPlainIdeal.τ).loc Cert.MixPlainIdeal.main_arg4)
      ∧ r.2.mem ((c.tc : Thread Cert.MixPlainIdeal.nD Cert.MixPlainIdeal.τ).loc Cert.MixPlainIdeal.main_arg5) = m ((c.tc : Thread Cert.MixPlainIdeal.nD Cert.MixPlainIdeal.τ).loc Cert.MixPlainIdeal.main_arg5)
      ∧ r.2.mem ((c.tc : Thread Cert.MixPlainIdeal.nD Cert.MixPlainIdeal.τ).loc Cert.MixPlainIdeal.main_arg6) = m ((c.tc : Thread Cert.MixPlainIdeal.nD Cert.MixPlainIdeal.τ).loc Cert.MixPlainIdeal.main_arg6)
      ∧ r.2.mem ((c.tc : Thread Cert.MixPlainIdeal.nD Cert.MixPlainIdeal.τ).loc Cert.MixPlainIdeal.main_arg7) = m ((c.tc : Thread Cert.MixPlainIdeal.nD Cert.MixPlainIdeal.τ).loc Cert.MixPlainIdeal.main_arg7)
      ∧ r.2.mem ((c.tc : Thread Cert.MixPlainIdeal.nD Cert.MixPlainIdeal.τ).loc Cert.MixPlainIdeal.main_arg8) = m ((c.tc : Thread Cert.MixPlainIdeal.nD Cert.MixPlainIdeal.τ).loc Cert.MixPlainIdeal.main_arg8)
      ∧ r.2.mem ((c.tc : Thread Cert.MixPlainIdeal.nD Cert.MixPlainIdeal.τ).loc Cert.MixPlainIdeal.main_arg9) = m ((c.tc : Thread Cert.MixPlainIdeal.nD Cert.MixPlainIdeal.τ).loc Cert.MixPlainIdeal.main_arg9))
      ∧ r.2.sem = fun _ => 0)

def bitexact_Kernel_Reference_on_rows_used [hKernel : Cert.Kernel.Facts] [hReference : Cert.Reference.Facts] [hPre_groups_laid : Cert.Pre_groups_laid.Facts] [hOn_rows_used : Cert.On_rows_used.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          (∀ i : (⟨2, ![163840, 512]⟩ : Shape).Idx, (Cert.On_rows_used.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) i = 1#1 → r.2.mem ((c.tc : Thread Cert.Kernel.nD Cert.Kernel.τ).loc Cert.Kernel.main_v0) i = v0 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r => ∀ c : Dev Cert.Reference.nD,
          (∀ i : (⟨2, ![163840, 512]⟩ : Shape).Idx, (Cert.On_rows_used.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) i = 1#1 → r.2.mem ((c.tc : Thread Cert.Reference.nD Cert.Reference.τ).loc Cert.Reference.main_v47) i = v0 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5))

def preserves_Proj_ProjIdeal : Prop :=
  True

def algebraic_ProjIdeal_ProjPlainIdeal [hProjIdeal : Cert.ProjIdeal.Facts] [hProjPlainIdeal : Cert.ProjPlainIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjPlainIdeal.nD Cert.ProjPlainIdeal.τ Cert.ProjPlainIdeal.sig) → Buf (Elt Ideal) ℓ) (g' : Dev Cert.ProjPlainIdeal.nD → PrngReg), Pre_ProjIdeal m →
    (∀ c : Dev Cert.ProjIdeal.nD,
      m' ((c.tc : Thread Cert.ProjPlainIdeal.nD Cert.ProjPlainIdeal.τ).loc Cert.ProjPlainIdeal.main_arg0) = m ((c.tc : Thread Cert.ProjIdeal.nD Cert.ProjIdeal.τ).loc Cert.ProjIdeal.main_arg0)
      ∧ m' ((c.tc : Thread Cert.ProjPlainIdeal.nD Cert.ProjPlainIdeal.τ).loc Cert.ProjPlainIdeal.main_arg1) = m ((c.tc : Thread Cert.ProjIdeal.nD Cert.ProjIdeal.τ).loc Cert.ProjIdeal.main_arg1)
      ∧ m' ((c.tc : Thread Cert.ProjPlainIdeal.nD Cert.ProjPlainIdeal.τ).loc Cert.ProjPlainIdeal.main_arg2) = m ((c.tc : Thread Cert.ProjIdeal.nD Cert.ProjIdeal.τ).loc Cert.ProjIdeal.main_arg2)
      ∧ m' ((c.tc : Thread Cert.ProjPlainIdeal.nD Cert.ProjPlainIdeal.τ).loc Cert.ProjPlainIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v9)) (v1 : (c : Dev Cert.ProjIdeal.nD) → Buf (Elt Ideal) ((c.tc : Thread Cert.ProjIdeal.nD Cert.ProjIdeal.τ).loc Cert.ProjIdeal.main_v10)) (v2 : (c : Dev Cert.ProjIdeal.nD) → Buf (Elt Ideal) ((c.tc : Thread Cert.ProjIdeal.nD Cert.ProjIdeal.τ).loc Cert.ProjIdeal.main_v11)) (v3 : (c : Dev Cert.ProjIdeal.nD) → Buf (Elt Ideal) ((c.tc : Thread Cert.ProjIdeal.nD Cert.ProjIdeal.τ).loc Cert.ProjIdeal.main_v12)) (v4 : (c : Dev Cert.ProjIdeal.nD) → Buf (Elt Ideal) ((c.tc : Thread Cert.ProjIdeal.nD Cert.ProjIdeal.τ).loc Cert.ProjIdeal.main_v13)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9) = v0 c
          ∧ r.2.mem ((c.tc : Thread Cert.ProjIdeal.nD Cert.ProjIdeal.τ).loc Cert.ProjIdeal.main_v10) = v1 c
          ∧ r.2.mem ((c.tc : Thread Cert.ProjIdeal.nD Cert.ProjIdeal.τ).loc Cert.ProjIdeal.main_v11) = v2 c
          ∧ r.2.mem ((c.tc : Thread Cert.ProjIdeal.nD Cert.ProjIdeal.τ).loc Cert.ProjIdeal.main_v12) = v3 c
          ∧ r.2.mem ((c.tc : Thread Cert.ProjIdeal.nD Cert.ProjIdeal.τ).loc Cert.ProjIdeal.main_v13) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjPlainIdeal.defs (F := Ideal)) (onTc (τ := Cert.ProjPlainIdeal.τ) (Cert.ProjPlainIdeal.main (F := Ideal))) ⟨m', fun _ => 0, g'⟩ (fun r => ∀ c : Dev Cert.ProjPlainIdeal.nD,
          r.2.mem ((c.tc : Thread Cert.ProjPlainIdeal.nD Cert.ProjPlainIdeal.τ).loc Cert.ProjPlainIdeal.main_v25) = v0 c
          ∧ r.2.mem ((c.tc : Thread Cert.ProjPlainIdeal.nD Cert.ProjPlainIdeal.τ).loc Cert.ProjPlainIdeal.main_v26) = v1 c
          ∧ r.2.mem ((c.tc : Thread Cert.ProjPlainIdeal.nD Cert.ProjPlainIdeal.τ).loc Cert.ProjPlainIdeal.main_v27) = v2 c
          ∧ r.2.mem ((c.tc : Thread Cert.ProjPlainIdeal.nD Cert.ProjPlainIdeal.τ).loc Cert.ProjPlainIdeal.main_v28) = v3 c
          ∧ r.2.mem ((c.tc : Thread Cert.ProjPlainIdeal.nD Cert.ProjPlainIdeal.τ).loc Cert.ProjPlainIdeal.main_v29) = v4 c
          ∧ r.2.mem ((c.tc : Thread Cert.ProjPlainIdeal.nD Cert.ProjPlainIdeal.τ).loc Cert.ProjPlainIdeal.main_arg0) = m' ((c.tc : Thread Cert.ProjPlainIdeal.nD Cert.ProjPlainIdeal.τ).loc Cert.ProjPlainIdeal.main_arg0)
          ∧ r.2.mem ((c.tc : Thread Cert.ProjPlainIdeal.nD Cert.ProjPlainIdeal.τ).loc Cert.ProjPlainIdeal.main_arg1) = m' ((c.tc : Thread Cert.ProjPlainIdeal.nD Cert.ProjPlainIdeal.τ).loc Cert.ProjPlainIdeal.main_arg1)
          ∧ r.2.mem ((c.tc : Thread Cert.ProjPlainIdeal.nD Cert.ProjPlainIdeal.τ).loc Cert.ProjPlainIdeal.main_arg2) = m' ((c.tc : Thread Cert.ProjPlainIdeal.nD Cert.ProjPlainIdeal.τ).loc Cert.ProjPlainIdeal.main_arg2)
          ∧ r.2.mem ((c.tc : Thread Cert.ProjPlainIdeal.nD Cert.ProjPlainIdeal.τ).loc Cert.ProjPlainIdeal.main_arg3) = m' ((c.tc : Thread Cert.ProjPlainIdeal.nD Cert.ProjPlainIdeal.τ).loc Cert.ProjPlainIdeal.main_arg3))

def preserves_Comb_CombIdeal : Prop :=
  True

def algebraic_CombIdeal_CombPlainIdeal [hCombIdeal : Cert.CombIdeal.Facts] [hCombPlainIdeal : Cert.CombPlainIdeal.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.CombPlainIdeal.nD Cert.CombPlainIdeal.τ Cert.CombPlainIdeal.sig) → Buf (Elt Ideal) ℓ) (g' : Dev Cert.CombPlainIdeal.nD → PrngReg), Pre_CombIdeal m →
    (∀ c : Dev Cert.CombIdeal.nD,
      m' ((c.tc : Thread Cert.CombPlainIdeal.nD Cert.CombPlainIdeal.τ).loc Cert.CombPlainIdeal.main_arg0) = m ((c.tc : Thread Cert.CombIdeal.nD Cert.CombIdeal.τ).loc Cert.CombIdeal.main_arg0)
      ∧ m' ((c.tc : Thread Cert.CombPlainIdeal.nD Cert.CombPlainIdeal.τ).loc Cert.CombPlainIdeal.main_arg1) = m ((c.tc : Thread Cert.CombIdeal.nD Cert.CombIdeal.τ).loc Cert.CombIdeal.main_arg1)
      ∧ m' ((c.tc : Thread Cert.CombPlainIdeal.nD Cert.CombPlainIdeal.τ).loc Cert.CombPlainIdeal.main_arg2) = m ((c.tc : Thread Cert.CombIdeal.nD Cert.CombIdeal.τ).loc Cert.CombIdeal.main_arg2)
      ∧ m' ((c.tc : Thread Cert.CombPlainIdeal.nD Cert.CombPlainIdeal.τ).loc Cert.CombPlainIdeal.main_arg3) = m ((c.tc : Thread Cert.CombIdeal.nD Cert.CombIdeal.τ).loc Cert.CombIdeal.main_arg3)
      ∧ m' ((c.tc : Thread Cert.CombPlainIdeal.nD Cert.CombPlainIdeal.τ).loc Cert.CombPlainIdeal.main_arg4) = m ((c.tc : Thread Cert.CombIdeal.nD Cert.CombIdeal.τ).loc Cert.CombIdeal.main_arg4)
      ∧ m' ((c.tc : Thread Cert.CombPlainIdeal.nD Cert.CombPlainIdeal.τ).loc Cert.CombPlainIdeal.main_arg5) = m ((c.tc : Thread Cert.CombIdeal.nD Cert.CombIdeal.τ).loc Cert.CombIdeal.main_arg5)
      ∧ m' ((c.tc : Thread Cert.CombPlainIdeal.nD Cert.CombPlainIdeal.τ).loc Cert.CombPlainIdeal.main_arg6) = m ((c.tc : Thread Cert.CombIdeal.nD Cert.CombIdeal.τ).loc Cert.CombIdeal.main_arg6)
      ∧ m' ((c.tc : Thread Cert.CombPlainIdeal.nD Cert.CombPlainIdeal.τ).loc Cert.CombPlainIdeal.main_arg7) = m ((c.tc : Thread Cert.CombIdeal.nD Cert.CombIdeal.τ).loc Cert.CombIdeal.main_arg7)
      ∧ m' ((c.tc : Thread Cert.CombPlainIdeal.nD Cert.CombPlainIdeal.τ).loc Cert.CombPlainIdeal.main_arg8) = m ((c.tc : Thread Cert.CombIdeal.nD Cert.CombIdeal.τ).loc Cert.CombIdeal.main_arg8)) →
    ∃ (v0 : (c : Dev Cert.CombIdeal.nD) → Buf (Elt Ideal) ((c.tc : Thread Cert.CombIdeal.nD Cert.CombIdeal.τ).loc Cert.CombIdeal.main_v6)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v6) = v0 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
          ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
          ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
          ∧ r.2.mem ((c.tc : Thread Cert.CombIdeal.nD Cert.CombIdeal.τ).loc Cert.CombIdeal.main_arg5) = m ((c.tc : Thread Cert.CombIdeal.nD Cert.CombIdeal.τ).loc Cert.CombIdeal.main_arg5)
          ∧ r.2.mem ((c.tc : Thread Cert.CombIdeal.nD Cert.CombIdeal.τ).loc Cert.CombIdeal.main_arg6) = m ((c.tc : Thread Cert.CombIdeal.nD Cert.CombIdeal.τ).loc Cert.CombIdeal.main_arg6)
          ∧ r.2.mem ((c.tc : Thread Cert.CombIdeal.nD Cert.CombIdeal.τ).loc Cert.CombIdeal.main_arg7) = m ((c.tc : Thread Cert.CombIdeal.nD Cert.CombIdeal.τ).loc Cert.CombIdeal.main_arg7)
          ∧ r.2.mem ((c.tc : Thread Cert.CombIdeal.nD Cert.CombIdeal.τ).loc Cert.CombIdeal.main_arg8) = m ((c.tc : Thread Cert.CombIdeal.nD Cert.CombIdeal.τ).loc Cert.CombIdeal.main_arg8))
      ∧ θ_run (Cert.CombPlainIdeal.defs (F := Ideal)) (onTc (τ := Cert.CombPlainIdeal.τ) (Cert.CombPlainIdeal.main (F := Ideal))) ⟨m', fun _ => 0, g'⟩ (fun r => ∀ c : Dev Cert.CombPlainIdeal.nD,
          r.2.mem ((c.tc : Thread Cert.CombPlainIdeal.nD Cert.CombPlainIdeal.τ).loc Cert.CombPlainIdeal.main_v56) = v0 c
          ∧ r.2.mem ((c.tc : Thread Cert.CombPlainIdeal.nD Cert.CombPlainIdeal.τ).loc Cert.CombPlainIdeal.main_arg0) = m' ((c.tc : Thread Cert.CombPlainIdeal.nD Cert.CombPlainIdeal.τ).loc Cert.CombPlainIdeal.main_arg0)
          ∧ r.2.mem ((c.tc : Thread Cert.CombPlainIdeal.nD Cert.CombPlainIdeal.τ).loc Cert.CombPlainIdeal.main_arg1) = m' ((c.tc : Thread Cert.CombPlainIdeal.nD Cert.CombPlainIdeal.τ).loc Cert.CombPlainIdeal.main_arg1)
          ∧ r.2.mem ((c.tc : Thread Cert.CombPlainIdeal.nD Cert.CombPlainIdeal.τ).loc Cert.CombPlainIdeal.main_arg2) = m' ((c.tc : Thread Cert.CombPlainIdeal.nD Cert.CombPlainIdeal.τ).loc Cert.CombPlainIdeal.main_arg2)
          ∧ r.2.mem ((c.tc : Thread Cert.CombPlainIdeal.nD Cert.CombPlainIdeal.τ).loc Cert.CombPlainIdeal.main_arg3) = m' ((c.tc : Thread Cert.CombPlainIdeal.nD Cert.CombPlainIdeal.τ).loc Cert.CombPlainIdeal.main_arg3)
          ∧ r.2.mem ((c.tc : Thread Cert.CombPlainIdeal.nD Cert.CombPlainIdeal.τ).loc Cert.CombPlainIdeal.main_arg4) = m' ((c.tc : Thread Cert.CombPlainIdeal.nD Cert.CombPlainIdeal.τ).loc Cert.CombPlainIdeal.main_arg4)
          ∧ r.2.mem ((c.tc : Thread Cert.CombPlainIdeal.nD Cert.CombPlainIdeal.τ).loc Cert.CombPlainIdeal.main_arg5) = m' ((c.tc : Thread Cert.CombPlainIdeal.nD Cert.CombPlainIdeal.τ).loc Cert.CombPlainIdeal.main_arg5)
          ∧ r.2.mem ((c.tc : Thread Cert.CombPlainIdeal.nD Cert.CombPlainIdeal.τ).loc Cert.CombPlainIdeal.main_arg6) = m' ((c.tc : Thread Cert.CombPlainIdeal.nD Cert.CombPlainIdeal.τ).loc Cert.CombPlainIdeal.main_arg6)
          ∧ r.2.mem ((c.tc : Thread Cert.CombPlainIdeal.nD Cert.CombPlainIdeal.τ).loc Cert.CombPlainIdeal.main_arg7) = m' ((c.tc : Thread Cert.CombPlainIdeal.nD Cert.CombPlainIdeal.τ).loc Cert.CombPlainIdeal.main_arg7)
          ∧ r.2.mem ((c.tc : Thread Cert.CombPlainIdeal.nD Cert.CombPlainIdeal.τ).loc Cert.CombPlainIdeal.main_arg8) = m' ((c.tc : Thread Cert.CombPlainIdeal.nD Cert.CombPlainIdeal.τ).loc Cert.CombPlainIdeal.main_arg8))

def preserves_Mix_MixIdeal : Prop :=
  IdealRules.bf16_pair.BufferStatement Cert.MixIdeal.S16384x2x512 Cert.MixIdeal.S16384x1x512
  ∧ IdealRules.bf16_pair.BufferStatement Cert.MixIdeal.S1024x2x512 Cert.MixIdeal.S1024x1x512
  ∧ IdealRules.bf16_pair.Statement Cert.MixIdeal.S512x2x512 Cert.MixIdeal.S512x1x512
  ∧ IdealRules.bf16_pack.Statement Cert.MixIdeal.S512x512

def algebraic_MixIdeal_MixPlainIdeal [hMixIdeal : Cert.MixIdeal.Facts] [hMixPlainIdeal : Cert.MixPlainIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixPlainIdeal.nD Cert.MixPlainIdeal.τ Cert.MixPlainIdeal.sig) → Buf (Elt Ideal) ℓ) (g' : Dev Cert.MixPlainIdeal.nD → PrngReg), Pre_MixIdeal m →
    (∀ c : Dev Cert.MixIdeal.nD,
      m' ((c.tc : Thread Cert.MixPlainIdeal.nD Cert.MixPlainIdeal.τ).loc Cert.MixPlainIdeal.main_arg0) = m ((c.tc : Thread Cert.MixIdeal.nD Cert.MixIdeal.τ).loc Cert.MixIdeal.main_arg0)
      ∧ m' ((c.tc : Thread Cert.MixPlainIdeal.nD Cert.MixPlainIdeal.τ).loc Cert.MixPlainIdeal.main_arg1) = m ((c.tc : Thread Cert.MixIdeal.nD Cert.MixIdeal.τ).loc Cert.MixIdeal.main_arg1)
      ∧ m' ((c.tc : Thread Cert.MixPlainIdeal.nD Cert.MixPlainIdeal.τ).loc Cert.MixPlainIdeal.main_arg2) = m ((c.tc : Thread Cert.MixIdeal.nD Cert.MixIdeal.τ).loc Cert.MixIdeal.main_arg2)
      ∧ m' ((c.tc : Thread Cert.MixPlainIdeal.nD Cert.MixPlainIdeal.τ).loc Cert.MixPlainIdeal.main_arg3) = m ((c.tc : Thread Cert.MixIdeal.nD Cert.MixIdeal.τ).loc Cert.MixIdeal.main_arg3)
      ∧ m' ((c.tc : Thread Cert.MixPlainIdeal.nD Cert.MixPlainIdeal.τ).loc Cert.MixPlainIdeal.main_arg4) = m ((c.tc : Thread Cert.MixIdeal.nD Cert.MixIdeal.τ).loc Cert.MixIdeal.main_arg4)
      ∧ m' ((c.tc : Thread Cert.MixPlainIdeal.nD Cert.MixPlainIdeal.τ).loc Cert.MixPlainIdeal.main_arg5) = m ((c.tc : Thread Cert.MixIdeal.nD Cert.MixIdeal.τ).loc Cert.MixIdeal.main_arg5)
      ∧ m' ((c.tc : Thread Cert.MixPlainIdeal.nD Cert.MixPlainIdeal.τ).loc Cert.MixPlainIdeal.main_arg6) = m ((c.tc : Thread Cert.MixIdeal.nD Cert.MixIdeal.τ).loc Cert.MixIdeal.main_arg6)
      ∧ m' ((c.tc : Thread Cert.MixPlainIdeal.nD Cert.MixPlainIdeal.τ).loc Cert.MixPlainIdeal.main_arg7) = m ((c.tc : Thread Cert.MixIdeal.nD Cert.MixIdeal.τ).loc Cert.MixIdeal.main_arg7)
      ∧ m' ((c.tc : Thread Cert.MixPlainIdeal.nD Cert.MixPlainIdeal.τ).loc Cert.MixPlainIdeal.main_arg8) = m ((c.tc : Thread Cert.MixIdeal.nD Cert.MixIdeal.τ).loc Cert.MixIdeal.main_arg8)
      ∧ m' ((c.tc : Thread Cert.MixPlainIdeal.nD Cert.MixPlainIdeal.τ).loc Cert.MixPlainIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v13)) (v1 : (c : Dev Cert.MixIdeal.nD) → Buf (Elt Ideal) ((c.tc : Thread Cert.MixIdeal.nD Cert.MixIdeal.τ).loc Cert.MixIdeal.main_v15)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v13) = v0 c
          ∧ r.2.mem ((c.tc : Thread Cert.MixIdeal.nD Cert.MixIdeal.τ).loc Cert.MixIdeal.main_v15) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixPlainIdeal.defs (F := Ideal)) (onTc (τ := Cert.MixPlainIdeal.τ) (Cert.MixPlainIdeal.main (F := Ideal))) ⟨m', fun _ => 0, g'⟩ (fun r => ∀ c : Dev Cert.MixPlainIdeal.nD,
          r.2.mem ((c.tc : Thread Cert.MixPlainIdeal.nD Cert.MixPlainIdeal.τ).loc Cert.MixPlainIdeal.main_v31) = v0 c
          ∧ r.2.mem ((c.tc : Thread Cert.MixPlainIdeal.nD Cert.MixPlainIdeal.τ).loc Cert.MixPlainIdeal.main_v62) = v1 c
          ∧ r.2.mem ((c.tc : Thread Cert.MixPlainIdeal.nD Cert.MixPlainIdeal.τ).loc Cert.MixPlainIdeal.main_arg0) = m' ((c.tc : Thread Cert.MixPlainIdeal.nD Cert.MixPlainIdeal.τ).loc Cert.MixPlainIdeal.main_arg0)
          ∧ r.2.mem ((c.tc : Thread Cert.MixPlainIdeal.nD Cert.MixPlainIdeal.τ).loc Cert.MixPlainIdeal.main_arg1) = m' ((c.tc : Thread Cert.MixPlainIdeal.nD Cert.MixPlainIdeal.τ).loc Cert.MixPlainIdeal.main_arg1)
          ∧ r.2.mem ((c.tc : Thread Cert.MixPlainIdeal.nD Cert.MixPlainIdeal.τ).loc Cert.MixPlainIdeal.main_arg2) = m' ((c.tc : Thread Cert.MixPlainIdeal.nD Cert.MixPlainIdeal.τ).loc Cert.MixPlainIdeal.main_arg2)
          ∧ r.2.mem ((c.tc : Thread Cert.MixPlainIdeal.nD Cert.MixPlainIdeal.τ).loc Cert.MixPlainIdeal.main_arg3) = m' ((c.tc : Thread Cert.MixPlainIdeal.nD Cert.MixPlainIdeal.τ).loc Cert.MixPlainIdeal.main_arg3)
          ∧ r.2.mem ((c.tc : Thread Cert.MixPlainIdeal.nD Cert.MixPlainIdeal.τ).loc Cert.MixPlainIdeal.main_arg4) = m' ((c.tc : Thread Cert.MixPlainIdeal.nD Cert.MixPlainIdeal.τ).loc Cert.MixPlainIdeal.main_arg4)
          ∧ r.2.mem ((c.tc : Thread Cert.MixPlainIdeal.nD Cert.MixPlainIdeal.τ).loc Cert.MixPlainIdeal.main_arg5) = m' ((c.tc : Thread Cert.MixPlainIdeal.nD Cert.MixPlainIdeal.τ).loc Cert.MixPlainIdeal.main_arg5)
          ∧ r.2.mem ((c.tc : Thread Cert.MixPlainIdeal.nD Cert.MixPlainIdeal.τ).loc Cert.MixPlainIdeal.main_arg6) = m' ((c.tc : Thread Cert.MixPlainIdeal.nD Cert.MixPlainIdeal.τ).loc Cert.MixPlainIdeal.main_arg6)
          ∧ r.2.mem ((c.tc : Thread Cert.MixPlainIdeal.nD Cert.MixPlainIdeal.τ).loc Cert.MixPlainIdeal.main_arg7) = m' ((c.tc : Thread Cert.MixPlainIdeal.nD Cert.MixPlainIdeal.τ).loc Cert.MixPlainIdeal.main_arg7)
          ∧ r.2.mem ((c.tc : Thread Cert.MixPlainIdeal.nD Cert.MixPlainIdeal.τ).loc Cert.MixPlainIdeal.main_arg8) = m' ((c.tc : Thread Cert.MixPlainIdeal.nD Cert.MixPlainIdeal.τ).loc Cert.MixPlainIdeal.main_arg8)
          ∧ r.2.mem ((c.tc : Thread Cert.MixPlainIdeal.nD Cert.MixPlainIdeal.τ).loc Cert.MixPlainIdeal.main_arg9) = m' ((c.tc : Thread Cert.MixPlainIdeal.nD Cert.MixPlainIdeal.τ).loc Cert.MixPlainIdeal.main_arg9))

def Claim : Prop :=
  ∃ (hKernel : Cert.Kernel.Facts) (hReference : Cert.Reference.Facts) (hProj : Cert.Proj.Facts) (hProjIdeal : Cert.ProjIdeal.Facts) (hProjPlainIdeal : Cert.ProjPlainIdeal.Facts) (hComb : Cert.Comb.Facts) (hCombIdeal : Cert.CombIdeal.Facts) (hCombPlainIdeal : Cert.CombPlainIdeal.Facts) (hMix : Cert.Mix.Facts) (hMixIdeal : Cert.MixIdeal.Facts) (hMixPlainIdeal : Cert.MixPlainIdeal.Facts) (hPre_groups_laid : Cert.Pre_groups_laid.Facts) (hOn_rows_used : Cert.On_rows_used.Facts),
    quiescent_Kernel (hKernel := hKernel) (hPre_groups_laid := hPre_groups_laid)
    ∧ quiescent_Reference (hReference := hReference) (hPre_groups_laid := hPre_groups_laid)
    ∧ quiescent_Proj (hProj := hProj)
    ∧ quiescent_ProjIdeal (hProjIdeal := hProjIdeal)
    ∧ quiescent_ProjPlainIdeal (hProjPlainIdeal := hProjPlainIdeal)
    ∧ quiescent_Comb (hComb := hComb)
    ∧ quiescent_CombIdeal (hCombIdeal := hCombIdeal)
    ∧ quiescent_CombPlainIdeal (hCombPlainIdeal := hCombPlainIdeal)
    ∧ quiescent_Mix (hMix := hMix)
    ∧ quiescent_MixIdeal (hMixIdeal := hMixIdeal)
    ∧ quiescent_MixPlainIdeal (hMixPlainIdeal := hMixPlainIdeal)
    ∧ bitexact_Kernel_Reference_on_rows_used (hKernel := hKernel) (hReference := hReference) (hPre_groups_laid := hPre_groups_laid) (hOn_rows_used := hOn_rows_used)
    ∧ preserves_Proj_ProjIdeal
    ∧ algebraic_ProjIdeal_ProjPlainIdeal (hProjIdeal := hProjIdeal) (hProjPlainIdeal := hProjPlainIdeal)
    ∧ preserves_Comb_CombIdeal
    ∧ algebraic_CombIdeal_CombPlainIdeal (hCombIdeal := hCombIdeal) (hCombPlainIdeal := hCombPlainIdeal)
    ∧ preserves_Mix_MixIdeal
    ∧ algebraic_MixIdeal_MixPlainIdeal (hMixIdeal := hMixIdeal) (hMixPlainIdeal := hMixPlainIdeal)
-- ==== On_rows_used.lean ====
abbrev S64 : Shape := ⟨1, ![64]⟩
abbrev S1 : Shape := ⟨1, ![1]⟩
abbrev S163840x512 : Shape := ⟨2, ![163840, 512]⟩
abbrev S64x1024x512 : Shape := ⟨3, ![64, 1024, 512]⟩
abbrev S64x256x1024 : Shape := ⟨3, ![64, 256, 1024]⟩
abbrev S_ : Shape := ⟨0, ![]⟩

class Facts : Prop where
  bcast_S_S1 : S_.BroadcastsInDim S1 (![] : Fin 0 → Fin S1.rank)
  bcast_S1_S163840x512_1 : S1.BroadcastsInDim S163840x512 (![1] : Fin 1 → Fin S163840x512.rank)

variable [Facts]

def fn {F : FTy → Type} [FloatOps F] (main_arg0 : IVec S64 32) (main_arg1 : IVec S64 32) (main_arg2 : IVec S1 32) (main_arg3 : IVec S163840x512 32) (main_arg4 : FVec F S64x1024x512 .f32) (main_arg5 : FVec F S64x256x1024 .f32) : IVec S163840x512 1 :=
  let main_v0 : IVec S163840x512 32 := iotaInDim S163840x512 32 0
  let main_c : IVec S_ 32 := constantI S_ 32 512#32
  let main_v1 : IVec S1 32 := broadcastInDim S1 ![] bcast_S_S1 main_c
  let main_v2 : IVec S1 32 := muli main_arg2 main_v1
  let main_v3 : IVec S163840x512 32 := broadcastInDim S163840x512 ![1] bcast_S1_S163840x512_1 main_v2
  let main_v4 : IVec S163840x512 1 := cmpi .slt main_v0 main_v3
  main_v4
-- ==== Pre_groups_laid.lean ====
abbrev S64 : Shape := ⟨1, ![64]⟩
abbrev S1 : Shape := ⟨1, ![1]⟩
abbrev S163840x512 : Shape := ⟨2, ![163840, 512]⟩
abbrev S64x1024x512 : Shape := ⟨3, ![64, 1024, 512]⟩
abbrev S64x256x1024 : Shape := ⟨3, ![64, 256, 1024]⟩
abbrev S_ : Shape := ⟨0, ![]⟩
abbrev S63 : Shape := ⟨1, ![63]⟩

class Facts : Prop where
  bcast_S_S64 : S_.BroadcastsInDim S64 (![] : Fin 0 → Fin S64.rank)
  slices_S64_S1_0 : S64.Slices ![0] S1
  bcast_S_S1 : S_.BroadcastsInDim S1 (![] : Fin 0 → Fin S1.rank)
  slices_S64_S63_1 : S64.Slices ![1] S63
  slices_S64_S63_0 : S64.Slices ![0] S63
  concatenates_S1_S63_S64_d0 : Shape.Concatenates [S1, S63] S64 0
  slices_S64_S1_63 : S64.Slices ![63] S1
  bcast_S1_S64_0 : S1.BroadcastsInDim S64 (![0] : Fin 1 → Fin S64.rank)

variable [Facts]

def fn_part1 {F : FTy → Type} [FloatOps F] (main_v18 : IVec S64 1) (main_v19 : IVec S64 1) : IVec S64 1 :=
  let main_v20 : IVec S64 1 := andi main_v18 main_v19
  main_v20

def fn {F : FTy → Type} [FloatOps F] (main_arg0 : IVec S64 32) (main_arg1 : IVec S64 32) (main_arg2 : IVec S1 32) (main_arg3 : IVec S163840x512 32) (main_arg4 : FVec F S64x1024x512 .f32) (main_arg5 : FVec F S64x256x1024 .f32) : IVec S64 1 :=
  let main_v0 : IVec S64 32 := addi main_arg0 main_arg1
  let main_c : IVec S_ 32 := constantI S_ 32 0#32
  let main_v1 : IVec S64 32 := broadcastInDim S64 ![] bcast_S_S64 main_c
  let main_v2 : IVec S64 1 := cmpi .sge main_arg1 main_v1
  let main_c_0 : IVec S_ 32 := constantI S_ 32 320#32
  let main_v3 : IVec S64 32 := broadcastInDim S64 ![] bcast_S_S64 main_c_0
  let main_v4 : IVec S64 1 := cmpi .sle main_arg1 main_v3
  let main_v5 : IVec S64 1 := andi main_v2 main_v4
  let main_v6 : IVec S1 32 := (extractStridedSlice S1 ![0] · slices_S64_S1_0) main_arg0
  let main_c_1 : IVec S_ 32 := constantI S_ 32 0#32
  let main_v7 : IVec S1 32 := broadcastInDim S1 ![] bcast_S_S1 main_c_1
  let main_v8 : IVec S1 1 := cmpi .eq main_v6 main_v7
  let main_v9 : IVec S63 32 := (extractStridedSlice S63 ![1] · slices_S64_S63_1) main_arg0
  let main_v10 : IVec S63 32 := (extractStridedSlice S63 ![0] · slices_S64_S63_0) main_v0
  let main_v11 : IVec S63 1 := cmpi .eq main_v9 main_v10
  let main_v12 : IVec S64 1 := (fun a b => concatenate S64 0 [⟨S1, a⟩, ⟨S63, b⟩] concatenates_S1_S63_S64_d0) main_v8 main_v11
  let main_v13 : IVec S1 32 := (extractStridedSlice S1 ![63] · slices_S64_S1_63) main_v0
  let main_v14 : IVec S1 1 := cmpi .eq main_arg2 main_v13
  let main_c_2 : IVec S_ 32 := constantI S_ 32 320#32
  let main_v15 : IVec S1 32 := broadcastInDim S1 ![] bcast_S_S1 main_c_2
  let main_v16 : IVec S1 1 := cmpi .sle main_arg2 main_v15
  let main_v17 : IVec S1 1 := andi main_v14 main_v16
  let main_v18 : IVec S64 1 := andi main_v5 main_v12
  let main_v19 : IVec S64 1 := broadcastInDim S64 ![0] bcast_S1_S64_0 main_v17
  fn_part1 (F := F) main_v18 main_v19
-- ==== Kernel.lean ====
abbrev S64 : Shape := ⟨1, ![64]⟩
abbrev S1 : Shape := ⟨1, ![1]⟩
abbrev S163840x512 : Shape := ⟨2, ![163840, 512]⟩
abbrev S64x1024x512 : Shape := ⟨3, ![64, 1024, 512]⟩
abbrev S64x256x1024 : Shape := ⟨3, ![64, 256, 1024]⟩
abbrev S1x1024x512 : Shape := ⟨3, ![1, 1024, 512]⟩
abbrev S1x256x1024 : Shape := ⟨3, ![1, 256, 1024]⟩
abbrev S1024x512 : Shape := ⟨2, ![1024, 512]⟩
abbrev S256x1024 : Shape := ⟨2, ![256, 1024]⟩
abbrev S8x512x512 : Shape := ⟨3, ![8, 512, 512]⟩
abbrev S4x512x512 : Shape := ⟨3, ![4, 512, 512]⟩
abbrev S8 : Shape := ⟨1, ![8]⟩
abbrev S4 : Shape := ⟨1, ![4]⟩
abbrev S_ : Shape := ⟨0, ![]⟩
abbrev S1x512x512 : Shape := ⟨3, ![1, 512, 512]⟩
abbrev S512x512 : Shape := ⟨2, ![512, 512]⟩
abbrev S1x256x512 : Shape := ⟨3, ![1, 256, 512]⟩
abbrev S256x512 : Shape := ⟨2, ![256, 512]⟩
abbrev S256x256 : Shape := ⟨2, ![256, 256]⟩

abbrev nBuf : Space → Nat
  | .hbm => 4
  | .vmem => 8
  | .smem => 3
  | _ => 0

abbrev bufTy : (tb : Table) → Fin (tcTables nBuf tb) → BufTy
  | .hbm, ⟨0, _⟩ => ⟨S163840x512, .i32⟩
  | .hbm, ⟨1, _⟩ => ⟨S64x1024x512, .f32⟩
  | .hbm, ⟨2, _⟩ => ⟨S64x256x1024, .f32⟩
  | .hbm, ⟨3, _⟩ => ⟨S163840x512, .i32⟩
  | .local _ .vmem, ⟨0, _⟩ => ⟨S1x1024x512, .f32⟩
  | .local _ .vmem, ⟨1, _⟩ => ⟨S1x1024x512, .f32⟩
  | .local _ .vmem, ⟨2, _⟩ => ⟨S1x256x1024, .f32⟩
  | .local _ .vmem, ⟨3, _⟩ => ⟨S1x256x1024, .f32⟩
  | .local _ .vmem, ⟨4, _⟩ => ⟨S1024x512, .bf16⟩
  | .local _ .vmem, ⟨5, _⟩ => ⟨S256x1024, .bf16⟩
  | .local _ .vmem, ⟨6, _⟩ => ⟨S8x512x512, .i32⟩
  | .local _ .vmem, ⟨7, _⟩ => ⟨S4x512x512, .i32⟩
  | .local _ .smem, ⟨0, _⟩ => ⟨S64, .i32⟩
  | .local _ .smem, ⟨1, _⟩ => ⟨S64, .i32⟩
  | .local _ .smem, ⟨2, _⟩ => ⟨S1, .i32⟩
  | _, _ => ⟨S163840x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![64], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_0 : BitVec 32 := 0#32
  let v7 : BitVec 1 := Scalar.cmpi .ne v6 c0_i32_0
  v7

def k0_mult1 : BitVec 32 :=
  let c0_i32_30 : BitVec 32 := 0#32
  c0_i32_30
def k0_mult2 : BitVec 32 :=
  let c512_i32 : BitVec 32 := 512#32
  c512_i32
def k0_mult3 : BitVec 32 :=
  let c1024_i32 : BitVec 32 := 1024#32
  c1024_i32
def k0_mult4 : BitVec 32 :=
  let c1536_i32 : BitVec 32 := 1536#32
  c1536_i32
def k0_mult5 : BitVec 32 :=
  let c2048_i32 : BitVec 32 := 2048#32
  c2048_i32
@[reducible] def k0_t1_loop (v4 : BitVec 32) : Scf.Loop 32 :=
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_11 : BitVec 32 := 1#32
  ⟨c0_i32_9, v32, c1_i32_11⟩

def k0_mult6 (v2 : BitVec 32) (v4 : BitVec 32) (k0_t1 : Fin (k0_t1_loop v4).trips) : BitVec 32 :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c5_i32_135 : BitVec 32 := 5#32
  let v284 : BitVec 32 := Scalar.addi v50 c5_i32_135
  let c512_i32_142 : BitVec 32 := 512#32
  let v295 : BitVec 32 := Scalar.muli v284 c512_i32_142
  v295
def k0_cond8 (v0 : BitVec 32) (v2 : BitVec 32) (v4 : BitVec 32) (k0_t1 : Fin (k0_t1_loop v4).trips) : BitVec 1 :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c5_i32 : BitVec 32 := 5#32
  let v51 : BitVec 32 := Scalar.addi v50 c5_i32
  let v52 : BitVec 1 := Scalar.cmpi .slt v51 v0
  let v53 : BitVec 32 := Scalar.extui v52
  let c0_i32_23 : BitVec 32 := 0#32
  let v54 : BitVec 1 := Scalar.cmpi .ne v53 c0_i32_23
  v54

def k0_off2 (v2 : BitVec 32) (v4 : BitVec 32) (k0_t1 : Fin (k0_t1_loop v4).trips) : Fin 1 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c5_i32_135 : BitVec 32 := 5#32
  let v284 : BitVec 32 := Scalar.addi v50 c5_i32_135
  let c8_i32_136 : BitVec 32 := 8#32
  let c0_i32_137 : BitVec 32 := 0#32
  let v285 : BitVec 1 := Scalar.cmpi .eq c8_i32_136 c0_i32_137
  let c1_i32_138 : BitVec 32 := 1#32
  let v286 : BitVec 32 := Scalar.select v285 c1_i32_138 c8_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  ![v294.toNat]
def k0_off3 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c5_i32_135 : BitVec 32 := 5#32
  let v284 : BitVec 32 := Scalar.addi v50 c5_i32_135
  let c8_i32_136 : BitVec 32 := 8#32
  let c0_i32_137 : BitVec 32 := 0#32
  let v285 : BitVec 1 := Scalar.cmpi .eq c8_i32_136 c0_i32_137
  let c1_i32_138 : BitVec 32 := 1#32
  let v286 : BitVec 32 := Scalar.select v285 c1_i32_138 c8_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  let c0_i32_143 : BitVec 32 := 0#32
  let c0_i32_144 : BitVec 32 := 0#32
  ![v294.toNat, 0, 0]
def k0_off4 (v2 : BitVec 32) (v4 : BitVec 32) (k0_t1 : Fin (k0_t1_loop v4).trips) : Fin 2 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c5_i32_135 : BitVec 32 := 5#32
  let v284 : BitVec 32 := Scalar.addi v50 c5_i32_135
  let c512_i32_142 : BitVec 32 := 512#32
  let v295 : BitVec 32 := Scalar.muli v284 c512_i32_142
  let v296 : BitVec 32 := v295
  let c0_i32_145 : BitVec 32 := 0#32
  ![v296.toNat, 0]
def k0_mult7 (v2 : BitVec 32) (v4 : BitVec 32) (k0_t1 : Fin (k0_t1_loop v4).trips) : BitVec 32 :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c512_i32 : BitVec 32 := 512#32
  let v65 : BitVec 32 := Scalar.muli v50 c512_i32
  v65
def k0_off5 (v2 : BitVec 32) (v4 : BitVec 32) (k0_t1 : Fin (k0_t1_loop v4).trips) : Fin 1 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c8_i32 : BitVec 32 := 8#32
  let c0_i32_24 : BitVec 32 := 0#32
  let v55 : BitVec 1 := Scalar.cmpi .eq c8_i32 c0_i32_24
  let c1_i32_25 : BitVec 32 := 1#32
  let v56 : BitVec 32 := Scalar.select v55 c1_i32_25 c8_i32
  let v57 : BitVec 32 := Scalar.remsi v50 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  ![v64.toNat]
def k0_off6 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c8_i32 : BitVec 32 := 8#32
  let c0_i32_24 : BitVec 32 := 0#32
  let v55 : BitVec 1 := Scalar.cmpi .eq c8_i32 c0_i32_24
  let c1_i32_25 : BitVec 32 := 1#32
  let v56 : BitVec 32 := Scalar.select v55 c1_i32_25 c8_i32
  let v57 : BitVec 32 := Scalar.remsi v50 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c0_i32_29 : BitVec 32 := 0#32
  let c0_i32_30 : BitVec 32 := 0#32
  ![v64.toNat, 0, 0]
def k0_off7 (v2 : BitVec 32) (v4 : BitVec 32) (k0_t1 : Fin (k0_t1_loop v4).trips) : Fin 2 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c512_i32 : BitVec 32 := 512#32
  let v65 : BitVec 32 := Scalar.muli v50 c512_i32
  let v66 : BitVec 32 := v65
  let c0_i32_31 : BitVec 32 := 0#32
  ![v66.toNat, 0]
def k0_mult8 (v2 : BitVec 32) (v4 : BitVec 32) (k0_t1 : Fin (k0_t1_loop v4).trips) : BitVec 32 :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c4_i32_135 : BitVec 32 := 4#32
  let v284 : BitVec 32 := Scalar.subi v50 c4_i32_135
  let c512_i32_142 : BitVec 32 := 512#32
  let v295 : BitVec 32 := Scalar.muli v284 c512_i32_142
  v295
def k0_cond9 (v2 : BitVec 32) (v4 : BitVec 32) (k0_t1 : Fin (k0_t1_loop v4).trips) : BitVec 1 :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c4_i32 : BitVec 32 := 4#32
  let v72 : BitVec 1 := Scalar.cmpi .sge v50 c4_i32
  let v73 : BitVec 32 := Scalar.extui v72
  let c0_i32_32 : BitVec 32 := 0#32
  let v74 : BitVec 1 := Scalar.cmpi .ne v73 c0_i32_32
  v74

def k0_off8 (v2 : BitVec 32) (v4 : BitVec 32) (k0_t1 : Fin (k0_t1_loop v4).trips) : Fin 1 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c4_i32_135 : BitVec 32 := 4#32
  let v284 : BitVec 32 := Scalar.subi v50 c4_i32_135
  let c4_i32_136 : BitVec 32 := 4#32
  let c0_i32_137 : BitVec 32 := 0#32
  let v285 : BitVec 1 := Scalar.cmpi .eq c4_i32_136 c0_i32_137
  let c1_i32_138 : BitVec 32 := 1#32
  let v286 : BitVec 32 := Scalar.select v285 c1_i32_138 c4_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  ![v294.toNat]
def k0_off9 (v2 : BitVec 32) (v4 : BitVec 32) (k0_t1 : Fin (k0_t1_loop v4).trips) : Fin 2 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c4_i32_135 : BitVec 32 := 4#32
  let v284 : BitVec 32 := Scalar.subi v50 c4_i32_135
  let c512_i32_142 : BitVec 32 := 512#32
  let v295 : BitVec 32 := Scalar.muli v284 c512_i32_142
  let v296 : BitVec 32 := v295
  let c0_i32_143 : BitVec 32 := 0#32
  ![v296.toNat, 0]
def k0_off10 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c4_i32_135 : BitVec 32 := 4#32
  let v284 : BitVec 32 := Scalar.subi v50 c4_i32_135
  let c4_i32_136 : BitVec 32 := 4#32
  let c0_i32_137 : BitVec 32 := 0#32
  let v285 : BitVec 1 := Scalar.cmpi .eq c4_i32_136 c0_i32_137
  let c1_i32_138 : BitVec 32 := 1#32
  let v286 : BitVec 32 := Scalar.select v285 c1_i32_138 c4_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  let c0_i32_144 : BitVec 32 := 0#32
  let c0_i32_145 : BitVec 32 := 0#32
  ![v294.toNat, 0, 0]
def k0_mult9 (v2 : BitVec 32) (v4 : BitVec 32) (k0_t1 : Fin (k0_t1_loop v4).trips) : BitVec 32 :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_33 : BitVec 32 := 1#32
  let v75 : BitVec 32 := Scalar.addi v50 c1_i32_33
  let c5_i32_135 : BitVec 32 := 5#32
  let v284 : BitVec 32 := Scalar.addi v75 c5_i32_135
  let c512_i32_142 : BitVec 32 := 512#32
  let v295 : BitVec 32 := Scalar.muli v284 c512_i32_142
  v295
def k0_cond10 (v0 : BitVec 32) (v2 : BitVec 32) (v4 : BitVec 32) (k0_t1 : Fin (k0_t1_loop v4).trips) : BitVec 1 :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_33 : BitVec 32 := 1#32
  let v75 : BitVec 32 := Scalar.addi v50 c1_i32_33
  let c5_i32_34 : BitVec 32 := 5#32
  let v76 : BitVec 32 := Scalar.addi v75 c5_i32_34
  let v77 : BitVec 1 := Scalar.cmpi .slt v76 v0
  let v78 : BitVec 32 := Scalar.extui v77
  let c0_i32_35 : BitVec 32 := 0#32
  let v79 : BitVec 1 := Scalar.cmpi .ne v78 c0_i32_35
  v79

def k0_off11 (v2 : BitVec 32) (v4 : BitVec 32) (k0_t1 : Fin (k0_t1_loop v4).trips) : Fin 1 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_33 : BitVec 32 := 1#32
  let v75 : BitVec 32 := Scalar.addi v50 c1_i32_33
  let c5_i32_135 : BitVec 32 := 5#32
  let v284 : BitVec 32 := Scalar.addi v75 c5_i32_135
  let c8_i32_136 : BitVec 32 := 8#32
  let c0_i32_137 : BitVec 32 := 0#32
  let v285 : BitVec 1 := Scalar.cmpi .eq c8_i32_136 c0_i32_137
  let c1_i32_138 : BitVec 32 := 1#32
  let v286 : BitVec 32 := Scalar.select v285 c1_i32_138 c8_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  ![v294.toNat]
def k0_off12 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_33 : BitVec 32 := 1#32
  let v75 : BitVec 32 := Scalar.addi v50 c1_i32_33
  let c5_i32_135 : BitVec 32 := 5#32
  let v284 : BitVec 32 := Scalar.addi v75 c5_i32_135
  let c8_i32_136 : BitVec 32 := 8#32
  let c0_i32_137 : BitVec 32 := 0#32
  let v285 : BitVec 1 := Scalar.cmpi .eq c8_i32_136 c0_i32_137
  let c1_i32_138 : BitVec 32 := 1#32
  let v286 : BitVec 32 := Scalar.select v285 c1_i32_138 c8_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  let c0_i32_143 : BitVec 32 := 0#32
  let c0_i32_144 : BitVec 32 := 0#32
  ![v294.toNat, 0, 0]
def k0_off13 (v2 : BitVec 32) (v4 : BitVec 32) (k0_t1 : Fin (k0_t1_loop v4).trips) : Fin 2 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_33 : BitVec 32 := 1#32
  let v75 : BitVec 32 := Scalar.addi v50 c1_i32_33
  let c5_i32_135 : BitVec 32 := 5#32
  let v284 : BitVec 32 := Scalar.addi v75 c5_i32_135
  let c512_i32_142 : BitVec 32 := 512#32
  let v295 : BitVec 32 := Scalar.muli v284 c512_i32_142
  let v296 : BitVec 32 := v295
  let c0_i32_145 : BitVec 32 := 0#32
  ![v296.toNat, 0]
def k0_mult10 (v2 : BitVec 32) (v4 : BitVec 32) (k0_t1 : Fin (k0_t1_loop v4).trips) : BitVec 32 :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_33 : BitVec 32 := 1#32
  let v75 : BitVec 32 := Scalar.addi v50 c1_i32_33
  let c512_i32_42 : BitVec 32 := 512#32
  let v90 : BitVec 32 := Scalar.muli v75 c512_i32_42
  v90
def k0_off14 (v2 : BitVec 32) (v4 : BitVec 32) (k0_t1 : Fin (k0_t1_loop v4).trips) : Fin 1 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_33 : BitVec 32 := 1#32
  let v75 : BitVec 32 := Scalar.addi v50 c1_i32_33
  let c8_i32_36 : BitVec 32 := 8#32
  let c0_i32_37 : BitVec 32 := 0#32
  let v80 : BitVec 1 := Scalar.cmpi .eq c8_i32_36 c0_i32_37
  let c1_i32_38 : BitVec 32 := 1#32
  let v81 : BitVec 32 := Scalar.select v80 c1_i32_38 c8_i32_36
  let v82 : BitVec 32 := Scalar.remsi v75 v81
  let c0_i32_40 : BitVec 32 := 0#32
  let v84 : BitVec 1 := Scalar.cmpi .slt v82 c0_i32_40
  let c0_i32_41 : BitVec 32 := 0#32
  let v85 : BitVec 1 := Scalar.cmpi .slt v81 c0_i32_41
  let v86 : BitVec 1 := Scalar.xori v84 v85
  let c0_i32_39 : BitVec 32 := 0#32
  let v83 : BitVec 1 := Scalar.cmpi .ne v82 c0_i32_39
  let v87 : BitVec 1 := Scalar.andi v86 v83
  let v88 : BitVec 32 := Scalar.addi v82 v81
  let v89 : BitVec 32 := Scalar.select v87 v88 v82
  ![v89.toNat]
def k0_off15 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_33 : BitVec 32 := 1#32
  let v75 : BitVec 32 := Scalar.addi v50 c1_i32_33
  let c8_i32_36 : BitVec 32 := 8#32
  let c0_i32_37 : BitVec 32 := 0#32
  let v80 : BitVec 1 := Scalar.cmpi .eq c8_i32_36 c0_i32_37
  let c1_i32_38 : BitVec 32 := 1#32
  let v81 : BitVec 32 := Scalar.select v80 c1_i32_38 c8_i32_36
  let v82 : BitVec 32 := Scalar.remsi v75 v81
  let c0_i32_40 : BitVec 32 := 0#32
  let v84 : BitVec 1 := Scalar.cmpi .slt v82 c0_i32_40
  let c0_i32_41 : BitVec 32 := 0#32
  let v85 : BitVec 1 := Scalar.cmpi .slt v81 c0_i32_41
  let v86 : BitVec 1 := Scalar.xori v84 v85
  let c0_i32_39 : BitVec 32 := 0#32
  let v83 : BitVec 1 := Scalar.cmpi .ne v82 c0_i32_39
  let v87 : BitVec 1 := Scalar.andi v86 v83
  let v88 : BitVec 32 := Scalar.addi v82 v81
  let v89 : BitVec 32 := Scalar.select v87 v88 v82
  let c0_i32_43 : BitVec 32 := 0#32
  let c0_i32_44 : BitVec 32 := 0#32
  ![v89.toNat, 0, 0]
def k0_off16 (v2 : BitVec 32) (v4 : BitVec 32) (k0_t1 : Fin (k0_t1_loop v4).trips) : Fin 2 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_33 : BitVec 32 := 1#32
  let v75 : BitVec 32 := Scalar.addi v50 c1_i32_33
  let c512_i32_42 : BitVec 32 := 512#32
  let v90 : BitVec 32 := Scalar.muli v75 c512_i32_42
  let v91 : BitVec 32 := v90
  let c0_i32_45 : BitVec 32 := 0#32
  ![v91.toNat, 0]
def k0_mult11 (v2 : BitVec 32) (v4 : BitVec 32) (k0_t1 : Fin (k0_t1_loop v4).trips) : BitVec 32 :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_33 : BitVec 32 := 1#32
  let v75 : BitVec 32 := Scalar.addi v50 c1_i32_33
  let c4_i32_135 : BitVec 32 := 4#32
  let v284 : BitVec 32 := Scalar.subi v75 c4_i32_135
  let c512_i32_142 : BitVec 32 := 512#32
  let v295 : BitVec 32 := Scalar.muli v284 c512_i32_142
  v295
def k0_cond11 (v2 : BitVec 32) (v4 : BitVec 32) (k0_t1 : Fin (k0_t1_loop v4).trips) : BitVec 1 :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_33 : BitVec 32 := 1#32
  let v75 : BitVec 32 := Scalar.addi v50 c1_i32_33
  let c4_i32_46 : BitVec 32 := 4#32
  let v97 : BitVec 1 := Scalar.cmpi .sge v75 c4_i32_46
  let v98 : BitVec 32 := Scalar.extui v97
  let c0_i32_47 : BitVec 32 := 0#32
  let v99 : BitVec 1 := Scalar.cmpi .ne v98 c0_i32_47
  v99

def k0_off17 (v2 : BitVec 32) (v4 : BitVec 32) (k0_t1 : Fin (k0_t1_loop v4).trips) : Fin 1 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_33 : BitVec 32 := 1#32
  let v75 : BitVec 32 := Scalar.addi v50 c1_i32_33
  let c4_i32_135 : BitVec 32 := 4#32
  let v284 : BitVec 32 := Scalar.subi v75 c4_i32_135
  let c4_i32_136 : BitVec 32 := 4#32
  let c0_i32_137 : BitVec 32 := 0#32
  let v285 : BitVec 1 := Scalar.cmpi .eq c4_i32_136 c0_i32_137
  let c1_i32_138 : BitVec 32 := 1#32
  let v286 : BitVec 32 := Scalar.select v285 c1_i32_138 c4_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  ![v294.toNat]
def k0_off18 (v2 : BitVec 32) (v4 : BitVec 32) (k0_t1 : Fin (k0_t1_loop v4).trips) : Fin 2 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_33 : BitVec 32 := 1#32
  let v75 : BitVec 32 := Scalar.addi v50 c1_i32_33
  let c4_i32_135 : BitVec 32 := 4#32
  let v284 : BitVec 32 := Scalar.subi v75 c4_i32_135
  let c512_i32_142 : BitVec 32 := 512#32
  let v295 : BitVec 32 := Scalar.muli v284 c512_i32_142
  let v296 : BitVec 32 := v295
  let c0_i32_143 : BitVec 32 := 0#32
  ![v296.toNat, 0]
def k0_off19 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_33 : BitVec 32 := 1#32
  let v75 : BitVec 32 := Scalar.addi v50 c1_i32_33
  let c4_i32_135 : BitVec 32 := 4#32
  let v284 : BitVec 32 := Scalar.subi v75 c4_i32_135
  let c4_i32_136 : BitVec 32 := 4#32
  let c0_i32_137 : BitVec 32 := 0#32
  let v285 : BitVec 1 := Scalar.cmpi .eq c4_i32_136 c0_i32_137
  let c1_i32_138 : BitVec 32 := 1#32
  let v286 : BitVec 32 := Scalar.select v285 c1_i32_138 c4_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  let c0_i32_144 : BitVec 32 := 0#32
  let c0_i32_145 : BitVec 32 := 0#32
  ![v294.toNat, 0, 0]
def k0_off20 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c8_i32_48 : BitVec 32 := 8#32
  let c0_i32_49 : BitVec 32 := 0#32
  let v100 : BitVec 1 := Scalar.cmpi .eq c8_i32_48 c0_i32_49
  let c1_i32_50 : BitVec 32 := 1#32
  let v101 : BitVec 32 := Scalar.select v100 c1_i32_50 c8_i32_48
  let v102 : BitVec 32 := Scalar.remsi v50 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let v120 : Index := Scalar.indexCast v109
  let c0_60 : Index := 0#32
  let c0_61 : Index := 0#32
  ![v120.toNat, 0, 0]
def k0_off21 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c4_i32_54 : BitVec 32 := 4#32
  let c0_i32_55 : BitVec 32 := 0#32
  let v110 : BitVec 1 := Scalar.cmpi .eq c4_i32_54 c0_i32_55
  let c1_i32_56 : BitVec 32 := 1#32
  let v111 : BitVec 32 := Scalar.select v110 c1_i32_56 c4_i32_54
  let v112 : BitVec 32 := Scalar.remsi v50 v111
  let c0_i32_58 : BitVec 32 := 0#32
  let v114 : BitVec 1 := Scalar.cmpi .slt v112 c0_i32_58
  let c0_i32_59 : BitVec 32 := 0#32
  let v115 : BitVec 1 := Scalar.cmpi .slt v111 c0_i32_59
  let v116 : BitVec 1 := Scalar.xori v114 v115
  let c0_i32_57 : BitVec 32 := 0#32
  let v113 : BitVec 1 := Scalar.cmpi .ne v112 c0_i32_57
  let v117 : BitVec 1 := Scalar.andi v116 v113
  let v118 : BitVec 32 := Scalar.addi v112 v111
  let v119 : BitVec 32 := Scalar.select v117 v118 v112
  let v143 : Index := Scalar.indexCast v119
  let c0_67 : Index := 0#32
  let c0_68 : Index := 0#32
  ![v143.toNat, 0, 0]
def k0_off22 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c8_i32_48 : BitVec 32 := 8#32
  let c0_i32_49 : BitVec 32 := 0#32
  let v100 : BitVec 1 := Scalar.cmpi .eq c8_i32_48 c0_i32_49
  let c1_i32_50 : BitVec 32 := 1#32
  let v101 : BitVec 32 := Scalar.select v100 c1_i32_50 c8_i32_48
  let v102 : BitVec 32 := Scalar.remsi v50 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let v147 : Index := Scalar.indexCast v109
  let c256 : Index := 256#32
  let c0_69 : Index := 0#32
  ![v147.toNat, 256, 0]
def k0_off23 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c4_i32_54 : BitVec 32 := 4#32
  let c0_i32_55 : BitVec 32 := 0#32
  let v110 : BitVec 1 := Scalar.cmpi .eq c4_i32_54 c0_i32_55
  let c1_i32_56 : BitVec 32 := 1#32
  let v111 : BitVec 32 := Scalar.select v110 c1_i32_56 c4_i32_54
  let v112 : BitVec 32 := Scalar.remsi v50 v111
  let c0_i32_58 : BitVec 32 := 0#32
  let v114 : BitVec 1 := Scalar.cmpi .slt v112 c0_i32_58
  let c0_i32_59 : BitVec 32 := 0#32
  let v115 : BitVec 1 := Scalar.cmpi .slt v111 c0_i32_59
  let v116 : BitVec 1 := Scalar.xori v114 v115
  let c0_i32_57 : BitVec 32 := 0#32
  let v113 : BitVec 1 := Scalar.cmpi .ne v112 c0_i32_57
  let v117 : BitVec 1 := Scalar.andi v116 v113
  let v118 : BitVec 32 := Scalar.addi v112 v111
  let v119 : BitVec 32 := Scalar.select v117 v118 v112
  let v170 : Index := Scalar.indexCast v119
  let c256_77 : Index := 256#32
  let c0_78 : Index := 0#32
  ![v170.toNat, 256, 0]
def k0_off24 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_79 : BitVec 32 := 1#32
  let v174 : BitVec 32 := Scalar.addi v50 c1_i32_79
  let c8_i32_80 : BitVec 32 := 8#32
  let c0_i32_81 : BitVec 32 := 0#32
  let v175 : BitVec 1 := Scalar.cmpi .eq c8_i32_80 c0_i32_81
  let c1_i32_82 : BitVec 32 := 1#32
  let v176 : BitVec 32 := Scalar.select v175 c1_i32_82 c8_i32_80
  let v177 : BitVec 32 := Scalar.remsi v174 v176
  let c0_i32_84 : BitVec 32 := 0#32
  let v179 : BitVec 1 := Scalar.cmpi .slt v177 c0_i32_84
  let c0_i32_85 : BitVec 32 := 0#32
  let v180 : BitVec 1 := Scalar.cmpi .slt v176 c0_i32_85
  let v181 : BitVec 1 := Scalar.xori v179 v180
  let c0_i32_83 : BitVec 32 := 0#32
  let v178 : BitVec 1 := Scalar.cmpi .ne v177 c0_i32_83
  let v182 : BitVec 1 := Scalar.andi v181 v178
  let v183 : BitVec 32 := Scalar.addi v177 v176
  let v184 : BitVec 32 := Scalar.select v182 v183 v177
  let v195 : Index := Scalar.indexCast v184
  let c0_92 : Index := 0#32
  let c0_93 : Index := 0#32
  ![v195.toNat, 0, 0]
def k0_off25 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_79 : BitVec 32 := 1#32
  let v174 : BitVec 32 := Scalar.addi v50 c1_i32_79
  let c4_i32_86 : BitVec 32 := 4#32
  let c0_i32_87 : BitVec 32 := 0#32
  let v185 : BitVec 1 := Scalar.cmpi .eq c4_i32_86 c0_i32_87
  let c1_i32_88 : BitVec 32 := 1#32
  let v186 : BitVec 32 := Scalar.select v185 c1_i32_88 c4_i32_86
  let v187 : BitVec 32 := Scalar.remsi v174 v186
  let c0_i32_90 : BitVec 32 := 0#32
  let v189 : BitVec 1 := Scalar.cmpi .slt v187 c0_i32_90
  let c0_i32_91 : BitVec 32 := 0#32
  let v190 : BitVec 1 := Scalar.cmpi .slt v186 c0_i32_91
  let v191 : BitVec 1 := Scalar.xori v189 v190
  let c0_i32_89 : BitVec 32 := 0#32
  let v188 : BitVec 1 := Scalar.cmpi .ne v187 c0_i32_89
  let v192 : BitVec 1 := Scalar.andi v191 v188
  let v193 : BitVec 32 := Scalar.addi v187 v186
  let v194 : BitVec 32 := Scalar.select v192 v193 v187
  let v218 : Index := Scalar.indexCast v194
  let c0_101 : Index := 0#32
  let c0_102 : Index := 0#32
  ![v218.toNat, 0, 0]
def k0_off26 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_79 : BitVec 32 := 1#32
  let v174 : BitVec 32 := Scalar.addi v50 c1_i32_79
  let c8_i32_80 : BitVec 32 := 8#32
  let c0_i32_81 : BitVec 32 := 0#32
  let v175 : BitVec 1 := Scalar.cmpi .eq c8_i32_80 c0_i32_81
  let c1_i32_82 : BitVec 32 := 1#32
  let v176 : BitVec 32 := Scalar.select v175 c1_i32_82 c8_i32_80
  let v177 : BitVec 32 := Scalar.remsi v174 v176
  let c0_i32_84 : BitVec 32 := 0#32
  let v179 : BitVec 1 := Scalar.cmpi .slt v177 c0_i32_84
  let c0_i32_85 : BitVec 32 := 0#32
  let v180 : BitVec 1 := Scalar.cmpi .slt v176 c0_i32_85
  let v181 : BitVec 1 := Scalar.xori v179 v180
  let c0_i32_83 : BitVec 32 := 0#32
  let v178 : BitVec 1 := Scalar.cmpi .ne v177 c0_i32_83
  let v182 : BitVec 1 := Scalar.andi v181 v178
  let v183 : BitVec 32 := Scalar.addi v177 v176
  let v184 : BitVec 32 := Scalar.select v182 v183 v177
  let v222 : Index := Scalar.indexCast v184
  let c256_103 : Index := 256#32
  let c0_104 : Index := 0#32
  ![v222.toNat, 256, 0]
def k0_off27 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_79 : BitVec 32 := 1#32
  let v174 : BitVec 32 := Scalar.addi v50 c1_i32_79
  let c4_i32_86 : BitVec 32 := 4#32
  let c0_i32_87 : BitVec 32 := 0#32
  let v185 : BitVec 1 := Scalar.cmpi .eq c4_i32_86 c0_i32_87
  let c1_i32_88 : BitVec 32 := 1#32
  let v186 : BitVec 32 := Scalar.select v185 c1_i32_88 c4_i32_86
  let v187 : BitVec 32 := Scalar.remsi v174 v186
  let c0_i32_90 : BitVec 32 := 0#32
  let v189 : BitVec 1 := Scalar.cmpi .slt v187 c0_i32_90
  let c0_i32_91 : BitVec 32 := 0#32
  let v190 : BitVec 1 := Scalar.cmpi .slt v186 c0_i32_91
  let v191 : BitVec 1 := Scalar.xori v189 v190
  let c0_i32_89 : BitVec 32 := 0#32
  let v188 : BitVec 1 := Scalar.cmpi .ne v187 c0_i32_89
  let v192 : BitVec 1 := Scalar.andi v191 v188
  let v193 : BitVec 32 := Scalar.addi v187 v186
  let v194 : BitVec 32 := Scalar.select v192 v193 v187
  let v245 : Index := Scalar.indexCast v194
  let c256_112 : Index := 256#32
  let c0_113 : Index := 0#32
  ![v245.toNat, 256, 0]
def k0_mult12 (v2 : BitVec 32) (v4 : BitVec 32) (k0_t1 : Fin (k0_t1_loop v4).trips) : BitVec 32 :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c512_i32_120 : BitVec 32 := 512#32
  let v259 : BitVec 32 := Scalar.muli v50 c512_i32_120
  v259
def k0_off28 (v2 : BitVec 32) (v4 : BitVec 32) (k0_t1 : Fin (k0_t1_loop v4).trips) : Fin 1 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c4_i32_114 : BitVec 32 := 4#32
  let c0_i32_115 : BitVec 32 := 0#32
  let v249 : BitVec 1 := Scalar.cmpi .eq c4_i32_114 c0_i32_115
  let c1_i32_116 : BitVec 32 := 1#32
  let v250 : BitVec 32 := Scalar.select v249 c1_i32_116 c4_i32_114
  let v251 : BitVec 32 := Scalar.remsi v50 v250
  let c0_i32_118 : BitVec 32 := 0#32
  let v253 : BitVec 1 := Scalar.cmpi .slt v251 c0_i32_118
  let c0_i32_119 : BitVec 32 := 0#32
  let v254 : BitVec 1 := Scalar.cmpi .slt v250 c0_i32_119
  let v255 : BitVec 1 := Scalar.xori v253 v254
  let c0_i32_117 : BitVec 32 := 0#32
  let v252 : BitVec 1 := Scalar.cmpi .ne v251 c0_i32_117
  let v256 : BitVec 1 := Scalar.andi v255 v252
  let v257 : BitVec 32 := Scalar.addi v251 v250
  let v258 : BitVec 32 := Scalar.select v256 v257 v251
  ![v258.toNat]
def k0_off29 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c4_i32_114 : BitVec 32 := 4#32
  let c0_i32_115 : BitVec 32 := 0#32
  let v249 : BitVec 1 := Scalar.cmpi .eq c4_i32_114 c0_i32_115
  let c1_i32_116 : BitVec 32 := 1#32
  let v250 : BitVec 32 := Scalar.select v249 c1_i32_116 c4_i32_114
  let v251 : BitVec 32 := Scalar.remsi v50 v250
  let c0_i32_118 : BitVec 32 := 0#32
  let v253 : BitVec 1 := Scalar.cmpi .slt v251 c0_i32_118
  let c0_i32_119 : BitVec 32 := 0#32
  let v254 : BitVec 1 := Scalar.cmpi .slt v250 c0_i32_119
  let v255 : BitVec 1 := Scalar.xori v253 v254
  let c0_i32_117 : BitVec 32 := 0#32
  let v252 : BitVec 1 := Scalar.cmpi .ne v251 c0_i32_117
  let v256 : BitVec 1 := Scalar.andi v255 v252
  let v257 : BitVec 32 := Scalar.addi v251 v250
  let v258 : BitVec 32 := Scalar.select v256 v257 v251
  let c0_i32_122 : BitVec 32 := 0#32
  let c0_i32_123 : BitVec 32 := 0#32
  ![v258.toNat, 0, 0]
def k0_mult13 (v2 : BitVec 32) (v4 : BitVec 32) (k0_t1 : Fin (k0_t1_loop v4).trips) : BitVec 32 :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_124 : BitVec 32 := 1#32
  let v266 : BitVec 32 := Scalar.addi v50 c1_i32_124
  let c512_i32_131 : BitVec 32 := 512#32
  let v277 : BitVec 32 := Scalar.muli v266 c512_i32_131
  v277
def k0_off30 (v2 : BitVec 32) (v4 : BitVec 32) (k0_t1 : Fin (k0_t1_loop v4).trips) : Fin 1 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_124 : BitVec 32 := 1#32
  let v266 : BitVec 32 := Scalar.addi v50 c1_i32_124
  let c4_i32_125 : BitVec 32 := 4#32
  let c0_i32_126 : BitVec 32 := 0#32
  let v267 : BitVec 1 := Scalar.cmpi .eq c4_i32_125 c0_i32_126
  let c1_i32_127 : BitVec 32 := 1#32
  let v268 : BitVec 32 := Scalar.select v267 c1_i32_127 c4_i32_125
  let v269 : BitVec 32 := Scalar.remsi v266 v268
  let c0_i32_129 : BitVec 32 := 0#32
  let v271 : BitVec 1 := Scalar.cmpi .slt v269 c0_i32_129
  let c0_i32_130 : BitVec 32 := 0#32
  let v272 : BitVec 1 := Scalar.cmpi .slt v268 c0_i32_130
  let v273 : BitVec 1 := Scalar.xori v271 v272
  let c0_i32_128 : BitVec 32 := 0#32
  let v270 : BitVec 1 := Scalar.cmpi .ne v269 c0_i32_128
  let v274 : BitVec 1 := Scalar.andi v273 v270
  let v275 : BitVec 32 := Scalar.addi v269 v268
  let v276 : BitVec 32 := Scalar.select v274 v275 v269
  ![v276.toNat]
def k0_off31 (v2 : BitVec 32) (v4 : BitVec 32) (k0_t1 : Fin (k0_t1_loop v4).trips) : Fin 3 → Nat :=
  let c2_i32_22 : BitVec 32 := 2#32
  let c0_i32_9 : BitVec 32 := 0#32
  let c1_i32_11 : BitVec 32 := 1#32
  let arg14 : BitVec 32 := Scf.iv c0_i32_9 c1_i32_11 k0_t1
  let v49 : BitVec 32 := Scalar.muli c2_i32_22 arg14
  let v50 : BitVec 32 := Scalar.addi v2 v49
  let c1_i32_124 : BitVec 32 := 1#32
  let v266 : BitVec 32 := Scalar.addi v50 c1_i32_124
  let c4_i32_125 : BitVec 32 := 4#32
  let c0_i32_126 : BitVec 32 := 0#32
  let v267 : BitVec 1 := Scalar.cmpi .eq c4_i32_125 c0_i32_126
  let c1_i32_127 : BitVec 32 := 1#32
  let v268 : BitVec 32 := Scalar.select v267 c1_i32_127 c4_i32_125
  let v269 : BitVec 32 := Scalar.remsi v266 v268
  let c0_i32_129 : BitVec 32 := 0#32
  let v271 : BitVec 1 := Scalar.cmpi .slt v269 c0_i32_129
  let c0_i32_130 : BitVec 32 := 0#32
  let v272 : BitVec 1 := Scalar.cmpi .slt v268 c0_i32_130
  let v273 : BitVec 1 := Scalar.xori v271 v272
  let c0_i32_128 : BitVec 32 := 0#32
  let v270 : BitVec 1 := Scalar.cmpi .ne v269 c0_i32_128
  let v274 : BitVec 1 := Scalar.andi v273 v270
  let v275 : BitVec 32 := Scalar.addi v269 v268
  let v276 : BitVec 32 := Scalar.select v274 v275 v269
  let c0_i32_133 : BitVec 32 := 0#32
  let c0_i32_134 : BitVec 32 := 0#32
  ![v276.toNat, 0, 0]
@[reducible] def k0_t2_loop (v4 : BitVec 32) : Scf.Loop 32 :=
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let v29 : BitVec 32 := Scalar.addi c0_i32_9 v28
  let c1_i32_12 : BitVec 32 := 1#32
  ⟨v32, v29, c1_i32_12⟩
def k0_mult14 (v2 : BitVec 32) (v4 : BitVec 32) (k0_t2 : Fin (k0_t2_loop v4).trips) : BitVec 32 :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c5_i32_135 : BitVec 32 := 5#32
  let v284 : BitVec 32 := Scalar.addi v50 c5_i32_135
  let c512_i32_142 : BitVec 32 := 512#32
  let v295 : BitVec 32 := Scalar.muli v284 c512_i32_142
  v295
def k0_cond12 (v0 : BitVec 32) (v2 : BitVec 32) (v4 : BitVec 32) (k0_t2 : Fin (k0_t2_loop v4).trips) : BitVec 1 :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c5_i32 : BitVec 32 := 5#32
  let v51 : BitVec 32 := Scalar.addi v50 c5_i32
  let v52 : BitVec 1 := Scalar.cmpi .slt v51 v0
  let v53 : BitVec 32 := Scalar.extui v52
  let c0_i32_23 : BitVec 32 := 0#32
  let v54 : BitVec 1 := Scalar.cmpi .ne v53 c0_i32_23
  v54

def k0_off32 (v2 : BitVec 32) (v4 : BitVec 32) (k0_t2 : Fin (k0_t2_loop v4).trips) : Fin 1 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c5_i32_135 : BitVec 32 := 5#32
  let v284 : BitVec 32 := Scalar.addi v50 c5_i32_135
  let c8_i32_136 : BitVec 32 := 8#32
  let c0_i32_137 : BitVec 32 := 0#32
  let v285 : BitVec 1 := Scalar.cmpi .eq c8_i32_136 c0_i32_137
  let c1_i32_138 : BitVec 32 := 1#32
  let v286 : BitVec 32 := Scalar.select v285 c1_i32_138 c8_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  ![v294.toNat]
def k0_off33 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c5_i32_135 : BitVec 32 := 5#32
  let v284 : BitVec 32 := Scalar.addi v50 c5_i32_135
  let c8_i32_136 : BitVec 32 := 8#32
  let c0_i32_137 : BitVec 32 := 0#32
  let v285 : BitVec 1 := Scalar.cmpi .eq c8_i32_136 c0_i32_137
  let c1_i32_138 : BitVec 32 := 1#32
  let v286 : BitVec 32 := Scalar.select v285 c1_i32_138 c8_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  let c0_i32_143 : BitVec 32 := 0#32
  let c0_i32_144 : BitVec 32 := 0#32
  ![v294.toNat, 0, 0]
def k0_off34 (v2 : BitVec 32) (v4 : BitVec 32) (k0_t2 : Fin (k0_t2_loop v4).trips) : Fin 2 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c5_i32_135 : BitVec 32 := 5#32
  let v284 : BitVec 32 := Scalar.addi v50 c5_i32_135
  let c512_i32_142 : BitVec 32 := 512#32
  let v295 : BitVec 32 := Scalar.muli v284 c512_i32_142
  let v296 : BitVec 32 := v295
  let c0_i32_145 : BitVec 32 := 0#32
  ![v296.toNat, 0]
def k0_mult15 (v2 : BitVec 32) (v4 : BitVec 32) (k0_t2 : Fin (k0_t2_loop v4).trips) : BitVec 32 :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c512_i32 : BitVec 32 := 512#32
  let v65 : BitVec 32 := Scalar.muli v50 c512_i32
  v65
def k0_off35 (v2 : BitVec 32) (v4 : BitVec 32) (k0_t2 : Fin (k0_t2_loop v4).trips) : Fin 1 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c8_i32 : BitVec 32 := 8#32
  let c0_i32_24 : BitVec 32 := 0#32
  let v55 : BitVec 1 := Scalar.cmpi .eq c8_i32 c0_i32_24
  let c1_i32_25 : BitVec 32 := 1#32
  let v56 : BitVec 32 := Scalar.select v55 c1_i32_25 c8_i32
  let v57 : BitVec 32 := Scalar.remsi v50 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  ![v64.toNat]
def k0_off36 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c8_i32 : BitVec 32 := 8#32
  let c0_i32_24 : BitVec 32 := 0#32
  let v55 : BitVec 1 := Scalar.cmpi .eq c8_i32 c0_i32_24
  let c1_i32_25 : BitVec 32 := 1#32
  let v56 : BitVec 32 := Scalar.select v55 c1_i32_25 c8_i32
  let v57 : BitVec 32 := Scalar.remsi v50 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c0_i32_29 : BitVec 32 := 0#32
  let c0_i32_30 : BitVec 32 := 0#32
  ![v64.toNat, 0, 0]
def k0_off37 (v2 : BitVec 32) (v4 : BitVec 32) (k0_t2 : Fin (k0_t2_loop v4).trips) : Fin 2 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c512_i32 : BitVec 32 := 512#32
  let v65 : BitVec 32 := Scalar.muli v50 c512_i32
  let v66 : BitVec 32 := v65
  let c0_i32_31 : BitVec 32 := 0#32
  ![v66.toNat, 0]
def k0_mult16 (v2 : BitVec 32) (v4 : BitVec 32) (k0_t2 : Fin (k0_t2_loop v4).trips) : BitVec 32 :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c4_i32_135 : BitVec 32 := 4#32
  let v284 : BitVec 32 := Scalar.subi v50 c4_i32_135
  let c512_i32_142 : BitVec 32 := 512#32
  let v295 : BitVec 32 := Scalar.muli v284 c512_i32_142
  v295
def k0_cond13 (v2 : BitVec 32) (v4 : BitVec 32) (k0_t2 : Fin (k0_t2_loop v4).trips) : BitVec 1 :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c4_i32 : BitVec 32 := 4#32
  let v72 : BitVec 1 := Scalar.cmpi .sge v50 c4_i32
  let v73 : BitVec 32 := Scalar.extui v72
  let c0_i32_32 : BitVec 32 := 0#32
  let v74 : BitVec 1 := Scalar.cmpi .ne v73 c0_i32_32
  v74

def k0_off38 (v2 : BitVec 32) (v4 : BitVec 32) (k0_t2 : Fin (k0_t2_loop v4).trips) : Fin 1 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c4_i32_135 : BitVec 32 := 4#32
  let v284 : BitVec 32 := Scalar.subi v50 c4_i32_135
  let c4_i32_136 : BitVec 32 := 4#32
  let c0_i32_137 : BitVec 32 := 0#32
  let v285 : BitVec 1 := Scalar.cmpi .eq c4_i32_136 c0_i32_137
  let c1_i32_138 : BitVec 32 := 1#32
  let v286 : BitVec 32 := Scalar.select v285 c1_i32_138 c4_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  ![v294.toNat]
def k0_off39 (v2 : BitVec 32) (v4 : BitVec 32) (k0_t2 : Fin (k0_t2_loop v4).trips) : Fin 2 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c4_i32_135 : BitVec 32 := 4#32
  let v284 : BitVec 32 := Scalar.subi v50 c4_i32_135
  let c512_i32_142 : BitVec 32 := 512#32
  let v295 : BitVec 32 := Scalar.muli v284 c512_i32_142
  let v296 : BitVec 32 := v295
  let c0_i32_143 : BitVec 32 := 0#32
  ![v296.toNat, 0]
def k0_off40 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c4_i32_135 : BitVec 32 := 4#32
  let v284 : BitVec 32 := Scalar.subi v50 c4_i32_135
  let c4_i32_136 : BitVec 32 := 4#32
  let c0_i32_137 : BitVec 32 := 0#32
  let v285 : BitVec 1 := Scalar.cmpi .eq c4_i32_136 c0_i32_137
  let c1_i32_138 : BitVec 32 := 1#32
  let v286 : BitVec 32 := Scalar.select v285 c1_i32_138 c4_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  let c0_i32_144 : BitVec 32 := 0#32
  let c0_i32_145 : BitVec 32 := 0#32
  ![v294.toNat, 0, 0]
def k0_mult17 (v2 : BitVec 32) (v4 : BitVec 32) (k0_t2 : Fin (k0_t2_loop v4).trips) : BitVec 32 :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_33 : BitVec 32 := 1#32
  let v75 : BitVec 32 := Scalar.addi v50 c1_i32_33
  let c5_i32_135 : BitVec 32 := 5#32
  let v284 : BitVec 32 := Scalar.addi v75 c5_i32_135
  let c512_i32_142 : BitVec 32 := 512#32
  let v295 : BitVec 32 := Scalar.muli v284 c512_i32_142
  v295
def k0_cond14 (v0 : BitVec 32) (v2 : BitVec 32) (v4 : BitVec 32) (k0_t2 : Fin (k0_t2_loop v4).trips) : BitVec 1 :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_33 : BitVec 32 := 1#32
  let v75 : BitVec 32 := Scalar.addi v50 c1_i32_33
  let c5_i32_34 : BitVec 32 := 5#32
  let v76 : BitVec 32 := Scalar.addi v75 c5_i32_34
  let v77 : BitVec 1 := Scalar.cmpi .slt v76 v0
  let v78 : BitVec 32 := Scalar.extui v77
  let c0_i32_35 : BitVec 32 := 0#32
  let v79 : BitVec 1 := Scalar.cmpi .ne v78 c0_i32_35
  v79

def k0_off41 (v2 : BitVec 32) (v4 : BitVec 32) (k0_t2 : Fin (k0_t2_loop v4).trips) : Fin 1 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_33 : BitVec 32 := 1#32
  let v75 : BitVec 32 := Scalar.addi v50 c1_i32_33
  let c5_i32_135 : BitVec 32 := 5#32
  let v284 : BitVec 32 := Scalar.addi v75 c5_i32_135
  let c8_i32_136 : BitVec 32 := 8#32
  let c0_i32_137 : BitVec 32 := 0#32
  let v285 : BitVec 1 := Scalar.cmpi .eq c8_i32_136 c0_i32_137
  let c1_i32_138 : BitVec 32 := 1#32
  let v286 : BitVec 32 := Scalar.select v285 c1_i32_138 c8_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  ![v294.toNat]
def k0_off42 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_33 : BitVec 32 := 1#32
  let v75 : BitVec 32 := Scalar.addi v50 c1_i32_33
  let c5_i32_135 : BitVec 32 := 5#32
  let v284 : BitVec 32 := Scalar.addi v75 c5_i32_135
  let c8_i32_136 : BitVec 32 := 8#32
  let c0_i32_137 : BitVec 32 := 0#32
  let v285 : BitVec 1 := Scalar.cmpi .eq c8_i32_136 c0_i32_137
  let c1_i32_138 : BitVec 32 := 1#32
  let v286 : BitVec 32 := Scalar.select v285 c1_i32_138 c8_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  let c0_i32_143 : BitVec 32 := 0#32
  let c0_i32_144 : BitVec 32 := 0#32
  ![v294.toNat, 0, 0]
def k0_off43 (v2 : BitVec 32) (v4 : BitVec 32) (k0_t2 : Fin (k0_t2_loop v4).trips) : Fin 2 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_33 : BitVec 32 := 1#32
  let v75 : BitVec 32 := Scalar.addi v50 c1_i32_33
  let c5_i32_135 : BitVec 32 := 5#32
  let v284 : BitVec 32 := Scalar.addi v75 c5_i32_135
  let c512_i32_142 : BitVec 32 := 512#32
  let v295 : BitVec 32 := Scalar.muli v284 c512_i32_142
  let v296 : BitVec 32 := v295
  let c0_i32_145 : BitVec 32 := 0#32
  ![v296.toNat, 0]
def k0_mult18 (v2 : BitVec 32) (v4 : BitVec 32) (k0_t2 : Fin (k0_t2_loop v4).trips) : BitVec 32 :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_33 : BitVec 32 := 1#32
  let v75 : BitVec 32 := Scalar.addi v50 c1_i32_33
  let c512_i32_42 : BitVec 32 := 512#32
  let v90 : BitVec 32 := Scalar.muli v75 c512_i32_42
  v90
def k0_off44 (v2 : BitVec 32) (v4 : BitVec 32) (k0_t2 : Fin (k0_t2_loop v4).trips) : Fin 1 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_33 : BitVec 32 := 1#32
  let v75 : BitVec 32 := Scalar.addi v50 c1_i32_33
  let c8_i32_36 : BitVec 32 := 8#32
  let c0_i32_37 : BitVec 32 := 0#32
  let v80 : BitVec 1 := Scalar.cmpi .eq c8_i32_36 c0_i32_37
  let c1_i32_38 : BitVec 32 := 1#32
  let v81 : BitVec 32 := Scalar.select v80 c1_i32_38 c8_i32_36
  let v82 : BitVec 32 := Scalar.remsi v75 v81
  let c0_i32_40 : BitVec 32 := 0#32
  let v84 : BitVec 1 := Scalar.cmpi .slt v82 c0_i32_40
  let c0_i32_41 : BitVec 32 := 0#32
  let v85 : BitVec 1 := Scalar.cmpi .slt v81 c0_i32_41
  let v86 : BitVec 1 := Scalar.xori v84 v85
  let c0_i32_39 : BitVec 32 := 0#32
  let v83 : BitVec 1 := Scalar.cmpi .ne v82 c0_i32_39
  let v87 : BitVec 1 := Scalar.andi v86 v83
  let v88 : BitVec 32 := Scalar.addi v82 v81
  let v89 : BitVec 32 := Scalar.select v87 v88 v82
  ![v89.toNat]
def k0_off45 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_33 : BitVec 32 := 1#32
  let v75 : BitVec 32 := Scalar.addi v50 c1_i32_33
  let c8_i32_36 : BitVec 32 := 8#32
  let c0_i32_37 : BitVec 32 := 0#32
  let v80 : BitVec 1 := Scalar.cmpi .eq c8_i32_36 c0_i32_37
  let c1_i32_38 : BitVec 32 := 1#32
  let v81 : BitVec 32 := Scalar.select v80 c1_i32_38 c8_i32_36
  let v82 : BitVec 32 := Scalar.remsi v75 v81
  let c0_i32_40 : BitVec 32 := 0#32
  let v84 : BitVec 1 := Scalar.cmpi .slt v82 c0_i32_40
  let c0_i32_41 : BitVec 32 := 0#32
  let v85 : BitVec 1 := Scalar.cmpi .slt v81 c0_i32_41
  let v86 : BitVec 1 := Scalar.xori v84 v85
  let c0_i32_39 : BitVec 32 := 0#32
  let v83 : BitVec 1 := Scalar.cmpi .ne v82 c0_i32_39
  let v87 : BitVec 1 := Scalar.andi v86 v83
  let v88 : BitVec 32 := Scalar.addi v82 v81
  let v89 : BitVec 32 := Scalar.select v87 v88 v82
  let c0_i32_43 : BitVec 32 := 0#32
  let c0_i32_44 : BitVec 32 := 0#32
  ![v89.toNat, 0, 0]
def k0_off46 (v2 : BitVec 32) (v4 : BitVec 32) (k0_t2 : Fin (k0_t2_loop v4).trips) : Fin 2 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_33 : BitVec 32 := 1#32
  let v75 : BitVec 32 := Scalar.addi v50 c1_i32_33
  let c512_i32_42 : BitVec 32 := 512#32
  let v90 : BitVec 32 := Scalar.muli v75 c512_i32_42
  let v91 : BitVec 32 := v90
  let c0_i32_45 : BitVec 32 := 0#32
  ![v91.toNat, 0]
def k0_mult19 (v2 : BitVec 32) (v4 : BitVec 32) (k0_t2 : Fin (k0_t2_loop v4).trips) : BitVec 32 :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_33 : BitVec 32 := 1#32
  let v75 : BitVec 32 := Scalar.addi v50 c1_i32_33
  let c4_i32_135 : BitVec 32 := 4#32
  let v284 : BitVec 32 := Scalar.subi v75 c4_i32_135
  let c512_i32_142 : BitVec 32 := 512#32
  let v295 : BitVec 32 := Scalar.muli v284 c512_i32_142
  v295
def k0_cond15 (v2 : BitVec 32) (v4 : BitVec 32) (k0_t2 : Fin (k0_t2_loop v4).trips) : BitVec 1 :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_33 : BitVec 32 := 1#32
  let v75 : BitVec 32 := Scalar.addi v50 c1_i32_33
  let c4_i32_46 : BitVec 32 := 4#32
  let v97 : BitVec 1 := Scalar.cmpi .sge v75 c4_i32_46
  let v98 : BitVec 32 := Scalar.extui v97
  let c0_i32_47 : BitVec 32 := 0#32
  let v99 : BitVec 1 := Scalar.cmpi .ne v98 c0_i32_47
  v99

def k0_off47 (v2 : BitVec 32) (v4 : BitVec 32) (k0_t2 : Fin (k0_t2_loop v4).trips) : Fin 1 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_33 : BitVec 32 := 1#32
  let v75 : BitVec 32 := Scalar.addi v50 c1_i32_33
  let c4_i32_135 : BitVec 32 := 4#32
  let v284 : BitVec 32 := Scalar.subi v75 c4_i32_135
  let c4_i32_136 : BitVec 32 := 4#32
  let c0_i32_137 : BitVec 32 := 0#32
  let v285 : BitVec 1 := Scalar.cmpi .eq c4_i32_136 c0_i32_137
  let c1_i32_138 : BitVec 32 := 1#32
  let v286 : BitVec 32 := Scalar.select v285 c1_i32_138 c4_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  ![v294.toNat]
def k0_off48 (v2 : BitVec 32) (v4 : BitVec 32) (k0_t2 : Fin (k0_t2_loop v4).trips) : Fin 2 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_33 : BitVec 32 := 1#32
  let v75 : BitVec 32 := Scalar.addi v50 c1_i32_33
  let c4_i32_135 : BitVec 32 := 4#32
  let v284 : BitVec 32 := Scalar.subi v75 c4_i32_135
  let c512_i32_142 : BitVec 32 := 512#32
  let v295 : BitVec 32 := Scalar.muli v284 c512_i32_142
  let v296 : BitVec 32 := v295
  let c0_i32_143 : BitVec 32 := 0#32
  ![v296.toNat, 0]
def k0_off49 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_33 : BitVec 32 := 1#32
  let v75 : BitVec 32 := Scalar.addi v50 c1_i32_33
  let c4_i32_135 : BitVec 32 := 4#32
  let v284 : BitVec 32 := Scalar.subi v75 c4_i32_135
  let c4_i32_136 : BitVec 32 := 4#32
  let c0_i32_137 : BitVec 32 := 0#32
  let v285 : BitVec 1 := Scalar.cmpi .eq c4_i32_136 c0_i32_137
  let c1_i32_138 : BitVec 32 := 1#32
  let v286 : BitVec 32 := Scalar.select v285 c1_i32_138 c4_i32_136
  let v287 : BitVec 32 := Scalar.remsi v284 v286
  let c0_i32_140 : BitVec 32 := 0#32
  let v289 : BitVec 1 := Scalar.cmpi .slt v287 c0_i32_140
  let c0_i32_141 : BitVec 32 := 0#32
  let v290 : BitVec 1 := Scalar.cmpi .slt v286 c0_i32_141
  let v291 : BitVec 1 := Scalar.xori v289 v290
  let c0_i32_139 : BitVec 32 := 0#32
  let v288 : BitVec 1 := Scalar.cmpi .ne v287 c0_i32_139
  let v292 : BitVec 1 := Scalar.andi v291 v288
  let v293 : BitVec 32 := Scalar.addi v287 v286
  let v294 : BitVec 32 := Scalar.select v292 v293 v287
  let c0_i32_144 : BitVec 32 := 0#32
  let c0_i32_145 : BitVec 32 := 0#32
  ![v294.toNat, 0, 0]
def k0_off50 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c8_i32_48 : BitVec 32 := 8#32
  let c0_i32_49 : BitVec 32 := 0#32
  let v100 : BitVec 1 := Scalar.cmpi .eq c8_i32_48 c0_i32_49
  let c1_i32_50 : BitVec 32 := 1#32
  let v101 : BitVec 32 := Scalar.select v100 c1_i32_50 c8_i32_48
  let v102 : BitVec 32 := Scalar.remsi v50 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let v120 : Index := Scalar.indexCast v109
  let c0_60 : Index := 0#32
  let c0_61 : Index := 0#32
  ![v120.toNat, 0, 0]
def k0_off51 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c4_i32_54 : BitVec 32 := 4#32
  let c0_i32_55 : BitVec 32 := 0#32
  let v110 : BitVec 1 := Scalar.cmpi .eq c4_i32_54 c0_i32_55
  let c1_i32_56 : BitVec 32 := 1#32
  let v111 : BitVec 32 := Scalar.select v110 c1_i32_56 c4_i32_54
  let v112 : BitVec 32 := Scalar.remsi v50 v111
  let c0_i32_58 : BitVec 32 := 0#32
  let v114 : BitVec 1 := Scalar.cmpi .slt v112 c0_i32_58
  let c0_i32_59 : BitVec 32 := 0#32
  let v115 : BitVec 1 := Scalar.cmpi .slt v111 c0_i32_59
  let v116 : BitVec 1 := Scalar.xori v114 v115
  let c0_i32_57 : BitVec 32 := 0#32
  let v113 : BitVec 1 := Scalar.cmpi .ne v112 c0_i32_57
  let v117 : BitVec 1 := Scalar.andi v116 v113
  let v118 : BitVec 32 := Scalar.addi v112 v111
  let v119 : BitVec 32 := Scalar.select v117 v118 v112
  let v143 : Index := Scalar.indexCast v119
  let c0_67 : Index := 0#32
  let c0_68 : Index := 0#32
  ![v143.toNat, 0, 0]
def k0_off52 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c8_i32_48 : BitVec 32 := 8#32
  let c0_i32_49 : BitVec 32 := 0#32
  let v100 : BitVec 1 := Scalar.cmpi .eq c8_i32_48 c0_i32_49
  let c1_i32_50 : BitVec 32 := 1#32
  let v101 : BitVec 32 := Scalar.select v100 c1_i32_50 c8_i32_48
  let v102 : BitVec 32 := Scalar.remsi v50 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let v147 : Index := Scalar.indexCast v109
  let c256 : Index := 256#32
  let c0_69 : Index := 0#32
  ![v147.toNat, 256, 0]
def k0_off53 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c4_i32_54 : BitVec 32 := 4#32
  let c0_i32_55 : BitVec 32 := 0#32
  let v110 : BitVec 1 := Scalar.cmpi .eq c4_i32_54 c0_i32_55
  let c1_i32_56 : BitVec 32 := 1#32
  let v111 : BitVec 32 := Scalar.select v110 c1_i32_56 c4_i32_54
  let v112 : BitVec 32 := Scalar.remsi v50 v111
  let c0_i32_58 : BitVec 32 := 0#32
  let v114 : BitVec 1 := Scalar.cmpi .slt v112 c0_i32_58
  let c0_i32_59 : BitVec 32 := 0#32
  let v115 : BitVec 1 := Scalar.cmpi .slt v111 c0_i32_59
  let v116 : BitVec 1 := Scalar.xori v114 v115
  let c0_i32_57 : BitVec 32 := 0#32
  let v113 : BitVec 1 := Scalar.cmpi .ne v112 c0_i32_57
  let v117 : BitVec 1 := Scalar.andi v116 v113
  let v118 : BitVec 32 := Scalar.addi v112 v111
  let v119 : BitVec 32 := Scalar.select v117 v118 v112
  let v170 : Index := Scalar.indexCast v119
  let c256_77 : Index := 256#32
  let c0_78 : Index := 0#32
  ![v170.toNat, 256, 0]
def k0_off54 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_79 : BitVec 32 := 1#32
  let v174 : BitVec 32 := Scalar.addi v50 c1_i32_79
  let c8_i32_80 : BitVec 32 := 8#32
  let c0_i32_81 : BitVec 32 := 0#32
  let v175 : BitVec 1 := Scalar.cmpi .eq c8_i32_80 c0_i32_81
  let c1_i32_82 : BitVec 32 := 1#32
  let v176 : BitVec 32 := Scalar.select v175 c1_i32_82 c8_i32_80
  let v177 : BitVec 32 := Scalar.remsi v174 v176
  let c0_i32_84 : BitVec 32 := 0#32
  let v179 : BitVec 1 := Scalar.cmpi .slt v177 c0_i32_84
  let c0_i32_85 : BitVec 32 := 0#32
  let v180 : BitVec 1 := Scalar.cmpi .slt v176 c0_i32_85
  let v181 : BitVec 1 := Scalar.xori v179 v180
  let c0_i32_83 : BitVec 32 := 0#32
  let v178 : BitVec 1 := Scalar.cmpi .ne v177 c0_i32_83
  let v182 : BitVec 1 := Scalar.andi v181 v178
  let v183 : BitVec 32 := Scalar.addi v177 v176
  let v184 : BitVec 32 := Scalar.select v182 v183 v177
  let v195 : Index := Scalar.indexCast v184
  let c0_92 : Index := 0#32
  let c0_93 : Index := 0#32
  ![v195.toNat, 0, 0]
def k0_off55 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_79 : BitVec 32 := 1#32
  let v174 : BitVec 32 := Scalar.addi v50 c1_i32_79
  let c4_i32_86 : BitVec 32 := 4#32
  let c0_i32_87 : BitVec 32 := 0#32
  let v185 : BitVec 1 := Scalar.cmpi .eq c4_i32_86 c0_i32_87
  let c1_i32_88 : BitVec 32 := 1#32
  let v186 : BitVec 32 := Scalar.select v185 c1_i32_88 c4_i32_86
  let v187 : BitVec 32 := Scalar.remsi v174 v186
  let c0_i32_90 : BitVec 32 := 0#32
  let v189 : BitVec 1 := Scalar.cmpi .slt v187 c0_i32_90
  let c0_i32_91 : BitVec 32 := 0#32
  let v190 : BitVec 1 := Scalar.cmpi .slt v186 c0_i32_91
  let v191 : BitVec 1 := Scalar.xori v189 v190
  let c0_i32_89 : BitVec 32 := 0#32
  let v188 : BitVec 1 := Scalar.cmpi .ne v187 c0_i32_89
  let v192 : BitVec 1 := Scalar.andi v191 v188
  let v193 : BitVec 32 := Scalar.addi v187 v186
  let v194 : BitVec 32 := Scalar.select v192 v193 v187
  let v218 : Index := Scalar.indexCast v194
  let c0_101 : Index := 0#32
  let c0_102 : Index := 0#32
  ![v218.toNat, 0, 0]
def k0_off56 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_79 : BitVec 32 := 1#32
  let v174 : BitVec 32 := Scalar.addi v50 c1_i32_79
  let c8_i32_80 : BitVec 32 := 8#32
  let c0_i32_81 : BitVec 32 := 0#32
  let v175 : BitVec 1 := Scalar.cmpi .eq c8_i32_80 c0_i32_81
  let c1_i32_82 : BitVec 32 := 1#32
  let v176 : BitVec 32 := Scalar.select v175 c1_i32_82 c8_i32_80
  let v177 : BitVec 32 := Scalar.remsi v174 v176
  let c0_i32_84 : BitVec 32 := 0#32
  let v179 : BitVec 1 := Scalar.cmpi .slt v177 c0_i32_84
  let c0_i32_85 : BitVec 32 := 0#32
  let v180 : BitVec 1 := Scalar.cmpi .slt v176 c0_i32_85
  let v181 : BitVec 1 := Scalar.xori v179 v180
  let c0_i32_83 : BitVec 32 := 0#32
  let v178 : BitVec 1 := Scalar.cmpi .ne v177 c0_i32_83
  let v182 : BitVec 1 := Scalar.andi v181 v178
  let v183 : BitVec 32 := Scalar.addi v177 v176
  let v184 : BitVec 32 := Scalar.select v182 v183 v177
  let v222 : Index := Scalar.indexCast v184
  let c256_103 : Index := 256#32
  let c0_104 : Index := 0#32
  ![v222.toNat, 256, 0]
def k0_off57 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_79 : BitVec 32 := 1#32
  let v174 : BitVec 32 := Scalar.addi v50 c1_i32_79
  let c4_i32_86 : BitVec 32 := 4#32
  let c0_i32_87 : BitVec 32 := 0#32
  let v185 : BitVec 1 := Scalar.cmpi .eq c4_i32_86 c0_i32_87
  let c1_i32_88 : BitVec 32 := 1#32
  let v186 : BitVec 32 := Scalar.select v185 c1_i32_88 c4_i32_86
  let v187 : BitVec 32 := Scalar.remsi v174 v186
  let c0_i32_90 : BitVec 32 := 0#32
  let v189 : BitVec 1 := Scalar.cmpi .slt v187 c0_i32_90
  let c0_i32_91 : BitVec 32 := 0#32
  let v190 : BitVec 1 := Scalar.cmpi .slt v186 c0_i32_91
  let v191 : BitVec 1 := Scalar.xori v189 v190
  let c0_i32_89 : BitVec 32 := 0#32
  let v188 : BitVec 1 := Scalar.cmpi .ne v187 c0_i32_89
  let v192 : BitVec 1 := Scalar.andi v191 v188
  let v193 : BitVec 32 := Scalar.addi v187 v186
  let v194 : BitVec 32 := Scalar.select v192 v193 v187
  let v245 : Index := Scalar.indexCast v194
  let c256_112 : Index := 256#32
  let c0_113 : Index := 0#32
  ![v245.toNat, 256, 0]
def k0_mult20 (v2 : BitVec 32) (v4 : BitVec 32) (k0_t2 : Fin (k0_t2_loop v4).trips) : BitVec 32 :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c512_i32_120 : BitVec 32 := 512#32
  let v259 : BitVec 32 := Scalar.muli v50 c512_i32_120
  v259
def k0_off58 (v2 : BitVec 32) (v4 : BitVec 32) (k0_t2 : Fin (k0_t2_loop v4).trips) : Fin 1 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c4_i32_114 : BitVec 32 := 4#32
  let c0_i32_115 : BitVec 32 := 0#32
  let v249 : BitVec 1 := Scalar.cmpi .eq c4_i32_114 c0_i32_115
  let c1_i32_116 : BitVec 32 := 1#32
  let v250 : BitVec 32 := Scalar.select v249 c1_i32_116 c4_i32_114
  let v251 : BitVec 32 := Scalar.remsi v50 v250
  let c0_i32_118 : BitVec 32 := 0#32
  let v253 : BitVec 1 := Scalar.cmpi .slt v251 c0_i32_118
  let c0_i32_119 : BitVec 32 := 0#32
  let v254 : BitVec 1 := Scalar.cmpi .slt v250 c0_i32_119
  let v255 : BitVec 1 := Scalar.xori v253 v254
  let c0_i32_117 : BitVec 32 := 0#32
  let v252 : BitVec 1 := Scalar.cmpi .ne v251 c0_i32_117
  let v256 : BitVec 1 := Scalar.andi v255 v252
  let v257 : BitVec 32 := Scalar.addi v251 v250
  let v258 : BitVec 32 := Scalar.select v256 v257 v251
  ![v258.toNat]
def k0_off59 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c4_i32_114 : BitVec 32 := 4#32
  let c0_i32_115 : BitVec 32 := 0#32
  let v249 : BitVec 1 := Scalar.cmpi .eq c4_i32_114 c0_i32_115
  let c1_i32_116 : BitVec 32 := 1#32
  let v250 : BitVec 32 := Scalar.select v249 c1_i32_116 c4_i32_114
  let v251 : BitVec 32 := Scalar.remsi v50 v250
  let c0_i32_118 : BitVec 32 := 0#32
  let v253 : BitVec 1 := Scalar.cmpi .slt v251 c0_i32_118
  let c0_i32_119 : BitVec 32 := 0#32
  let v254 : BitVec 1 := Scalar.cmpi .slt v250 c0_i32_119
  let v255 : BitVec 1 := Scalar.xori v253 v254
  let c0_i32_117 : BitVec 32 := 0#32
  let v252 : BitVec 1 := Scalar.cmpi .ne v251 c0_i32_117
  let v256 : BitVec 1 := Scalar.andi v255 v252
  let v257 : BitVec 32 := Scalar.addi v251 v250
  let v258 : BitVec 32 := Scalar.select v256 v257 v251
  let c0_i32_122 : BitVec 32 := 0#32
  let c0_i32_123 : BitVec 32 := 0#32
  ![v258.toNat, 0, 0]
def k0_mult21 (v2 : BitVec 32) (v4 : BitVec 32) (k0_t2 : Fin (k0_t2_loop v4).trips) : BitVec 32 :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_124 : BitVec 32 := 1#32
  let v266 : BitVec 32 := Scalar.addi v50 c1_i32_124
  let c512_i32_131 : BitVec 32 := 512#32
  let v277 : BitVec 32 := Scalar.muli v266 c512_i32_131
  v277
def k0_off60 (v2 : BitVec 32) (v4 : BitVec 32) (k0_t2 : Fin (k0_t2_loop v4).trips) : Fin 1 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_124 : BitVec 32 := 1#32
  let v266 : BitVec 32 := Scalar.addi v50 c1_i32_124
  let c4_i32_125 : BitVec 32 := 4#32
  let c0_i32_126 : BitVec 32 := 0#32
  let v267 : BitVec 1 := Scalar.cmpi .eq c4_i32_125 c0_i32_126
  let c1_i32_127 : BitVec 32 := 1#32
  let v268 : BitVec 32 := Scalar.select v267 c1_i32_127 c4_i32_125
  let v269 : BitVec 32 := Scalar.remsi v266 v268
  let c0_i32_129 : BitVec 32 := 0#32
  let v271 : BitVec 1 := Scalar.cmpi .slt v269 c0_i32_129
  let c0_i32_130 : BitVec 32 := 0#32
  let v272 : BitVec 1 := Scalar.cmpi .slt v268 c0_i32_130
  let v273 : BitVec 1 := Scalar.xori v271 v272
  let c0_i32_128 : BitVec 32 := 0#32
  let v270 : BitVec 1 := Scalar.cmpi .ne v269 c0_i32_128
  let v274 : BitVec 1 := Scalar.andi v273 v270
  let v275 : BitVec 32 := Scalar.addi v269 v268
  let v276 : BitVec 32 := Scalar.select v274 v275 v269
  ![v276.toNat]
def k0_off61 (v2 : BitVec 32) (v4 : BitVec 32) (k0_t2 : Fin (k0_t2_loop v4).trips) : Fin 3 → Nat :=
  let c2_i32_22 : BitVec 32 := 2#32
  let c0_i32_9 : BitVec 32 := 0#32
  let c0_i32_3 : BitVec 32 := 0#32
  let v12 : BitVec 1 := Scalar.cmpi .sgt v4 c0_i32_3
  let v13 : BitVec 32 := Scalar.extui v12
  let c0_i32_4 : BitVec 32 := 0#32
  let v14 : BitVec 1 := Scalar.cmpi .slt v4 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v4 c2_i32
  let c0_i32_7 : BitVec 32 := 0#32
  let v24 : BitVec 1 := Scalar.cmpi .ne v23 c0_i32_7
  let v25 : BitVec 1 := Scalar.andi v22 v24
  let v11 : BitVec 32 := Scalar.divsi v4 c2_i32
  let c1_i32 : BitVec 32 := 1#32
  let v26 : BitVec 32 := Scalar.subi v11 c1_i32
  let v27 : BitVec 32 := Scalar.select v25 v26 v11
  let v28 : BitVec 32 := Scalar.subi v27 c0_i32_9
  let c1_i32_10 : BitVec 32 := 1#32
  let v30 : BitVec 32 := Scalar.divsi v28 c1_i32_10
  let v31 : BitVec 32 := Scalar.muli v30 c1_i32_10
  let v32 : BitVec 32 := Scalar.addi c0_i32_9 v31
  let c1_i32_12 : BitVec 32 := 1#32
  let arg14 : BitVec 32 := Scf.iv v32 c1_i32_12 k0_t2
  let v49 : BitVec 32 := Scalar.muli c2_i32_22 arg14
  let v50 : BitVec 32 := Scalar.addi v2 v49
  let c1_i32_124 : BitVec 32 := 1#32
  let v266 : BitVec 32 := Scalar.addi v50 c1_i32_124
  let c4_i32_125 : BitVec 32 := 4#32
  let c0_i32_126 : BitVec 32 := 0#32
  let v267 : BitVec 1 := Scalar.cmpi .eq c4_i32_125 c0_i32_126
  let c1_i32_127 : BitVec 32 := 1#32
  let v268 : BitVec 32 := Scalar.select v267 c1_i32_127 c4_i32_125
  let v269 : BitVec 32 := Scalar.remsi v266 v268
  let c0_i32_129 : BitVec 32 := 0#32
  let v271 : BitVec 1 := Scalar.cmpi .slt v269 c0_i32_129
  let c0_i32_130 : BitVec 32 := 0#32
  let v272 : BitVec 1 := Scalar.cmpi .slt v268 c0_i32_130
  let v273 : BitVec 1 := Scalar.xori v271 v272
  let c0_i32_128 : BitVec 32 := 0#32
  let v270 : BitVec 1 := Scalar.cmpi .ne v269 c0_i32_128
  let v274 : BitVec 1 := Scalar.andi v273 v270
  let v275 : BitVec 32 := Scalar.addi v269 v268
  let v276 : BitVec 32 := Scalar.select v274 v275 v269
  let c0_i32_133 : BitVec 32 := 0#32
  let c0_i32_134 : BitVec 32 := 0#32
  ![v276.toNat, 0, 0]
def k0_mult22 (v2 : BitVec 32) (v4 : BitVec 32) : BitVec 32 :=
  let v49 : BitVec 32 := Scalar.addi v2 v4
  let c1_i32_22 : BitVec 32 := 1#32
  let v50 : BitVec 32 := Scalar.subi v49 c1_i32_22
  let c5_i32_74 : BitVec 32 := 5#32
  let v166 : BitVec 32 := Scalar.addi v50 c5_i32_74
  let c512_i32_81 : BitVec 32 := 512#32
  let v177 : BitVec 32 := Scalar.muli v166 c512_i32_81
  v177
def k0_cond16 (v4 : BitVec 32) : BitVec 1 :=
  let c2_i32_13 : BitVec 32 := 2#32
  let c0_i32_14 : BitVec 32 := 0#32
  let v33 : BitVec 1 := Scalar.cmpi .eq c2_i32_13 c0_i32_14
  let c1_i32_15 : BitVec 32 := 1#32
  let v34 : BitVec 32 := Scalar.select v33 c1_i32_15 c2_i32_13
  let v35 : BitVec 32 := Scalar.remsi v4 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c1_i32_19 : BitVec 32 := 1#32
  let v43 : BitVec 1 := Scalar.cmpi .eq v42 c1_i32_19
  let v44 : BitVec 32 := Scalar.extui v43
  let c0_i32_20 : BitVec 32 := 0#32
  let v45 : BitVec 1 := Scalar.cmpi .ne v44 c0_i32_20
  v45

def k0_cond17 (v0 : BitVec 32) (v2 : BitVec 32) (v4 : BitVec 32) : BitVec 1 :=
  let v49 : BitVec 32 := Scalar.addi v2 v4
  let c1_i32_22 : BitVec 32 := 1#32
  let v50 : BitVec 32 := Scalar.subi v49 c1_i32_22
  let c5_i32 : BitVec 32 := 5#32
  let v51 : BitVec 32 := Scalar.addi v50 c5_i32
  let v52 : BitVec 1 := Scalar.cmpi .slt v51 v0
  let v53 : BitVec 32 := Scalar.extui v52
  let c0_i32_23 : BitVec 32 := 0#32
  let v54 : BitVec 1 := Scalar.cmpi .ne v53 c0_i32_23
  v54

def k0_off62 (v2 : BitVec 32) (v4 : BitVec 32) : Fin 1 → Nat :=
  let v49 : BitVec 32 := Scalar.addi v2 v4
  let c1_i32_22 : BitVec 32 := 1#32
  let v50 : BitVec 32 := Scalar.subi v49 c1_i32_22
  let c5_i32_74 : BitVec 32 := 5#32
  let v166 : BitVec 32 := Scalar.addi v50 c5_i32_74
  let c8_i32_75 : BitVec 32 := 8#32
  let c0_i32_76 : BitVec 32 := 0#32
  let v167 : BitVec 1 := Scalar.cmpi .eq c8_i32_75 c0_i32_76
  let c1_i32_77 : BitVec 32 := 1#32
  let v168 : BitVec 32 := Scalar.select v167 c1_i32_77 c8_i32_75
  let v169 : BitVec 32 := Scalar.remsi v166 v168
  let c0_i32_79 : BitVec 32 := 0#32
  let v171 : BitVec 1 := Scalar.cmpi .slt v169 c0_i32_79
  let c0_i32_80 : BitVec 32 := 0#32
  let v172 : BitVec 1 := Scalar.cmpi .slt v168 c0_i32_80
  let v173 : BitVec 1 := Scalar.xori v171 v172
  let c0_i32_78 : BitVec 32 := 0#32
  let v170 : BitVec 1 := Scalar.cmpi .ne v169 c0_i32_78
  let v174 : BitVec 1 := Scalar.andi v173 v170
  let v175 : BitVec 32 := Scalar.addi v169 v168
  let v176 : BitVec 32 := Scalar.select v174 v175 v169
  ![v176.toNat]
def k0_off63 (v2 : BitVec 32) (v4 : BitVec 32) : Fin 3 → Nat :=
  let v49 : BitVec 32 := Scalar.addi v2 v4
  let c1_i32_22 : BitVec 32 := 1#32
  let v50 : BitVec 32 := Scalar.subi v49 c1_i32_22
  let c5_i32_74 : BitVec 32 := 5#32
  let v166 : BitVec 32 := Scalar.addi v50 c5_i32_74
  let c8_i32_75 : BitVec 32 := 8#32
  let c0_i32_76 : BitVec 32 := 0#32
  let v167 : BitVec 1 := Scalar.cmpi .eq c8_i32_75 c0_i32_76
  let c1_i32_77 : BitVec 32 := 1#32
  let v168 : BitVec 32 := Scalar.select v167 c1_i32_77 c8_i32_75
  let v169 : BitVec 32 := Scalar.remsi v166 v168
  let c0_i32_79 : BitVec 32 := 0#32
  let v171 : BitVec 1 := Scalar.cmpi .slt v169 c0_i32_79
  let c0_i32_80 : BitVec 32 := 0#32
  let v172 : BitVec 1 := Scalar.cmpi .slt v168 c0_i32_80
  let v173 : BitVec 1 := Scalar.xori v171 v172
  let c0_i32_78 : BitVec 32 := 0#32
  let v170 : BitVec 1 := Scalar.cmpi .ne v169 c0_i32_78
  let v174 : BitVec 1 := Scalar.andi v173 v170
  let v175 : BitVec 32 := Scalar.addi v169 v168
  let v176 : BitVec 32 := Scalar.select v174 v175 v169
  let c0_i32_82 : BitVec 32 := 0#32
  let c0_i32_83 : BitVec 32 := 0#32
  ![v176.toNat, 0, 0]
def k0_off64 (v2 : BitVec 32) (v4 : BitVec 32) : Fin 2 → Nat :=
  let v49 : BitVec 32 := Scalar.addi v2 v4
  let c1_i32_22 : BitVec 32 := 1#32
  let v50 : BitVec 32 := Scalar.subi v49 c1_i32_22
  let c5_i32_74 : BitVec 32 := 5#32
  let v166 : BitVec 32 := Scalar.addi v50 c5_i32_74
  let c512_i32_81 : BitVec 32 := 512#32
  let v177 : BitVec 32 := Scalar.muli v166 c512_i32_81
  let v178 : BitVec 32 := v177
  let c0_i32_84 : BitVec 32 := 0#32
  ![v178.toNat, 0]
def k0_mult23 (v2 : BitVec 32) (v4 : BitVec 32) : BitVec 32 :=
  let v49 : BitVec 32 := Scalar.addi v2 v4
  let c1_i32_22 : BitVec 32 := 1#32
  let v50 : BitVec 32 := Scalar.subi v49 c1_i32_22
  let c512_i32 : BitVec 32 := 512#32
  let v65 : BitVec 32 := Scalar.muli v50 c512_i32
  v65
def k0_off65 (v2 : BitVec 32) (v4 : BitVec 32) : Fin 1 → Nat :=
  let v49 : BitVec 32 := Scalar.addi v2 v4
  let c1_i32_22 : BitVec 32 := 1#32
  let v50 : BitVec 32 := Scalar.subi v49 c1_i32_22
  let c8_i32 : BitVec 32 := 8#32
  let c0_i32_24 : BitVec 32 := 0#32
  let v55 : BitVec 1 := Scalar.cmpi .eq c8_i32 c0_i32_24
  let c1_i32_25 : BitVec 32 := 1#32
  let v56 : BitVec 32 := Scalar.select v55 c1_i32_25 c8_i32
  let v57 : BitVec 32 := Scalar.remsi v50 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  ![v64.toNat]
def k0_off66 (v2 : BitVec 32) (v4 : BitVec 32) : Fin 3 → Nat :=
  let v49 : BitVec 32 := Scalar.addi v2 v4
  let c1_i32_22 : BitVec 32 := 1#32
  let v50 : BitVec 32 := Scalar.subi v49 c1_i32_22
  let c8_i32 : BitVec 32 := 8#32
  let c0_i32_24 : BitVec 32 := 0#32
  let v55 : BitVec 1 := Scalar.cmpi .eq c8_i32 c0_i32_24
  let c1_i32_25 : BitVec 32 := 1#32
  let v56 : BitVec 32 := Scalar.select v55 c1_i32_25 c8_i32
  let v57 : BitVec 32 := Scalar.remsi v50 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c0_i32_29 : BitVec 32 := 0#32
  let c0_i32_30 : BitVec 32 := 0#32
  ![v64.toNat, 0, 0]
def k0_off67 (v2 : BitVec 32) (v4 : BitVec 32) : Fin 2 → Nat :=
  let v49 : BitVec 32 := Scalar.addi v2 v4
  let c1_i32_22 : BitVec 32 := 1#32
  let v50 : BitVec 32 := Scalar.subi v49 c1_i32_22
  let c512_i32 : BitVec 32 := 512#32
  let v65 : BitVec 32 := Scalar.muli v50 c512_i32
  let v66 : BitVec 32 := v65
  let c0_i32_31 : BitVec 32 := 0#32
  ![v66.toNat, 0]
def k0_mult24 (v2 : BitVec 32) (v4 : BitVec 32) : BitVec 32 :=
  let v49 : BitVec 32 := Scalar.addi v2 v4
  let c1_i32_22 : BitVec 32 := 1#32
  let v50 : BitVec 32 := Scalar.subi v49 c1_i32_22
  let c4_i32_74 : BitVec 32 := 4#32
  let v166 : BitVec 32 := Scalar.subi v50 c4_i32_74
  let c512_i32_81 : BitVec 32 := 512#32
  let v177 : BitVec 32 := Scalar.muli v166 c512_i32_81
  v177
def k0_cond18 (v2 : BitVec 32) (v4 : BitVec 32) : BitVec 1 :=
  let v49 : BitVec 32 := Scalar.addi v2 v4
  let c1_i32_22 : BitVec 32 := 1#32
  let v50 : BitVec 32 := Scalar.subi v49 c1_i32_22
  let c4_i32 : BitVec 32 := 4#32
  let v72 : BitVec 1 := Scalar.cmpi .sge v50 c4_i32
  let v73 : BitVec 32 := Scalar.extui v72
  let c0_i32_32 : BitVec 32 := 0#32
  let v74 : BitVec 1 := Scalar.cmpi .ne v73 c0_i32_32
  v74

def k0_off68 (v2 : BitVec 32) (v4 : BitVec 32) : Fin 1 → Nat :=
  let v49 : BitVec 32 := Scalar.addi v2 v4
  let c1_i32_22 : BitVec 32 := 1#32
  let v50 : BitVec 32 := Scalar.subi v49 c1_i32_22
  let c4_i32_74 : BitVec 32 := 4#32
  let v166 : BitVec 32 := Scalar.subi v50 c4_i32_74
  let c4_i32_75 : BitVec 32 := 4#32
  let c0_i32_76 : BitVec 32 := 0#32
  let v167 : BitVec 1 := Scalar.cmpi .eq c4_i32_75 c0_i32_76
  let c1_i32_77 : BitVec 32 := 1#32
  let v168 : BitVec 32 := Scalar.select v167 c1_i32_77 c4_i32_75
  let v169 : BitVec 32 := Scalar.remsi v166 v168
  let c0_i32_79 : BitVec 32 := 0#32
  let v171 : BitVec 1 := Scalar.cmpi .slt v169 c0_i32_79
  let c0_i32_80 : BitVec 32 := 0#32
  let v172 : BitVec 1 := Scalar.cmpi .slt v168 c0_i32_80
  let v173 : BitVec 1 := Scalar.xori v171 v172
  let c0_i32_78 : BitVec 32 := 0#32
  let v170 : BitVec 1 := Scalar.cmpi .ne v169 c0_i32_78
  let v174 : BitVec 1 := Scalar.andi v173 v170
  let v175 : BitVec 32 := Scalar.addi v169 v168
  let v176 : BitVec 32 := Scalar.select v174 v175 v169
  ![v176.toNat]
def k0_off69 (v2 : BitVec 32) (v4 : BitVec 32) : Fin 2 → Nat :=
  let v49 : BitVec 32 := Scalar.addi v2 v4
  let c1_i32_22 : BitVec 32 := 1#32
  let v50 : BitVec 32 := Scalar.subi v49 c1_i32_22
  let c4_i32_74 : BitVec 32 := 4#32
  let v166 : BitVec 32 := Scalar.subi v50 c4_i32_74
  let c512_i32_81 : BitVec 32 := 512#32
  let v177 : BitVec 32 := Scalar.muli v166 c512_i32_81
  let v178 : BitVec 32 := v177
  let c0_i32_82 : BitVec 32 := 0#32
  ![v178.toNat, 0]
def k0_off70 (v2 : BitVec 32) (v4 : BitVec 32) : Fin 3 → Nat :=
  let v49 : BitVec 32 := Scalar.addi v2 v4
  let c1_i32_22 : BitVec 32 := 1#32
  let v50 : BitVec 32 := Scalar.subi v49 c1_i32_22
  let c4_i32_74 : BitVec 32 := 4#32
  let v166 : BitVec 32 := Scalar.subi v50 c4_i32_74
  let c4_i32_75 : BitVec 32 := 4#32
  let c0_i32_76 : BitVec 32 := 0#32
  let v167 : BitVec 1 := Scalar.cmpi .eq c4_i32_75 c0_i32_76
  let c1_i32_77 : BitVec 32 := 1#32
  let v168 : BitVec 32 := Scalar.select v167 c1_i32_77 c4_i32_75
  let v169 : BitVec 32 := Scalar.remsi v166 v168
  let c0_i32_79 : BitVec 32 := 0#32
  let v171 : BitVec 1 := Scalar.cmpi .slt v169 c0_i32_79
  let c0_i32_80 : BitVec 32 := 0#32
  let v172 : BitVec 1 := Scalar.cmpi .slt v168 c0_i32_80
  let v173 : BitVec 1 := Scalar.xori v171 v172
  let c0_i32_78 : BitVec 32 := 0#32
  let v170 : BitVec 1 := Scalar.cmpi .ne v169 c0_i32_78
  let v174 : BitVec 1 := Scalar.andi v173 v170
  let v175 : BitVec 32 := Scalar.addi v169 v168
  let v176 : BitVec 32 := Scalar.select v174 v175 v169
  let c0_i32_83 : BitVec 32 := 0#32
  let c0_i32_84 : BitVec 32 := 0#32
  ![v176.toNat, 0, 0]
def k0_off71 (v2 : BitVec 32) (v4 : BitVec 32) : Fin 3 → Nat :=
  let v49 : BitVec 32 := Scalar.addi v2 v4
  let c1_i32_22 : BitVec 32 := 1#32
  let v50 : BitVec 32 := Scalar.subi v49 c1_i32_22
  let c8_i32_33 : BitVec 32 := 8#32
  let c0_i32_34 : BitVec 32 := 0#32
  let v75 : BitVec 1 := Scalar.cmpi .eq c8_i32_33 c0_i32_34
  let c1_i32_35 : BitVec 32 := 1#32
  let v76 : BitVec 32 := Scalar.select v75 c1_i32_35 c8_i32_33
  let v77 : BitVec 32 := Scalar.remsi v50 v76
  let c0_i32_37 : BitVec 32 := 0#32
  let v79 : BitVec 1 := Scalar.cmpi .slt v77 c0_i32_37
  let c0_i32_38 : BitVec 32 := 0#32
  let v80 : BitVec 1 := Scalar.cmpi .slt v76 c0_i32_38
  let v81 : BitVec 1 := Scalar.xori v79 v80
  let c0_i32_36 : BitVec 32 := 0#32
  let v78 : BitVec 1 := Scalar.cmpi .ne v77 c0_i32_36
  let v82 : BitVec 1 := Scalar.andi v81 v78
  let v83 : BitVec 32 := Scalar.addi v77 v76
  let v84 : BitVec 32 := Scalar.select v82 v83 v77
  let v95 : Index := Scalar.indexCast v84
  let c0_45 : Index := 0#32
  let c0_46 : Index := 0#32
  ![v95.toNat, 0, 0]
def k0_off72 (v2 : BitVec 32) (v4 : BitVec 32) : Fin 3 → Nat :=
  let v49 : BitVec 32 := Scalar.addi v2 v4
  let c1_i32_22 : BitVec 32 := 1#32
  let v50 : BitVec 32 := Scalar.subi v49 c1_i32_22
  let c4_i32_39 : BitVec 32 := 4#32
  let c0_i32_40 : BitVec 32 := 0#32
  let v85 : BitVec 1 := Scalar.cmpi .eq c4_i32_39 c0_i32_40
  let c1_i32_41 : BitVec 32 := 1#32
  let v86 : BitVec 32 := Scalar.select v85 c1_i32_41 c4_i32_39
  let v87 : BitVec 32 := Scalar.remsi v50 v86
  let c0_i32_43 : BitVec 32 := 0#32
  let v89 : BitVec 1 := Scalar.cmpi .slt v87 c0_i32_43
  let c0_i32_44 : BitVec 32 := 0#32
  let v90 : BitVec 1 := Scalar.cmpi .slt v86 c0_i32_44
  let v91 : BitVec 1 := Scalar.xori v89 v90
  let c0_i32_42 : BitVec 32 := 0#32
  let v88 : BitVec 1 := Scalar.cmpi .ne v87 c0_i32_42
  let v92 : BitVec 1 := Scalar.andi v91 v88
  let v93 : BitVec 32 := Scalar.addi v87 v86
  let v94 : BitVec 32 := Scalar.select v92 v93 v87
  let v118 : Index := Scalar.indexCast v94
  let c0_52 : Index := 0#32
  let c0_53 : Index := 0#32
  ![v118.toNat, 0, 0]
def k0_off73 (v2 : BitVec 32) (v4 : BitVec 32) : Fin 3 → Nat :=
  let v49 : BitVec 32 := Scalar.addi v2 v4
  let c1_i32_22 : BitVec 32 := 1#32
  let v50 : BitVec 32 := Scalar.subi v49 c1_i32_22
  let c8_i32_33 : BitVec 32 := 8#32
  let c0_i32_34 : BitVec 32 := 0#32
  let v75 : BitVec 1 := Scalar.cmpi .eq c8_i32_33 c0_i32_34
  let c1_i32_35 : BitVec 32 := 1#32
  let v76 : BitVec 32 := Scalar.select v75 c1_i32_35 c8_i32_33
  let v77 : BitVec 32 := Scalar.remsi v50 v76
  let c0_i32_37 : BitVec 32 := 0#32
  let v79 : BitVec 1 := Scalar.cmpi .slt v77 c0_i32_37
  let c0_i32_38 : BitVec 32 := 0#32
  let v80 : BitVec 1 := Scalar.cmpi .slt v76 c0_i32_38
  let v81 : BitVec 1 := Scalar.xori v79 v80
  let c0_i32_36 : BitVec 32 := 0#32
  let v78 : BitVec 1 := Scalar.cmpi .ne v77 c0_i32_36
  let v82 : BitVec 1 := Scalar.andi v81 v78
  let v83 : BitVec 32 := Scalar.addi v77 v76
  let v84 : BitVec 32 := Scalar.select v82 v83 v77
  let v122 : Index := Scalar.indexCast v84
  let c256 : Index := 256#32
  let c0_54 : Index := 0#32
  ![v122.toNat, 256, 0]
def k0_off74 (v2 : BitVec 32) (v4 : BitVec 32) : Fin 3 → Nat :=
  let v49 : BitVec 32 := Scalar.addi v2 v4
  let c1_i32_22 : BitVec 32 := 1#32
  let v50 : BitVec 32 := Scalar.subi v49 c1_i32_22
  let c4_i32_39 : BitVec 32 := 4#32
  let c0_i32_40 : BitVec 32 := 0#32
  let v85 : BitVec 1 := Scalar.cmpi .eq c4_i32_39 c0_i32_40
  let c1_i32_41 : BitVec 32 := 1#32
  let v86 : BitVec 32 := Scalar.select v85 c1_i32_41 c4_i32_39
  let v87 : BitVec 32 := Scalar.remsi v50 v86
  let c0_i32_43 : BitVec 32 := 0#32
  let v89 : BitVec 1 := Scalar.cmpi .slt v87 c0_i32_43
  let c0_i32_44 : BitVec 32 := 0#32
  let v90 : BitVec 1 := Scalar.cmpi .slt v86 c0_i32_44
  let v91 : BitVec 1 := Scalar.xori v89 v90
  let c0_i32_42 : BitVec 32 := 0#32
  let v88 : BitVec 1 := Scalar.cmpi .ne v87 c0_i32_42
  let v92 : BitVec 1 := Scalar.andi v91 v88
  let v93 : BitVec 32 := Scalar.addi v87 v86
  let v94 : BitVec 32 := Scalar.select v92 v93 v87
  let v145 : Index := Scalar.indexCast v94
  let c256_62 : Index := 256#32
  let c0_63 : Index := 0#32
  ![v145.toNat, 256, 0]
def k0_mult25 (v2 : BitVec 32) (v4 : BitVec 32) : BitVec 32 :=
  let v49 : BitVec 32 := Scalar.addi v2 v4
  let c1_i32_22 : BitVec 32 := 1#32
  let v50 : BitVec 32 := Scalar.subi v49 c1_i32_22
  let c512_i32_70 : BitVec 32 := 512#32
  let v159 : BitVec 32 := Scalar.muli v50 c512_i32_70
  v159
def k0_off75 (v2 : BitVec 32) (v4 : BitVec 32) : Fin 1 → Nat :=
  let v49 : BitVec 32 := Scalar.addi v2 v4
  let c1_i32_22 : BitVec 32 := 1#32
  let v50 : BitVec 32 := Scalar.subi v49 c1_i32_22
  let c4_i32_64 : BitVec 32 := 4#32
  let c0_i32_65 : BitVec 32 := 0#32
  let v149 : BitVec 1 := Scalar.cmpi .eq c4_i32_64 c0_i32_65
  let c1_i32_66 : BitVec 32 := 1#32
  let v150 : BitVec 32 := Scalar.select v149 c1_i32_66 c4_i32_64
  let v151 : BitVec 32 := Scalar.remsi v50 v150
  let c0_i32_68 : BitVec 32 := 0#32
  let v153 : BitVec 1 := Scalar.cmpi .slt v151 c0_i32_68
  let c0_i32_69 : BitVec 32 := 0#32
  let v154 : BitVec 1 := Scalar.cmpi .slt v150 c0_i32_69
  let v155 : BitVec 1 := Scalar.xori v153 v154
  let c0_i32_67 : BitVec 32 := 0#32
  let v152 : BitVec 1 := Scalar.cmpi .ne v151 c0_i32_67
  let v156 : BitVec 1 := Scalar.andi v155 v152
  let v157 : BitVec 32 := Scalar.addi v151 v150
  let v158 : BitVec 32 := Scalar.select v156 v157 v151
  ![v158.toNat]
def k0_off76 (v2 : BitVec 32) (v4 : BitVec 32) : Fin 3 → Nat :=
  let v49 : BitVec 32 := Scalar.addi v2 v4
  let c1_i32_22 : BitVec 32 := 1#32
  let v50 : BitVec 32 := Scalar.subi v49 c1_i32_22
  let c4_i32_64 : BitVec 32 := 4#32
  let c0_i32_65 : BitVec 32 := 0#32
  let v149 : BitVec 1 := Scalar.cmpi .eq c4_i32_64 c0_i32_65
  let c1_i32_66 : BitVec 32 := 1#32
  let v150 : BitVec 32 := Scalar.select v149 c1_i32_66 c4_i32_64
  let v151 : BitVec 32 := Scalar.remsi v50 v150
  let c0_i32_68 : BitVec 32 := 0#32
  let v153 : BitVec 1 := Scalar.cmpi .slt v151 c0_i32_68
  let c0_i32_69 : BitVec 32 := 0#32
  let v154 : BitVec 1 := Scalar.cmpi .slt v150 c0_i32_69
  let v155 : BitVec 1 := Scalar.xori v153 v154
  let c0_i32_67 : BitVec 32 := 0#32
  let v152 : BitVec 1 := Scalar.cmpi .ne v151 c0_i32_67
  let v156 : BitVec 1 := Scalar.andi v155 v152
  let v157 : BitVec 32 := Scalar.addi v151 v150
  let v158 : BitVec 32 := Scalar.select v156 v157 v151
  let c0_i32_72 : BitVec 32 := 0#32
  let c0_i32_73 : BitVec 32 := 0#32
  ![v158.toNat, 0, 0]

def k0_chk1_0 (v0 : BitVec 32) (v2 : BitVec 32) (v4 : BitVec 32) : Prop :=
  ((k0_t1_loop v4).OK) ∧
  (∀ k0_t1 : Fin (k0_t1_loop v4).trips, ∀ (k0_h8 : k0_cond8 v0 v2 v4 k0_t1 = 1#1), 512 ∣ (k0_mult6 v2 v4 k0_t1).toNat) ∧
  (∀ k0_t1 : Fin (k0_t1_loop v4).trips, ∀ (k0_h8 : k0_cond8 v0 v2 v4 k0_t1 = 1#1), ∀ a, (k0_off2 v2 v4 k0_t1) a + S1.size a ≤ S8.size a) ∧
  (∀ k0_t1 : Fin (k0_t1_loop v4).trips, ∀ (k0_h8 : k0_cond8 v0 v2 v4 k0_t1 = 1#1), ∀ a, (k0_off3 v2 v4 k0_t1) a + S1x512x512.size a ≤ S8x512x512.size a) ∧
  (∀ k0_t1 : Fin (k0_t1_loop v4).trips, ∀ (k0_h8 : k0_cond8 v0 v2 v4 k0_t1 = 1#1), ∀ a, (k0_off4 v2 v4 k0_t1) a + S512x512.size a ≤ S163840x512.size a) ∧
  (∀ k0_t1 : Fin (k0_t1_loop v4).trips, 512 ∣ (k0_mult7 v2 v4 k0_t1).toNat) ∧
  (∀ k0_t1 : Fin (k0_t1_loop v4).trips, ∀ a, (k0_off5 v2 v4 k0_t1) a + S1.size a ≤ S8.size a) ∧
  (∀ k0_t1 : Fin (k0_t1_loop v4).trips, ∀ a, (k0_off6 v2 v4 k0_t1) a + S1x512x512.size a ≤ S8x512x512.size a) ∧
  (∀ k0_t1 : Fin (k0_t1_loop v4).trips, ∀ a, (k0_off7 v2 v4 k0_t1) a + S512x512.size a ≤ S163840x512.size a) ∧
  (∀ k0_t1 : Fin (k0_t1_loop v4).trips, ∀ (k0_h9 : k0_cond9 v2 v4 k0_t1 = 1#1), 512 ∣ (k0_mult8 v2 v4 k0_t1).toNat) ∧
  (∀ k0_t1 : Fin (k0_t1_loop v4).trips, ∀ (k0_h9 : k0_cond9 v2 v4 k0_t1 = 1#1), ∀ a, (k0_off8 v2 v4 k0_t1) a + S1.size a ≤ S4.size a) ∧
  (∀ k0_t1 : Fin (k0_t1_loop v4).trips, ∀ (k0_h9 : k0_cond9 v2 v4 k0_t1 = 1#1), ∀ a, (k0_off9 v2 v4 k0_t1) a + S512x512.size a ≤ S163840x512.size a) ∧
  (∀ k0_t1 : Fin (k0_t1_loop v4).trips, ∀ (k0_h9 : k0_cond9 v2 v4 k0_t1 = 1#1), ∀ a, (k0_off10 v2 v4 k0_t1) a + S1x512x512.size a ≤ S4x512x512.size a) ∧
  (∀ k0_t1 : Fin (k0_t1_loop v4).trips, ∀ (k0_h10 : k0_cond10 v0 v2 v4 k0_t1 = 1#1), 512 ∣ (k0_mult9 v2 v4 k0_t1).toNat) ∧
  (∀ k0_t1 : Fin (k0_t1_loop v4).trips, ∀ (k0_h10 : k0_cond10 v0 v2 v4 k0_t1 = 1#1), ∀ a, (k0_off11 v2 v4 k0_t1) a + S1.size a ≤ S8.size a) ∧
  (∀ k0_t1 : Fin (k0_t1_loop v4).trips, ∀ (k0_h10 : k0_cond10 v0 v2 v4 k0_t1 = 1#1), ∀ a, (k0_off12 v2 v4 k0_t1) a + S1x512x512.size a ≤ S8x512x512.size a) ∧
  (∀ k0_t1 : Fin (k0_t1_loop v4).trips, ∀ (k0_h10 : k0_cond10 v0 v2 v4 k0_t1 = 1#1), ∀ a, (k0_off13 v2 v4 k0_t1) a + S512x512.size a ≤ S163840x512.size a) ∧
  (∀ k0_t1 : Fin (k0_t1_loop v4).trips, 512 ∣ (k0_mult10 v2 v4 k0_t1).toNat) ∧
  (∀ k0_t1 : Fin (k0_t1_loop v4).trips, ∀ a, (k0_off14 v2 v4 k0_t1) a + S1.size a ≤ S8.size a) ∧
  (∀ k0_t1 : Fin (k0_t1_loop v4).trips, ∀ a, (k0_off15 v2 v4 k0_t1) a + S1x512x512.size a ≤ S8x512x512.size a) ∧
  (∀ k0_t1 : Fin (k0_t1_loop v4).trips, ∀ a, (k0_off16 v2 v4 k0_t1) a + S512x512.size a ≤ S163840x512.size a) ∧
  (∀ k0_t1 : Fin (k0_t1_loop v4).trips, ∀ (k0_h11 : k0_cond11 v2 v4 k0_t1 = 1#1), 512 ∣ (k0_mult11 v2 v4 k0_t1).toNat) ∧
  (∀ k0_t1 : Fin (k0_t1_loop v4).trips, ∀ (k0_h11 : k0_cond11 v2 v4 k0_t1 = 1#1), ∀ a, (k0_off17 v2 v4 k0_t1) a + S1.size a ≤ S4.size a) ∧
  (∀ k0_t1 : Fin (k0_t1_loop v4).trips, ∀ (k0_h11 : k0_cond11 v2 v4 k0_t1 = 1#1), ∀ a, (k0_off18 v2 v4 k0_t1) a + S512x512.size a ≤ S163840x512.size a) ∧
  (∀ k0_t1 : Fin (k0_t1_loop v4).trips, ∀ (k0_h11 : k0_cond11 v2 v4 k0_t1 = 1#1), ∀ a, (k0_off19 v2 v4 k0_t1) a + S1x512x512.size a ≤ S4x512x512.size a) ∧
  (∀ k0_t1 : Fin (k0_t1_loop v4).trips, ∀ a, (k0_off20 v2 v4 k0_t1) a + S1x256x512.size a ≤ S8x512x512.size a) ∧
  (∀ k0_t1 : Fin (k0_t1_loop v4).trips, ∀ a, (k0_off21 v2 v4 k0_t1) a + S1x256x512.size a ≤ S4x512x512.size a) ∧
  (∀ k0_t1 : Fin (k0_t1_loop v4).trips, ∀ a, (k0_off22 v2 v4 k0_t1) a + S1x256x512.size a ≤ S8x512x512.size a) ∧
  (∀ k0_t1 : Fin (k0_t1_loop v4).trips, ∀ a, (k0_off23 v2 v4 k0_t1) a + S1x256x512.size a ≤ S4x512x512.size a) ∧
  (∀ k0_t1 : Fin (k0_t1_loop v4).trips, ∀ a, (k0_off24 v2 v4 k0_t1) a + S1x256x512.size a ≤ S8x512x512.size a) ∧
  (∀ k0_t1 : Fin (k0_t1_loop v4).trips, ∀ a, (k0_off25 v2 v4 k0_t1) a + S1x256x512.size a ≤ S4x512x512.size a) ∧
  (∀ k0_t1 : Fin (k0_t1_loop v4).trips, ∀ a, (k0_off26 v2 v4 k0_t1) a + S1x256x512.size a ≤ S8x512x512.size a)
def k0_chk1_1 (v0 : BitVec 32) (v2 : BitVec 32) (v4 : BitVec 32) : Prop :=
  (∀ k0_t1 : Fin (k0_t1_loop v4).trips, ∀ a, (k0_off27 v2 v4 k0_t1) a + S1x256x512.size a ≤ S4x512x512.size a) ∧
  (∀ k0_t1 : Fin (k0_t1_loop v4).trips, 512 ∣ (k0_mult12 v2 v4 k0_t1).toNat) ∧
  (∀ k0_t1 : Fin (k0_t1_loop v4).trips, ∀ a, (k0_off28 v2 v4 k0_t1) a + S1.size a ≤ S4.size a) ∧
  (∀ k0_t1 : Fin (k0_t1_loop v4).trips, ∀ a, (k0_off29 v2 v4 k0_t1) a + S1x512x512.size a ≤ S4x512x512.size a) ∧
  (∀ k0_t1 : Fin (k0_t1_loop v4).trips, 512 ∣ (k0_mult13 v2 v4 k0_t1).toNat) ∧
  (∀ k0_t1 : Fin (k0_t1_loop v4).trips, ∀ a, (k0_off30 v2 v4 k0_t1) a + S1.size a ≤ S4.size a) ∧
  (∀ k0_t1 : Fin (k0_t1_loop v4).trips, ∀ a, (k0_off31 v2 v4 k0_t1) a + S1x512x512.size a ≤ S4x512x512.size a) ∧
  ((k0_t2_loop v4).OK) ∧
  (∀ k0_t2 : Fin (k0_t2_loop v4).trips, ∀ (k0_h12 : k0_cond12 v0 v2 v4 k0_t2 = 1#1), 512 ∣ (k0_mult14 v2 v4 k0_t2).toNat) ∧
  (∀ k0_t2 : Fin (k0_t2_loop v4).trips, ∀ (k0_h12 : k0_cond12 v0 v2 v4 k0_t2 = 1#1), ∀ a, (k0_off32 v2 v4 k0_t2) a + S1.size a ≤ S8.size a) ∧
  (∀ k0_t2 : Fin (k0_t2_loop v4).trips, ∀ (k0_h12 : k0_cond12 v0 v2 v4 k0_t2 = 1#1), ∀ a, (k0_off33 v2 v4 k0_t2) a + S1x512x512.size a ≤ S8x512x512.size a) ∧
  (∀ k0_t2 : Fin (k0_t2_loop v4).trips, ∀ (k0_h12 : k0_cond12 v0 v2 v4 k0_t2 = 1#1), ∀ a, (k0_off34 v2 v4 k0_t2) a + S512x512.size a ≤ S163840x512.size a) ∧
  (∀ k0_t2 : Fin (k0_t2_loop v4).trips, 512 ∣ (k0_mult15 v2 v4 k0_t2).toNat) ∧
  (∀ k0_t2 : Fin (k0_t2_loop v4).trips, ∀ a, (k0_off35 v2 v4 k0_t2) a + S1.size a ≤ S8.size a) ∧
  (∀ k0_t2 : Fin (k0_t2_loop v4).trips, ∀ a, (k0_off36 v2 v4 k0_t2) a + S1x512x512.size a ≤ S8x512x512.size a) ∧
  (∀ k0_t2 : Fin (k0_t2_loop v4).trips, ∀ a, (k0_off37 v2 v4 k0_t2) a + S512x512.size a ≤ S163840x512.size a) ∧
  (∀ k0_t2 : Fin (k0_t2_loop v4).trips, ∀ (k0_h13 : k0_cond13 v2 v4 k0_t2 = 1#1), 512 ∣ (k0_mult16 v2 v4 k0_t2).toNat) ∧
  (∀ k0_t2 : Fin (k0_t2_loop v4).trips, ∀ (k0_h13 : k0_cond13 v2 v4 k0_t2 = 1#1), ∀ a, (k0_off38 v2 v4 k0_t2) a + S1.size a ≤ S4.size a) ∧
  (∀ k0_t2 : Fin (k0_t2_loop v4).trips, ∀ (k0_h13 : k0_cond13 v2 v4 k0_t2 = 1#1), ∀ a, (k0_off39 v2 v4 k0_t2) a + S512x512.size a ≤ S163840x512.size a) ∧
  (∀ k0_t2 : Fin (k0_t2_loop v4).trips, ∀ (k0_h13 : k0_cond13 v2 v4 k0_t2 = 1#1), ∀ a, (k0_off40 v2 v4 k0_t2) a + S1x512x512.size a ≤ S4x512x512.size a) ∧
  (∀ k0_t2 : Fin (k0_t2_loop v4).trips, ∀ (k0_h14 : k0_cond14 v0 v2 v4 k0_t2 = 1#1), 512 ∣ (k0_mult17 v2 v4 k0_t2).toNat) ∧
  (∀ k0_t2 : Fin (k0_t2_loop v4).trips, ∀ (k0_h14 : k0_cond14 v0 v2 v4 k0_t2 = 1#1), ∀ a, (k0_off41 v2 v4 k0_t2) a + S1.size a ≤ S8.size a) ∧
  (∀ k0_t2 : Fin (k0_t2_loop v4).trips, ∀ (k0_h14 : k0_cond14 v0 v2 v4 k0_t2 = 1#1), ∀ a, (k0_off42 v2 v4 k0_t2) a + S1x512x512.size a ≤ S8x512x512.size a) ∧
  (∀ k0_t2 : Fin (k0_t2_loop v4).trips, ∀ (k0_h14 : k0_cond14 v0 v2 v4 k0_t2 = 1#1), ∀ a, (k0_off43 v2 v4 k0_t2) a + S512x512.size a ≤ S163840x512.size a) ∧
  (∀ k0_t2 : Fin (k0_t2_loop v4).trips, 512 ∣ (k0_mult18 v2 v4 k0_t2).toNat) ∧
  (∀ k0_t2 : Fin (k0_t2_loop v4).trips, ∀ a, (k0_off44 v2 v4 k0_t2) a + S1.size a ≤ S8.size a) ∧
  (∀ k0_t2 : Fin (k0_t2_loop v4).trips, ∀ a, (k0_off45 v2 v4 k0_t2) a + S1x512x512.size a ≤ S8x512x512.size a) ∧
  (∀ k0_t2 : Fin (k0_t2_loop v4).trips, ∀ a, (k0_off46 v2 v4 k0_t2) a + S512x512.size a ≤ S163840x512.size a) ∧
  (∀ k0_t2 : Fin (k0_t2_loop v4).trips, ∀ (k0_h15 : k0_cond15 v2 v4 k0_t2 = 1#1), 512 ∣ (k0_mult19 v2 v4 k0_t2).toNat) ∧
  (∀ k0_t2 : Fin (k0_t2_loop v4).trips, ∀ (k0_h15 : k0_cond15 v2 v4 k0_t2 = 1#1), ∀ a, (k0_off47 v2 v4 k0_t2) a + S1.size a ≤ S4.size a) ∧
  (∀ k0_t2 : Fin (k0_t2_loop v4).trips, ∀ (k0_h15 : k0_cond15 v2 v4 k0_t2 = 1#1), ∀ a, (k0_off48 v2 v4 k0_t2) a + S512x512.size a ≤ S163840x512.size a) ∧
  (∀ k0_t2 : Fin (k0_t2_loop v4).trips, ∀ (k0_h15 : k0_cond15 v2 v4 k0_t2 = 1#1), ∀ a, (k0_off49 v2 v4 k0_t2) a + S1x512x512.size a ≤ S4x512x512.size a)
def k0_chk1_2 (v0 : BitVec 32) (v2 : BitVec 32) (v4 : BitVec 32) : Prop :=
  (∀ k0_t2 : Fin (k0_t2_loop v4).trips, ∀ a, (k0_off50 v2 v4 k0_t2) a + S1x256x512.size a ≤ S8x512x512.size a) ∧
  (∀ k0_t2 : Fin (k0_t2_loop v4).trips, ∀ a, (k0_off51 v2 v4 k0_t2) a + S1x256x512.size a ≤ S4x512x512.size a) ∧
  (∀ k0_t2 : Fin (k0_t2_loop v4).trips, ∀ a, (k0_off52 v2 v4 k0_t2) a + S1x256x512.size a ≤ S8x512x512.size a) ∧
  (∀ k0_t2 : Fin (k0_t2_loop v4).trips, ∀ a, (k0_off53 v2 v4 k0_t2) a + S1x256x512.size a ≤ S4x512x512.size a) ∧
  (∀ k0_t2 : Fin (k0_t2_loop v4).trips, ∀ a, (k0_off54 v2 v4 k0_t2) a + S1x256x512.size a ≤ S8x512x512.size a) ∧
  (∀ k0_t2 : Fin (k0_t2_loop v4).trips, ∀ a, (k0_off55 v2 v4 k0_t2) a + S1x256x512.size a ≤ S4x512x512.size a) ∧
  (∀ k0_t2 : Fin (k0_t2_loop v4).trips, ∀ a, (k0_off56 v2 v4 k0_t2) a + S1x256x512.size a ≤ S8x512x512.size a) ∧
  (∀ k0_t2 : Fin (k0_t2_loop v4).trips, ∀ a, (k0_off57 v2 v4 k0_t2) a + S1x256x512.size a ≤ S4x512x512.size a) ∧
  (∀ k0_t2 : Fin (k0_t2_loop v4).trips, 512 ∣ (k0_mult20 v2 v4 k0_t2).toNat) ∧
  (∀ k0_t2 : Fin (k0_t2_loop v4).trips, ∀ a, (k0_off58 v2 v4 k0_t2) a + S1.size a ≤ S4.size a) ∧
  (∀ k0_t2 : Fin (k0_t2_loop v4).trips, ∀ a, (k0_off59 v2 v4 k0_t2) a + S1x512x512.size a ≤ S4x512x512.size a) ∧
  (∀ k0_t2 : Fin (k0_t2_loop v4).trips, 512 ∣ (k0_mult21 v2 v4 k0_t2).toNat) ∧
  (∀ k0_t2 : Fin (k0_t2_loop v4).trips, ∀ a, (k0_off60 v2 v4 k0_t2) a + S1.size a ≤ S4.size a) ∧
  (∀ k0_t2 : Fin (k0_t2_loop v4).trips, ∀ a, (k0_off61 v2 v4 k0_t2) a + S1x512x512.size a ≤ S4x512x512.size a) ∧
  (∀ (k0_h16 : k0_cond16 v4 = 1#1), ∀ (k0_h17 : k0_cond17 v0 v2 v4 = 1#1), 512 ∣ (k0_mult22 v2 v4).toNat) ∧
  (∀ (k0_h16 : k0_cond16 v4 = 1#1), ∀ (k0_h17 : k0_cond17 v0 v2 v4 = 1#1), ∀ a, (k0_off62 v2 v4) a + S1.size a ≤ S8.size a) ∧
  (∀ (k0_h16 : k0_cond16 v4 = 1#1), ∀ (k0_h17 : k0_cond17 v0 v2 v4 = 1#1), ∀ a, (k0_off63 v2 v4) a + S1x512x512.size a ≤ S8x512x512.size a) ∧
  (∀ (k0_h16 : k0_cond16 v4 = 1#1), ∀ (k0_h17 : k0_cond17 v0 v2 v4 = 1#1), ∀ a, (k0_off64 v2 v4) a + S512x512.size a ≤ S163840x512.size a) ∧
  (∀ (k0_h16 : k0_cond16 v4 = 1#1), 512 ∣ (k0_mult23 v2 v4).toNat) ∧
  (∀ (k0_h16 : k0_cond16 v4 = 1#1), ∀ a, (k0_off65 v2 v4) a + S1.size a ≤ S8.size a) ∧
  (∀ (k0_h16 : k0_cond16 v4 = 1#1), ∀ a, (k0_off66 v2 v4) a + S1x512x512.size a ≤ S8x512x512.size a) ∧
  (∀ (k0_h16 : k0_cond16 v4 = 1#1), ∀ a, (k0_off67 v2 v4) a + S512x512.size a ≤ S163840x512.size a) ∧
  (∀ (k0_h16 : k0_cond16 v4 = 1#1), ∀ (k0_h18 : k0_cond18 v2 v4 = 1#1), 512 ∣ (k0_mult24 v2 v4).toNat) ∧
  (∀ (k0_h16 : k0_cond16 v4 = 1#1), ∀ (k0_h18 : k0_cond18 v2 v4 = 1#1), ∀ a, (k0_off68 v2 v4) a + S1.size a ≤ S4.size a) ∧
  (∀ (k0_h16 : k0_cond16 v4 = 1#1), ∀ (k0_h18 : k0_cond18 v2 v4 = 1#1), ∀ a, (k0_off69 v2 v4) a + S512x512.size a ≤ S163840x512.size a) ∧
  (∀ (k0_h16 : k0_cond16 v4 = 1#1), ∀ (k0_h18 : k0_cond18 v2 v4 = 1#1), ∀ a, (k0_off70 v2 v4) a + S1x512x512.size a ≤ S4x512x512.size a) ∧
  (∀ (k0_h16 : k0_cond16 v4 = 1#1), ∀ a, (k0_off71 v2 v4) a + S1x256x512.size a ≤ S8x512x512.size a) ∧
  (∀ (k0_h16 : k0_cond16 v4 = 1#1), ∀ a, (k0_off72 v2 v4) a + S1x256x512.size a ≤ S4x512x512.size a) ∧
  (∀ (k0_h16 : k0_cond16 v4 = 1#1), ∀ a, (k0_off73 v2 v4) a + S1x256x512.size a ≤ S8x512x512.size a) ∧
  (∀ (k0_h16 : k0_cond16 v4 = 1#1), ∀ a, (k0_off74 v2 v4) a + S1x256x512.size a ≤ S4x512x512.size a) ∧
  (∀ (k0_h16 : k0_cond16 v4 = 1#1), 512 ∣ (k0_mult25 v2 v4).toNat) ∧
  (∀ (k0_h16 : k0_cond16 v4 = 1#1), ∀ a, (k0_off75 v2 v4) a + S1.size a ≤ S4.size a)
def k0_chk1_3 (v0 : BitVec 32) (v2 : BitVec 32) (v4 : BitVec 32) : Prop :=
  (∀ (k0_h16 : k0_cond16 v4 = 1#1), ∀ a, (k0_off76 v2 v4) a + S1x512x512.size a ≤ S4x512x512.size a)
def k0_chk1 (v0 : BitVec 32) (v2 : BitVec 32) (v4 : BitVec 32) : Prop :=
  k0_chk1_0 v0 v2 v4 ∧
  k0_chk1_1 v0 v2 v4 ∧
  k0_chk1_2 v0 v2 v4 ∧
  k0_chk1_3 v0 v2 v4
theorem k0_t1_ok : ∀ (v0 : BitVec 32) (v2 : BitVec 32) (v4 : BitVec 32) (k0_hw1 : k0_chk1 v0 v2 v4), (k0_t1_loop v4).OK := fun v0 v2 v4 k0_hw1 => k0_hw1.1.1
theorem k0_mult6_dvd : ∀ (v0 : BitVec 32) (v2 : BitVec 32) (v4 : BitVec 32) (k0_hw1 : k0_chk1 v0 v2 v4) (k0_t1 : Fin (k0_t1_loop v4).trips), ∀ (k0_h8 : k0_cond8 v0 v2 v4 k0_t1 = 1#1), 512 ∣ (k0_mult6 v2 v4 k0_t1).toNat := fun v0 v2 v4 k0_hw1 k0_t1 k0_h8 => k0_hw1.1.2.1 k0_t1 k0_h8
theorem k0_off2_inb : ∀ (v0 : BitVec 32) (v2 : BitVec 32) (v4 : BitVec 32) (k0_hw1 : k0_chk1 v0 v2 v4) (k0_t1 : Fin (k0_t1_loop v4).trips), ∀ (k0_h8 : k0_cond8 v0 v2 v4 k0_t1 = 1#1), ∀ a, (k0_off2 v2 v4 k0_t1) a + S1.size a ≤ S8.size a := fun v0 v2 v4 k0_hw1 k0_t1 k0_h8 => k0_hw1.1.2.2.1 k0_t1 k0_h8
theorem k0_off3_inb : ∀ (v0 : BitVec 32) (v2 : BitVec 32) (v4 : BitVec 32) (k0_hw1 : k0_chk1 v0 v2 v4) (k0_t1 : Fin (k0_t1_loop v4).trips), ∀ (k0_h8 : k0_cond8 v0 v2 v4 k0_t1 = 1#1), ∀ a, (k0_off3 v2 v4 k0_t1) a + S1x512x512.size a ≤ S8x512x512.size a := fun v0 v2 v4 k0_hw1 k0_t1 k0_h8 => k0_hw1.1.2.2.2.1 k0_t1 k0_h8
theorem k0_off4_inb : ∀ (v0 : BitVec 32) (v2 : BitVec 32) (v4 : BitVec 32) (k0_hw1 : k0_chk1 v0 v2 v4) (k0_t1 : Fin (k0_t1_loop v4).trips), ∀ (k0_h8 : k0_cond8 v0 v2 v4 k0_t1 = 1#1), ∀ a, (k0_off4 v2 v4 k0_t1) a + S512x512.size a ≤ S163840x512.size a := fun v0 v2 v4 k0_hw1 k0_t1 k0_h8 => k0_hw1.1.2.2.2.2.1 k0_t1 k0_h8
theorem k0_mult7_dvd : ∀ (v0 : BitVec 32) (v2 : BitVec 32) (v4 : BitVec 32) (k0_hw1 : k0_chk1 v0 v2 v4) (k0_t1 : Fin (k0_t1_loop v4).trips), 512 ∣ (k0_mult7 v2 v4 k0_t1).toNat := fun v0 v2 v4 k0_hw1 k0_t1 => k0_hw1.1.2.2.2.2.2.1 k0_t1
theorem k0_off5_inb : ∀ (v0 : BitVec 32) (v2 : BitVec 32) (v4 : BitVec 32) (k0_hw1 : k0_chk1 v0 v2 v4) (k0_t1 : Fin (k0_t1_loop v4).trips), ∀ a, (k0_off5 v2 v4 k0_t1) a + S1.size a ≤ S8.size a := fun v0 v2 v4 k0_hw1 k0_t1 => k0_hw1.1.2.2.2.2.2.2.1 k0_t1
theorem k0_off6_inb : ∀ (v0 : BitVec 32) (v2 : BitVec 32) (v4 : BitVec 32) (k0_hw1 : k0_chk1 v0 v2 v4) (k0_t1 : Fin (k0_t1_loop v4).trips), ∀ a, (k0_off6 v2 v4 k0_t1) a + S1x512x512.size a ≤ S8x512x512.size a := fun v0 v2 v4 k0_hw1 k0_t1 => k0_hw1.1.2.2.2.2.2.2.2.1 k0_t1
theorem k0_off7_inb : ∀ (v0 : BitVec 32) (v2 : BitVec 32) (v4 : BitVec 32) (k0_hw1 : k0_chk1 v0 v2 v4) (k0_t1 : Fin (k0_t1_loop v4).trips), ∀ a, (k0_off7 v2 v4 k0_t1) a + S512x512.size a ≤ S163840x512.size a := fun v0 v2 v4 k0_hw1 k0_t1 => k0_hw1.1.2.2.2.2.2.2.2.2.1 k0_t1
theorem k0_mult8_dvd : ∀ (v0 : BitVec 32) (v2 : BitVec 32) (v4 : BitVec 32) (k0_hw1 : k0_chk1 v0 v2 v4) (k0_t1 : Fin (k0_t1_loop v4).trips), ∀ (k0_h9 : k0_cond9 v2 v4 k0_t1 = 1#1), 512 ∣ (k0_mult8 v2 v4 k0_t1).toNat := fun v0 v2 v4 k0_hw1 k0_t1 k0_h9 => k0_hw1.1.2.2.2.2.2.2.2.2.2.1 k0_t1 k0_h9
theorem k0_off8_inb : ∀ (v0 : BitVec 32) (v2 : BitVec 32) (v4 : BitVec 32) (k0_hw1 : k0_chk1 v0 v2 v4) (k0_t1 : Fin (k0_t1_loop v4).trips), ∀ (k0_h9 : k0_cond9 v2 v4 k0_t1 = 1#1), ∀ a, (k0_off8 v2 v4 k0_t1) a + S1.size a ≤ S4.size a := fun v0 v2 v4 k0_hw1 k0_t1 k0_h9 => k0_hw1.1.2.2.2.2.2.2.2.2.2.2.1 k0_t1 k0_h9
theorem k0_off9_inb : ∀ (v0 : BitVec 32) (v2 : BitVec 32) (v4 : BitVec 32) (k0_hw1 : k0_chk1 v0 v2 v4) (k0_t1 : Fin (k0_t1_loop v4).trips), ∀ (k0_h9 : k0_cond9 v2 v4 k0_t1 = 1#1), ∀ a, (k0_off9 v2 v4 k0_t1) a + S512x512.size a ≤ S163840x512.size a := fun v0 v2 v4 k0_hw1 k0_t1 k0_h9 => k0_hw1.1.2.2.2.2.2.2.2.2.2.2.2.1 k0_t1 k0_h9
theorem k0_off10_inb : ∀ (v0 : BitVec 32) (v2 : BitVec 32) (v4 : BitVec 32) (k0_hw1 : k0_chk1 v0 v2 v4) (k0_t1 : Fin (k0_t1_loop v4).trips), ∀ (k0_h9 : k0_cond9 v2 v4 k0_t1 = 1#1), ∀ a, (k0_off10 v2 v4 k0_t1) a + S1x512x512.size a ≤ S4x512x512.size a := fun v0 v2 v4 k0_hw1 k0_t1 k0_h9 => k0_hw1.1.2.2.2.2.2.2.2.2.2.2.2.2.1 k0_t1 k0_h9
theorem k0_mult9_dvd : ∀ (v0 : BitVec 32) (v2 : BitVec 32) (v4 : BitVec 32) (k0_hw1 : k0_chk1 v0 v2 v4) (k0_t1 : Fin (k0_t1_loop v4).trips), ∀ (k0_h10 : k0_cond10 v0 v2 v4 k0_t1 = 1#1), 512 ∣ (k0_mult9 v2 v4 k0_t1).toNat := fun v0 v2 v4 k0_hw1 k0_t1 k0_h10 => k0_hw1.1.2.2.2.2.2.2.2.2.2.2.2.2.2.1 k0_t1 k0_h10
theorem k0_off11_inb : ∀ (v0 : BitVec 32) (v2 : BitVec 32) (v4 : BitVec 32) (k0_hw1 : k0_chk1 v0 v2 v4) (k0_t1 : Fin (k0_t1_loop v4).trips), ∀ (k0_h10 : k0_cond10 v0 v2 v4 k0_t1 = 1#1), ∀ a, (k0_off11 v2 v4 k0_t1) a + S1.size a ≤ S8.size a := fun v0 v2 v4 k0_hw1 k0_t1 k0_h10 => k0_hw1.1.2.2.2.2.2.2.2.2.2.2.2.2.2.2.1 k0_t1 k0_h10
theorem k0_off12_inb : ∀ (v0 : BitVec 32) (v2 : BitVec 32) (v4 : BitVec 32) (k0_hw1 : k0_chk1 v0 v2 v4) (k0_t1 : Fin (k0_t1_loop v4).trips), ∀ (k0_h10 : k0_cond10 v0 v2 v4 k0_t1 = 1#1), ∀ a, (k0_off12 v2 v4 k0_t1) a + S1x512x512.size a ≤ S8x512x512.size a := fun v0 v2 v4 k0_hw1 k0_t1 k0_h10 => k0_hw1.1.2.2.2.2.2.2.2.2.2.2.2.2.2.2.2.1 k0_t1 k0_h10
theorem k0_off13_inb : ∀ (v0 : BitVec 32) (v2 : BitVec 32) (v4 : BitVec 32) (k0_hw1 : k0_chk1 v0 v2 v4) (k0_t1 : Fin (k0_t1_loop v4).trips), ∀ (k0_h10 : k0_cond10 v0 v2 v4 k0_t1 = 1#1), ∀ a, (k0_off13 v2 v4 k0_t1) a + S512x512.size a ≤ S163840x512.size a := fun v0 v2 v4 k0_hw1 k0_t1 k0_h10 => k0_hw1.1.2.2.2.2.2.2.2.2.2.2.2.2.2.2.2.2.1 k0_t1 k0_h10
theorem k0_mult10_dvd : ∀ (v0 : BitVec 32) (v2 : BitVec 32) (v4 : BitVec 32) (k0_hw1 : k0_chk1 v0 v2 v4) (k0_t1 : Fin (k0_t1_loop v4).trips), 512 ∣ (k0_mult10 v2 v4 k0_t1).toNat := fun v0 v2 v4 k0_hw1 k0_t1 => k0_hw1.1.2.2.2.2.2.2.2.2.2.2.2.2.2.2.2.2.2.1 k0_t1
theorem k0_off14_inb : ∀ (v0 : BitVec 32) (v2 : BitVec 32) (v4 : BitVec 32) (k0_hw1 : k0_chk1 v0 v2 v4) (k0_t1 : Fin (k0_t1_loop v4).trips), ∀ a, (k0_off14 v2 v4 k0_t1) a + S1.size a ≤ S8.size a := fun v0 v2 v4 k0_hw1 k0_t1 => k0_hw1.1.2.2.2.2.2.2.2.2.2.2.2.2.2.2.2.2.2.2.1 k0_t1
theorem k0_off15_inb : ∀ (v0 : BitVec 32) (v2 : BitVec 32) (v4 : BitVec 32) (k0_hw1 : k0_chk1 v0 v2 v4) (k0_t1 : Fin (k0_t1_loop v4).trips), ∀ a, (k0_off15 v2 v4 k0_t1) a + S1x512x512.size a ≤ S8x512x512.size a := fun v0 v2 v4 k0_hw1 k0_t1 => k0_hw1.1.2.2.2.2.2.2.2.2.2.2.2.2.2.2.2.2.2.2.2.1 k0_t1
theorem k0_off16_inb : ∀ (v0 : BitVec 32) (v2 : BitVec 32) (v4 : BitVec 32) (k0_hw1 : k0_chk1 v0 v2 v4) (k0_t1 : Fin (k0_t1_loop v4).trips), ∀ a, (k0_off16 v2 v4 k0_t1) a + S512x512.size a ≤ S163840x512.size a := fun v0 v2 v4 k0_hw1 k0_t1 => k0_hw1.1.2.2.2.2.2.2.2.2.2.2.2.2.2.2.2.2.2.2.2.2.1 k0_t1
theorem k0_mult11_dvd : ∀ (v0 : BitVec 32) (v2 : BitVec 32) (v4 : BitVec 32) (k0_hw1 : k0_chk1 v0 v2 v4) (k0_t1 : Fin (k0_t1_loop v4).trips), ∀ (k0_h11 : k0_cond11 v2 v4 k0_t1 = 1#1), 512 ∣ (k0_mult11 v2 v4 k0_t1).toNat := fun v0 v2 v4 k0_hw1 k0_t1 k0_h11 => k0_hw1.1.2.2.2.2.2.2.2.2.2.2.2.2.2.2.2.2.2.2.2.2.2.1 k0_t1 k0_h11
theorem k0_off17_inb : ∀ (v0 : BitVec 32) (v2 : BitVec 32) (v4 : BitVec 32) (k0_hw1 : k0_chk1 v0 v2 v4) (k0_t1 : Fin (k0_t1_loop v4).trips), ∀ (k0_h11 : k0_cond11 v2 v4 k0_t1 = 1#1), ∀ a, (k0_off17 v2 v4 k0_t1) a + S1.size a ≤ S4.size a := fun v0 v2 v4 k0_hw1 k0_t1 k0_h11 => k0_hw1.1.2.2.2.2.2.2.2.2.2.2.2.2.2.2.2.2.2.2.2.2.2.2.1 k0_t1 k0_h11
theorem k0_off18_inb : ∀ (v0 : BitVec 32) (v2 : BitVec 32) (v4 : BitVec 32) (k0_hw1 : k0_chk1 v0 v2 v4) (k0_t1 : Fin (k0_t1_loop v4).trips), ∀ (k0_h11 : k0_cond11 v2 v4 k0_t1 = 1#1), ∀ a, (k0_off18 v2 v4 k0_t1) a + S512x512.size a ≤ S163840x512.size a := fun v0 v2 v4 k0_hw1 k0_t1 k0_h11 => k0_hw1.1.2.2.2.2.2.2.2.2.2.2.2.2.2.2.2.2.2.2.2.2.2.2.2.1 k0_t1 k0_h11
theorem k0_off19_inb : ∀ (v0 : BitVec 32) (v2 : BitVec 32) (v4 : BitVec 32) (k0_hw1 : k0_chk1 v0 v2 v4) (k0_t1 : Fin (k0_t1_loop v4).trips), ∀ (k0_h11 : k0_cond11 v2 v4 k0_t1 = 1#1), ∀ a, (k0_off19 v2 v4 k0_t1) a + S1x512x512.size a ≤ S4x512x512.size a := fun v0 v2 v4 k0_hw1 k0_t1 k0_h11 => k0_hw1.1.2.2.2.2.2.2.2.2.2.2.2.2.2.2.2.2.2.2.2.2.2.2.2.2.1 k0_t1 k0_h11
theorem k0_off20_inb : ∀ (v0 : BitVec 32) (v2 : BitVec 32) (v4 : BitVec 32) (k0_hw1 : k0_chk1 v0 v2 v4) (k0_t1 : Fin (k0_t1_loop v4).trips), ∀ a, (k0_off20 v2 v4 k0_t1) a + S1x256x512.size a ≤ S8x512x512.size a := fun v0 v2 v4 k0_hw1 k0_t1 => k0_hw1.1.2.2.2.2.2.2.2.2.2.2.2.2.2.2.2.2.2.2.2.2.2.2.2.2.2.1 k0_t1
theorem k0_off21_inb : ∀ (v0 : BitVec 32) (v2 : BitVec 32) (v4 : BitVec 32) (k0_hw1 : k0_chk1 v0 v2 v4) (k0_t1 : Fin (k0_t1_loop v4).trips), ∀ a, (k0_off21 v2 v4 k0_t1) a + S1x256x512.size a ≤ S4x512x512.size a := fun v0 v2 v4 k0_hw1 k0_t1 => k0_hw1.1.2.2.2.2.2.2.2.2.2.2.2.2.2.2.2.2.2.2.2.2.2.2.2.2.2.2.1 k0_t1
theorem k0_off22_inb : ∀ (v0 : BitVec 32) (v2 : BitVec 32) (v4 : BitVec 32) (k0_hw1 : k0_chk1 v0 v2 v4) (k0_t1 : Fin (k0_t1_loop v4).trips), ∀ a, (k0_off22 v2 v4 k0_t1) a + S1x256x512.size a ≤ S8x512x512.size a := fun v0 v2 v4 k0_hw1 k0_t1 => k0_hw1.1.2.2.2.2.2.2.2.2.2.2.2.2.2.2.2.2.2.2.2.2.2.2.2.2.2.2.2.1 k0_t1
theorem k0_off23_inb : ∀ (v0 : BitVec 32) (v2 : BitVec 32) (v4 : BitVec 32) (k0_hw1 : k0_chk1 v0 v2 v4) (k0_t1 : Fin (k0_t1_loop v4).trips), ∀ a, (k0_off23 v2 v4 k0_t1) a + S1x256x512.size a ≤ S4x512x512.size a := fun v0 v2 v4 k0_hw1 k0_t1 => k0_hw1.1.2.2.2.2.2.2.2.2.2.2.2.2.2.2.2.2.2.2.2.2.2.2.2.2.2.2.2.2.1 k0_t1
theorem k0_off24_inb : ∀ (v0 : BitVec 32) (v2 : BitVec 32) (v4 : BitVec 32) (k0_hw1 : k0_chk1 v0 v2 v4) (k0_t1 : Fin (k0_t1_loop v4).trips), ∀ a, (k0_off24 v2 v4 k0_t1) a + S1x256x512.size a ≤ S8x512x512.size a := fun v0 v2 v4 k0_hw1 k0_t1 => k0_hw1.1.2.2.2.2.2.2.2.2.2.2.2.2.2.2.2.2.2.2.2.2.2.2.2.2.2.2.2.2.2.1 k0_t1
theorem k0_off25_inb : ∀ (v0 : BitVec 32) (v2 : BitVec 32) (v4 : BitVec 32) (k0_hw1 : k0_chk1 v0 v2 v4) (k0_t1 : Fin (k0_t1_loop v4).trips), ∀ a, (k0_off25 v2 v4 k0_t1) a + S1x256x512.size a ≤ S4x512x512.size a := fun v0 v2 v4 k0_hw1 k0_t1 => k0_hw1.1.2.2.2.2.2.2.2.2.2.2.2.2.2.2.2.2.2.2.2.2.2.2.2.2.2.2.2.2.2.2.1 k0_t1
theorem k0_off26_inb : ∀ (v0 : BitVec 32) (v2 : BitVec 32) (v4 : BitVec 32) (k0_hw1 : k0_chk1 v0 v2 v4) (k0_t1 : Fin (k0_t1_loop v4).trips), ∀ a, (k0_off26 v2 v4 k0_t1) a + S1x256x512.size a ≤ S8x512x512.size a := fun v0 v2 v4 k0_hw1 k0_t1 => k0_hw1.1.2.2.2.2.2.2.2.2.2.2.2.2.2.2.2.2.2.2.2.2.2.2.2.2.2.2.2.2.2.2.2 k0_t1
theorem k0_off27_inb : ∀ (v0 : BitVec 32) (v2 : BitVec 32) (v4 : BitVec 32) (k0_hw1 : k0_chk1 v0 v2 v4) (k0_t1 : Fin (k0_t1_loop v4).trips), ∀ a, (k0_off27 v2 v4 k0_t1) a + S1x256x512.size a ≤ S4x512x512.size a := fun v0 v2 v4 k0_hw1 k0_t1 => k0_hw1.2.1.1 k0_t1
theorem k0_mult12_dvd : ∀ (v0 : BitVec 32) (v2 : BitVec 32) (v4 : BitVec 32) (k0_hw1 : k0_chk1 v0 v2 v4) (k0_t1 : Fin (k0_t1_loop v4).trips), 512 ∣ (k0_mult12 v2 v4 k0_t1).toNat := fun v0 v2 v4 k0_hw1 k0_t1 => k0_hw1.2.1.2.1 k0_t1
theorem k0_off28_inb : ∀ (v0 : BitVec 32) (v2 : BitVec 32) (v4 : BitVec 32) (k0_hw1 : k0_chk1 v0 v2 v4) (k0_t1 : Fin (k0_t1_loop v4).trips), ∀ a, (k0_off28 v2 v4 k0_t1) a + S1.size a ≤ S4.size a := fun v0 v2 v4 k0_hw1 k0_t1 => k0_hw1.2.1.2.2.1 k0_t1
theorem k0_off29_inb : ∀ (v0 : BitVec 32) (v2 : BitVec 32) (v4 : BitVec 32) (k0_hw1 : k0_chk1 v0 v2 v4) (k0_t1 : Fin (k0_t1_loop v4).trips), ∀ a, (k0_off29 v2 v4 k0_t1) a + S1x512x512.size a ≤ S4x512x512.size a := fun v0 v2 v4 k0_hw1 k0_t1 => k0_hw1.2.1.2.2.2.1 k0_t1
theorem k0_mult13_dvd : ∀ (v0 : BitVec 32) (v2 : BitVec 32) (v4 : BitVec 32) (k0_hw1 : k0_chk1 v0 v2 v4) (k0_t1 : Fin (k0_t1_loop v4).trips), 512 ∣ (k0_mult13 v2 v4 k0_t1).toNat := fun v0 v2 v4 k0_hw1 k0_t1 => k0_hw1.2.1.2.2.2.2.1 k0_t1
theorem k0_off30_inb : ∀ (v0 : BitVec 32) (v2 : BitVec 32) (v4 : BitVec 32) (k0_hw1 : k0_chk1 v0 v2 v4) (k0_t1 : Fin (k0_t1_loop v4).trips), ∀ a, (k0_off30 v2 v4 k0_t1) a + S1.size a ≤ S4.size a := fun v0 v2 v4 k0_hw1 k0_t1 => k0_hw1.2.1.2.2.2.2.2.1 k0_t1
theorem k0_off31_inb : ∀ (v0 : BitVec 32) (v2 : BitVec 32) (v4 : BitVec 32) (k0_hw1 : k0_chk1 v0 v2 v4) (k0_t1 : Fin (k0_t1_loop v4).trips), ∀ a, (k0_off31 v2 v4 k0_t1) a + S1x512x512.size a ≤ S4x512x512.size a := fun v0 v2 v4 k0_hw1 k0_t1 => k0_hw1.2.1.2.2.2.2.2.2.1 k0_t1
theorem k0_t2_ok : ∀ (v0 : BitVec 32) (v2 : BitVec 32) (v4 : BitVec 32) (k0_hw1 : k0_chk1 v0 v2 v4), (k0_t2_loop v4).OK := fun v0 v2 v4 k0_hw1 => k0_hw1.2.1.2.2.2.2.2.2.2.1
theorem k0_mult14_dvd : ∀ (v0 : BitVec 32) (v2 : BitVec 32) (v4 : BitVec 32) (k0_hw1 : k0_chk1 v0 v2 v4) (k0_t2 : Fin (k0_t2_loop v4).trips), ∀ (k0_h12 : k0_cond12 v0 v2 v4 k0_t2 = 1#1), 512 ∣ (k0_mult14 v2 v4 k0_t2).toNat := fun v0 v2 v4 k0_hw1 k0_t2 k0_h12 => k0_hw1.2.1.2.2.2.2.2.2.2.2.1 k0_t2 k0_h12
theorem k0_off32_inb : ∀ (v0 : BitVec 32) (v2 : BitVec 32) (v4 : BitVec 32) (k0_hw1 : k0_chk1 v0 v2 v4) (k0_t2 : Fin (k0_t2_loop v4).trips), ∀ (k0_h12 : k0_cond12 v0 v2 v4 k0_t2 = 1#1), ∀ a, (k0_off32 v2 v4 k0_t2) a + S1.size a ≤ S8.size a := fun v0 v2 v4 k0_hw1 k0_t2 k0_h12 => k0_hw1.2.1.2.2.2.2.2.2.2.2.2.1 k0_t2 k0_h12
theorem k0_off33_inb : ∀ (v0 : BitVec 32) (v2 : BitVec 32) (v4 : BitVec 32) (k0_hw1 : k0_chk1 v0 v2 v4) (k0_t2 : Fin (k0_t2_loop v4).trips), ∀ (k0_h12 : k0_cond12 v0 v2 v4 k0_t2 = 1#1), ∀ a, (k0_off33 v2 v4 k0_t2) a + S1x512x512.size a ≤ S8x512x512.size a := fun v0 v2 v4 k0_hw1 k0_t2 k0_h12 => k0_hw1.2.1.2.2.2.2.2.2.2.2.2.2.1 k0_t2 k0_h12
theorem k0_off34_inb : ∀ (v0 : BitVec 32) (v2 : BitVec 32) (v4 : BitVec 32) (k0_hw1 : k0_chk1 v0 v2 v4) (k0_t2 : Fin (k0_t2_loop v4).trips), ∀ (k0_h12 : k0_cond12 v0 v2 v4 k0_t2 = 1#1), ∀ a, (k0_off34 v2 v4 k0_t2) a + S512x512.size a ≤ S163840x512.size a := fun v0 v2 v4 k0_hw1 k0_t2 k0_h12 => k0_hw1.2.1.2.2.2.2.2.2.2.2.2.2.2.1 k0_t2 k0_h12
theorem k0_mult15_dvd : ∀ (v0 : BitVec 32) (v2 : BitVec 32) (v4 : BitVec 32) (k0_hw1 : k0_chk1 v0 v2 v4) (k0_t2 : Fin (k0_t2_loop v4).trips), 512 ∣ (k0_mult15 v2 v4 k0_t2).toNat := fun v0 v2 v4 k0_hw1 k0_t2 => k0_hw1.2.1.2.2.2.2.2.2.2.2.2.2.2.2.1 k0_t2
theorem k0_off35_inb : ∀ (v0 : BitVec 32) (v2 : BitVec 32) (v4 : BitVec 32) (k0_hw1 : k0_chk1 v0 v2 v4) (k0_t2 : Fin (k0_t2_loop v4).trips), ∀ a, (k0_off35 v2 v4 k0_t2) a + S1.size a ≤ S8.size a := fun v0 v2 v4 k0_hw1 k0_t2 => k0_hw1.2.1.2.2.2.2.2.2.2.2.2.2.2.2.2.1 k0_t2
theorem k0_off36_inb : ∀ (v0 : BitVec 32) (v2 : BitVec 32) (v4 : BitVec 32) (k0_hw1 : k0_chk1 v0 v2 v4) (k0_t2 : Fin (k0_t2_loop v4).trips), ∀ a, (k0_off36 v2 v4 k0_t2) a + S1x512x512.size a ≤ S8x512x512.size a := fun v0 v2 v4 k0_hw1 k0_t2 => k0_hw1.2.1.2.2.2.2.2.2.2.2.2.2.2.2.2.2.1 k0_t2
theorem k0_off37_inb : ∀ (v0 : BitVec 32) (v2 : BitVec 32) (v4 : BitVec 32) (k0_hw1 : k0_chk1 v0 v2 v4) (k0_t2 : Fin (k0_t2_loop v4).trips), ∀ a, (k0_off37 v2 v4 k0_t2) a + S512x512.size a ≤ S163840x512.size a := fun v0 v2 v4 k0_hw1 k0_t2 => k0_hw1.2.1.2.2.2.2.2.2.2.2.2.2.2.2.2.2.2.1 k0_t2
theorem k0_mult16_dvd : ∀ (v0 : BitVec 32) (v2 : BitVec 32) (v4 : BitVec 32) (k0_hw1 : k0_chk1 v0 v2 v4) (k0_t2 : Fin (k0_t2_loop v4).trips), ∀ (k0_h13 : k0_cond13 v2 v4 k0_t2 = 1#1), 512 ∣ (k0_mult16 v2 v4 k0_t2).toNat := fun v0 v2 v4 k0_hw1 k0_t2 k0_h13 => k0_hw1.2.1.2.2.2.2.2.2.2.2.2.2.2.2.2.2.2.2.1 k0_t2 k0_h13
theorem k0_off38_inb : ∀ (v0 : BitVec 32) (v2 : BitVec 32) (v4 : BitVec 32) (k0_hw1 : k0_chk1 v0 v2 v4) (k0_t2 : Fin (k0_t2_loop v4).trips), ∀ (k0_h13 : k0_cond13 v2 v4 k0_t2 = 1#1), ∀ a, (k0_off38 v2 v4 k0_t2) a + S1.size a ≤ S4.size a := fun v0 v2 v4 k0_hw1 k0_t2 k0_h13 => k0_hw1.2.1.2.2.2.2.2.2.2.2.2.2.2.2.2.2.2.2.2.1 k0_t2 k0_h13
theorem k0_off39_inb : ∀ (v0 : BitVec 32) (v2 : BitVec 32) (v4 : BitVec 32) (k0_hw1 : k0_chk1 v0 v2 v4) (k0_t2 : Fin (k0_t2_loop v4).trips), ∀ (k0_h13 : k0_cond13 v2 v4 k0_t2 = 1#1), ∀ a, (k0_off39 v2 v4 k0_t2) a + S512x512.size a ≤ S163840x512.size a := fun v0 v2 v4 k0_hw1 k0_t2 k0_h13 => k0_hw1.2.1.2.2.2.2.2.2.2.2.2.2.2.2.2.2.2.2.2.2.1 k0_t2 k0_h13
theorem k0_off40_inb : ∀ (v0 : BitVec 32) (v2 : BitVec 32) (v4 : BitVec 32) (k0_hw1 : k0_chk1 v0 v2 v4) (k0_t2 : Fin (k0_t2_loop v4).trips), ∀ (k0_h13 : k0_cond13 v2 v4 k0_t2 = 1#1), ∀ a, (k0_off40 v2 v4 k0_t2) a + S1x512x512.size a ≤ S4x512x512.size a := fun v0 v2 v4 k0_hw1 k0_t2 k0_h13 => k0_hw1.2.1.2.2.2.2.2.2.2.2.2.2.2.2.2.2.2.2.2.2.2.1 k0_t2 k0_h13
theorem k0_mult17_dvd : ∀ (v0 : BitVec 32) (v2 : BitVec 32) (v4 : BitVec 32) (k0_hw1 : k0_chk1 v0 v2 v4) (k0_t2 : Fin (k0_t2_loop v4).trips), ∀ (k0_h14 : k0_cond14 v0 v2 v4 k0_t2 = 1#1), 512 ∣ (k0_mult17 v2 v4 k0_t2).toNat := fun v0 v2 v4 k0_hw1 k0_t2 k0_h14 => k0_hw1.2.1.2.2.2.2.2.2.2.2.2.2.2.2.2.2.2.2.2.2.2.2.1 k0_t2 k0_h14
theorem k0_off41_inb : ∀ (v0 : BitVec 32) (v2 : BitVec 32) (v4 : BitVec 32) (k0_hw1 : k0_chk1 v0 v2 v4) (k0_t2 : Fin (k0_t2_loop v4).trips), ∀ (k0_h14 : k0_cond14 v0 v2 v4 k0_t2 = 1#1), ∀ a, (k0_off41 v2 v4 k0_t2) a + S1.size a ≤ S8.size a := fun v0 v2 v4 k0_hw1 k0_t2 k0_h14 => k0_hw1.2.1.2.2.2.2.2.2.2.2.2.2.2.2.2.2.2.2.2.2.2.2.2.1 k0_t2 k0_h14
theorem k0_off42_inb : ∀ (v0 : BitVec 32) (v2 : BitVec 32) (v4 : BitVec 32) (k0_hw1 : k0_chk1 v0 v2 v4) (k0_t2 : Fin (k0_t2_loop v4).trips), ∀ (k0_h14 : k0_cond14 v0 v2 v4 k0_t2 = 1#1), ∀ a, (k0_off42 v2 v4 k0_t2) a + S1x512x512.size a ≤ S8x512x512.size a := fun v0 v2 v4 k0_hw1 k0_t2 k0_h14 => k0_hw1.2.1.2.2.2.2.2.2.2.2.2.2.2.2.2.2.2.2.2.2.2.2.2.2.1 k0_t2 k0_h14
theorem k0_off43_inb : ∀ (v0 : BitVec 32) (v2 : BitVec 32) (v4 : BitVec 32) (k0_hw1 : k0_chk1 v0 v2 v4) (k0_t2 : Fin (k0_t2_loop v4).trips), ∀ (k0_h14 : k0_cond14 v0 v2 v4 k0_t2 = 1#1), ∀ a, (k0_off43 v2 v4 k0_t2) a + S512x512.size a ≤ S163840x512.size a := fun v0 v2 v4 k0_hw1 k0_t2 k0_h14 => k0_hw1.2.1.2.2.2.2.2.2.2.2.2.2.2.2.2.2.2.2.2.2.2.2.2.2.2.1 k0_t2 k0_h14
theorem k0_mult18_dvd : ∀ (v0 : BitVec 32) (v2 : BitVec 32) (v4 : BitVec 32) (k0_hw1 : k0_chk1 v0 v2 v4) (k0_t2 : Fin (k0_t2_loop v4).trips), 512 ∣ (k0_mult18 v2 v4 k0_t2).toNat := fun v0 v2 v4 k0_hw1 k0_t2 => k0_hw1.2.1.2.2.2.2.2.2.2.2.2.2.2.2.2.2.2.2.2.2.2.2.2.2.2.2.1 k0_t2
theorem k0_off44_inb : ∀ (v0 : BitVec 32) (v2 : BitVec 32) (v4 : BitVec 32) (k0_hw1 : k0_chk1 v0 v2 v4) (k0_t2 : Fin (k0_t2_loop v4).trips), ∀ a, (k0_off44 v2 v4 k0_t2) a + S1.size a ≤ S8.size a := fun v0 v2 v4 k0_hw1 k0_t2 => k0_hw1.2.1.2.2.2.2.2.2.2.2.2.2.2.2.2.2.2.2.2.2.2.2.2.2.2.2.2.1 k0_t2
theorem k0_off45_inb : ∀ (v0 : BitVec 32) (v2 : BitVec 32) (v4 : BitVec 32) (k0_hw1 : k0_chk1 v0 v2 v4) (k0_t2 : Fin (k0_t2_loop v4).trips), ∀ a, (k0_off45 v2 v4 k0_t2) a + S1x512x512.size a ≤ S8x512x512.size a := fun v0 v2 v4 k0_hw1 k0_t2 => k0_hw1.2.1.2.2.2.2.2.2.2.2.2.2.2.2.2.2.2.2.2.2.2.2.2.2.2.2.2.2.1 k0_t2
theorem k0_off46_inb : ∀ (v0 : BitVec 32) (v2 : BitVec 32) (v4 : BitVec 32) (k0_hw1 : k0_chk1 v0 v2 v4) (k0_t2 : Fin (k0_t2_loop v4).trips), ∀ a, (k0_off46 v2 v4 k0_t2) a + S512x512.size a ≤ S163840x512.size a := fun v0 v2 v4 k0_hw1 k0_t2 => k0_hw1.2.1.2.2.2.2.2.2.2.2.2.2.2.2.2.2.2.2.2.2.2.2.2.2.2.2.2.2.2.1 k0_t2
theorem k0_mult19_dvd : ∀ (v0 : BitVec 32) (v2 : BitVec 32) (v4 : BitVec 32) (k0_hw1 : k0_chk1 v0 v2 v4) (k0_t2 : Fin (k0_t2_loop v4).trips), ∀ (k0_h15 : k0_cond15 v2 v4 k0_t2 = 1#1), 512 ∣ (k0_mult19 v2 v4 k0_t2).toNat := fun v0 v2 v4 k0_hw1 k0_t2 k0_h15 => k0_hw1.2.1.2.2.2.2.2.2.2.2.2.2.2.2.2.2.2.2.2.2.2.2.2.2.2.2.2.2.2.2.1 k0_t2 k0_h15
theorem k0_off47_inb : ∀ (v0 : BitVec 32) (v2 : BitVec 32) (v4 : BitVec 32) (k0_hw1 : k0_chk1 v0 v2 v4) (k0_t2 : Fin (k0_t2_loop v4).trips), ∀ (k0_h15 : k0_cond15 v2 v4 k0_t2 = 1#1), ∀ a, (k0_off47 v2 v4 k0_t2) a + S1.size a ≤ S4.size a := fun v0 v2 v4 k0_hw1 k0_t2 k0_h15 => k0_hw1.2.1.2.2.2.2.2.2.2.2.2.2.2.2.2.2.2.2.2.2.2.2.2.2.2.2.2.2.2.2.2.1 k0_t2 k0_h15
theorem k0_off48_inb : ∀ (v0 : BitVec 32) (v2 : BitVec 32) (v4 : BitVec 32) (k0_hw1 : k0_chk1 v0 v2 v4) (k0_t2 : Fin (k0_t2_loop v4).trips), ∀ (k0_h15 : k0_cond15 v2 v4 k0_t2 = 1#1), ∀ a, (k0_off48 v2 v4 k0_t2) a + S512x512.size a ≤ S163840x512.size a := fun v0 v2 v4 k0_hw1 k0_t2 k0_h15 => k0_hw1.2.1.2.2.2.2.2.2.2.2.2.2.2.2.2.2.2.2.2.2.2.2.2.2.2.2.2.2.2.2.2.2.1 k0_t2 k0_h15
theorem k0_off49_inb : ∀ (v0 : BitVec 32) (v2 : BitVec 32) (v4 : BitVec 32) (k0_hw1 : k0_chk1 v0 v2 v4) (k0_t2 : Fin (k0_t2_loop v4).trips), ∀ (k0_h15 : k0_cond15 v2 v4 k0_t2 = 1#1), ∀ a, (k0_off49 v2 v4 k0_t2) a + S1x512x512.size a ≤ S4x512x512.size a := fun v0 v2 v4 k0_hw1 k0_t2 k0_h15 => k0_hw1.2.1.2.2.2.2.2.2.2.2.2.2.2.2.2.2.2.2.2.2.2.2.2.2.2.2.2.2.2.2.2.2.2 k0_t2 k0_h15
theorem k0_off50_inb : ∀ (v0 : BitVec 32) (v2 : BitVec 32) (v4 : BitVec 32) (k0_hw1 : k0_chk1 v0 v2 v4) (k0_t2 : Fin (k0_t2_loop v4).trips), ∀ a, (k0_off50 v2 v4 k0_t2) a + S1x256x512.size a ≤ S8x512x512.size a := fun v0 v2 v4 k0_hw1 k0_t2 => k0_hw1.2.2.1.1 k0_t2
theorem k0_off51_inb : ∀ (v0 : BitVec 32) (v2 : BitVec 32) (v4 : BitVec 32) (k0_hw1 : k0_chk1 v0 v2 v4) (k0_t2 : Fin (k0_t2_loop v4).trips), ∀ a, (k0_off51 v2 v4 k0_t2) a + S1x256x512.size a ≤ S4x512x512.size a := fun v0 v2 v4 k0_hw1 k0_t2 => k0_hw1.2.2.1.2.1 k0_t2
theorem k0_off52_inb : ∀ (v0 : BitVec 32) (v2 : BitVec 32) (v4 : BitVec 32) (k0_hw1 : k0_chk1 v0 v2 v4) (k0_t2 : Fin (k0_t2_loop v4).trips), ∀ a, (k0_off52 v2 v4 k0_t2) a + S1x256x512.size a ≤ S8x512x512.size a := fun v0 v2 v4 k0_hw1 k0_t2 => k0_hw1.2.2.1.2.2.1 k0_t2
theorem k0_off53_inb : ∀ (v0 : BitVec 32) (v2 : BitVec 32) (v4 : BitVec 32) (k0_hw1 : k0_chk1 v0 v2 v4) (k0_t2 : Fin (k0_t2_loop v4).trips), ∀ a, (k0_off53 v2 v4 k0_t2) a + S1x256x512.size a ≤ S4x512x512.size a := fun v0 v2 v4 k0_hw1 k0_t2 => k0_hw1.2.2.1.2.2.2.1 k0_t2
theorem k0_off54_inb : ∀ (v0 : BitVec 32) (v2 : BitVec 32) (v4 : BitVec 32) (k0_hw1 : k0_chk1 v0 v2 v4) (k0_t2 : Fin (k0_t2_loop v4).trips), ∀ a, (k0_off54 v2 v4 k0_t2) a + S1x256x512.size a ≤ S8x512x512.size a := fun v0 v2 v4 k0_hw1 k0_t2 => k0_hw1.2.2.1.2.2.2.2.1 k0_t2
theorem k0_off55_inb : ∀ (v0 : BitVec 32) (v2 : BitVec 32) (v4 : BitVec 32) (k0_hw1 : k0_chk1 v0 v2 v4) (k0_t2 : Fin (k0_t2_loop v4).trips), ∀ a, (k0_off55 v2 v4 k0_t2) a + S1x256x512.size a ≤ S4x512x512.size a := fun v0 v2 v4 k0_hw1 k0_t2 => k0_hw1.2.2.1.2.2.2.2.2.1 k0_t2
theorem k0_off56_inb : ∀ (v0 : BitVec 32) (v2 : BitVec 32) (v4 : BitVec 32) (k0_hw1 : k0_chk1 v0 v2 v4) (k0_t2 : Fin (k0_t2_loop v4).trips), ∀ a, (k0_off56 v2 v4 k0_t2) a + S1x256x512.size a ≤ S8x512x512.size a := fun v0 v2 v4 k0_hw1 k0_t2 => k0_hw1.2.2.1.2.2.2.2.2.2.1 k0_t2
theorem k0_off57_inb : ∀ (v0 : BitVec 32) (v2 : BitVec 32) (v4 : BitVec 32) (k0_hw1 : k0_chk1 v0 v2 v4) (k0_t2 : Fin (k0_t2_loop v4).trips), ∀ a, (k0_off57 v2 v4 k0_t2) a + S1x256x512.size a ≤ S4x512x512.size a := fun v0 v2 v4 k0_hw1 k0_t2 => k0_hw1.2.2.1.2.2.2.2.2.2.2.1 k0_t2
theorem k0_mult20_dvd : ∀ (v0 : BitVec 32) (v2 : BitVec 32) (v4 : BitVec 32) (k0_hw1 : k0_chk1 v0 v2 v4) (k0_t2 : Fin (k0_t2_loop v4).trips), 512 ∣ (k0_mult20 v2 v4 k0_t2).toNat := fun v0 v2 v4 k0_hw1 k0_t2 => k0_hw1.2.2.1.2.2.2.2.2.2.2.2.1 k0_t2
theorem k0_off58_inb : ∀ (v0 : BitVec 32) (v2 : BitVec 32) (v4 : BitVec 32) (k0_hw1 : k0_chk1 v0 v2 v4) (k0_t2 : Fin (k0_t2_loop v4).trips), ∀ a, (k0_off58 v2 v4 k0_t2) a + S1.size a ≤ S4.size a := fun v0 v2 v4 k0_hw1 k0_t2 => k0_hw1.2.2.1.2.2.2.2.2.2.2.2.2.1 k0_t2
theorem k0_off59_inb : ∀ (v0 : BitVec 32) (v2 : BitVec 32) (v4 : BitVec 32) (k0_hw1 : k0_chk1 v0 v2 v4) (k0_t2 : Fin (k0_t2_loop v4).trips), ∀ a, (k0_off59 v2 v4 k0_t2) a + S1x512x512.size a ≤ S4x512x512.size a := fun v0 v2 v4 k0_hw1 k0_t2 => k0_hw1.2.2.1.2.2.2.2.2.2.2.2.2.2.1 k0_t2
theorem k0_mult21_dvd : ∀ (v0 : BitVec 32) (v2 : BitVec 32) (v4 : BitVec 32) (k0_hw1 : k0_chk1 v0 v2 v4) (k0_t2 : Fin (k0_t2_loop v4).trips), 512 ∣ (k0_mult21 v2 v4 k0_t2).toNat := fun v0 v2 v4 k0_hw1 k0_t2 => k0_hw1.2.2.1.2.2.2.2.2.2.2.2.2.2.2.1 k0_t2
theorem k0_off60_inb : ∀ (v0 : BitVec 32) (v2 : BitVec 32) (v4 : BitVec 32) (k0_hw1 : k0_chk1 v0 v2 v4) (k0_t2 : Fin (k0_t2_loop v4).trips), ∀ a, (k0_off60 v2 v4 k0_t2) a + S1.size a ≤ S4.size a := fun v0 v2 v4 k0_hw1 k0_t2 => k0_hw1.2.2.1.2.2.2.2.2.2.2.2.2.2.2.2.1 k0_t2
theorem k0_off61_inb : ∀ (v0 : BitVec 32) (v2 : BitVec 32) (v4 : BitVec 32) (k0_hw1 : k0_chk1 v0 v2 v4) (k0_t2 : Fin (k0_t2_loop v4).trips), ∀ a, (k0_off61 v2 v4 k0_t2) a + S1x512x512.size a ≤ S4x512x512.size a := fun v0 v2 v4 k0_hw1 k0_t2 => k0_hw1.2.2.1.2.2.2.2.2.2.2.2.2.2.2.2.2.1 k0_t2
theorem k0_mult22_dvd : ∀ (v0 : BitVec 32) (v2 : BitVec 32) (v4 : BitVec 32) (k0_hw1 : k0_chk1 v0 v2 v4), ∀ (k0_h16 : k0_cond16 v4 = 1#1), ∀ (k0_h17 : k0_cond17 v0 v2 v4 = 1#1), 512 ∣ (k0_mult22 v2 v4).toNat := fun v0 v2 v4 k0_hw1 k0_h16 k0_h17 => k0_hw1.2.2.1.2.2.2.2.2.2.2.2.2.2.2.2.2.2.1 k0_h16 k0_h17
theorem k0_off62_inb : ∀ (v0 : BitVec 32) (v2 : BitVec 32) (v4 : BitVec 32) (k0_hw1 : k0_chk1 v0 v2 v4), ∀ (k0_h16 : k0_cond16 v4 = 1#1), ∀ (k0_h17 : k0_cond17 v0 v2 v4 = 1#1), ∀ a, (k0_off62 v2 v4) a + S1.size a ≤ S8.size a := fun v0 v2 v4 k0_hw1 k0_h16 k0_h17 => k0_hw1.2.2.1.2.2.2.2.2.2.2.2.2.2.2.2.2.2.2.1 k0_h16 k0_h17
theorem k0_off63_inb : ∀ (v0 : BitVec 32) (v2 : BitVec 32) (v4 : BitVec 32) (k0_hw1 : k0_chk1 v0 v2 v4), ∀ (k0_h16 : k0_cond16 v4 = 1#1), ∀ (k0_h17 : k0_cond17 v0 v2 v4 = 1#1), ∀ a, (k0_off63 v2 v4) a + S1x512x512.size a ≤ S8x512x512.size a := fun v0 v2 v4 k0_hw1 k0_h16 k0_h17 => k0_hw1.2.2.1.2.2.2.2.2.2.2.2.2.2.2.2.2.2.2.2.1 k0_h16 k0_h17
theorem k0_off64_inb : ∀ (v0 : BitVec 32) (v2 : BitVec 32) (v4 : BitVec 32) (k0_hw1 : k0_chk1 v0 v2 v4), ∀ (k0_h16 : k0_cond16 v4 = 1#1), ∀ (k0_h17 : k0_cond17 v0 v2 v4 = 1#1), ∀ a, (k0_off64 v2 v4) a + S512x512.size a ≤ S163840x512.size a := fun v0 v2 v4 k0_hw1 k0_h16 k0_h17 => k0_hw1.2.2.1.2.2.2.2.2.2.2.2.2.2.2.2.2.2.2.2.2.1 k0_h16 k0_h17
theorem k0_mult23_dvd : ∀ (v0 : BitVec 32) (v2 : BitVec 32) (v4 : BitVec 32) (k0_hw1 : k0_chk1 v0 v2 v4), ∀ (k0_h16 : k0_cond16 v4 = 1#1), 512 ∣ (k0_mult23 v2 v4).toNat := fun v0 v2 v4 k0_hw1 k0_h16 => k0_hw1.2.2.1.2.2.2.2.2.2.2.2.2.2.2.2.2.2.2.2.2.2.1 k0_h16
theorem k0_off65_inb : ∀ (v0 : BitVec 32) (v2 : BitVec 32) (v4 : BitVec 32) (k0_hw1 : k0_chk1 v0 v2 v4), ∀ (k0_h16 : k0_cond16 v4 = 1#1), ∀ a, (k0_off65 v2 v4) a + S1.size a ≤ S8.size a := fun v0 v2 v4 k0_hw1 k0_h16 => k0_hw1.2.2.1.2.2.2.2.2.2.2.2.2.2.2.2.2.2.2.2.2.2.2.1 k0_h16
theorem k0_off66_inb : ∀ (v0 : BitVec 32) (v2 : BitVec 32) (v4 : BitVec 32) (k0_hw1 : k0_chk1 v0 v2 v4), ∀ (k0_h16 : k0_cond16 v4 = 1#1), ∀ a, (k0_off66 v2 v4) a + S1x512x512.size a ≤ S8x512x512.size a := fun v0 v2 v4 k0_hw1 k0_h16 => k0_hw1.2.2.1.2.2.2.2.2.2.2.2.2.2.2.2.2.2.2.2.2.2.2.2.1 k0_h16
theorem k0_off67_inb : ∀ (v0 : BitVec 32) (v2 : BitVec 32) (v4 : BitVec 32) (k0_hw1 : k0_chk1 v0 v2 v4), ∀ (k0_h16 : k0_cond16 v4 = 1#1), ∀ a, (k0_off67 v2 v4) a + S512x512.size a ≤ S163840x512.size a := fun v0 v2 v4 k0_hw1 k0_h16 => k0_hw1.2.2.1.2.2.2.2.2.2.2.2.2.2.2.2.2.2.2.2.2.2.2.2.2.1 k0_h16
theorem k0_mult24_dvd : ∀ (v0 : BitVec 32) (v2 : BitVec 32) (v4 : BitVec 32) (k0_hw1 : k0_chk1 v0 v2 v4), ∀ (k0_h16 : k0_cond16 v4 = 1#1), ∀ (k0_h18 : k0_cond18 v2 v4 = 1#1), 512 ∣ (k0_mult24 v2 v4).toNat := fun v0 v2 v4 k0_hw1 k0_h16 k0_h18 => k0_hw1.2.2.1.2.2.2.2.2.2.2.2.2.2.2.2.2.2.2.2.2.2.2.2.2.2.1 k0_h16 k0_h18
theorem k0_off68_inb : ∀ (v0 : BitVec 32) (v2 : BitVec 32) (v4 : BitVec 32) (k0_hw1 : k0_chk1 v0 v2 v4), ∀ (k0_h16 : k0_cond16 v4 = 1#1), ∀ (k0_h18 : k0_cond18 v2 v4 = 1#1), ∀ a, (k0_off68 v2 v4) a + S1.size a ≤ S4.size a := fun v0 v2 v4 k0_hw1 k0_h16 k0_h18 => k0_hw1.2.2.1.2.2.2.2.2.2.2.2.2.2.2.2.2.2.2.2.2.2.2.2.2.2.2.1 k0_h16 k0_h18
theorem k0_off69_inb : ∀ (v0 : BitVec 32) (v2 : BitVec 32) (v4 : BitVec 32) (k0_hw1 : k0_chk1 v0 v2 v4), ∀ (k0_h16 : k0_cond16 v4 = 1#1), ∀ (k0_h18 : k0_cond18 v2 v4 = 1#1), ∀ a, (k0_off69 v2 v4) a + S512x512.size a ≤ S163840x512.size a := fun v0 v2 v4 k0_hw1 k0_h16 k0_h18 => k0_hw1.2.2.1.2.2.2.2.2.2.2.2.2.2.2.2.2.2.2.2.2.2.2.2.2.2.2.2.1 k0_h16 k0_h18
theorem k0_off70_inb : ∀ (v0 : BitVec 32) (v2 : BitVec 32) (v4 : BitVec 32) (k0_hw1 : k0_chk1 v0 v2 v4), ∀ (k0_h16 : k0_cond16 v4 = 1#1), ∀ (k0_h18 : k0_cond18 v2 v4 = 1#1), ∀ a, (k0_off70 v2 v4) a + S1x512x512.size a ≤ S4x512x512.size a := fun v0 v2 v4 k0_hw1 k0_h16 k0_h18 => k0_hw1.2.2.1.2.2.2.2.2.2.2.2.2.2.2.2.2.2.2.2.2.2.2.2.2.2.2.2.2.1 k0_h16 k0_h18
theorem k0_off71_inb : ∀ (v0 : BitVec 32) (v2 : BitVec 32) (v4 : BitVec 32) (k0_hw1 : k0_chk1 v0 v2 v4), ∀ (k0_h16 : k0_cond16 v4 = 1#1), ∀ a, (k0_off71 v2 v4) a + S1x256x512.size a ≤ S8x512x512.size a := fun v0 v2 v4 k0_hw1 k0_h16 => k0_hw1.2.2.1.2.2.2.2.2.2.2.2.2.2.2.2.2.2.2.2.2.2.2.2.2.2.2.2.2.2.1 k0_h16
theorem k0_off72_inb : ∀ (v0 : BitVec 32) (v2 : BitVec 32) (v4 : BitVec 32) (k0_hw1 : k0_chk1 v0 v2 v4), ∀ (k0_h16 : k0_cond16 v4 = 1#1), ∀ a, (k0_off72 v2 v4) a + S1x256x512.size a ≤ S4x512x512.size a := fun v0 v2 v4 k0_hw1 k0_h16 => k0_hw1.2.2.1.2.2.2.2.2.2.2.2.2.2.2.2.2.2.2.2.2.2.2.2.2.2.2.2.2.2.2.1 k0_h16
theorem k0_off73_inb : ∀ (v0 : BitVec 32) (v2 : BitVec 32) (v4 : BitVec 32) (k0_hw1 : k0_chk1 v0 v2 v4), ∀ (k0_h16 : k0_cond16 v4 = 1#1), ∀ a, (k0_off73 v2 v4) a + S1x256x512.size a ≤ S8x512x512.size a := fun v0 v2 v4 k0_hw1 k0_h16 => k0_hw1.2.2.1.2.2.2.2.2.2.2.2.2.2.2.2.2.2.2.2.2.2.2.2.2.2.2.2.2.2.2.2.1 k0_h16
theorem k0_off74_inb : ∀ (v0 : BitVec 32) (v2 : BitVec 32) (v4 : BitVec 32) (k0_hw1 : k0_chk1 v0 v2 v4), ∀ (k0_h16 : k0_cond16 v4 = 1#1), ∀ a, (k0_off74 v2 v4) a + S1x256x512.size a ≤ S4x512x512.size a := fun v0 v2 v4 k0_hw1 k0_h16 => k0_hw1.2.2.1.2.2.2.2.2.2.2.2.2.2.2.2.2.2.2.2.2.2.2.2.2.2.2.2.2.2.2.2.2.1 k0_h16
theorem k0_mult25_dvd : ∀ (v0 : BitVec 32) (v2 : BitVec 32) (v4 : BitVec 32) (k0_hw1 : k0_chk1 v0 v2 v4), ∀ (k0_h16 : k0_cond16 v4 = 1#1), 512 ∣ (k0_mult25 v2 v4).toNat := fun v0 v2 v4 k0_hw1 k0_h16 => k0_hw1.2.2.1.2.2.2.2.2.2.2.2.2.2.2.2.2.2.2.2.2.2.2.2.2.2.2.2.2.2.2.2.2.2.1 k0_h16
theorem k0_off75_inb : ∀ (v0 : BitVec 32) (v2 : BitVec 32) (v4 : BitVec 32) (k0_hw1 : k0_chk1 v0 v2 v4), ∀ (k0_h16 : k0_cond16 v4 = 1#1), ∀ a, (k0_off75 v2 v4) a + S1.size a ≤ S4.size a := fun v0 v2 v4 k0_hw1 k0_h16 => k0_hw1.2.2.1.2.2.2.2.2.2.2.2.2.2.2.2.2.2.2.2.2.2.2.2.2.2.2.2.2.2.2.2.2.2.2 k0_h16
theorem k0_off76_inb : ∀ (v0 : BitVec 32) (v2 : BitVec 32) (v4 : BitVec 32) (k0_hw1 : k0_chk1 v0 v2 v4), ∀ (k0_h16 : k0_cond16 v4 = 1#1), ∀ a, (k0_off76 v2 v4) a + S1x512x512.size a ≤ S4x512x512.size a := fun v0 v2 v4 k0_hw1 k0_h16 => k0_hw1.2.2.2 k0_h16

def k0_cond19 (i : grid0.Coords) : BitVec 1 :=
  let arg0 : BitVec 32 := BitVec.ofNat 32 (i 0).val
  let c63_i32 : BitVec 32 := 63#32
  let v46 : BitVec 1 := Scalar.cmpi .eq arg0 c63_i32
  let v47 : BitVec 32 := Scalar.extui v46
  let c0_i32_21 : BitVec 32 := 0#32
  let v48 : BitVec 1 := Scalar.cmpi .ne v47 c0_i32_21
  v48

def k0_mult26 (v0 : BitVec 32) : BitVec 32 :=
  let c4_i32_28 : BitVec 32 := 4#32
  let v61 : BitVec 32 := Scalar.subi v0 c4_i32_28
  let c512_i32 : BitVec 32 := 512#32
  let v72 : BitVec 32 := Scalar.muli v61 c512_i32
  v72
def k0_cond20 (v0 : BitVec 32) : BitVec 1 :=
  let c4_i32 : BitVec 32 := 4#32
  let v49 : BitVec 1 := Scalar.cmpi .sge v0 c4_i32
  let v50 : BitVec 32 := Scalar.extui v49
  let c0_i32_22 : BitVec 32 := 0#32
  let v51 : BitVec 1 := Scalar.cmpi .ne v50 c0_i32_22
  v51

def k0_off77 (v0 : BitVec 32) : Fin 1 → Nat :=
  let c4_i32_28 : BitVec 32 := 4#32
  let v61 : BitVec 32 := Scalar.subi v0 c4_i32_28
  let c4_i32_29 : BitVec 32 := 4#32
  let c0_i32_30 : BitVec 32 := 0#32
  let v62 : BitVec 1 := Scalar.cmpi .eq c4_i32_29 c0_i32_30
  let c1_i32_31 : BitVec 32 := 1#32
  let v63 : BitVec 32 := Scalar.select v62 c1_i32_31 c4_i32_29
  let v64 : BitVec 32 := Scalar.remsi v61 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  ![v71.toNat]
def k0_off78 (v0 : BitVec 32) : Fin 2 → Nat :=
  let c4_i32_28 : BitVec 32 := 4#32
  let v61 : BitVec 32 := Scalar.subi v0 c4_i32_28
  let c512_i32 : BitVec 32 := 512#32
  let v72 : BitVec 32 := Scalar.muli v61 c512_i32
  let v73 : BitVec 32 := v72
  let c0_i32_35 : BitVec 32 := 0#32
  ![v73.toNat, 0]
def k0_off79 (v0 : BitVec 32) : Fin 3 → Nat :=
  let c4_i32_28 : BitVec 32 := 4#32
  let v61 : BitVec 32 := Scalar.subi v0 c4_i32_28
  let c4_i32_29 : BitVec 32 := 4#32
  let c0_i32_30 : BitVec 32 := 0#32
  let v62 : BitVec 1 := Scalar.cmpi .eq c4_i32_29 c0_i32_30
  let c1_i32_31 : BitVec 32 := 1#32
  let v63 : BitVec 32 := Scalar.select v62 c1_i32_31 c4_i32_29
  let v64 : BitVec 32 := Scalar.remsi v61 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_36 : BitVec 32 := 0#32
  let c0_i32_37 : BitVec 32 := 0#32
  ![v71.toNat, 0, 0]
def k0_mult27 (v0 : BitVec 32) : BitVec 32 :=
  let c3_i32_28 : BitVec 32 := 3#32
  let v61 : BitVec 32 := Scalar.subi v0 c3_i32_28
  let c512_i32 : BitVec 32 := 512#32
  let v72 : BitVec 32 := Scalar.muli v61 c512_i32
  v72
def k0_cond21 (v0 : BitVec 32) : BitVec 1 :=
  let c3_i32 : BitVec 32 := 3#32
  let v52 : BitVec 1 := Scalar.cmpi .sge v0 c3_i32
  let v53 : BitVec 32 := Scalar.extui v52
  let c0_i32_23 : BitVec 32 := 0#32
  let v54 : BitVec 1 := Scalar.cmpi .ne v53 c0_i32_23
  v54

def k0_off80 (v0 : BitVec 32) : Fin 1 → Nat :=
  let c3_i32_28 : BitVec 32 := 3#32
  let v61 : BitVec 32 := Scalar.subi v0 c3_i32_28
  let c4_i32_29 : BitVec 32 := 4#32
  let c0_i32_30 : BitVec 32 := 0#32
  let v62 : BitVec 1 := Scalar.cmpi .eq c4_i32_29 c0_i32_30
  let c1_i32_31 : BitVec 32 := 1#32
  let v63 : BitVec 32 := Scalar.select v62 c1_i32_31 c4_i32_29
  let v64 : BitVec 32 := Scalar.remsi v61 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  ![v71.toNat]
def k0_off81 (v0 : BitVec 32) : Fin 2 → Nat :=
  let c3_i32_28 : BitVec 32 := 3#32
  let v61 : BitVec 32 := Scalar.subi v0 c3_i32_28
  let c512_i32 : BitVec 32 := 512#32
  let v72 : BitVec 32 := Scalar.muli v61 c512_i32
  let v73 : BitVec 32 := v72
  let c0_i32_35 : BitVec 32 := 0#32
  ![v73.toNat, 0]
def k0_off82 (v0 : BitVec 32) : Fin 3 → Nat :=
  let c3_i32_28 : BitVec 32 := 3#32
  let v61 : BitVec 32 := Scalar.subi v0 c3_i32_28
  let c4_i32_29 : BitVec 32 := 4#32
  let c0_i32_30 : BitVec 32 := 0#32
  let v62 : BitVec 1 := Scalar.cmpi .eq c4_i32_29 c0_i32_30
  let c1_i32_31 : BitVec 32 := 1#32
  let v63 : BitVec 32 := Scalar.select v62 c1_i32_31 c4_i32_29
  let v64 : BitVec 32 := Scalar.remsi v61 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_36 : BitVec 32 := 0#32
  let c0_i32_37 : BitVec 32 := 0#32
  ![v71.toNat, 0, 0]
def k0_mult28 (v0 : BitVec 32) : BitVec 32 :=
  let c2_i32_28 : BitVec 32 := 2#32
  let v61 : BitVec 32 := Scalar.subi v0 c2_i32_28
  let c512_i32 : BitVec 32 := 512#32
  let v72 : BitVec 32 := Scalar.muli v61 c512_i32
  v72
def k0_cond22 (v0 : BitVec 32) : BitVec 1 :=
  let c2_i32_24 : BitVec 32 := 2#32
  let v55 : BitVec 1 := Scalar.cmpi .sge v0 c2_i32_24
  let v56 : BitVec 32 := Scalar.extui v55
  let c0_i32_25 : BitVec 32 := 0#32
  let v57 : BitVec 1 := Scalar.cmpi .ne v56 c0_i32_25
  v57

def k0_off83 (v0 : BitVec 32) : Fin 1 → Nat :=
  let c2_i32_28 : BitVec 32 := 2#32
  let v61 : BitVec 32 := Scalar.subi v0 c2_i32_28
  let c4_i32_29 : BitVec 32 := 4#32
  let c0_i32_30 : BitVec 32 := 0#32
  let v62 : BitVec 1 := Scalar.cmpi .eq c4_i32_29 c0_i32_30
  let c1_i32_31 : BitVec 32 := 1#32
  let v63 : BitVec 32 := Scalar.select v62 c1_i32_31 c4_i32_29
  let v64 : BitVec 32 := Scalar.remsi v61 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  ![v71.toNat]
def k0_off84 (v0 : BitVec 32) : Fin 2 → Nat :=
  let c2_i32_28 : BitVec 32 := 2#32
  let v61 : BitVec 32 := Scalar.subi v0 c2_i32_28
  let c512_i32 : BitVec 32 := 512#32
  let v72 : BitVec 32 := Scalar.muli v61 c512_i32
  let v73 : BitVec 32 := v72
  let c0_i32_35 : BitVec 32 := 0#32
  ![v73.toNat, 0]
def k0_off85 (v0 : BitVec 32) : Fin 3 → Nat :=
  let c2_i32_28 : BitVec 32 := 2#32
  let v61 : BitVec 32 := Scalar.subi v0 c2_i32_28
  let c4_i32_29 : BitVec 32 := 4#32
  let c0_i32_30 : BitVec 32 := 0#32
  let v62 : BitVec 1 := Scalar.cmpi .eq c4_i32_29 c0_i32_30
  let c1_i32_31 : BitVec 32 := 1#32
  let v63 : BitVec 32 := Scalar.select v62 c1_i32_31 c4_i32_29
  let v64 : BitVec 32 := Scalar.remsi v61 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_36 : BitVec 32 := 0#32
  let c0_i32_37 : BitVec 32 := 0#32
  ![v71.toNat, 0, 0]
def k0_mult29 (v0 : BitVec 32) : BitVec 32 :=
  let c1_i32_28 : BitVec 32 := 1#32
  let v61 : BitVec 32 := Scalar.subi v0 c1_i32_28
  let c512_i32 : BitVec 32 := 512#32
  let v72 : BitVec 32 := Scalar.muli v61 c512_i32
  v72
def k0_cond23 (v0 : BitVec 32) : BitVec 1 :=
  let c1_i32_26 : BitVec 32 := 1#32
  let v58 : BitVec 1 := Scalar.cmpi .sge v0 c1_i32_26
  let v59 : BitVec 32 := Scalar.extui v58
  let c0_i32_27 : BitVec 32 := 0#32
  let v60 : BitVec 1 := Scalar.cmpi .ne v59 c0_i32_27
  v60

def k0_off86 (v0 : BitVec 32) : Fin 1 → Nat :=
  let c1_i32_28 : BitVec 32 := 1#32
  let v61 : BitVec 32 := Scalar.subi v0 c1_i32_28
  let c4_i32_29 : BitVec 32 := 4#32
  let c0_i32_30 : BitVec 32 := 0#32
  let v62 : BitVec 1 := Scalar.cmpi .eq c4_i32_29 c0_i32_30
  let c1_i32_31 : BitVec 32 := 1#32
  let v63 : BitVec 32 := Scalar.select v62 c1_i32_31 c4_i32_29
  let v64 : BitVec 32 := Scalar.remsi v61 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  ![v71.toNat]
def k0_off87 (v0 : BitVec 32) : Fin 2 → Nat :=
  let c1_i32_28 : BitVec 32 := 1#32
  let v61 : BitVec 32 := Scalar.subi v0 c1_i32_28
  let c512_i32 : BitVec 32 := 512#32
  let v72 : BitVec 32 := Scalar.muli v61 c512_i32
  let v73 : BitVec 32 := v72
  let c0_i32_35 : BitVec 32 := 0#32
  ![v73.toNat, 0]
def k0_off88 (v0 : BitVec 32) : Fin 3 → Nat :=
  let c1_i32_28 : BitVec 32 := 1#32
  let v61 : BitVec 32 := Scalar.subi v0 c1_i32_28
  let c4_i32_29 : BitVec 32 := 4#32
  let c0_i32_30 : BitVec 32 := 0#32
  let v62 : BitVec 1 := Scalar.cmpi .eq c4_i32_29 c0_i32_30
  let c1_i32_31 : BitVec 32 := 1#32
  let v63 : BitVec 32 := Scalar.select v62 c1_i32_31 c4_i32_29
  let v64 : BitVec 32 := Scalar.remsi v61 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_36 : BitVec 32 := 0#32
  let c0_i32_37 : BitVec 32 := 0#32
  ![v71.toNat, 0, 0]

def k0_chk2 (i : grid0.Coords) (v0 : BitVec 32) : Prop :=
  (∀ (k0_h19 : k0_cond19 i = 1#1), ∀ (k0_h20 : k0_cond20 v0 = 1#1), 512 ∣ (k0_mult26 v0).toNat) ∧
  (∀ (k0_h19 : k0_cond19 i = 1#1), ∀ (k0_h20 : k0_cond20 v0 = 1#1), ∀ a, (k0_off77 v0) a + S1.size a ≤ S4.size a) ∧
  (∀ (k0_h19 : k0_cond19 i = 1#1), ∀ (k0_h20 : k0_cond20 v0 = 1#1), ∀ a, (k0_off78 v0) a + S512x512.size a ≤ S163840x512.size a) ∧
  (∀ (k0_h19 : k0_cond19 i = 1#1), ∀ (k0_h20 : k0_cond20 v0 = 1#1), ∀ a, (k0_off79 v0) a + S1x512x512.size a ≤ S4x512x512.size a) ∧
  (∀ (k0_h19 : k0_cond19 i = 1#1), ∀ (k0_h21 : k0_cond21 v0 = 1#1), 512 ∣ (k0_mult27 v0).toNat) ∧
  (∀ (k0_h19 : k0_cond19 i = 1#1), ∀ (k0_h21 : k0_cond21 v0 = 1#1), ∀ a, (k0_off80 v0) a + S1.size a ≤ S4.size a) ∧
  (∀ (k0_h19 : k0_cond19 i = 1#1), ∀ (k0_h21 : k0_cond21 v0 = 1#1), ∀ a, (k0_off81 v0) a + S512x512.size a ≤ S163840x512.size a) ∧
  (∀ (k0_h19 : k0_cond19 i = 1#1), ∀ (k0_h21 : k0_cond21 v0 = 1#1), ∀ a, (k0_off82 v0) a + S1x512x512.size a ≤ S4x512x512.size a) ∧
  (∀ (k0_h19 : k0_cond19 i = 1#1), ∀ (k0_h22 : k0_cond22 v0 = 1#1), 512 ∣ (k0_mult28 v0).toNat) ∧
  (∀ (k0_h19 : k0_cond19 i = 1#1), ∀ (k0_h22 : k0_cond22 v0 = 1#1), ∀ a, (k0_off83 v0) a + S1.size a ≤ S4.size a) ∧
  (∀ (k0_h19 : k0_cond19 i = 1#1), ∀ (k0_h22 : k0_cond22 v0 = 1#1), ∀ a, (k0_off84 v0) a + S512x512.size a ≤ S163840x512.size a) ∧
  (∀ (k0_h19 : k0_cond19 i = 1#1), ∀ (k0_h22 : k0_cond22 v0 = 1#1), ∀ a, (k0_off85 v0) a + S1x512x512.size a ≤ S4x512x512.size a) ∧
  (∀ (k0_h19 : k0_cond19 i = 1#1), ∀ (k0_h23 : k0_cond23 v0 = 1#1), 512 ∣ (k0_mult29 v0).toNat) ∧
  (∀ (k0_h19 : k0_cond19 i = 1#1), ∀ (k0_h23 : k0_cond23 v0 = 1#1), ∀ a, (k0_off86 v0) a + S1.size a ≤ S4.size a) ∧
  (∀ (k0_h19 : k0_cond19 i = 1#1), ∀ (k0_h23 : k0_cond23 v0 = 1#1), ∀ a, (k0_off87 v0) a + S512x512.size a ≤ S163840x512.size a) ∧
  (∀ (k0_h19 : k0_cond19 i = 1#1), ∀ (k0_h23 : k0_cond23 v0 = 1#1), ∀ a, (k0_off88 v0) a + S1x512x512.size a ≤ S4x512x512.size a)
theorem k0_mult26_dvd : ∀ (i : grid0.Coords) (v0 : BitVec 32) (k0_hw2 : k0_chk2 i v0), ∀ (k0_h19 : k0_cond19 i = 1#1), ∀ (k0_h20 : k0_cond20 v0 = 1#1), 512 ∣ (k0_mult26 v0).toNat := fun i v0 k0_hw2 k0_h19 k0_h20 => k0_hw2.1 k0_h19 k0_h20
theorem k0_off77_inb : ∀ (i : grid0.Coords) (v0 : BitVec 32) (k0_hw2 : k0_chk2 i v0), ∀ (k0_h19 : k0_cond19 i = 1#1), ∀ (k0_h20 : k0_cond20 v0 = 1#1), ∀ a, (k0_off77 v0) a + S1.size a ≤ S4.size a := fun i v0 k0_hw2 k0_h19 k0_h20 => k0_hw2.2.1 k0_h19 k0_h20
theorem k0_off78_inb : ∀ (i : grid0.Coords) (v0 : BitVec 32) (k0_hw2 : k0_chk2 i v0), ∀ (k0_h19 : k0_cond19 i = 1#1), ∀ (k0_h20 : k0_cond20 v0 = 1#1), ∀ a, (k0_off78 v0) a + S512x512.size a ≤ S163840x512.size a := fun i v0 k0_hw2 k0_h19 k0_h20 => k0_hw2.2.2.1 k0_h19 k0_h20
theorem k0_off79_inb : ∀ (i : grid0.Coords) (v0 : BitVec 32) (k0_hw2 : k0_chk2 i v0), ∀ (k0_h19 : k0_cond19 i = 1#1), ∀ (k0_h20 : k0_cond20 v0 = 1#1), ∀ a, (k0_off79 v0) a + S1x512x512.size a ≤ S4x512x512.size a := fun i v0 k0_hw2 k0_h19 k0_h20 => k0_hw2.2.2.2.1 k0_h19 k0_h20
theorem k0_mult27_dvd : ∀ (i : grid0.Coords) (v0 : BitVec 32) (k0_hw2 : k0_chk2 i v0), ∀ (k0_h19 : k0_cond19 i = 1#1), ∀ (k0_h21 : k0_cond21 v0 = 1#1), 512 ∣ (k0_mult27 v0).toNat := fun i v0 k0_hw2 k0_h19 k0_h21 => k0_hw2.2.2.2.2.1 k0_h19 k0_h21
theorem k0_off80_inb : ∀ (i : grid0.Coords) (v0 : BitVec 32) (k0_hw2 : k0_chk2 i v0), ∀ (k0_h19 : k0_cond19 i = 1#1), ∀ (k0_h21 : k0_cond21 v0 = 1#1), ∀ a, (k0_off80 v0) a + S1.size a ≤ S4.size a := fun i v0 k0_hw2 k0_h19 k0_h21 => k0_hw2.2.2.2.2.2.1 k0_h19 k0_h21
theorem k0_off81_inb : ∀ (i : grid0.Coords) (v0 : BitVec 32) (k0_hw2 : k0_chk2 i v0), ∀ (k0_h19 : k0_cond19 i = 1#1), ∀ (k0_h21 : k0_cond21 v0 = 1#1), ∀ a, (k0_off81 v0) a + S512x512.size a ≤ S163840x512.size a := fun i v0 k0_hw2 k0_h19 k0_h21 => k0_hw2.2.2.2.2.2.2.1 k0_h19 k0_h21
theorem k0_off82_inb : ∀ (i : grid0.Coords) (v0 : BitVec 32) (k0_hw2 : k0_chk2 i v0), ∀ (k0_h19 : k0_cond19 i = 1#1), ∀ (k0_h21 : k0_cond21 v0 = 1#1), ∀ a, (k0_off82 v0) a + S1x512x512.size a ≤ S4x512x512.size a := fun i v0 k0_hw2 k0_h19 k0_h21 => k0_hw2.2.2.2.2.2.2.2.1 k0_h19 k0_h21
theorem k0_mult28_dvd : ∀ (i : grid0.Coords) (v0 : BitVec 32) (k0_hw2 : k0_chk2 i v0), ∀ (k0_h19 : k0_cond19 i = 1#1), ∀ (k0_h22 : k0_cond22 v0 = 1#1), 512 ∣ (k0_mult28 v0).toNat := fun i v0 k0_hw2 k0_h19 k0_h22 => k0_hw2.2.2.2.2.2.2.2.2.1 k0_h19 k0_h22
theorem k0_off83_inb : ∀ (i : grid0.Coords) (v0 : BitVec 32) (k0_hw2 : k0_chk2 i v0), ∀ (k0_h19 : k0_cond19 i = 1#1), ∀ (k0_h22 : k0_cond22 v0 = 1#1), ∀ a, (k0_off83 v0) a + S1.size a ≤ S4.size a := fun i v0 k0_hw2 k0_h19 k0_h22 => k0_hw2.2.2.2.2.2.2.2.2.2.1 k0_h19 k0_h22
theorem k0_off84_inb : ∀ (i : grid0.Coords) (v0 : BitVec 32) (k0_hw2 : k0_chk2 i v0), ∀ (k0_h19 : k0_cond19 i = 1#1), ∀ (k0_h22 : k0_cond22 v0 = 1#1), ∀ a, (k0_off84 v0) a + S512x512.size a ≤ S163840x512.size a := fun i v0 k0_hw2 k0_h19 k0_h22 => k0_hw2.2.2.2.2.2.2.2.2.2.2.1 k0_h19 k0_h22
theorem k0_off85_inb : ∀ (i : grid0.Coords) (v0 : BitVec 32) (k0_hw2 : k0_chk2 i v0), ∀ (k0_h19 : k0_cond19 i = 1#1), ∀ (k0_h22 : k0_cond22 v0 = 1#1), ∀ a, (k0_off85 v0) a + S1x512x512.size a ≤ S4x512x512.size a := fun i v0 k0_hw2 k0_h19 k0_h22 => k0_hw2.2.2.2.2.2.2.2.2.2.2.2.1 k0_h19 k0_h22
theorem k0_mult29_dvd : ∀ (i : grid0.Coords) (v0 : BitVec 32) (k0_hw2 : k0_chk2 i v0), ∀ (k0_h19 : k0_cond19 i = 1#1), ∀ (k0_h23 : k0_cond23 v0 = 1#1), 512 ∣ (k0_mult29 v0).toNat := fun i v0 k0_hw2 k0_h19 k0_h23 => k0_hw2.2.2.2.2.2.2.2.2.2.2.2.2.1 k0_h19 k0_h23
theorem k0_off86_inb : ∀ (i : grid0.Coords) (v0 : BitVec 32) (k0_hw2 : k0_chk2 i v0), ∀ (k0_h19 : k0_cond19 i = 1#1), ∀ (k0_h23 : k0_cond23 v0 = 1#1), ∀ a, (k0_off86 v0) a + S1.size a ≤ S4.size a := fun i v0 k0_hw2 k0_h19 k0_h23 => k0_hw2.2.2.2.2.2.2.2.2.2.2.2.2.2.1 k0_h19 k0_h23
theorem k0_off87_inb : ∀ (i : grid0.Coords) (v0 : BitVec 32) (k0_hw2 : k0_chk2 i v0), ∀ (k0_h19 : k0_cond19 i = 1#1), ∀ (k0_h23 : k0_cond23 v0 = 1#1), ∀ a, (k0_off87 v0) a + S512x512.size a ≤ S163840x512.size a := fun i v0 k0_hw2 k0_h19 k0_h23 => k0_hw2.2.2.2.2.2.2.2.2.2.2.2.2.2.2.1 k0_h19 k0_h23
theorem k0_off88_inb : ∀ (i : grid0.Coords) (v0 : BitVec 32) (k0_hw2 : k0_chk2 i v0), ∀ (k0_h19 : k0_cond19 i = 1#1), ∀ (k0_h23 : k0_cond23 v0 = 1#1), ∀ a, (k0_off88 v0) a + S1x512x512.size a ≤ S4x512x512.size a := fun i v0 k0_hw2 k0_h19 k0_h23 => k0_hw2.2.2.2.2.2.2.2.2.2.2.2.2.2.2.2 k0_h19 k0_h23

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S64 : Shape := ⟨1, ![64]⟩
abbrev S1 : Shape := ⟨1, ![1]⟩
abbrev S163840x512 : Shape := ⟨2, ![163840, 512]⟩
abbrev S64x1024x512 : Shape := ⟨3, ![64, 1024, 512]⟩
abbrev S64x256x1024 : Shape := ⟨3, ![64, 256, 1024]⟩
abbrev S_ : Shape := ⟨0, ![]⟩
abbrev S640 : Shape := ⟨1, ![640]⟩
abbrev S1x64 : Shape := ⟨2, ![1, 64]⟩
abbrev S640x1 : Shape := ⟨2, ![640, 1]⟩
abbrev S640x64 : Shape := ⟨2, ![640, 64]⟩
abbrev S163840x512x2 : Shape := ⟨3, ![163840, 512, 2]⟩
abbrev S163840x512x1 : Shape := ⟨3, ![163840, 512, 1]⟩
abbrev S163840x1024 : Shape := ⟨2, ![163840, 1024]⟩
abbrev S640x256x1024 : Shape := ⟨3, ![640, 256, 1024]⟩
abbrev S640x1024x512 : Shape := ⟨3, ![640, 1024, 512]⟩
abbrev S1x256x1024 : Shape := ⟨3, ![1, 256, 1024]⟩
abbrev S256x1024 : Shape := ⟨2, ![256, 1024]⟩
abbrev S1x1024x512 : Shape := ⟨3, ![1, 1024, 512]⟩
abbrev S1024x512 : Shape := ⟨2, ![1024, 512]⟩
abbrev S256x512 : Shape := ⟨2, ![256, 512]⟩
abbrev S256x256 : Shape := ⟨2, ![256, 256]⟩

abbrev nBuf : Space → Nat
  | .hbm => 66
  | .vmem => 4
  | .smem => 0
  | _ => 0

abbrev bufTy : (tb : Table) → Fin (tcTables nBuf tb) → BufTy
  | .hbm, ⟨0, _⟩ => ⟨S64, .i32⟩
  | .hbm, ⟨1, _⟩ => ⟨S64, .i32⟩
  | .hbm, ⟨2, _⟩ => ⟨S1, .i32⟩
  | .hbm, ⟨3, _⟩ => ⟨S163840x512, .i32⟩
  | .hbm, ⟨4, _⟩ => ⟨S64x1024x512, .f32⟩
  | .hbm, ⟨5, _⟩ => ⟨S64x256x1024, .f32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S640, .i32⟩
  | .hbm, ⟨11, _⟩ => ⟨S_, .i32⟩
  | .hbm, ⟨12, _⟩ => ⟨S640, .i32⟩
  | .hbm, ⟨13, _⟩ => ⟨S640, .i32⟩
  | .hbm, ⟨14, _⟩ => ⟨S1x64, .i32⟩
  | .hbm, ⟨15, _⟩ => ⟨S640x1, .i32⟩
  | .hbm, ⟨16, _⟩ => ⟨S640x64, .i32⟩
  | .hbm, ⟨17, _⟩ => ⟨S640x64, .i32⟩
  | .hbm, ⟨18, _⟩ => ⟨S640x64, .i1⟩
  | .hbm, ⟨19, _⟩ => ⟨S_, .i32⟩
  | .hbm, ⟨20, _⟩ => ⟨S_, .i32⟩
  | .hbm, ⟨21, _⟩ => ⟨S640x64, .i32⟩
  | .hbm, ⟨22, _⟩ => ⟨S640x64, .i32⟩
  | .hbm, ⟨23, _⟩ => ⟨S640x64, .i32⟩
  | .hbm, ⟨24, _⟩ => ⟨S640x64, .i32⟩
  | .hbm, ⟨25, _⟩ => ⟨S_, .i32⟩
  | .hbm, ⟨26, _⟩ => ⟨S640, .i32⟩
  | .hbm, ⟨27, _⟩ => ⟨S_, .i32⟩
  | .hbm, ⟨28, _⟩ => ⟨S640, .i32⟩
  | .hbm, ⟨29, _⟩ => ⟨S640, .i32⟩
  | .hbm, ⟨30, _⟩ => ⟨S163840x512x2, .bf16⟩
  | .hbm, ⟨31, _⟩ => ⟨S163840x512x1, .bf16⟩
  | .hbm, ⟨32, _⟩ => ⟨S163840x512, .bf16⟩
  | .hbm, ⟨33, _⟩ => ⟨S163840x512x1, .bf16⟩
  | .hbm, ⟨34, _⟩ => ⟨S163840x512, .bf16⟩
  | .hbm, ⟨35, _⟩ => ⟨S163840x1024, .bf16⟩
  | .hbm, ⟨36, _⟩ => ⟨S640x256x1024, .bf16⟩
  | .hbm, ⟨37, _⟩ => ⟨S64x1024x512, .bf16⟩
  | .hbm, ⟨38, _⟩ => ⟨S_, .i32⟩
  | .hbm, ⟨39, _⟩ => ⟨S640, .i32⟩
  | .hbm, ⟨40, _⟩ => ⟨S640, .i1⟩
  | .hbm, ⟨41, _⟩ => ⟨S_, .i32⟩
  | .hbm, ⟨42, _⟩ => ⟨S640, .i32⟩
  | .hbm, ⟨43, _⟩ => ⟨S640, .i32⟩
  | .hbm, ⟨44, _⟩ => ⟨S640, .i32⟩
  | .hbm, ⟨45, _⟩ => ⟨S640x1, .i32⟩
  | .hbm, ⟨46, _⟩ => ⟨S640x1024x512, .bf16⟩
  | .hbm, ⟨47, _⟩ => ⟨S64x256x1024, .bf16⟩
  | .hbm, ⟨48, _⟩ => ⟨S_, .i32⟩
  | .hbm, ⟨49, _⟩ => ⟨S640, .i32⟩
  | .hbm, ⟨50, _⟩ => ⟨S640, .i1⟩
  | .hbm, ⟨51, _⟩ => ⟨S_, .i32⟩
  | .hbm, ⟨52, _⟩ => ⟨S640, .i32⟩
  | .hbm, ⟨53, _⟩ => ⟨S640, .i32⟩
  | .hbm, ⟨54, _⟩ => ⟨S640, .i32⟩
  | .hbm, ⟨55, _⟩ => ⟨S640x1, .i32⟩
  | .hbm, ⟨56, _⟩ => ⟨S640x256x1024, .bf16⟩
  | .hbm, ⟨57, _⟩ => ⟨S640x256x1024, .f32⟩
  | .hbm, ⟨58, _⟩ => ⟨S163840x1024, .f32⟩
  | .hbm, ⟨59, _⟩ => ⟨S163840x1024, .bf16⟩
  | .hbm, ⟨60, _⟩ => ⟨S163840x512, .bf16⟩
  | .hbm, ⟨61, _⟩ => ⟨S163840x512, .bf16⟩
  | .hbm, ⟨62, _⟩ => ⟨S163840x512x1, .bf16⟩
  | .hbm, ⟨63, _⟩ => ⟨S163840x512x1, .bf16⟩
  | .hbm, ⟨64, _⟩ => ⟨S163840x512x2, .bf16⟩
  | .hbm, ⟨65, _⟩ => ⟨S163840x512, .i32⟩
  | .local _ .vmem, ⟨0, _⟩ => ⟨S640x256x1024, .bf16⟩
  | .local _ .vmem, ⟨1, _⟩ => ⟨S640x1024x512, .bf16⟩
  | .local _ .vmem, ⟨2, _⟩ => ⟨S640x256x1024, .bf16⟩
  | .local _ .vmem, ⟨3, _⟩ => ⟨S640x256x1024, .f32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c640_i32 : BitVec 32 := 640#32
  let v0 : BitVec 32 := Scalar.addi c0_i32 c640_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg4 : BitVec 32 := Scf.iv c0_i32 c1_i32 k0_t1
  let v1 : Index := Scalar.indexCast arg4
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg4 : BitVec 32 := Scf.iv c0_i32 c1_i32 k0_t1
  let v4 : Index := Scalar.indexCast arg4
  let c0_2 : Index := 0#32
  let c0_3 : Index := 0#32
  ![v4.toNat, 0, 0]
abbrev stage0_0 : Fin 1 → Memref sig .tc .vmem S640x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S640x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S640x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S640x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proj.lean ====
abbrev S4x4096x1024 : Shape := ⟨3, ![4, 4096, 1024]⟩
abbrev S4x1x1024 : Shape := ⟨3, ![4, 1, 1024]⟩
abbrev S1024x2576 : Shape := ⟨2, ![1024, 2576]⟩
abbrev S1024x2048 : Shape := ⟨2, ![1024, 2048]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x2688 : Shape := ⟨2, ![1024, 2688]⟩
abbrev S16384x1024 : Shape := ⟨2, ![16384, 1024]⟩
abbrev S16384x2688 : Shape := ⟨2, ![16384, 2688]⟩
abbrev S1024x1024 : Shape := ⟨2, ![1024, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S512x2688 : Shape := ⟨2, ![512, 2688]⟩
abbrev S4x4096x2688 : Shape := ⟨3, ![4, 4096, 2688]⟩
abbrev S4x4096x512 : Shape := ⟨3, ![4, 4096, 512]⟩
abbrev S4x4096x16 : Shape := ⟨3, ![4, 4096, 16]⟩

abbrev nBuf : Space → Nat
  | .hbm => 19
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024x2576, .f32⟩
  | .hbm, ⟨4, _⟩ => ⟨S1024x2048, .f32⟩
  | .hbm, ⟨5, _⟩ => ⟨S1024x512, .f32⟩
  | .hbm, ⟨6, _⟩ => ⟨S1024x16, .f32⟩
  | .hbm, ⟨7, _⟩ => ⟨S_, .f32⟩
  | .hbm, ⟨8, _⟩ => ⟨S1024x112, .f32⟩
  | .hbm, ⟨9, _⟩ => ⟨S1024x2688, .f32⟩
  | .hbm, ⟨10, _⟩ => ⟨S1024x2688, .bf16⟩
  | .hbm, ⟨11, _⟩ => ⟨S16384x1024, .f32⟩
  | .hbm, ⟨12, _⟩ => ⟨S16384x2688, .f32⟩
  | .hbm, ⟨13, _⟩ => ⟨S4x4096x2688, .f32⟩
  | .hbm, ⟨14, _⟩ => ⟨S4x4096x1024, .f32⟩
  | .hbm, ⟨15, _⟩ => ⟨S4x4096x512, .f32⟩
  | .hbm, ⟨16, _⟩ => ⟨S4x4096x512, .f32⟩
  | .hbm, ⟨17, _⟩ => ⟨S4x4096x16, .f32⟩
  | .hbm, ⟨18, _⟩ => ⟨S4x4096x512, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2688, .bf16⟩
  | .local _ .vmem, ⟨7, _⟩ => ⟨S1024x2688, .f32⟩
  | .local _ .vmem, ⟨8, _⟩ => ⟨S1024x2688, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjPlainIdeal.lean ====
abbrev S4x4096x1024 : Shape := ⟨3, ![4, 4096, 1024]⟩
abbrev S4x1x1024 : Shape := ⟨3, ![4, 1, 1024]⟩
abbrev S1024x2576 : Shape := ⟨2, ![1024, 2576]⟩
abbrev S_ : Shape := ⟨0, ![]⟩
abbrev S4x4096 : Shape := ⟨2, ![4, 4096]⟩
abbrev S4x4096x1 : Shape := ⟨3, ![4, 4096, 1]⟩
abbrev S4x4096x2576 : Shape := ⟨3, ![4, 4096, 2576]⟩
abbrev S4x4096x512 : Shape := ⟨3, ![4, 4096, 512]⟩
abbrev S4x4096x16 : Shape := ⟨3, ![4, 4096, 16]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024x2576, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x2576, .f32⟩
  | .hbm, ⟨35, _⟩ => ⟨S4x4096x1024, .f32⟩
  | .hbm, ⟨36, _⟩ => ⟨S4x4096x512, .f32⟩
  | .hbm, ⟨37, _⟩ => ⟨S4x4096x512, .f32⟩
  | .hbm, ⟨38, _⟩ => ⟨S4x4096x16, .f32⟩
  | .hbm, ⟨39, _⟩ => ⟨S4x4096x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Comb.lean ====
abbrev S131072x512 : Shape := ⟨2, ![131072, 512]⟩
abbrev S16384x8 : Shape := ⟨2, ![16384, 8]⟩
abbrev S4x4096x1024 : Shape := ⟨3, ![4, 4096, 1024]⟩
abbrev S16384x512 : Shape := ⟨2, ![16384, 512]⟩
abbrev S4x1x1024 : Shape := ⟨3, ![4, 1, 1024]⟩
abbrev S1024x512 : Shape := ⟨2, ![1024, 512]⟩
abbrev S256x1024 : Shape := ⟨2, ![256, 1024]⟩
abbrev S1024 : Shape := ⟨1, ![1024]⟩
abbrev S16384x1024 : Shape := ⟨2, ![16384, 1024]⟩
abbrev S1x1024 : Shape := ⟨2, ![1, 1024]⟩
abbrev S512x512 : Shape := ⟨2, ![512, 512]⟩
abbrev S512x8 : Shape := ⟨2, ![512, 8]⟩
abbrev S512x1024 : Shape := ⟨2, ![512, 1024]⟩
abbrev S1x1x1024 : Shape := ⟨3, ![1, 1, 1024]⟩
abbrev S512x256 : Shape := ⟨2, ![512, 256]⟩
abbrev S512x1 : Shape := ⟨2, ![512, 1]⟩
abbrev S512 : Shape := ⟨1, ![512]⟩

abbrev nBuf : Space → Nat
  | .hbm => 16
  | .vmem => 30
  | .smem => 0
  | _ => 0

abbrev bufTy : (tb : Table) → Fin (tcTables nBuf tb) → BufTy
  | .hbm, ⟨0, _⟩ => ⟨S131072x512, .i32⟩
  | .hbm, ⟨1, _⟩ => ⟨S16384x8, .f32⟩
  | .hbm, ⟨2, _⟩ => ⟨S4x4096x1024, .f32⟩
  | .hbm, ⟨3, _⟩ => ⟨S16384x512, .i32⟩
  | .hbm, ⟨4, _⟩ => ⟨S4x1x1024, .f32⟩
  | .hbm, ⟨5, _⟩ => ⟨S1024x512, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S16384x1024, .f32⟩
  | .hbm, ⟨10, _⟩ => ⟨S1024x512, .bf16⟩
  | .hbm, ⟨11, _⟩ => ⟨S256x1024, .bf16⟩
  | .hbm, ⟨12, _⟩ => ⟨S1x1024, .f32⟩
  | .hbm, ⟨13, _⟩ => ⟨S1x1024, .f32⟩
  | .hbm, ⟨14, _⟩ => ⟨S16384x1024, .f32⟩
  | .hbm, ⟨15, _⟩ => ⟨S4x4096x1024, .f32⟩
  | .local _ .vmem, ⟨0, _⟩ => ⟨S512x512, .i32⟩
  | .local _ .vmem, ⟨1, _⟩ => ⟨S512x512, .i32⟩
  | .local _ .vmem, ⟨2, _⟩ => ⟨S512x512, .i32⟩
  | .local _ .vmem, ⟨3, _⟩ => ⟨S512x512, .i32⟩
  | .local _ .vmem, ⟨4, _⟩ => ⟨S512x512, .i32⟩
  | .local _ .vmem, ⟨5, _⟩ => ⟨S512x512, .i32⟩
  | .local _ .vmem, ⟨6, _⟩ => ⟨S512x512, .i32⟩
  | .local _ .vmem, ⟨7, _⟩ => ⟨S512x512, .i32⟩
  | .local _ .vmem, ⟨8, _⟩ => ⟨S512x512, .i32⟩
  | .local _ .vmem, ⟨9, _⟩ => ⟨S512x512, .i32⟩
  | .local _ .vmem, ⟨10, _⟩ => ⟨S512x512, .i32⟩
  | .local _ .vmem, ⟨11, _⟩ => ⟨S512x512, .i32⟩
  | .local _ .vmem, ⟨12, _⟩ => ⟨S512x512, .i32⟩
  | .local _ .vmem, ⟨13, _⟩ => ⟨S512x512, .i32⟩
  | .local _ .vmem, ⟨14, _⟩ => ⟨S512x512, .i32⟩
  | .local _ .vmem, ⟨15, _⟩ => ⟨S512x512, .i32⟩
  | .local _ .vmem, ⟨16, _⟩ => ⟨S512x8, .f32⟩
  | .local _ .vmem, ⟨17, _⟩ => ⟨S512x8, .f32⟩
  | .local _ .vmem, ⟨18, _⟩ => ⟨S512x1024, .f32⟩
  | .local _ .vmem, ⟨19, _⟩ => ⟨S512x1024, .f32⟩
  | .local _ .vmem, ⟨20, _⟩ => ⟨S512x512, .i32⟩
  | .local _ .vmem, ⟨21, _⟩ => ⟨S512x512, .i32⟩
  | .local _ .vmem, ⟨22, _⟩ => ⟨S1x1x1024, .f32⟩
  | .local _ .vmem, ⟨23, _⟩ => ⟨S1x1x1024, .f32⟩
  | .local _ .vmem, ⟨24, _⟩ => ⟨S1024x512, .bf16⟩
  | .local _ .vmem, ⟨25, _⟩ => ⟨S256x1024, .bf16⟩
  | .local _ .vmem, ⟨26, _⟩ => ⟨S1x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c160_i32 : BitVec 32 := 160#32
  let v0 : BitVec 32 := Scalar.addi c160_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c224_i32 : BitVec 32 := 224#32
  let v0 : BitVec 32 := Scalar.addi c224_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== CombPlainIdeal.lean ====
abbrev S131072x512 : Shape := ⟨2, ![131072, 512]⟩
abbrev S16384x8 : Shape := ⟨2, ![16384, 8]⟩
abbrev S4x4096x1024 : Shape := ⟨3, ![4, 4096, 1024]⟩
abbrev S16384x512 : Shape := ⟨2, ![16384, 512]⟩
abbrev S4x1x1024 : Shape := ⟨3, ![4, 1, 1024]⟩
abbrev S1024x512 : Shape := ⟨2, ![1024, 512]⟩
abbrev S256x1024 : Shape := ⟨2, ![256, 1024]⟩
abbrev S1024 : Shape := ⟨1, ![1024]⟩
abbrev S16384x512x2 : Shape := ⟨3, ![16384, 512, 2]⟩
abbrev S16384x512x1 : Shape := ⟨3, ![16384, 512, 1]⟩
abbrev S16384x1024 : Shape := ⟨2, ![16384, 1024]⟩
abbrev S131072x512x2 : Shape := ⟨3, ![131072, 512, 2]⟩
abbrev S131072x512x1 : Shape := ⟨3, ![131072, 512, 1]⟩
abbrev S131072x1024 : Shape := ⟨2, ![131072, 1024]⟩
abbrev S8x16384x1024 : Shape := ⟨3, ![8, 16384, 1024]⟩
abbrev S8x16384 : Shape := ⟨2, ![8, 16384]⟩
abbrev S8x16384x1 : Shape := ⟨3, ![8, 16384, 1]⟩
abbrev S_ : Shape := ⟨0, ![]⟩
abbrev S16384x256 : Shape := ⟨2, ![16384, 256]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S16384x8, .f32⟩
  | .hbm, ⟨2, _⟩ => ⟨S4x4096x1024, .f32⟩
  | .hbm, ⟨3, _⟩ => ⟨S16384x512, .i32⟩
  | .hbm, ⟨4, _⟩ => ⟨S4x1x1024, .f32⟩
  | .hbm, ⟨5, _⟩ => ⟨S1024x512, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S16384x512x2, .bf16⟩
  | .hbm, ⟨10, _⟩ => ⟨S16384x512x2, .f32⟩
  | .hbm, ⟨11, _⟩ => ⟨S16384x512x1, .f32⟩
  | .hbm, ⟨12, _⟩ => ⟨S16384x512, .f32⟩
  | .hbm, ⟨13, _⟩ => ⟨S16384x512x1, .f32⟩
  | .hbm, ⟨14, _⟩ => ⟨S16384x512, .f32⟩
  | .hbm, ⟨15, _⟩ => ⟨S16384x1024, .f32⟩
  | .hbm, ⟨16, _⟩ => ⟨S131072x512x2, .bf16⟩
  | .hbm, ⟨17, _⟩ => ⟨S131072x512x2, .f32⟩
  | .hbm, ⟨18, _⟩ => ⟨S131072x512x1, .f32⟩
  | .hbm, ⟨19, _⟩ => ⟨S131072x512, .f32⟩
  | .hbm, ⟨20, _⟩ => ⟨S131072x512x1, .f32⟩
  | .hbm, ⟨21, _⟩ => ⟨S131072x512, .f32⟩
  | .hbm, ⟨22, _⟩ => ⟨S131072x1024, .f32⟩
  | .hbm, ⟨23, _⟩ => ⟨S8x16384x1024, .f32⟩
  | .hbm, ⟨24, _⟩ => ⟨S8x16384, .f32⟩
  | .hbm, ⟨25, _⟩ => ⟨S8x16384x1, .f32⟩
  | .hbm, ⟨26, _⟩ => ⟨S8x16384x1024, .f32⟩
  | .hbm, ⟨27, _⟩ => ⟨S8x16384x1024, .f32⟩
  | .hbm, ⟨28, _⟩ => ⟨S_, .f32⟩
  | .hbm, ⟨29, _⟩ => ⟨S16384x1024, .f32⟩
  | .hbm, ⟨30, _⟩ => ⟨S16384x512, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S_, .f32⟩
  | .hbm, ⟨36, _⟩ => ⟨S16384x256, .f32⟩
  | .hbm, ⟨37, _⟩ => ⟨S16384x256, .f32⟩
  | .hbm, ⟨38, _⟩ => ⟨S_, .f32⟩
  | .hbm, ⟨39, _⟩ => ⟨S16384x256, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S16384x1024, .f32⟩
  | .hbm, ⟨44, _⟩ => ⟨S16384x1024, .f32⟩
  | .hbm, ⟨45, _⟩ => ⟨S4x4096x1024, .f32⟩
  | .hbm, ⟨46, _⟩ => ⟨S_, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S4x4096x1024, .f32⟩
  | .hbm, ⟨68, _⟩ => ⟨S4x4096x1024, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x1, .f32⟩
  | .hbm, ⟨73, _⟩ => ⟨S4x4096x1024, .f32⟩
  | .hbm, ⟨74, _⟩ => ⟨S4x4096x1024, .f32⟩
  | .hbm, ⟨75, _⟩ => ⟨S1x1x1024, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_1 : Ref sig .tc := ⟨.hbm, 52, rfl⟩
abbrev main_v33 : Ref sig .tc := ⟨.hbm, 53, rfl⟩
abbrev main_v34 : Ref sig .tc := ⟨.hbm, 54, rfl⟩
abbrev main_cst_2 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_3 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Mix.lean ====
abbrev S4x4096x1024 : Shape := ⟨3, ![4, 4096, 1024]⟩
abbrev S4x4096x512 : Shape := ⟨3, ![4, 4096, 512]⟩
abbrev S1024x1024 : Shape := ⟨2, ![1024, 1024]⟩
abbrev S4x1x1024 : Shape := ⟨3, ![4, 1, 1024]⟩
abbrev S1024 : Shape := ⟨1, ![1024]⟩
abbrev S1024x64 : Shape := ⟨2, ![1024, 64]⟩
abbrev S_ : Shape := ⟨0, ![]⟩
abbrev S1024x128 : Shape := ⟨2, ![1024, 128]⟩
abbrev S1 : Shape := ⟨1, ![1]⟩
abbrev S16384x1024 : Shape := ⟨2, ![16384, 1024]⟩
abbrev S16384x512 : Shape := ⟨2, ![16384, 512]⟩
abbrev S512x1024 : Shape := ⟨2, ![512, 1024]⟩
abbrev S1x1024 : Shape := ⟨2, ![1, 1024]⟩
abbrev S16384x128 : Shape := ⟨2, ![16384, 128]⟩
abbrev S1024x512 : Shape := ⟨2, ![1024, 512]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S4x4096x128 : Shape := ⟨3, ![4, 4096, 128]⟩
abbrev S4x4096x64 : Shape := ⟨3, ![4, 4096, 64]⟩

abbrev nBuf : Space → Nat
  | .hbm => 30
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .f32⟩
  | .hbm, ⟨3, _⟩ => ⟨S1024x1024, .f32⟩
  | .hbm, ⟨4, _⟩ => ⟨S4x1x1024, .f32⟩
  | .hbm, ⟨5, _⟩ => ⟨S1024, .f32⟩
  | .hbm, ⟨6, _⟩ => ⟨S1024, .f32⟩
  | .hbm, ⟨7, _⟩ => ⟨S4x1x1024, .f32⟩
  | .hbm, ⟨8, _⟩ => ⟨S4x1x1024, .f32⟩
  | .hbm, ⟨9, _⟩ => ⟨S1024x64, .f32⟩
  | .hbm, ⟨10, _⟩ => ⟨S1024x1024, .bf16⟩
  | .hbm, ⟨11, _⟩ => ⟨S_, .f32⟩
  | .hbm, ⟨12, _⟩ => ⟨S1024x128, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S1024x128, .bf16⟩
  | .hbm, ⟨17, _⟩ => ⟨S16384x1024, .f32⟩
  | .hbm, ⟨18, _⟩ => ⟨S16384x512, .bf16⟩
  | .hbm, ⟨19, _⟩ => ⟨S16384x512, .f32⟩
  | .hbm, ⟨20, _⟩ => ⟨S512x1024, .bf16⟩
  | .hbm, ⟨21, _⟩ => ⟨S512x1024, .bf16⟩
  | .hbm, ⟨22, _⟩ => ⟨S1x1024, .f32⟩
  | .hbm, ⟨23, _⟩ => ⟨S1x1024, .f32⟩
  | .hbm, ⟨24, _⟩ => ⟨S16384x1024, .f32⟩
  | .hbm, ⟨25, _⟩ => ⟨S16384x512, .i32⟩
  | .hbm, ⟨26, _⟩ => ⟨S16384x128, .f32⟩
  | .hbm, ⟨27, _⟩ => ⟨S4x4096x1024, .f32⟩
  | .hbm, ⟨28, _⟩ => ⟨S4x4096x128, .f32⟩
  | .hbm, ⟨29, _⟩ => ⟨S4x4096x64, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x128, .bf16⟩
  | .local _ .vmem, ⟨17, _⟩ => ⟨S1024x1024, .f32⟩
  | .local _ .vmem, ⟨18, _⟩ => ⟨S1024x1024, .f32⟩
  | .local _ .vmem, ⟨19, _⟩ => ⟨S1024x512, .i32⟩
  | .local _ .vmem, ⟨20, _⟩ => ⟨S1024x512, .i32⟩
  | .local _ .vmem, ⟨21, _⟩ => ⟨S1024x128, .f32⟩
  | .local _ .vmem, ⟨22, _⟩ => ⟨S1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixIdeal.lean ====
abbrev S4x4096x1024 : Shape := ⟨3, ![4, 4096, 1024]⟩
abbrev S4x4096x512 : Shape := ⟨3, ![4, 4096, 512]⟩
abbrev S1024x1024 : Shape := ⟨2, ![1024, 1024]⟩
abbrev S4x1x1024 : Shape := ⟨3, ![4, 1, 1024]⟩
abbrev S1024 : Shape := ⟨1, ![1024]⟩
abbrev S1024x64 : Shape := ⟨2, ![1024, 64]⟩
abbrev S_ : Shape := ⟨0, ![]⟩
abbrev S1024x128 : Shape := ⟨2, ![1024, 128]⟩
abbrev S1 : Shape := ⟨1, ![1]⟩
abbrev S16384x1024 : Shape := ⟨2, ![16384, 1024]⟩
abbrev S16384x512 : Shape := ⟨2, ![16384, 512]⟩
abbrev S512x1024 : Shape := ⟨2, ![512, 1024]⟩
abbrev S1x1024 : Shape := ⟨2, ![1, 1024]⟩
abbrev S16384x2x512 : Shape := ⟨3, ![16384, 2, 512]⟩
abbrev S16384x128 : Shape := ⟨2, ![16384, 128]⟩
abbrev S16384x1x512 : Shape := ⟨3, ![16384, 1, 512]⟩
abbrev S1024x512 : Shape := ⟨2, ![1024, 512]⟩
abbrev S1x1x1024 : Shape := ⟨3, ![1, 1, 1024]⟩
abbrev S1024x2x512 : Shape := ⟨3, ![1024, 2, 512]⟩
abbrev S1024x1x512 : Shape := ⟨3, ![1024, 1, 512]⟩
abbrev S512x512 : Shape := ⟨2, ![512, 512]⟩
abbrev S512 : Shape := ⟨1, ![512]⟩
abbrev S512x1 : Shape := ⟨2, ![512, 1]⟩
abbrev S512x2x512 : Shape := ⟨3, ![512, 2, 512]⟩
abbrev S512x1x512 : Shape := ⟨3, ![512, 1, 512]⟩
abbrev S512x128 : Shape := ⟨2, ![512, 128]⟩
abbrev S4x4096x128 : Shape := ⟨3, ![4, 4096, 128]⟩
abbrev S4x4096x64 : Shape := ⟨3, ![4, 4096, 64]⟩

abbrev nBuf : Space → Nat
  | .hbm => 30
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .f32⟩
  | .hbm, ⟨3, _⟩ => ⟨S1024x1024, .f32⟩
  | .hbm, ⟨4, _⟩ => ⟨S4x1x1024, .f32⟩
  | .hbm, ⟨5, _⟩ => ⟨S1024, .f32⟩
  | .hbm, ⟨6, _⟩ => ⟨S1024, .f32⟩
  | .hbm, ⟨7, _⟩ => ⟨S4x1x1024, .f32⟩
  | .hbm, ⟨8, _⟩ => ⟨S4x1x1024, .f32⟩
  | .hbm, ⟨9, _⟩ => ⟨S1024x64, .f32⟩
  | .hbm, ⟨10, _⟩ => ⟨S1024x1024, .bf16⟩
  | .hbm, ⟨11, _⟩ => ⟨S_, .f32⟩
  | .hbm, ⟨12, _⟩ => ⟨S1024x128, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S1024x128, .bf16⟩
  | .hbm, ⟨17, _⟩ => ⟨S16384x1024, .f32⟩
  | .hbm, ⟨18, _⟩ => ⟨S16384x512, .bf16⟩
  | .hbm, ⟨19, _⟩ => ⟨S16384x512, .f32⟩
  | .hbm, ⟨20, _⟩ => ⟨S512x1024, .bf16⟩
  | .hbm, ⟨21, _⟩ => ⟨S512x1024, .bf16⟩
  | .hbm, ⟨22, _⟩ => ⟨S1x1024, .f32⟩
  | .hbm, ⟨23, _⟩ => ⟨S1x1024, .f32⟩
  | .hbm, ⟨24, _⟩ => ⟨S16384x1024, .f32⟩
  | .hbm, ⟨25, _⟩ => ⟨S16384x2x512, .bf16⟩
  | .hbm, ⟨26, _⟩ => ⟨S16384x128, .f32⟩
  | .hbm, ⟨27, _⟩ => ⟨S4x4096x1024, .f32⟩
  | .hbm, ⟨28, _⟩ => ⟨S4x4096x128, .f32⟩
  | .hbm, ⟨29, _⟩ => ⟨S4x4096x64, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x128, .bf16⟩
  | .local _ .vmem, ⟨17, _⟩ => ⟨S1024x1024, .f32⟩
  | .local _ .vmem, ⟨18, _⟩ => ⟨S1024x1024, .f32⟩
  | .local _ .vmem, ⟨19, _⟩ => ⟨S1024x2x512, .bf16⟩
  | .local _ .vmem, ⟨20, _⟩ => ⟨S1024x2x512, .bf16⟩
  | .local _ .vmem, ⟨21, _⟩ => ⟨S1024x128, .f32⟩
  | .local _ .vmem, ⟨22, _⟩ => ⟨S1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x2x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixPlainIdeal.lean ====
abbrev S4x4096x1024 : Shape := ⟨3, ![4, 4096, 1024]⟩
abbrev S4x4096x512 : Shape := ⟨3, ![4, 4096, 512]⟩
abbrev S1024x1024 : Shape := ⟨2, ![1024, 1024]⟩
abbrev S4x1x1024 : Shape := ⟨3, ![4, 1, 1024]⟩
abbrev S1024 : Shape := ⟨1, ![1024]⟩
abbrev S1024x64 : Shape := ⟨2, ![1024, 64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x64 : Shape := ⟨3, ![4, 4096, 64]⟩

abbrev nBuf : Space → Nat
  | .hbm => 87
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .f32⟩
  | .hbm, ⟨3, _⟩ => ⟨S1024x1024, .f32⟩
  | .hbm, ⟨4, _⟩ => ⟨S4x1x1024, .f32⟩
  | .hbm, ⟨5, _⟩ => ⟨S1024, .f32⟩
  | .hbm, ⟨6, _⟩ => ⟨S1024, .f32⟩
  | .hbm, ⟨7, _⟩ => ⟨S4x1x1024, .f32⟩
  | .hbm, ⟨8, _⟩ => ⟨S4x1x1024, .f32⟩
  | .hbm, ⟨9, _⟩ => ⟨S1024x64, .f32⟩
  | .hbm, ⟨10, _⟩ => ⟨S4x4096x512, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x1024, .f32⟩
  | .hbm, ⟨41, _⟩ => ⟨S4x4096x1024, .f32⟩
  | .hbm, ⟨42, _⟩ => ⟨S1x1x1024, .f32⟩
  | .hbm, ⟨43, _⟩ => ⟨S4x4096x1024, .f32⟩
  | .hbm, ⟨44, _⟩ => ⟨S4x4096x1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1024, .f32⟩
  | .hbm, ⟨64, _⟩ => ⟨S4x4096x1024, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S4x4096x1, .f32⟩
  | .hbm, ⟨69, _⟩ => ⟨S4x4096x1024, .f32⟩
  | .hbm, ⟨70, _⟩ => ⟨S4x4096x1024, .f32⟩
  | .hbm, ⟨71, _⟩ => ⟨S_, .f32⟩
  | .hbm, ⟨72, _⟩ => ⟨S4x1x1024, .f32⟩
  | .hbm, ⟨73, _⟩ => ⟨S4x1x1024, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S4x4096x1024, .f32⟩
  | .hbm, ⟨78, _⟩ => ⟨S4x4096x64, .f32⟩
  | .hbm, ⟨79, _⟩ => ⟨S4x4096x64, .f32⟩
  | .hbm, ⟨80, _⟩ => ⟨S4x4096x64, .f32⟩
  | .hbm, ⟨81, _⟩ => ⟨S_, .f32⟩
  | .hbm, ⟨82, _⟩ => ⟨S4x4096x64, .f32⟩
  | .hbm, ⟨83, _⟩ => ⟨S4x4096x64, .f32⟩
  | .hbm, ⟨84, _⟩ => ⟨S_, .f32⟩
  | .hbm, ⟨85, _⟩ => ⟨S4x4096x64, .f32⟩
  | .hbm, ⟨86, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Proof.Words.lean ====
/-
  The words the experts' kernel computes its slots, blocks and conditions from, in closed form: with the group's first
  block, its number of blocks and the number of blocks in use small natural numbers, every offset is a natural number
  modulo the ring's depth or times the block's 512 rows, and every condition a comparison of natural numbers.
-/
module

public import proofs.«01_k».proof.Proof.Gen.Kernel.Skeleton
public import Idealize.ShloMosaic.Lib.WordCmp
public import Idealize.ShloMosaic.Lib.Affine

@[expose] public section

namespace Cert.Kernel.Hand

open Cert.Kernel Idealize.ShloMosaic Idealize.ShloMosaic.WordCmp

/-- Adding two small words. -/
theorem w_add (a b : Nat) : Scalar.addi (BitVec.ofNat 32 a) (BitVec.ofNat 32 b) = BitVec.ofNat 32 (a + b) :=
  (BitVec.ofNat_add a b).symm

/-- Multiplying two small words. -/
theorem w_mul (a b : Nat) : Scalar.muli (BitVec.ofNat 32 a) (BitVec.ofNat 32 b) = BitVec.ofNat 32 (a * b) :=
  (BitVec.ofNat_mul a b).symm

/-- Subtracting a word from a larger one. -/
theorem w_sub (a b : Nat) (h : b ≤ a) : Scalar.subi (BitVec.ofNat 32 a) (BitVec.ofNat 32 b) = BitVec.ofNat 32 (a - b) := by
  obtain ⟨d, rfl⟩ := Nat.exists_eq_add_of_le h
  show BitVec.ofNat 32 (b + d) - BitVec.ofNat 32 b = _
  rw [BitVec.ofNat_add, Nat.add_sub_cancel_left, BitVec.add_comm, BitVec.add_sub_cancel]

/-- A small natural number as a word, and back. -/
theorem w_toNat (a : Nat) (h : a < 4294967296) : (BitVec.ofNat 32 a).toNat = a := by
  rw [BitVec.toNat_ofNat, Nat.mod_eq_of_lt h]

/-- The remainder of a small word by a small positive one. -/
theorem w_rem (a b : Nat) (ha : a < 2147483648) (hb : 0 < b) (hb' : b < 2147483648) :
    Scalar.remsi (BitVec.ofNat 32 a) (BitVec.ofNat 32 b) = BitVec.ofNat 32 (a % b) := by
  apply BitVec.eq_of_toNat_eq
  have := Nat.mod_lt a hb
  rw [Scalar.remsi, IntOp.toNat_remsi .scalar (by rw [w_toNat _ (by omega)]; omega) b hb (by omega), w_toNat _ (by omega),
    w_toNat _ (by omega)]

/-- A small word is not below zero. -/
theorem w_slt_zero (a : Nat) (ha : a < 2147483648) : Scalar.cmpi .slt (BitVec.ofNat 32 a) 0#32 = 0#1 :=
  (cmpi_slt_ofNat_eq_zero_iff (w := 32) ha (by decide)).mpr (by omega)

/-- The modulus as printed, guarded against zero: eight. -/
theorem w_mod8 : Scalar.select (Scalar.cmpi .eq 8#32 0#32) 1#32 8#32 = 8#32 := by decide
/-- The modulus as printed, guarded against zero: four. -/
theorem w_mod4 : Scalar.select (Scalar.cmpi .eq 4#32 0#32) 1#32 4#32 = 4#32 := by decide
/-- The modulus as printed, guarded against zero: two. -/
theorem w_mod2 : Scalar.select (Scalar.cmpi .eq 2#32 0#32) 1#32 2#32 = 2#32 := by decide
theorem w_xor0 : Scalar.xori 0#1 0#1 = 0#1 := by decide
theorem w_and0 (x : BitVec 1) : Scalar.andi 0#1 x = 0#1 := by revert x; decide
theorem w_sel0 {α : Type} (x y : α) : Scalar.select 0#1 x y = y := rfl
/-- The induction variable of a loop from zero by one. -/
theorem w_iv (k : Nat) : Scf.iv 0#32 1#32 k = BitVec.ofNat 32 k := by
  simp [Scf.iv]

/-- A printed condition: the comparison's bit, widened and compared with zero. -/
theorem w_bit (x : BitVec 1) : (Scalar.cmpi .ne (Scalar.extui x) 0#32 = 1#1) = (x = 1#1) := by
  revert x; decide
theorem w_slt (a b : Nat) (ha : a < 2147483648) (hb : b < 2147483648) :
    (Scalar.cmpi .slt (BitVec.ofNat 32 a) (BitVec.ofNat 32 b) = 1#1) = (a < b) :=
  propext (cmpi_slt_ofNat_eq_one_iff (w := 32) ha hb)
theorem w_sgt (a b : Nat) (ha : a < 2147483648) (hb : b < 2147483648) :
    (Scalar.cmpi .sgt (BitVec.ofNat 32 a) (BitVec.ofNat 32 b) = 1#1) = (b < a) :=
  propext (cmpi_sgt_ofNat_eq_one_iff (w := 32) ha hb)
theorem w_sge (a b : Nat) (ha : a < 2147483648) (hb : b < 2147483648) :
    (Scalar.cmpi .sge (BitVec.ofNat 32 a) (BitVec.ofNat 32 b) = 1#1) = (b ≤ a) :=
  propext (cmpi_sge_ofNat_eq_one_iff (w := 32) ha hb)
theorem w_eq (a b : Nat) (ha : a < 4294967296) (hb : b < 4294967296) :
    (Scalar.cmpi .eq (BitVec.ofNat 32 a) (BitVec.ofNat 32 b) = 1#1) = (a = b) :=
  propext (cmpi_eq_ofNat_eq_one_iff (w := 32) ha hb)

/-- Half of a small word, rounded down, as the kernel computes it: the number of pairs of blocks. -/
theorem w_half (nb : Nat) (h : nb < 1048576) :
    Scalar.addi 0#32 (Scalar.muli (Scalar.divsi (Scalar.subi (Scalar.select (Scalar.andi (Scalar.cmpi .ne
      (Scalar.subi (Scalar.extui (Scalar.cmpi .sgt (BitVec.ofNat 32 nb) 0#32)) (Scalar.extui (Scalar.cmpi .slt (BitVec.ofNat 32 nb) 0#32)))
      (Scalar.subi (Scalar.extui (Scalar.cmpi .sgt 2#32 0#32)) (Scalar.extui (Scalar.cmpi .slt 2#32 0#32))))
      (Scalar.cmpi .ne (Scalar.remsi (BitVec.ofNat 32 nb) 2#32) 0#32)) (Scalar.subi (Scalar.divsi (BitVec.ofNat 32 nb) 2#32) 1#32)
      (Scalar.divsi (BitVec.ofNat 32 nb) 2#32)) 0#32) 1#32) 1#32) = BitVec.ofNat 32 (nb / 2)
    ∧ Scalar.addi 0#32 (Scalar.subi (Scalar.select (Scalar.andi (Scalar.cmpi .ne
      (Scalar.subi (Scalar.extui (Scalar.cmpi .sgt (BitVec.ofNat 32 nb) 0#32)) (Scalar.extui (Scalar.cmpi .slt (BitVec.ofNat 32 nb) 0#32)))
      (Scalar.subi (Scalar.extui (Scalar.cmpi .sgt 2#32 0#32)) (Scalar.extui (Scalar.cmpi .slt 2#32 0#32))))
      (Scalar.cmpi .ne (Scalar.remsi (BitVec.ofNat 32 nb) 2#32) 0#32)) (Scalar.subi (Scalar.divsi (BitVec.ofNat 32 nb) 2#32) 1#32)
      (Scalar.divsi (BitVec.ofNat 32 nb) 2#32)) 0#32) = BitVec.ofNat 32 (nb / 2) := by
  have hd : ∀ a b : Nat, a < 1048576 → 0 < b → b < 1048576 → Scalar.divsi (BitVec.ofNat 32 a) (BitVec.ofNat 32 b) = BitVec.ofNat 32 (a / b) := by
    intro a b ha hb hb'
    apply BitVec.eq_of_toNat_eq
    have := Nat.div_le_self a b
    have hm : ∀ x : Nat, x < 1048576 → (BitVec.ofNat 32 x).msb = false := fun x hx => by
      rw [BitVec.msb_eq_false_iff_two_mul_lt, w_toNat _ (by omega)]; omega
    have hc : ¬ IntOp.SDivCorner (BitVec.ofNat 32 a) (BitVec.ofNat 32 b) := by
      rintro (h0 | ⟨-, h1⟩)
      · have := congrArg BitVec.toNat h0; rw [w_toNat _ (by omega)] at this; simp at this; omega
      · have := congrArg BitVec.toNat h1; rw [w_toNat _ (by omega)] at this; revert this; simp; omega
    rw [Scalar.divsi, IntOp.divsi, if_neg hc, BitVec.sdiv_eq, hm a ha, hm b hb']
    show (BitVec.ofNat 32 a / BitVec.ofNat 32 b).toNat = _
    rw [BitVec.toNat_udiv, w_toNat _ (by omega), w_toNat _ (by omega), w_toNat _ (by omega)]
  have hz : Scalar.select (Scalar.andi (Scalar.cmpi .ne
      (Scalar.subi (Scalar.extui (Scalar.cmpi .sgt (BitVec.ofNat 32 nb) 0#32)) (Scalar.extui (Scalar.cmpi .slt (BitVec.ofNat 32 nb) 0#32)))
      (Scalar.subi (Scalar.extui (Scalar.cmpi .sgt 2#32 0#32)) (Scalar.extui (Scalar.cmpi .slt 2#32 0#32))))
      (Scalar.cmpi .ne (Scalar.remsi (BitVec.ofNat 32 nb) 2#32) 0#32)) (Scalar.subi (Scalar.divsi (BitVec.ofNat 32 nb) 2#32) 1#32)
      (Scalar.divsi (BitVec.ofNat 32 nb) 2#32) = BitVec.ofNat 32 (nb / 2) := by
    rcases Nat.eq_zero_or_pos nb with rfl | hp
    · decide
    · rw [w_slt_zero _ (by omega), hd _ _ (by omega) (by omega) (by omega),
        show Scalar.cmpi .sgt (BitVec.ofNat 32 nb) 0#32 = 1#1 from (cmpi_sgt_ofNat_eq_one_iff (w := 32) (by omega) (by decide)).mpr hp,
        show Scalar.cmpi .ne (Scalar.subi (Scalar.extui 1#1) (Scalar.extui 0#1))
          (Scalar.subi (Scalar.extui (Scalar.cmpi .sgt 2#32 0#32)) (Scalar.extui (Scalar.cmpi .slt 2#32 0#32))) = 0#1 from by decide,
        w_and0, w_sel0]
  rw [hz]
  refine ⟨?_, ?_⟩
  · rw [w_sub _ _ (by omega), Nat.sub_zero, hd _ _ (by omega) (by omega) (by omega), w_mul, w_add]; simp
  · rw [w_sub _ _ (by omega), w_add]; simp

end Cert.Kernel.Hand

end
-- ==== Proof.Offsets.lean ====
/-
  Every offset, multiple and condition of the experts' kernel in closed form: the slot a block takes (its number modulo
  eight for the rows read, modulo four for the rows written), its first row (512 times its number), and the comparisons
  that guard the transfers.
-/
module

public import proofs.«01_k».proof.Proof.Words

@[expose] public section

namespace Cert.Kernel.Hand

open Cert.Kernel Idealize.ShloMosaic Idealize.ShloMosaic.WordCmp

theorem mult6_eq (p nb : Nat) (t : Fin (k0_t1_loop (BitVec.ofNat 32 nb)).trips) (hp : p < 1048576) (ht : t.val < 1048576) :
    (k0_mult6 (BitVec.ofNat 32 p) (BitVec.ofNat 32 nb) t).toNat = (p + 2 * t.val + 5) * 512 := by
  simp (disch := omega) only [k0_mult6, w_iv, w_mul, w_add, w_mod8, w_mod4, w_sub, w_rem, w_slt_zero, w_xor0, w_and0, w_sel0, w_toNat, Scalar.indexCast]
theorem cond8_iff (n p nb : Nat) (t : Fin (k0_t1_loop (BitVec.ofNat 32 nb)).trips) (hp : p < 1048576) (ht : t.val < 1048576) (hn : n < 1048576) :
    (k0_cond8 (BitVec.ofNat 32 n) (BitVec.ofNat 32 p) (BitVec.ofNat 32 nb) t = 1#1) = (p + 2 * t.val + 5 < n) := by
  simp (disch := omega) only [k0_cond8, w_iv, w_mul, w_add, w_mod8, w_mod4, w_sub, w_rem, w_slt_zero, w_xor0, w_and0, w_sel0, w_toNat, Scalar.indexCast, w_bit, w_slt, w_sge]
theorem off2_eq (p nb : Nat) (t : Fin (k0_t1_loop (BitVec.ofNat 32 nb)).trips) (hp : p < 1048576) (ht : t.val < 1048576) :
    k0_off2 (BitVec.ofNat 32 p) (BitVec.ofNat 32 nb) t = ![(p + 2 * t.val + 5) % 8] := by
  simp (disch := omega) only [k0_off2, w_iv, w_mul, w_add, w_mod8, w_mod4, w_sub, w_rem, w_slt_zero, w_xor0, w_and0, w_sel0, w_toNat, Scalar.indexCast]
theorem off3_eq (p nb : Nat) (t : Fin (k0_t1_loop (BitVec.ofNat 32 nb)).trips) (hp : p < 1048576) (ht : t.val < 1048576) :
    k0_off3 (BitVec.ofNat 32 p) (BitVec.ofNat 32 nb) t = ![(p + 2 * t.val + 5) % 8, 0, 0] := by
  simp (disch := omega) only [k0_off3, w_iv, w_mul, w_add, w_mod8, w_mod4, w_sub, w_rem, w_slt_zero, w_xor0, w_and0, w_sel0, w_toNat, Scalar.indexCast]
theorem off4_eq (p nb : Nat) (t : Fin (k0_t1_loop (BitVec.ofNat 32 nb)).trips) (hp : p < 1048576) (ht : t.val < 1048576) :
    k0_off4 (BitVec.ofNat 32 p) (BitVec.ofNat 32 nb) t = ![(p + 2 * t.val + 5) * 512, 0] := by
  simp (disch := omega) only [k0_off4, w_iv, w_mul, w_add, w_mod8, w_mod4, w_sub, w_rem, w_slt_zero, w_xor0, w_and0, w_sel0, w_toNat, Scalar.indexCast]
theorem mult7_eq (p nb : Nat) (t : Fin (k0_t1_loop (BitVec.ofNat 32 nb)).trips) (hp : p < 1048576) (ht : t.val < 1048576) :
    (k0_mult7 (BitVec.ofNat 32 p) (BitVec.ofNat 32 nb) t).toNat = (p + 2 * t.val) * 512 := by
  simp (disch := omega) only [k0_mult7, w_iv, w_mul, w_add, w_mod8, w_mod4, w_sub, w_rem, w_slt_zero, w_xor0, w_and0, w_sel0, w_toNat, Scalar.indexCast]
theorem off5_eq (p nb : Nat) (t : Fin (k0_t1_loop (BitVec.ofNat 32 nb)).trips) (hp : p < 1048576) (ht : t.val < 1048576) :
    k0_off5 (BitVec.ofNat 32 p) (BitVec.ofNat 32 nb) t = ![(p + 2 * t.val) % 8] := by
  simp (disch := omega) only [k0_off5, w_iv, w_mul, w_add, w_mod8, w_mod4, w_sub, w_rem, w_slt_zero, w_xor0, w_and0, w_sel0, w_toNat, Scalar.indexCast]
theorem off6_eq (p nb : Nat) (t : Fin (k0_t1_loop (BitVec.ofNat 32 nb)).trips) (hp : p < 1048576) (ht : t.val < 1048576) :
    k0_off6 (BitVec.ofNat 32 p) (BitVec.ofNat 32 nb) t = ![(p + 2 * t.val) % 8, 0, 0] := by
  simp (disch := omega) only [k0_off6, w_iv, w_mul, w_add, w_mod8, w_mod4, w_sub, w_rem, w_slt_zero, w_xor0, w_and0, w_sel0, w_toNat, Scalar.indexCast]
theorem off7_eq (p nb : Nat) (t : Fin (k0_t1_loop (BitVec.ofNat 32 nb)).trips) (hp : p < 1048576) (ht : t.val < 1048576) :
    k0_off7 (BitVec.ofNat 32 p) (BitVec.ofNat 32 nb) t = ![(p + 2 * t.val) * 512, 0] := by
  simp (disch := omega) only [k0_off7, w_iv, w_mul, w_add, w_mod8, w_mod4, w_sub, w_rem, w_slt_zero, w_xor0, w_and0, w_sel0, w_toNat, Scalar.indexCast]
theorem mult8_eq (p nb : Nat) (t : Fin (k0_t1_loop (BitVec.ofNat 32 nb)).trips) (hp : p < 1048576) (ht : t.val < 1048576) (hle : 4 ≤ p + 2 * t.val) :
    (k0_mult8 (BitVec.ofNat 32 p) (BitVec.ofNat 32 nb) t).toNat = (p + 2 * t.val - 4) * 512 := by
  simp (disch := omega) only [k0_mult8, w_iv, w_mul, w_add, w_mod8, w_mod4, w_sub, w_rem, w_slt_zero, w_xor0, w_and0, w_sel0, w_toNat, Scalar.indexCast]
theorem cond9_iff (p nb : Nat) (t : Fin (k0_t1_loop (BitVec.ofNat 32 nb)).trips) (hp : p < 1048576) (ht : t.val < 1048576) :
    (k0_cond9 (BitVec.ofNat 32 p) (BitVec.ofNat 32 nb) t = 1#1) = (4 ≤ p + 2 * t.val) := by
  simp (disch := omega) only [k0_cond9, w_iv, w_mul, w_add, w_mod8, w_mod4, w_sub, w_rem, w_slt_zero, w_xor0, w_and0, w_sel0, w_toNat, Scalar.indexCast, w_bit, w_slt, w_sge]
theorem off8_eq (p nb : Nat) (t : Fin (k0_t1_loop (BitVec.ofNat 32 nb)).trips) (hp : p < 1048576) (ht : t.val < 1048576) (hle : 4 ≤ p + 2 * t.val) :
    k0_off8 (BitVec.ofNat 32 p) (BitVec.ofNat 32 nb) t = ![(p + 2 * t.val - 4) % 4] := by
  simp (disch := omega) only [k0_off8, w_iv, w_mul, w_add, w_mod8, w_mod4, w_sub, w_rem, w_slt_zero, w_xor0, w_and0, w_sel0, w_toNat, Scalar.indexCast]
theorem off9_eq (p nb : Nat) (t : Fin (k0_t1_loop (BitVec.ofNat 32 nb)).trips) (hp : p < 1048576) (ht : t.val < 1048576) (hle : 4 ≤ p + 2 * t.val) :
    k0_off9 (BitVec.ofNat 32 p) (BitVec.ofNat 32 nb) t = ![(p + 2 * t.val - 4) * 512, 0] := by
  simp (disch := omega) only [k0_off9, w_iv, w_mul, w_add, w_mod8, w_mod4, w_sub, w_rem, w_slt_zero, w_xor0, w_and0, w_sel0, w_toNat, Scalar.indexCast]
theorem off10_eq (p nb : Nat) (t : Fin (k0_t1_loop (BitVec.ofNat 32 nb)).trips) (hp : p < 1048576) (ht : t.val < 1048576) (hle : 4 ≤ p + 2 * t.val) :
    k0_off10 (BitVec.ofNat 32 p) (BitVec.ofNat 32 nb) t = ![(p + 2 * t.val - 4) % 4, 0, 0] := by
  simp (disch := omega) only [k0_off10, w_iv, w_mul, w_add, w_mod8, w_mod4, w_sub, w_rem, w_slt_zero, w_xor0, w_and0, w_sel0, w_toNat, Scalar.indexCast]
theorem mult9_eq (p nb : Nat) (t : Fin (k0_t1_loop (BitVec.ofNat 32 nb)).trips) (hp : p < 1048576) (ht : t.val < 1048576) :
    (k0_mult9 (BitVec.ofNat 32 p) (BitVec.ofNat 32 nb) t).toNat = (p + 2 * t.val + 1 + 5) * 512 := by
  simp (disch := omega) only [k0_mult9, w_iv, w_mul, w_add, w_mod8, w_mod4, w_sub, w_rem, w_slt_zero, w_xor0, w_and0, w_sel0, w_toNat, Scalar.indexCast]
theorem cond10_iff (n p nb : Nat) (t : Fin (k0_t1_loop (BitVec.ofNat 32 nb)).trips) (hp : p < 1048576) (ht : t.val < 1048576) (hn : n < 1048576) :
    (k0_cond10 (BitVec.ofNat 32 n) (BitVec.ofNat 32 p) (BitVec.ofNat 32 nb) t = 1#1) = (p + 2 * t.val + 1 + 5 < n) := by
  simp (disch := omega) only [k0_cond10, w_iv, w_mul, w_add, w_mod8, w_mod4, w_sub, w_rem, w_slt_zero, w_xor0, w_and0, w_sel0, w_toNat, Scalar.indexCast, w_bit, w_slt, w_sge]
theorem off11_eq (p nb : Nat) (t : Fin (k0_t1_loop (BitVec.ofNat 32 nb)).trips) (hp : p < 1048576) (ht : t.val < 1048576) :
    k0_off11 (BitVec.ofNat 32 p) (BitVec.ofNat 32 nb) t = ![(p + 2 * t.val + 1 + 5) % 8] := by
  simp (disch := omega) only [k0_off11, w_iv, w_mul, w_add, w_mod8, w_mod4, w_sub, w_rem, w_slt_zero, w_xor0, w_and0, w_sel0, w_toNat, Scalar.indexCast]
theorem off12_eq (p nb : Nat) (t : Fin (k0_t1_loop (BitVec.ofNat 32 nb)).trips) (hp : p < 1048576) (ht : t.val < 1048576) :
    k0_off12 (BitVec.ofNat 32 p) (BitVec.ofNat 32 nb) t = ![(p + 2 * t.val + 1 + 5) % 8, 0, 0] := by
  simp (disch := omega) only [k0_off12, w_iv, w_mul, w_add, w_mod8, w_mod4, w_sub, w_rem, w_slt_zero, w_xor0, w_and0, w_sel0, w_toNat, Scalar.indexCast]
theorem off13_eq (p nb : Nat) (t : Fin (k0_t1_loop (BitVec.ofNat 32 nb)).trips) (hp : p < 1048576) (ht : t.val < 1048576) :
    k0_off13 (BitVec.ofNat 32 p) (BitVec.ofNat 32 nb) t = ![(p + 2 * t.val + 1 + 5) * 512, 0] := by
  simp (disch := omega) only [k0_off13, w_iv, w_mul, w_add, w_mod8, w_mod4, w_sub, w_rem, w_slt_zero, w_xor0, w_and0, w_sel0, w_toNat, Scalar.indexCast]
theorem mult10_eq (p nb : Nat) (t : Fin (k0_t1_loop (BitVec.ofNat 32 nb)).trips) (hp : p < 1048576) (ht : t.val < 1048576) :
    (k0_mult10 (BitVec.ofNat 32 p) (BitVec.ofNat 32 nb) t).toNat = (p + 2 * t.val + 1) * 512 := by
  simp (disch := omega) only [k0_mult10, w_iv, w_mul, w_add, w_mod8, w_mod4, w_sub, w_rem, w_slt_zero, w_xor0, w_and0, w_sel0, w_toNat, Scalar.indexCast]
theorem off14_eq (p nb : Nat) (t : Fin (k0_t1_loop (BitVec.ofNat 32 nb)).trips) (hp : p < 1048576) (ht : t.val < 1048576) :
    k0_off14 (BitVec.ofNat 32 p) (BitVec.ofNat 32 nb) t = ![(p + 2 * t.val + 1) % 8] := by
  simp (disch := omega) only [k0_off14, w_iv, w_mul, w_add, w_mod8, w_mod4, w_sub, w_rem, w_slt_zero, w_xor0, w_and0, w_sel0, w_toNat, Scalar.indexCast]
theorem off15_eq (p nb : Nat) (t : Fin (k0_t1_loop (BitVec.ofNat 32 nb)).trips) (hp : p < 1048576) (ht : t.val < 1048576) :
    k0_off15 (BitVec.ofNat 32 p) (BitVec.ofNat 32 nb) t = ![(p + 2 * t.val + 1) % 8, 0, 0] := by
  simp (disch := omega) only [k0_off15, w_iv, w_mul, w_add, w_mod8, w_mod4, w_sub, w_rem, w_slt_zero, w_xor0, w_and0, w_sel0, w_toNat, Scalar.indexCast]
theorem off16_eq (p nb : Nat) (t : Fin (k0_t1_loop (BitVec.ofNat 32 nb)).trips) (hp : p < 1048576) (ht : t.val < 1048576) :
    k0_off16 (BitVec.ofNat 32 p) (BitVec.ofNat 32 nb) t = ![(p + 2 * t.val + 1) * 512, 0] := by
  simp (disch := omega) only [k0_off16, w_iv, w_mul, w_add, w_mod8, w_mod4, w_sub, w_rem, w_slt_zero, w_xor0, w_and0, w_sel0, w_toNat, Scalar.indexCast]
theorem mult11_eq (p nb : Nat) (t : Fin (k0_t1_loop (BitVec.ofNat 32 nb)).trips) (hp : p < 1048576) (ht : t.val < 1048576) (hle : 4 ≤ p + 2 * t.val + 1) :
    (k0_mult11 (BitVec.ofNat 32 p) (BitVec.ofNat 32 nb) t).toNat = (p + 2 * t.val + 1 - 4) * 512 := by
  simp (disch := omega) only [k0_mult11, w_iv, w_mul, w_add, w_mod8, w_mod4, w_sub, w_rem, w_slt_zero, w_xor0, w_and0, w_sel0, w_toNat, Scalar.indexCast]
theorem cond11_iff (p nb : Nat) (t : Fin (k0_t1_loop (BitVec.ofNat 32 nb)).trips) (hp : p < 1048576) (ht : t.val < 1048576) :
    (k0_cond11 (BitVec.ofNat 32 p) (BitVec.ofNat 32 nb) t = 1#1) = (4 ≤ p + 2 * t.val + 1) := by
  simp (disch := omega) only [k0_cond11, w_iv, w_mul, w_add, w_mod8, w_mod4, w_sub, w_rem, w_slt_zero, w_xor0, w_and0, w_sel0, w_toNat, Scalar.indexCast, w_bit, w_slt, w_sge]
theorem off17_eq (p nb : Nat) (t : Fin (k0_t1_loop (BitVec.ofNat 32 nb)).trips) (hp : p < 1048576) (ht : t.val < 1048576) (hle : 4 ≤ p + 2 * t.val + 1) :
    k0_off17 (BitVec.ofNat 32 p) (BitVec.ofNat 32 nb) t = ![(p + 2 * t.val + 1 - 4) % 4] := by
  simp (disch := omega) only [k0_off17, w_iv, w_mul, w_add, w_mod8, w_mod4, w_sub, w_rem, w_slt_zero, w_xor0, w_and0, w_sel0, w_toNat, Scalar.indexCast]
theorem off18_eq (p nb : Nat) (t : Fin (k0_t1_loop (BitVec.ofNat 32 nb)).trips) (hp : p < 1048576) (ht : t.val < 1048576) (hle : 4 ≤ p + 2 * t.val + 1) :
    k0_off18 (BitVec.ofNat 32 p) (BitVec.ofNat 32 nb) t = ![(p + 2 * t.val + 1 - 4) * 512, 0] := by
  simp (disch := omega) only [k0_off18, w_iv, w_mul, w_add, w_mod8, w_mod4, w_sub, w_rem, w_slt_zero, w_xor0, w_and0, w_sel0, w_toNat, Scalar.indexCast]
theorem off19_eq (p nb : Nat) (t : Fin (k0_t1_loop (BitVec.ofNat 32 nb)).trips) (hp : p < 1048576) (ht : t.val < 1048576) (hle : 4 ≤ p + 2 * t.val + 1) :
    k0_off19 (BitVec.ofNat 32 p) (BitVec.ofNat 32 nb) t = ![(p + 2 * t.val + 1 - 4) % 4, 0, 0] := by
  simp (disch := omega) only [k0_off19, w_iv, w_mul, w_add, w_mod8, w_mod4, w_sub, w_rem, w_slt_zero, w_xor0, w_and0, w_sel0, w_toNat, Scalar.indexCast]
theorem off20_eq (p nb : Nat) (t : Fin (k0_t1_loop (BitVec.ofNat 32 nb)).trips) (hp : p < 1048576) (ht : t.val < 1048576) :
    k0_off20 (BitVec.ofNat 32 p) (BitVec.ofNat 32 nb) t = ![(p + 2 * t.val) % 8, 0, 0] := by
  simp (disch := omega) only [k0_off20, w_iv, w_mul, w_add, w_mod8, w_mod4, w_sub, w_rem, w_slt_zero, w_xor0, w_and0, w_sel0, w_toNat, Scalar.indexCast]
theorem off21_eq (p nb : Nat) (t : Fin (k0_t1_loop (BitVec.ofNat 32 nb)).trips) (hp : p < 1048576) (ht : t.val < 1048576) :
    k0_off21 (BitVec.ofNat 32 p) (BitVec.ofNat 32 nb) t = ![(p + 2 * t.val) % 4, 0, 0] := by
  simp (disch := omega) only [k0_off21, w_iv, w_mul, w_add, w_mod8, w_mod4, w_sub, w_rem, w_slt_zero, w_xor0, w_and0, w_sel0, w_toNat, Scalar.indexCast]
theorem off22_eq (p nb : Nat) (t : Fin (k0_t1_loop (BitVec.ofNat 32 nb)).trips) (hp : p < 1048576) (ht : t.val < 1048576) :
    k0_off22 (BitVec.ofNat 32 p) (BitVec.ofNat 32 nb) t = ![(p + 2 * t.val) % 8, 256, 0] := by
  simp (disch := omega) only [k0_off22, w_iv, w_mul, w_add, w_mod8, w_mod4, w_sub, w_rem, w_slt_zero, w_xor0, w_and0, w_sel0, w_toNat, Scalar.indexCast]
theorem off23_eq (p nb : Nat) (t : Fin (k0_t1_loop (BitVec.ofNat 32 nb)).trips) (hp : p < 1048576) (ht : t.val < 1048576) :
    k0_off23 (BitVec.ofNat 32 p) (BitVec.ofNat 32 nb) t = ![(p + 2 * t.val) % 4, 256, 0] := by
  simp (disch := omega) only [k0_off23, w_iv, w_mul, w_add, w_mod8, w_mod4, w_sub, w_rem, w_slt_zero, w_xor0, w_and0, w_sel0, w_toNat, Scalar.indexCast]
theorem off24_eq (p nb : Nat) (t : Fin (k0_t1_loop (BitVec.ofNat 32 nb)).trips) (hp : p < 1048576) (ht : t.val < 1048576) :
    k0_off24 (BitVec.ofNat 32 p) (BitVec.ofNat 32 nb) t = ![(p + 2 * t.val + 1) % 8, 0, 0] := by
  simp (disch := omega) only [k0_off24, w_iv, w_mul, w_add, w_mod8, w_mod4, w_sub, w_rem, w_slt_zero, w_xor0, w_and0, w_sel0, w_toNat, Scalar.indexCast]
theorem off25_eq (p nb : Nat) (t : Fin (k0_t1_loop (BitVec.ofNat 32 nb)).trips) (hp : p < 1048576) (ht : t.val < 1048576) :
    k0_off25 (BitVec.ofNat 32 p) (BitVec.ofNat 32 nb) t = ![(p + 2 * t.val + 1) % 4, 0, 0] := by
  simp (disch := omega) only [k0_off25, w_iv, w_mul, w_add, w_mod8, w_mod4, w_sub, w_rem, w_slt_zero, w_xor0, w_and0, w_sel0, w_toNat, Scalar.indexCast]
theorem off26_eq (p nb : Nat) (t : Fin (k0_t1_loop (BitVec.ofNat 32 nb)).trips) (hp : p < 1048576) (ht : t.val < 1048576) :
    k0_off26 (BitVec.ofNat 32 p) (BitVec.ofNat 32 nb) t = ![(p + 2 * t.val + 1) % 8, 256, 0] := by
  simp (disch := omega) only [k0_off26, w_iv, w_mul, w_add, w_mod8, w_mod4, w_sub, w_rem, w_slt_zero, w_xor0, w_and0, w_sel0, w_toNat, Scalar.indexCast]
theorem off27_eq (p nb : Nat) (t : Fin (k0_t1_loop (BitVec.ofNat 32 nb)).trips) (hp : p < 1048576) (ht : t.val < 1048576) :
    k0_off27 (BitVec.ofNat 32 p) (BitVec.ofNat 32 nb) t = ![(p + 2 * t.val + 1) % 4, 256, 0] := by
  simp (disch := omega) only [k0_off27, w_iv, w_mul, w_add, w_mod8, w_mod4, w_sub, w_rem, w_slt_zero, w_xor0, w_and0, w_sel0, w_toNat, Scalar.indexCast]
theorem mult12_eq (p nb : Nat) (t : Fin (k0_t1_loop (BitVec.ofNat 32 nb)).trips) (hp : p < 1048576) (ht : t.val < 1048576) :
    (k0_mult12 (BitVec.ofNat 32 p) (BitVec.ofNat 32 nb) t).toNat = (p + 2 * t.val) * 512 := by
  simp (disch := omega) only [k0_mult12, w_iv, w_mul, w_add, w_mod8, w_mod4, w_sub, w_rem, w_slt_zero, w_xor0, w_and0, w_sel0, w_toNat, Scalar.indexCast]
theorem off28_eq (p nb : Nat) (t : Fin (k0_t1_loop (BitVec.ofNat 32 nb)).trips) (hp : p < 1048576) (ht : t.val < 1048576) :
    k0_off28 (BitVec.ofNat 32 p) (BitVec.ofNat 32 nb) t = ![(p + 2 * t.val) % 4] := by
  simp (disch := omega) only [k0_off28, w_iv, w_mul, w_add, w_mod8, w_mod4, w_sub, w_rem, w_slt_zero, w_xor0, w_and0, w_sel0, w_toNat, Scalar.indexCast]
theorem off29_eq (p nb : Nat) (t : Fin (k0_t1_loop (BitVec.ofNat 32 nb)).trips) (hp : p < 1048576) (ht : t.val < 1048576) :
    k0_off29 (BitVec.ofNat 32 p) (BitVec.ofNat 32 nb) t = ![(p + 2 * t.val) % 4, 0, 0] := by
  simp (disch := omega) only [k0_off29, w_iv, w_mul, w_add, w_mod8, w_mod4, w_sub, w_rem, w_slt_zero, w_xor0, w_and0, w_sel0, w_toNat, Scalar.indexCast]
theorem mult13_eq (p nb : Nat) (t : Fin (k0_t1_loop (BitVec.ofNat 32 nb)).trips) (hp : p < 1048576) (ht : t.val < 1048576) :
    (k0_mult13 (BitVec.ofNat 32 p) (BitVec.ofNat 32 nb) t).toNat = (p + 2 * t.val + 1) * 512 := by
  simp (disch := omega) only [k0_mult13, w_iv, w_mul, w_add, w_mod8, w_mod4, w_sub, w_rem, w_slt_zero, w_xor0, w_and0, w_sel0, w_toNat, Scalar.indexCast]
theorem off30_eq (p nb : Nat) (t : Fin (k0_t1_loop (BitVec.ofNat 32 nb)).trips) (hp : p < 1048576) (ht : t.val < 1048576) :
    k0_off30 (BitVec.ofNat 32 p) (BitVec.ofNat 32 nb) t = ![(p + 2 * t.val + 1) % 4] := by
  simp (disch := omega) only [k0_off30, w_iv, w_mul, w_add, w_mod8, w_mod4, w_sub, w_rem, w_slt_zero, w_xor0, w_and0, w_sel0, w_toNat, Scalar.indexCast]
theorem off31_eq (p nb : Nat) (t : Fin (k0_t1_loop (BitVec.ofNat 32 nb)).trips) (hp : p < 1048576) (ht : t.val < 1048576) :
    k0_off31 (BitVec.ofNat 32 p) (BitVec.ofNat 32 nb) t = ![(p + 2 * t.val + 1) % 4, 0, 0] := by
  simp (disch := omega) only [k0_off31, w_iv, w_mul, w_add, w_mod8, w_mod4, w_sub, w_rem, w_slt_zero, w_xor0, w_and0, w_sel0, w_toNat, Scalar.indexCast]
theorem mult22_eq (p nb : Nat) (hp : p < 1048576) (hnb : nb < 1048576) (hle : 1 ≤ p + nb) :
    (k0_mult22 (BitVec.ofNat 32 p) (BitVec.ofNat 32 nb)).toNat = (p + nb - 1 + 5) * 512 := by
  simp (disch := omega) only [k0_mult22, w_iv, w_mul, w_add, w_mod8, w_mod4, w_sub, w_rem, w_slt_zero, w_xor0, w_and0, w_sel0, w_toNat, Scalar.indexCast]
theorem cond17_iff (n p nb : Nat) (hp : p < 1048576) (hnb : nb < 1048576) (hn : n < 1048576) (hle : 1 ≤ p + nb) :
    (k0_cond17 (BitVec.ofNat 32 n) (BitVec.ofNat 32 p) (BitVec.ofNat 32 nb) = 1#1) = (p + nb - 1 + 5 < n) := by
  simp (disch := omega) only [k0_cond17, w_iv, w_mul, w_add, w_mod8, w_mod4, w_sub, w_rem, w_slt_zero, w_xor0, w_and0, w_sel0, w_toNat, Scalar.indexCast, w_bit, w_slt, w_sge]
theorem off62_eq (p nb : Nat) (hp : p < 1048576) (hnb : nb < 1048576) (hle : 1 ≤ p + nb) :
    k0_off62 (BitVec.ofNat 32 p) (BitVec.ofNat 32 nb) = ![(p + nb - 1 + 5) % 8] := by
  simp (disch := omega) only [k0_off62, w_iv, w_mul, w_add, w_mod8, w_mod4, w_sub, w_rem, w_slt_zero, w_xor0, w_and0, w_sel0, w_toNat, Scalar.indexCast]
theorem off63_eq (p nb : Nat) (hp : p < 1048576) (hnb : nb < 1048576) (hle : 1 ≤ p + nb) :
    k0_off63 (BitVec.ofNat 32 p) (BitVec.ofNat 32 nb) = ![(p + nb - 1 + 5) % 8, 0, 0] := by
  simp (disch := omega) only [k0_off63, w_iv, w_mul, w_add, w_mod8, w_mod4, w_sub, w_rem, w_slt_zero, w_xor0, w_and0, w_sel0, w_toNat, Scalar.indexCast]
theorem off64_eq (p nb : Nat) (hp : p < 1048576) (hnb : nb < 1048576) (hle : 1 ≤ p + nb) :
    k0_off64 (BitVec.ofNat 32 p) (BitVec.ofNat 32 nb) = ![(p + nb - 1 + 5) * 512, 0] := by
  simp (disch := omega) only [k0_off64, w_iv, w_mul, w_add, w_mod8, w_mod4, w_sub, w_rem, w_slt_zero, w_xor0, w_and0, w_sel0, w_toNat, Scalar.indexCast]
theorem mult23_eq (p nb : Nat) (hp : p < 1048576) (hnb : nb < 1048576) (hle : 1 ≤ p + nb) :
    (k0_mult23 (BitVec.ofNat 32 p) (BitVec.ofNat 32 nb)).toNat = (p + nb - 1) * 512 := by
  simp (disch := omega) only [k0_mult23, w_iv, w_mul, w_add, w_mod8, w_mod4, w_sub, w_rem, w_slt_zero, w_xor0, w_and0, w_sel0, w_toNat, Scalar.indexCast]
theorem off65_eq (p nb : Nat) (hp : p < 1048576) (hnb : nb < 1048576) (hle : 1 ≤ p + nb) :
    k0_off65 (BitVec.ofNat 32 p) (BitVec.ofNat 32 nb) = ![(p + nb - 1) % 8] := by
  simp (disch := omega) only [k0_off65, w_iv, w_mul, w_add, w_mod8, w_mod4, w_sub, w_rem, w_slt_zero, w_xor0, w_and0, w_sel0, w_toNat, Scalar.indexCast]
theorem off66_eq (p nb : Nat) (hp : p < 1048576) (hnb : nb < 1048576) (hle : 1 ≤ p + nb) :
    k0_off66 (BitVec.ofNat 32 p) (BitVec.ofNat 32 nb) = ![(p + nb - 1) % 8, 0, 0] := by
  simp (disch := omega) only [k0_off66, w_iv, w_mul, w_add, w_mod8, w_mod4, w_sub, w_rem, w_slt_zero, w_xor0, w_and0, w_sel0, w_toNat, Scalar.indexCast]
theorem off67_eq (p nb : Nat) (hp : p < 1048576) (hnb : nb < 1048576) (hle : 1 ≤ p + nb) :
    k0_off67 (BitVec.ofNat 32 p) (BitVec.ofNat 32 nb) = ![(p + nb - 1) * 512, 0] := by
  simp (disch := omega) only [k0_off67, w_iv, w_mul, w_add, w_mod8, w_mod4, w_sub, w_rem, w_slt_zero, w_xor0, w_and0, w_sel0, w_toNat, Scalar.indexCast]
theorem mult24_eq (p nb : Nat) (hp : p < 1048576) (hnb : nb < 1048576) (hle : 4 ≤ p + nb - 1) (hle1 : 1 ≤ p + nb) :
    (k0_mult24 (BitVec.ofNat 32 p) (BitVec.ofNat 32 nb)).toNat = (p + nb - 1 - 4) * 512 := by
  simp (disch := omega) only [k0_mult24, w_iv, w_mul, w_add, w_mod8, w_mod4, w_sub, w_rem, w_slt_zero, w_xor0, w_and0, w_sel0, w_toNat, Scalar.indexCast]
theorem cond18_iff (p nb : Nat) (hp : p < 1048576) (hnb : nb < 1048576) (hle : 1 ≤ p + nb) :
    (k0_cond18 (BitVec.ofNat 32 p) (BitVec.ofNat 32 nb) = 1#1) = (4 ≤ p + nb - 1) := by
  simp (disch := omega) only [k0_cond18, w_iv, w_mul, w_add, w_mod8, w_mod4, w_sub, w_rem, w_slt_zero, w_xor0, w_and0, w_sel0, w_toNat, Scalar.indexCast, w_bit, w_slt, w_sge]
theorem off68_eq (p nb : Nat) (hp : p < 1048576) (hnb : nb < 1048576) (hle : 4 ≤ p + nb - 1) (hle1 : 1 ≤ p + nb) :
    k0_off68 (BitVec.ofNat 32 p) (BitVec.ofNat 32 nb) = ![(p + nb - 1 - 4) % 4] := by
  simp (disch := omega) only [k0_off68, w_iv, w_mul, w_add, w_mod8, w_mod4, w_sub, w_rem, w_slt_zero, w_xor0, w_and0, w_sel0, w_toNat, Scalar.indexCast]
theorem off69_eq (p nb : Nat) (hp : p < 1048576) (hnb : nb < 1048576) (hle : 4 ≤ p + nb - 1) (hle1 : 1 ≤ p + nb) :
    k0_off69 (BitVec.ofNat 32 p) (BitVec.ofNat 32 nb) = ![(p + nb - 1 - 4) * 512, 0] := by
  simp (disch := omega) only [k0_off69, w_iv, w_mul, w_add, w_mod8, w_mod4, w_sub, w_rem, w_slt_zero, w_xor0, w_and0, w_sel0, w_toNat, Scalar.indexCast]
theorem off70_eq (p nb : Nat) (hp : p < 1048576) (hnb : nb < 1048576) (hle : 4 ≤ p + nb - 1) (hle1 : 1 ≤ p + nb) :
    k0_off70 (BitVec.ofNat 32 p) (BitVec.ofNat 32 nb) = ![(p + nb - 1 - 4) % 4, 0, 0] := by
  simp (disch := omega) only [k0_off70, w_iv, w_mul, w_add, w_mod8, w_mod4, w_sub, w_rem, w_slt_zero, w_xor0, w_and0, w_sel0, w_toNat, Scalar.indexCast]
theorem off71_eq (p nb : Nat) (hp : p < 1048576) (hnb : nb < 1048576) (hle : 1 ≤ p + nb) :
    k0_off71 (BitVec.ofNat 32 p) (BitVec.ofNat 32 nb) = ![(p + nb - 1) % 8, 0, 0] := by
  simp (disch := omega) only [k0_off71, w_iv, w_mul, w_add, w_mod8, w_mod4, w_sub, w_rem, w_slt_zero, w_xor0, w_and0, w_sel0, w_toNat, Scalar.indexCast]
theorem off72_eq (p nb : Nat) (hp : p < 1048576) (hnb : nb < 1048576) (hle : 1 ≤ p + nb) :
    k0_off72 (BitVec.ofNat 32 p) (BitVec.ofNat 32 nb) = ![(p + nb - 1) % 4, 0, 0] := by
  simp (disch := omega) only [k0_off72, w_iv, w_mul, w_add, w_mod8, w_mod4, w_sub, w_rem, w_slt_zero, w_xor0, w_and0, w_sel0, w_toNat, Scalar.indexCast]
theorem off73_eq (p nb : Nat) (hp : p < 1048576) (hnb : nb < 1048576) (hle : 1 ≤ p + nb) :
    k0_off73 (BitVec.ofNat 32 p) (BitVec.ofNat 32 nb) = ![(p + nb - 1) % 8, 256, 0] := by
  simp (disch := omega) only [k0_off73, w_iv, w_mul, w_add, w_mod8, w_mod4, w_sub, w_rem, w_slt_zero, w_xor0, w_and0, w_sel0, w_toNat, Scalar.indexCast]
theorem off74_eq (p nb : Nat) (hp : p < 1048576) (hnb : nb < 1048576) (hle : 1 ≤ p + nb) :
    k0_off74 (BitVec.ofNat 32 p) (BitVec.ofNat 32 nb) = ![(p + nb - 1) % 4, 256, 0] := by
  simp (disch := omega) only [k0_off74, w_iv, w_mul, w_add, w_mod8, w_mod4, w_sub, w_rem, w_slt_zero, w_xor0, w_and0, w_sel0, w_toNat, Scalar.indexCast]
theorem mult25_eq (p nb : Nat) (hp : p < 1048576) (hnb : nb < 1048576) (hle : 1 ≤ p + nb) :
    (k0_mult25 (BitVec.ofNat 32 p) (BitVec.ofNat 32 nb)).toNat = (p + nb - 1) * 512 := by
  simp (disch := omega) only [k0_mult25, w_iv, w_mul, w_add, w_mod8, w_mod4, w_sub, w_rem, w_slt_zero, w_xor0, w_and0, w_sel0, w_toNat, Scalar.indexCast]
theorem off75_eq (p nb : Nat) (hp : p < 1048576) (hnb : nb < 1048576) (hle : 1 ≤ p + nb) :
    k0_off75 (BitVec.ofNat 32 p) (BitVec.ofNat 32 nb) = ![(p + nb - 1) % 4] := by
  simp (disch := omega) only [k0_off75, w_iv, w_mul, w_add, w_mod8, w_mod4, w_sub, w_rem, w_slt_zero, w_xor0, w_and0, w_sel0, w_toNat, Scalar.indexCast]
theorem off76_eq (p nb : Nat) (hp : p < 1048576) (hnb : nb < 1048576) (hle : 1 ≤ p + nb) :
    k0_off76 (BitVec.ofNat 32 p) (BitVec.ofNat 32 nb) = ![(p + nb - 1) % 4, 0, 0] := by
  simp (disch := omega) only [k0_off76, w_iv, w_mul, w_add, w_mod8, w_mod4, w_sub, w_rem, w_slt_zero, w_xor0, w_and0, w_sel0, w_toNat, Scalar.indexCast]
theorem mult26_eq (n : Nat) (hn : n < 1048576) (hle : 4 ≤ n) :
    (k0_mult26 (BitVec.ofNat 32 n)).toNat = (n - 4) * 512 := by
  simp (disch := omega) only [k0_mult26, w_iv, w_mul, w_add, w_mod8, w_mod4, w_sub, w_rem, w_slt_zero, w_xor0, w_and0, w_sel0, w_toNat, Scalar.indexCast]
theorem cond20_iff (n : Nat) (hn : n < 1048576) :
    (k0_cond20 (BitVec.ofNat 32 n) = 1#1) = (4 ≤ n) := by
  simp (disch := omega) only [k0_cond20, w_iv, w_mul, w_add, w_mod8, w_mod4, w_sub, w_rem, w_slt_zero, w_xor0, w_and0, w_sel0, w_toNat, Scalar.indexCast, w_bit, w_slt, w_sge]
theorem off77_eq (n : Nat) (hn : n < 1048576) (hle : 4 ≤ n) :
    k0_off77 (BitVec.ofNat 32 n) = ![(n - 4) % 4] := by
  simp (disch := omega) only [k0_off77, w_iv, w_mul, w_add, w_mod8, w_mod4, w_sub, w_rem, w_slt_zero, w_xor0, w_and0, w_sel0, w_toNat, Scalar.indexCast]
theorem off78_eq (n : Nat) (hn : n < 1048576) (hle : 4 ≤ n) :
    k0_off78 (BitVec.ofNat 32 n) = ![(n - 4) * 512, 0] := by
  simp (disch := omega) only [k0_off78, w_iv, w_mul, w_add, w_mod8, w_mod4, w_sub, w_rem, w_slt_zero, w_xor0, w_and0, w_sel0, w_toNat, Scalar.indexCast]
theorem off79_eq (n : Nat) (hn : n < 1048576) (hle : 4 ≤ n) :
    k0_off79 (BitVec.ofNat 32 n) = ![(n - 4) % 4, 0, 0] := by
  simp (disch := omega) only [k0_off79, w_iv, w_mul, w_add, w_mod8, w_mod4, w_sub, w_rem, w_slt_zero, w_xor0, w_and0, w_sel0, w_toNat, Scalar.indexCast]
theorem mult27_eq (n : Nat) (hn : n < 1048576) (hle : 3 ≤ n) :
    (k0_mult27 (BitVec.ofNat 32 n)).toNat = (n - 3) * 512 := by
  simp (disch := omega) only [k0_mult27, w_iv, w_mul, w_add, w_mod8, w_mod4, w_sub, w_rem, w_slt_zero, w_xor0, w_and0, w_sel0, w_toNat, Scalar.indexCast]
theorem cond21_iff (n : Nat) (hn : n < 1048576) :
    (k0_cond21 (BitVec.ofNat 32 n) = 1#1) = (3 ≤ n) := by
  simp (disch := omega) only [k0_cond21, w_iv, w_mul, w_add, w_mod8, w_mod4, w_sub, w_rem, w_slt_zero, w_xor0, w_and0, w_sel0, w_toNat, Scalar.indexCast, w_bit, w_slt, w_sge]
theorem off80_eq (n : Nat) (hn : n < 1048576) (hle : 3 ≤ n) :
    k0_off80 (BitVec.ofNat 32 n) = ![(n - 3) % 4] := by
  simp (disch := omega) only [k0_off80, w_iv, w_mul, w_add, w_mod8, w_mod4, w_sub, w_rem, w_slt_zero, w_xor0, w_and0, w_sel0, w_toNat, Scalar.indexCast]
theorem off81_eq (n : Nat) (hn : n < 1048576) (hle : 3 ≤ n) :
    k0_off81 (BitVec.ofNat 32 n) = ![(n - 3) * 512, 0] := by
  simp (disch := omega) only [k0_off81, w_iv, w_mul, w_add, w_mod8, w_mod4, w_sub, w_rem, w_slt_zero, w_xor0, w_and0, w_sel0, w_toNat, Scalar.indexCast]
theorem off82_eq (n : Nat) (hn : n < 1048576) (hle : 3 ≤ n) :
    k0_off82 (BitVec.ofNat 32 n) = ![(n - 3) % 4, 0, 0] := by
  simp (disch := omega) only [k0_off82, w_iv, w_mul, w_add, w_mod8, w_mod4, w_sub, w_rem, w_slt_zero, w_xor0, w_and0, w_sel0, w_toNat, Scalar.indexCast]
theorem mult28_eq (n : Nat) (hn : n < 1048576) (hle : 2 ≤ n) :
    (k0_mult28 (BitVec.ofNat 32 n)).toNat = (n - 2) * 512 := by
  simp (disch := omega) only [k0_mult28, w_iv, w_mul, w_add, w_mod8, w_mod4, w_sub, w_rem, w_slt_zero, w_xor0, w_and0, w_sel0, w_toNat, Scalar.indexCast]
theorem cond22_iff (n : Nat) (hn : n < 1048576) :
    (k0_cond22 (BitVec.ofNat 32 n) = 1#1) = (2 ≤ n) := by
  simp (disch := omega) only [k0_cond22, w_iv, w_mul, w_add, w_mod8, w_mod4, w_sub, w_rem, w_slt_zero, w_xor0, w_and0, w_sel0, w_toNat, Scalar.indexCast, w_bit, w_slt, w_sge]
theorem off83_eq (n : Nat) (hn : n < 1048576) (hle : 2 ≤ n) :
    k0_off83 (BitVec.ofNat 32 n) = ![(n - 2) % 4] := by
  simp (disch := omega) only [k0_off83, w_iv, w_mul, w_add, w_mod8, w_mod4, w_sub, w_rem, w_slt_zero, w_xor0, w_and0, w_sel0, w_toNat, Scalar.indexCast]
theorem off84_eq (n : Nat) (hn : n < 1048576) (hle : 2 ≤ n) :
    k0_off84 (BitVec.ofNat 32 n) = ![(n - 2) * 512, 0] := by
  simp (disch := omega) only [k0_off84, w_iv, w_mul, w_add, w_mod8, w_mod4, w_sub, w_rem, w_slt_zero, w_xor0, w_and0, w_sel0, w_toNat, Scalar.indexCast]
theorem off85_eq (n : Nat) (hn : n < 1048576) (hle : 2 ≤ n) :
    k0_off85 (BitVec.ofNat 32 n) = ![(n - 2) % 4, 0, 0] := by
  simp (disch := omega) only [k0_off85, w_iv, w_mul, w_add, w_mod8, w_mod4, w_sub, w_rem, w_slt_zero, w_xor0, w_and0, w_sel0, w_toNat, Scalar.indexCast]
theorem mult29_eq (n : Nat) (hn : n < 1048576) (hle : 1 ≤ n) :
    (k0_mult29 (BitVec.ofNat 32 n)).toNat = (n - 1) * 512 := by
  simp (disch := omega) only [k0_mult29, w_iv, w_mul, w_add, w_mod8, w_mod4, w_sub, w_rem, w_slt_zero, w_xor0, w_and0, w_sel0, w_toNat, Scalar.indexCast]
theorem cond23_iff (n : Nat) (hn : n < 1048576) :
    (k0_cond23 (BitVec.ofNat 32 n) = 1#1) = (1 ≤ n) := by
  simp (disch := omega) only [k0_cond23, w_iv, w_mul, w_add, w_mod8, w_mod4, w_sub, w_rem, w_slt_zero, w_xor0, w_and0, w_sel0, w_toNat, Scalar.indexCast, w_bit, w_slt, w_sge]
theorem off86_eq (n : Nat) (hn : n < 1048576) (hle : 1 ≤ n) :
    k0_off86 (BitVec.ofNat 32 n) = ![(n - 1) % 4] := by
  simp (disch := omega) only [k0_off86, w_iv, w_mul, w_add, w_mod8, w_mod4, w_sub, w_rem, w_slt_zero, w_xor0, w_and0, w_sel0, w_toNat, Scalar.indexCast]
theorem off87_eq (n : Nat) (hn : n < 1048576) (hle : 1 ≤ n) :
    k0_off87 (BitVec.ofNat 32 n) = ![(n - 1) * 512, 0] := by
  simp (disch := omega) only [k0_off87, w_iv, w_mul, w_add, w_mod8, w_mod4, w_sub, w_rem, w_slt_zero, w_xor0, w_and0, w_sel0, w_toNat, Scalar.indexCast]
theorem off88_eq (n : Nat) (hn : n < 1048576) (hle : 1 ≤ n) :
    k0_off88 (BitVec.ofNat 32 n) = ![(n - 1) % 4, 0, 0] := by
  simp (disch := omega) only [k0_off88, w_iv, w_mul, w_add, w_mod8, w_mod4, w_sub, w_rem, w_slt_zero, w_xor0, w_and0, w_sel0, w_toNat, Scalar.indexCast]

end Cert.Kernel.Hand

end
-- ==== Proof.Checks.lean ====
/-
  What the kernel assumes of the words it loads from its tables, proved from the bound on them: a group of `nb` blocks
  starting at block `p` with `p + nb ≤ n ≤ 320`.
-/
module

public import proofs.«01_k».proof.Proof.Offsets

@[expose] public section

namespace Cert.Kernel.Hand

open Cert.Kernel Idealize.ShloMosaic Idealize.ShloMosaic.WordCmp

theorem in8 (g : Nat) : ∀ a, (![g % 8] : Fin 1 → Nat) a + S1.size a ≤ S8.size a := fun a => by
  match a with | 0 => show g % 8 + 1 ≤ 8; omega
theorem in4 (g : Nat) : ∀ a, (![g % 4] : Fin 1 → Nat) a + S1.size a ≤ S4.size a := fun a => by
  match a with | 0 => show g % 4 + 1 ≤ 4; omega
theorem in8s (g : Nat) : ∀ a, (![g % 8, 0, 0] : Fin 3 → Nat) a + S1x512x512.size a ≤ S8x512x512.size a := fun a => by
  match a with
  | 0 => show g % 8 + 1 ≤ 8; omega
  | 1 => exact Nat.le_refl 512
  | 2 => exact Nat.le_refl 512
theorem in4s (g : Nat) : ∀ a, (![g % 4, 0, 0] : Fin 3 → Nat) a + S1x512x512.size a ≤ S4x512x512.size a := fun a => by
  match a with
  | 0 => show g % 4 + 1 ≤ 4; omega
  | 1 => exact Nat.le_refl 512
  | 2 => exact Nat.le_refl 512
theorem in8h (g b : Nat) (hb : b ≤ 256) : ∀ a, (![g % 8, b, 0] : Fin 3 → Nat) a + S1x256x512.size a ≤ S8x512x512.size a := fun a => by
  match a with
  | 0 => show g % 8 + 1 ≤ 8; omega
  | 1 => show b + 256 ≤ 512; omega
  | 2 => exact Nat.le_refl 512
theorem in4h (g b : Nat) (hb : b ≤ 256) : ∀ a, (![g % 4, b, 0] : Fin 3 → Nat) a + S1x256x512.size a ≤ S4x512x512.size a := fun a => by
  match a with
  | 0 => show g % 4 + 1 ≤ 4; omega
  | 1 => show b + 256 ≤ 512; omega
  | 2 => exact Nat.le_refl 512
theorem inHbm (g : Nat) (hg : g < 320) : ∀ a, (![g * 512, 0] : Fin 2 → Nat) a + S512x512.size a ≤ S163840x512.size a := fun a => by
  match a with
  | 0 => show g * 512 + 512 ≤ 163840; omega
  | 1 => exact Nat.le_refl 512

/-- The loop over pairs of blocks makes half as many trips as there are blocks. -/
theorem t1_eq (nb : Nat) (h : nb < 1048576) : k0_t1_loop (BitVec.ofNat 32 nb) = ⟨0#32, BitVec.ofNat 32 (nb / 2), 1#32⟩ := by
  show (⟨0#32, _, 1#32⟩ : Scf.Loop 32) = _
  exact congrArg (fun x => (⟨0#32, x, 1#32⟩ : Scf.Loop 32)) (w_half nb h).1
theorem t2_eq (nb : Nat) (h : nb < 1048576) :
    k0_t2_loop (BitVec.ofNat 32 nb) = ⟨BitVec.ofNat 32 (nb / 2), BitVec.ofNat 32 (nb / 2), 1#32⟩ := by
  show (⟨_, _, 1#32⟩ : Scf.Loop 32) = _
  exact congrArg₂ (fun x y => (⟨x, y, 1#32⟩ : Scf.Loop 32)) (w_half nb h).1 (w_half nb h).2
theorem w_toInt (a : Nat) (h : a < 1048576) : (BitVec.ofNat 32 a).toInt = (a : Int) := by
  rw [BitVec.toInt_eq_toNat_of_lt (by rw [w_toNat _ (by omega)]; omega), w_toNat _ (by omega)]
theorem t1_trips (nb : Nat) (h : nb < 1048576) : (k0_t1_loop (BitVec.ofNat 32 nb)).trips = nb / 2 := by
  rw [t1_eq nb h]
  show Scf.trips 0#32 (BitVec.ofNat 32 (nb / 2)) 1#32 = nb / 2
  rw [Scf.trips, w_toInt _ (by omega)]
  have h0 : (0#32).toInt = 0 := rfl
  have h1 : (1#32).toInt = 1 := rfl
  rw [h0, h1]; omega
theorem t2_trips (nb : Nat) (h : nb < 1048576) : (k0_t2_loop (BitVec.ofNat 32 nb)).trips = 0 := by
  rw [t2_eq nb h]
  show Scf.trips (BitVec.ofNat 32 (nb / 2)) (BitVec.ofNat 32 (nb / 2)) 1#32 = 0
  rw [Scf.trips, w_toInt _ (by omega)]
  simp
theorem t1lt (nb : Nat) (h : nb < 1048576) (t : Fin (k0_t1_loop (BitVec.ofNat 32 nb)).trips) : 2 * t.val + 1 < nb := by
  have := lt_of_lt_of_eq t.isLt (t1_trips nb h); omega
theorem t2none {P : Prop} (nb : Nat) (h : nb < 1048576) (t : Fin (k0_t2_loop (BitVec.ofNat 32 nb)).trips) : P := by
  exact absurd (lt_of_lt_of_eq t.isLt (t2_trips nb h)) (by omega)
theorem t1ok (nb : Nat) (h : nb < 1048576) : (k0_t1_loop (BitVec.ofNat 32 nb)).OK := by
  have ht := t1_trips nb h
  rw [t1_eq nb h] at ht ⊢
  have hu : (Scf.trips 0#32 (BitVec.ofNat 32 (nb / 2)) 1#32 : Nat) = nb / 2 := ht
  refine ⟨by show (0 : Int) < (1#32).toInt; decide, ?_⟩
  show (0 : Int) + (Scf.trips 0#32 (BitVec.ofNat 32 (nb / 2)) 1#32 : Nat) * 1 < 2147483648
  rw [hu]; omega
theorem t2ok (nb : Nat) (h : nb < 1048576) : (k0_t2_loop (BitVec.ofNat 32 nb)).OK := by
  have ht := t2_trips nb h
  rw [t2_eq nb h] at ht ⊢
  have hu : (Scf.trips (BitVec.ofNat 32 (nb / 2)) (BitVec.ofNat 32 (nb / 2)) 1#32 : Nat) = 0 := ht
  refine ⟨by show (0 : Int) < (1#32).toInt; decide, ?_⟩
  show (BitVec.ofNat 32 (nb / 2)).toInt + (Scf.trips (BitVec.ofNat 32 (nb / 2)) (BitVec.ofNat 32 (nb / 2)) 1#32 : Nat) * 1 < 2147483648
  rw [hu, w_toInt _ (by omega)]; omega

theorem cond1_iff (i : grid0.Coords) : (k0_cond1 i = 1#1) = ((i 0).val = 0) := by
  have : (i 0).val < 64 := (i 0).isLt
  show (Scalar.cmpi .ne (Scalar.extui (Scalar.cmpi .eq (BitVec.ofNat 32 (i 0).val) 0#32)) 0#32 = 1#1) = _
  rw [w_bit, w_eq _ _ (by omega) (by omega)]
theorem cond19_iff (i : grid0.Coords) : (k0_cond19 i = 1#1) = ((i 0).val = 63) := by
  have : (i 0).val < 64 := (i 0).isLt
  show (Scalar.cmpi .ne (Scalar.extui (Scalar.cmpi .eq (BitVec.ofNat 32 (i 0).val) 63#32)) 0#32 = 1#1) = _
  rw [w_bit, w_eq _ _ (by omega) (by omega)]
theorem cond16_iff (nb : Nat) (h : nb < 1048576) : (k0_cond16 (BitVec.ofNat 32 nb) = 1#1) = (nb % 2 = 1) := by
  simp (disch := omega) only [k0_cond16, w_mod2, w_bit, w_rem, w_slt_zero, w_xor0, w_and0, w_sel0]
  rw [w_eq _ _ (by omega) (by omega)]
theorem off1_eq (i : grid0.Coords) : k0_off1 i = ![(i 0).val] := by
  have : (i 0).val < 64 := (i 0).isLt
  simp (disch := omega) only [k0_off1, Scalar.indexCast, w_toNat]

theorem chk1_0 (n p nb : Nat) (hn : n ≤ 320) (hp : p + nb ≤ n) :
    k0_chk1_0 (BitVec.ofNat 32 n) (BitVec.ofNat 32 p) (BitVec.ofNat 32 nb) :=
  ⟨t1ok nb (by omega),
    (by intro t c0; have ht := t1lt nb (by omega) t; rw [cond8_iff n p nb t (by omega) (by omega) (by omega)] at c0; rw [mult6_eq p nb t (by omega) (by omega)]; exact Nat.dvd_mul_left _ _),
    (by intro t c0; have ht := t1lt nb (by omega) t; rw [cond8_iff n p nb t (by omega) (by omega) (by omega)] at c0; rw [off2_eq p nb t (by omega) (by omega)]; exact in8 _),
    (by intro t c0; have ht := t1lt nb (by omega) t; rw [cond8_iff n p nb t (by omega) (by omega) (by omega)] at c0; rw [off3_eq p nb t (by omega) (by omega)]; exact in8s _),
    (by intro t c0; have ht := t1lt nb (by omega) t; rw [cond8_iff n p nb t (by omega) (by omega) (by omega)] at c0; rw [off4_eq p nb t (by omega) (by omega)]; exact inHbm _ (by omega)),
    (by intro t; have ht := t1lt nb (by omega) t; rw [mult7_eq p nb t (by omega) (by omega)]; exact Nat.dvd_mul_left _ _),
    (by intro t; have ht := t1lt nb (by omega) t; rw [off5_eq p nb t (by omega) (by omega)]; exact in8 _),
    (by intro t; have ht := t1lt nb (by omega) t; rw [off6_eq p nb t (by omega) (by omega)]; exact in8s _),
    (by intro t; have ht := t1lt nb (by omega) t; rw [off7_eq p nb t (by omega) (by omega)]; exact inHbm _ (by omega)),
    (by intro t c0; have ht := t1lt nb (by omega) t; rw [cond9_iff p nb t (by omega) (by omega)] at c0; rw [mult8_eq p nb t (by omega) (by omega) (by omega)]; exact Nat.dvd_mul_left _ _),
    (by intro t c0; have ht := t1lt nb (by omega) t; rw [cond9_iff p nb t (by omega) (by omega)] at c0; rw [off8_eq p nb t (by omega) (by omega) (by omega)]; exact in4 _),
    (by intro t c0; have ht := t1lt nb (by omega) t; rw [cond9_iff p nb t (by omega) (by omega)] at c0; rw [off9_eq p nb t (by omega) (by omega) (by omega)]; exact inHbm _ (by omega)),
    (by intro t c0; have ht := t1lt nb (by omega) t; rw [cond9_iff p nb t (by omega) (by omega)] at c0; rw [off10_eq p nb t (by omega) (by omega) (by omega)]; exact in4s _),
    (by intro t c0; have ht := t1lt nb (by omega) t; rw [cond10_iff n p nb t (by omega) (by omega) (by omega)] at c0; rw [mult9_eq p nb t (by omega) (by omega)]; exact Nat.dvd_mul_left _ _),
    (by intro t c0; have ht := t1lt nb (by omega) t; rw [cond10_iff n p nb t (by omega) (by omega) (by omega)] at c0; rw [off11_eq p nb t (by omega) (by omega)]; exact in8 _),
    (by intro t c0; have ht := t1lt nb (by omega) t; rw [cond10_iff n p nb t (by omega) (by omega) (by omega)] at c0; rw [off12_eq p nb t (by omega) (by omega)]; exact in8s _),
    (by intro t c0; have ht := t1lt nb (by omega) t; rw [cond10_iff n p nb t (by omega) (by omega) (by omega)] at c0; rw [off13_eq p nb t (by omega) (by omega)]; exact inHbm _ (by omega)),
    (by intro t; have ht := t1lt nb (by omega) t; rw [mult10_eq p nb t (by omega) (by omega)]; exact Nat.dvd_mul_left _ _),
    (by intro t; have ht := t1lt nb (by omega) t; rw [off14_eq p nb t (by omega) (by omega)]; exact in8 _),
    (by intro t; have ht := t1lt nb (by omega) t; rw [off15_eq p nb t (by omega) (by omega)]; exact in8s _),
    (by intro t; have ht := t1lt nb (by omega) t; rw [off16_eq p nb t (by omega) (by omega)]; exact inHbm _ (by omega)),
    (by intro t c0; have ht := t1lt nb (by omega) t; rw [cond11_iff p nb t (by omega) (by omega)] at c0; rw [mult11_eq p nb t (by omega) (by omega) (by omega)]; exact Nat.dvd_mul_left _ _),
    (by intro t c0; have ht := t1lt nb (by omega) t; rw [cond11_iff p nb t (by omega) (by omega)] at c0; rw [off17_eq p nb t (by omega) (by omega) (by omega)]; exact in4 _),
    (by intro t c0; have ht := t1lt nb (by omega) t; rw [cond11_iff p nb t (by omega) (by omega)] at c0; rw [off18_eq p nb t (by omega) (by omega) (by omega)]; exact inHbm _ (by omega)),
    (by intro t c0; have ht := t1lt nb (by omega) t; rw [cond11_iff p nb t (by omega) (by omega)] at c0; rw [off19_eq p nb t (by omega) (by omega) (by omega)]; exact in4s _),
    (by intro t; have ht := t1lt nb (by omega) t; rw [off20_eq p nb t (by omega) (by omega)]; exact in8h _ _ (by omega)),
    (by intro t; have ht := t1lt nb (by omega) t; rw [off21_eq p nb t (by omega) (by omega)]; exact in4h _ _ (by omega)),
    (by intro t; have ht := t1lt nb (by omega) t; rw [off22_eq p nb t (by omega) (by omega)]; exact in8h _ _ (by omega)),
    (by intro t; have ht := t1lt nb (by omega) t; rw [off23_eq p nb t (by omega) (by omega)]; exact in4h _ _ (by omega)),
    (by intro t; have ht := t1lt nb (by omega) t; rw [off24_eq p nb t (by omega) (by omega)]; exact in8h _ _ (by omega)),
    (by intro t; have ht := t1lt nb (by omega) t; rw [off25_eq p nb t (by omega) (by omega)]; exact in4h _ _ (by omega)),
    (by intro t; have ht := t1lt nb (by omega) t; rw [off26_eq p nb t (by omega) (by omega)]; exact in8h _ _ (by omega))⟩

theorem chk1_1 (n p nb : Nat) (hn : n ≤ 320) (hp : p + nb ≤ n) :
    k0_chk1_1 (BitVec.ofNat 32 n) (BitVec.ofNat 32 p) (BitVec.ofNat 32 nb) :=
  ⟨(by intro t; have ht := t1lt nb (by omega) t; rw [off27_eq p nb t (by omega) (by omega)]; exact in4h _ _ (by omega)),
    (by intro t; have ht := t1lt nb (by omega) t; rw [mult12_eq p nb t (by omega) (by omega)]; exact Nat.dvd_mul_left _ _),
    (by intro t; have ht := t1lt nb (by omega) t; rw [off28_eq p nb t (by omega) (by omega)]; exact in4 _),
    (by intro t; have ht := t1lt nb (by omega) t; rw [off29_eq p nb t (by omega) (by omega)]; exact in4s _),
    (by intro t; have ht := t1lt nb (by omega) t; rw [mult13_eq p nb t (by omega) (by omega)]; exact Nat.dvd_mul_left _ _),
    (by intro t; have ht := t1lt nb (by omega) t; rw [off30_eq p nb t (by omega) (by omega)]; exact in4 _),
    (by intro t; have ht := t1lt nb (by omega) t; rw [off31_eq p nb t (by omega) (by omega)]; exact in4s _),
    t2ok nb (by omega),
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t⟩

theorem chk1_2 (n p nb : Nat) (hn : n ≤ 320) (hp : p + nb ≤ n) :
    k0_chk1_2 (BitVec.ofNat 32 n) (BitVec.ofNat 32 p) (BitVec.ofNat 32 nb) :=
  ⟨fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    fun t => t2none nb (by omega) t,
    (by intro c0 c1; rw [cond16_iff nb (by omega)] at c0; rw [cond17_iff n p nb (by omega) (by omega) (by omega) (by omega)] at c1; rw [mult22_eq p nb (by omega) (by omega) (by omega)]; exact Nat.dvd_mul_left _ _),
    (by intro c0 c1; rw [cond16_iff nb (by omega)] at c0; rw [cond17_iff n p nb (by omega) (by omega) (by omega) (by omega)] at c1; rw [off62_eq p nb (by omega) (by omega) (by omega)]; exact in8 _),
    (by intro c0 c1; rw [cond16_iff nb (by omega)] at c0; rw [cond17_iff n p nb (by omega) (by omega) (by omega) (by omega)] at c1; rw [off63_eq p nb (by omega) (by omega) (by omega)]; exact in8s _),
    (by intro c0 c1; rw [cond16_iff nb (by omega)] at c0; rw [cond17_iff n p nb (by omega) (by omega) (by omega) (by omega)] at c1; rw [off64_eq p nb (by omega) (by omega) (by omega)]; exact inHbm _ (by omega)),
    (by intro c0; rw [cond16_iff nb (by omega)] at c0; rw [mult23_eq p nb (by omega) (by omega) (by omega)]; exact Nat.dvd_mul_left _ _),
    (by intro c0; rw [cond16_iff nb (by omega)] at c0; rw [off65_eq p nb (by omega) (by omega) (by omega)]; exact in8 _),
    (by intro c0; rw [cond16_iff nb (by omega)] at c0; rw [off66_eq p nb (by omega) (by omega) (by omega)]; exact in8s _),
    (by intro c0; rw [cond16_iff nb (by omega)] at c0; rw [off67_eq p nb (by omega) (by omega) (by omega)]; exact inHbm _ (by omega)),
    (by intro c0 c1; rw [cond16_iff nb (by omega)] at c0; rw [cond18_iff p nb (by omega) (by omega) (by omega)] at c1; rw [mult24_eq p nb (by omega) (by omega) (by omega) (by omega)]; exact Nat.dvd_mul_left _ _),
    (by intro c0 c1; rw [cond16_iff nb (by omega)] at c0; rw [cond18_iff p nb (by omega) (by omega) (by omega)] at c1; rw [off68_eq p nb (by omega) (by omega) (by omega) (by omega)]; exact in4 _),
    (by intro c0 c1; rw [cond16_iff nb (by omega)] at c0; rw [cond18_iff p nb (by omega) (by omega) (by omega)] at c1; rw [off69_eq p nb (by omega) (by omega) (by omega) (by omega)]; exact inHbm _ (by omega)),
    (by intro c0 c1; rw [cond16_iff nb (by omega)] at c0; rw [cond18_iff p nb (by omega) (by omega) (by omega)] at c1; rw [off70_eq p nb (by omega) (by omega) (by omega) (by omega)]; exact in4s _),
    (by intro c0; rw [cond16_iff nb (by omega)] at c0; rw [off71_eq p nb (by omega) (by omega) (by omega)]; exact in8h _ _ (by omega)),
    (by intro c0; rw [cond16_iff nb (by omega)] at c0; rw [off72_eq p nb (by omega) (by omega) (by omega)]; exact in4h _ _ (by omega)),
    (by intro c0; rw [cond16_iff nb (by omega)] at c0; rw [off73_eq p nb (by omega) (by omega) (by omega)]; exact in8h _ _ (by omega)),
    (by intro c0; rw [cond16_iff nb (by omega)] at c0; rw [off74_eq p nb (by omega) (by omega) (by omega)]; exact in4h _ _ (by omega)),
    (by intro c0; rw [cond16_iff nb (by omega)] at c0; rw [mult25_eq p nb (by omega) (by omega) (by omega)]; exact Nat.dvd_mul_left _ _),
    (by intro c0; rw [cond16_iff nb (by omega)] at c0; rw [off75_eq p nb (by omega) (by omega) (by omega)]; exact in4 _)⟩

theorem chk1_3 (n p nb : Nat) (hn : n ≤ 320) (hp : p + nb ≤ n) :
    k0_chk1_3 (BitVec.ofNat 32 n) (BitVec.ofNat 32 p) (BitVec.ofNat 32 nb) :=
  (by intro c0; rw [cond16_iff nb (by omega)] at c0; rw [off76_eq p nb (by omega) (by omega) (by omega)]; exact in4s _)

/-- What the kernel assumes of a group's tables holds when the group lies within the blocks in use. -/
theorem chk1 (n p nb : Nat) (hn : n ≤ 320) (hp : p + nb ≤ n) :
    k0_chk1 (BitVec.ofNat 32 n) (BitVec.ofNat 32 p) (BitVec.ofNat 32 nb) :=
  ⟨chk1_0 n p nb hn hp, chk1_1 n p nb hn hp, chk1_2 n p nb hn hp, chk1_3 n p nb hn hp⟩

/-- What the kernel assumes of the number of blocks in use holds when there are at most 320. -/
theorem chk2 (i : grid0.Coords) (n : Nat) (hn : n ≤ 320) : k0_chk2 i (BitVec.ofNat 32 n) :=
  ⟨(by intro c0 c1; rw [cond20_iff n (by omega)] at c1; rw [mult26_eq n (by omega) (by omega)]; exact Nat.dvd_mul_left _ _),
    (by intro c0 c1; rw [cond20_iff n (by omega)] at c1; rw [off77_eq n (by omega) (by omega)]; exact in4 _),
    (by intro c0 c1; rw [cond20_iff n (by omega)] at c1; rw [off78_eq n (by omega) (by omega)]; exact inHbm _ (by omega)),
    (by intro c0 c1; rw [cond20_iff n (by omega)] at c1; rw [off79_eq n (by omega) (by omega)]; exact in4s _),
    (by intro c0 c1; rw [cond21_iff n (by omega)] at c1; rw [mult27_eq n (by omega) (by omega)]; exact Nat.dvd_mul_left _ _),
    (by intro c0 c1; rw [cond21_iff n (by omega)] at c1; rw [off80_eq n (by omega) (by omega)]; exact in4 _),
    (by intro c0 c1; rw [cond21_iff n (by omega)] at c1; rw [off81_eq n (by omega) (by omega)]; exact inHbm _ (by omega)),
    (by intro c0 c1; rw [cond21_iff n (by omega)] at c1; rw [off82_eq n (by omega) (by omega)]; exact in4s _),
    (by intro c0 c1; rw [cond22_iff n (by omega)] at c1; rw [mult28_eq n (by omega) (by omega)]; exact Nat.dvd_mul_left _ _),
    (by intro c0 c1; rw [cond22_iff n (by omega)] at c1; rw [off83_eq n (by omega) (by omega)]; exact in4 _),
    (by intro c0 c1; rw [cond22_iff n (by omega)] at c1; rw [off84_eq n (by omega) (by omega)]; exact inHbm _ (by omega)),
    (by intro c0 c1; rw [cond22_iff n (by omega)] at c1; rw [off85_eq n (by omega) (by omega)]; exact in4s _),
    (by intro c0 c1; rw [cond23_iff n (by omega)] at c1; rw [mult29_eq n (by omega) (by omega)]; exact Nat.dvd_mul_left _ _),
    (by intro c0 c1; rw [cond23_iff n (by omega)] at c1; rw [off86_eq n (by omega) (by omega)]; exact in4 _),
    (by intro c0 c1; rw [cond23_iff n (by omega)] at c1; rw [off87_eq n (by omega) (by omega)]; exact inHbm _ (by omega)),
    (by intro c0 c1; rw [cond23_iff n (by omega)] at c1; rw [off88_eq n (by omega) (by omega)]; exact in4s _)⟩

end Cert.Kernel.Hand

end
-- ==== Proof.Ring.lean ====
/-
  The two transfer rings of the experts' kernel, as assertions. Blocks of 512 rows are numbered; block `g` of the rows
  read goes through slot `g % 8` of one buffer, block `g` of the rows written through slot `g % 4` of another, each slot
  with a semaphore of its own. A slot is free (at any contents), in flight, or full; the lemmas here take one block from
  one state to the next.
-/
module

public import proofs.«01_k».proof.Proof.Checks
public import Idealize.ShloMosaic.Lib.Transfers
public import Idealize.ShloMosaic.Lib.Ring
public import Idealize.ShloMosaic.Lib.Tactic
public import proofs.«01_k».proof.Proof.Gen.Kernel.Launch
public import Idealize.ShloMosaic.Lib.Pipeline.FrameBody
public import Idealize.SL.BI.BigOpNat

@[expose] public section

noncomputable section

namespace Cert.Kernel.Hand

open Cert.Kernel Cert.Kernel.Gen
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-! ## The pieces -/

/-- The semaphore of the slot that block `g` of the rows read goes through. -/
abbrev rsem (a : DmaSems sig S8) (g : ℕ) : DmaSem sig := ((a.slice (Rect.unit (s := S8) ![g % 8] S1.size (in8 g))).squeeze S_ squeezes_S1_S_).sem
/-- The semaphore of the slot that block `g` of the rows written goes through. -/
abbrev wsem (a : DmaSems sig S4) (g : ℕ) : DmaSem sig := ((a.slice (Rect.unit (s := S4) ![g % 4] S1.size (in4 g))).squeeze S_ squeezes_S1_S_).sem
/-- The slot of block `g` of the rows read. -/
abbrev rslot (M : Memref sig .tc .vmem S8x512x512 .i32) (g : ℕ) : Memref sig .tc .vmem S512x512 .i32 :=
  (M.slice (Rect.unit (s := S8x512x512) ![g % 8, 0, 0] S1x512x512.size (in8s g)) (fun _ => rfl)).squeeze S512x512 squeezes_S1x512x512_S512x512
/-- The slot of block `g` of the rows written. -/
abbrev wslot (M : Memref sig .tc .vmem S4x512x512 .i32) (g : ℕ) : Memref sig .tc .vmem S512x512 .i32 :=
  (M.slice (Rect.unit (s := S4x512x512) ![g % 4, 0, 0] S1x512x512.size (in4s g)) (fun _ => rfl)).squeeze S512x512 squeezes_S1x512x512_S512x512
/-- Block `g` of an array of rows. -/
abbrev blk (M : Memref sig .tc .hbm S163840x512 .i32) (g : ℕ) (h : g < 320) : Memref sig .tc .hbm S512x512 .i32 :=
  M.slice (Rect.unit (s := S163840x512) ![g * 512, 0] S512x512.size (inHbm g h)) (fun _ => rfl)

/-- The operands of the two rings. -/
structure Ops (F : FTy → Type) where
  c : Dev nD
  xs : Memref sig .tc .hbm S163840x512 .i32
  y : Memref sig .tc .hbm S163840x512 .i32
  xb : Memref sig .tc .vmem S8x512x512 .i32
  yb : Memref sig .tc .vmem S4x512x512 .i32
  ra : DmaSems sig S8
  wa : DmaSems sig S4
  /-- The rows read. -/
  fx : Buf (Elt F) (xs.view.loc (c : Thread nD τ))
  /-- What the array written held. -/
  y0 : Buf (Elt F) (y.view.loc (c : Thread nD τ))
  /-- What it ends at. -/
  G : Buf (Elt F) (y.view.loc (c : Thread nD τ))
  /-- What block `g` of it ends at. -/
  Y : ℕ → S512x512.Idx → Elt F .i32
  /-- How many blocks are in use. -/
  n : ℕ
  hn : n ≤ 320
  /-- The final contents read `Y` in the blocks in use. -/
  hG : ∀ (g : ℕ) (h : g < 320), g < n → (blk y g h).view.read (Elt F) G = Y g

variable (o : Ops F)

def rowsAt (g : ℕ) : sProp 𝕄 :=
  if h : g < 320 then ((blk o.xs g h).view.loc (o.c : Thread nD τ) ↦[(blk o.xs g h).view.set]{fullShare} o.fx) else iprop(emp)
def oldAt (g : ℕ) : sProp 𝕄 :=
  if h : g < 320 then ((blk o.y g h).view.loc (o.c : Thread nD τ) ↦[(blk o.y g h).view.set]{fullShare} o.y0) else iprop(emp)
def newAt (g : ℕ) : sProp 𝕄 :=
  if h : g < 320 then ((blk o.y g h).view.loc (o.c : Thread nD τ) ↦[(blk o.y g h).view.set]{fullShare} o.G) else iprop(emp)
theorem rowsAt_eq (g : ℕ) (h : g < 320) :
    rowsAt o g = ((blk o.xs g h).view.loc (o.c : Thread nD τ) ↦[(blk o.xs g h).view.set]{fullShare} o.fx) := dif_pos h
theorem oldAt_eq (g : ℕ) (h : g < 320) :
    oldAt o g = ((blk o.y g h).view.loc (o.c : Thread nD τ) ↦[(blk o.y g h).view.set]{fullShare} o.y0) := dif_pos h
theorem newAt_eq (g : ℕ) (h : g < 320) :
    newAt o g = ((blk o.y g h).view.loc (o.c : Thread nD τ) ↦[(blk o.y g h).view.set]{fullShare} o.G) := dif_pos h
abbrev rsv (g : ℕ) : sProp 𝕄 := semVal ((o.c : Thread nD τ), SemLoc.dma (rsem o.ra g)) 0
abbrev wsv (g : ℕ) : sProp 𝕄 := semVal ((o.c : Thread nD τ), SemLoc.dma (wsem o.wa g)) 0
abbrev rpt (g : ℕ) (f : Buf (Elt F) ((rslot o.xb g).view.loc (o.c : Thread nD τ))) : sProp 𝕄 :=
  (rslot o.xb g).view.loc (o.c : Thread nD τ) ↦[(rslot o.xb g).view.set]{fullShare} f
abbrev wpt (g : ℕ) (f : Buf (Elt F) ((wslot o.yb g).view.loc (o.c : Thread nD τ))) : sProp 𝕄 :=
  (wslot o.yb g).view.loc (o.c : Thread nD τ) ↦[(wslot o.yb g).view.set]{fullShare} f
/-- The slot holds block `g` of the rows. -/
abbrev IsRows (g : ℕ) (f : Buf (Elt F) ((rslot o.xb g).view.loc (o.c : Thread nD τ))) : Prop :=
  ∀ h : g < 320, (rslot o.xb g).view.read (Elt F) f = (blk o.xs g h).view.read (Elt F) o.fx
abbrev rfull (g : ℕ) : sProp 𝕄 := iprop(∃ f, ⌜IsRows o g f⌝ ∗ rpt o g f)
abbrev wfull (g : ℕ) : sProp 𝕄 := iprop(∃ f, ⌜(wslot o.yb g).view.read (Elt F) f = o.Y g⌝ ∗ wpt o g f)
/-- A slot free, of either ring. -/
def rfree (g : ℕ) : sProp 𝕄 := iprop(rsv o g ∗ ∃ f, rpt o g f)
def wfree (g : ℕ) : sProp 𝕄 := iprop(wsv o g ∗ ∃ f, wpt o g f)
/-- A slot holding its block, of either ring. -/
def rheld (g : ℕ) : sProp 𝕄 := iprop(rsv o g ∗ rfull o g)
def wdone (g : ℕ) : sProp 𝕄 := iprop(wsv o g ∗ wfull o g)
abbrev amtR (g : ℕ) : ℕ := (rslot o.xb g).view.dmaCredit
abbrev amtW (g : ℕ) (h : g < 320) : ℕ := (blk o.y g h).view.dmaCredit
/-- Block `g` on its way in. -/
def rfly (g : ℕ) : sProp 𝕄 :=
  Flight (countersEmb) (o.c : Thread nD τ) (.dma (rsem o.ra g)) () (amtR o g) iprop(rfull o g ∗ rowsAt o g)
/-- Block `g` on its way out. -/
def wfly (g : ℕ) : sProp 𝕄 :=
  if h : g < 320 then
    Flight (countersEmb) (o.c : Thread nD τ) (.dma (wsem o.wa g)) () (amtW o g h) iprop(newAt o g ∗ ∃ f, wpt o g f)
  else iprop(emp)

/-- The ring of the rows read: blocks `s … a - 1` held, `a … r - 1` in flight, the other slots free; the array's own
    blocks at home but those in flight. -/
def rring (s a r : ℕ) : sProp 𝕄 :=
  iprop(bigSep (Finset.Ico s a) (rheld o) ∗ bigSep (Finset.Ico a r) (rfly o) ∗ bigSep (Finset.Ico r (s + 8)) (rfree o)
    ∗ bigSep (Finset.Ico 0 a) (rowsAt o) ∗ bigSep (Finset.Ico r 320) (rowsAt o))
/-- The ring of the rows written: blocks `w … s - 1` in flight, `s … d - 1` computed, the other slots free; the array's
    blocks final below `w`, not yet written from `s` on. -/
def wring (w s d : ℕ) : sProp 𝕄 :=
  iprop(bigSep (Finset.Ico w s) (wfly o) ∗ bigSep (Finset.Ico s d) (wdone o) ∗ bigSep (Finset.Ico d (w + 4)) (wfree o)
    ∗ bigSep (Finset.Ico 0 w) (newAt o) ∗ bigSep (Finset.Ico s 320) (oldAt o))

theorem rfree_add (g : ℕ) : rfree o (g + 8) = rfree o g := by
  have key : ∀ (m m' : ℕ) (h : m = m') (i1 i1' i2 i2'),
      (iprop(semVal ((o.c : Thread nD τ), SemLoc.dma ((o.ra.slice (Rect.unit (s := S8) ![m] S1.size i1)).squeeze S_ squeezes_S1_S_).sem) 0
        ∗ ∃ f, ((o.xb.slice (Rect.unit (s := S8x512x512) ![m, 0, 0] S1x512x512.size i2) (fun _ => rfl)).squeeze S512x512 squeezes_S1x512x512_S512x512).view.loc (o.c : Thread nD τ)
          ↦[((o.xb.slice (Rect.unit (s := S8x512x512) ![m, 0, 0] S1x512x512.size i2) (fun _ => rfl)).squeeze S512x512 squeezes_S1x512x512_S512x512).view.set]{fullShare} f) : sProp 𝕄)
      = iprop(semVal ((o.c : Thread nD τ), SemLoc.dma ((o.ra.slice (Rect.unit (s := S8) ![m'] S1.size i1')).squeeze S_ squeezes_S1_S_).sem) 0
        ∗ ∃ f, ((o.xb.slice (Rect.unit (s := S8x512x512) ![m', 0, 0] S1x512x512.size i2') (fun _ => rfl)).squeeze S512x512 squeezes_S1x512x512_S512x512).view.loc (o.c : Thread nD τ)
          ↦[((o.xb.slice (Rect.unit (s := S8x512x512) ![m', 0, 0] S1x512x512.size i2') (fun _ => rfl)).squeeze S512x512 squeezes_S1x512x512_S512x512).view.set]{fullShare} f) := by
    intro m m' h i1 i1' i2 i2'; subst h; rfl
  exact key _ _ (Nat.add_mod_right g 8) _ _ _ _
theorem wfree_add (g : ℕ) : wfree o (g + 4) = wfree o g := by
  have key : ∀ (m m' : ℕ) (h : m = m') (i1 i1' i2 i2'),
      (iprop(semVal ((o.c : Thread nD τ), SemLoc.dma ((o.wa.slice (Rect.unit (s := S4) ![m] S1.size i1)).squeeze S_ squeezes_S1_S_).sem) 0
        ∗ ∃ f, ((o.yb.slice (Rect.unit (s := S4x512x512) ![m, 0, 0] S1x512x512.size i2) (fun _ => rfl)).squeeze S512x512 squeezes_S1x512x512_S512x512).view.loc (o.c : Thread nD τ)
          ↦[((o.yb.slice (Rect.unit (s := S4x512x512) ![m, 0, 0] S1x512x512.size i2) (fun _ => rfl)).squeeze S512x512 squeezes_S1x512x512_S512x512).view.set]{fullShare} f) : sProp 𝕄)
      = iprop(semVal ((o.c : Thread nD τ), SemLoc.dma ((o.wa.slice (Rect.unit (s := S4) ![m'] S1.size i1')).squeeze S_ squeezes_S1_S_).sem) 0
        ∗ ∃ f, ((o.yb.slice (Rect.unit (s := S4x512x512) ![m', 0, 0] S1x512x512.size i2') (fun _ => rfl)).squeeze S512x512 squeezes_S1x512x512_S512x512).view.loc (o.c : Thread nD τ)
          ↦[((o.yb.slice (Rect.unit (s := S4x512x512) ![m', 0, 0] S1x512x512.size i2') (fun _ => rfl)).squeeze S512x512 squeezes_S1x512x512_S512x512).view.set]{fullShare} f) := by
    intro m m' h i1 i1' i2 i2'; subst h; rfl
  exact key _ _ (Nat.add_mod_right g 4) _ _ _ _
/-- A run of numbers with its last set apart at the end. -/
theorem run_top {a b : ℕ} (h : a ≤ b) (A : ℕ → sProp 𝕄) :
    bigSep (Finset.Ico a (b + 1)) A = iprop(bigSep (Finset.Ico a b) A ∗ A b) := by
  rw [bigSep_Ico_succ_top h]
  exact Idealize.SL.BI.Entails.antisymm BI.sep_comm BI.sep_comm

/-! ## Steps of the ring of the rows read -/

/-- The next block to start leaves its slot and its home. -/
theorem rring_start (s a r : ℕ) (har : a ≤ r) (hr : r < s + 8) (hr' : r < 320) :
    rring o s a r ⊢ iprop((rfree o r ∗ rowsAt o r) ∗ ((rfly o r) -∗ rring o s a (r + 1))) := by
  unfold rring
  rw [bigSep_Ico_succ_bot hr, bigSep_Ico_succ_bot hr', run_top har]
  iintro ⟨H1, H2, ⟨H3, H4⟩, H5, H6, H7⟩
  isplitl [H3 H6]
  · isplitl [H3]; · iexact H3
    iexact H6
  · iintro H
    isplitl [H1]; · iexact H1
    isplitl [H2 H]
    · isplitl [H2]; · iexact H2
      iexact H
    isplitl [H4]; · iexact H4
    isplitl [H5]; · iexact H5
    iexact H7
/-- The next block to wait for. -/
theorem rring_wait (s a r : ℕ) (hsa : s ≤ a) (har : a < r) :
    rring o s a r ⊢ iprop(rfly o a ∗ ((rheld o a ∗ rowsAt o a) -∗ rring o s (a + 1) r)) := by
  unfold rring
  rw [bigSep_Ico_succ_bot har, run_top hsa, run_top (Nat.zero_le a)]
  iintro ⟨H1, ⟨H2, H3⟩, H4, H5, H6⟩
  isplitl [H2]; · iexact H2
  iintro ⟨H7, H8⟩
  isplitl [H1 H7]
  · isplitl [H1]; · iexact H1
    iexact H7
  isplitl [H3]; · iexact H3
  isplitl [H4]; · iexact H4
  isplitl [H5 H8]
  · isplitl [H5]; · iexact H5
    iexact H8
  iexact H6
/-- The oldest block held is taken out, and its slot given back free. -/
theorem rring_use (s a r : ℕ) (hsa : s < a) (hr : r ≤ s + 8) :
    rring o s a r ⊢ iprop(rheld o s ∗ (rfree o s -∗ rring o (s + 1) a r)) := by
  unfold rring
  rw [bigSep_Ico_succ_bot hsa, show s + 1 + 8 = (s + 8) + 1 from by omega, run_top hr, rfree_add]
  iintro ⟨⟨H1, H2⟩, H3, H4, H5, H6⟩
  isplitl [H1]; · iexact H1
  iintro H7
  isplitl [H2]; · iexact H2
  isplitl [H3]; · iexact H3
  isplitl [H4 H7]
  · isplitl [H4]; · iexact H4
    iexact H7
  isplitl [H5]; · iexact H5
  iexact H6

/-! ## Steps of the ring of the rows written -/

theorem wring_wait (w s d : ℕ) (hws : w < s) (hd : d ≤ w + 4) :
    wring o w s d ⊢ iprop(wfly o w ∗ ((wfree o w ∗ newAt o w) -∗ wring o (w + 1) s d)) := by
  unfold wring
  rw [bigSep_Ico_succ_bot hws, show w + 1 + 4 = (w + 4) + 1 from by omega, run_top hd, wfree_add,
    run_top (Nat.zero_le w)]
  iintro ⟨⟨H1, H2⟩, H3, H4, H5, H6⟩
  isplitl [H1]; · iexact H1
  iintro ⟨H7, H8⟩
  isplitl [H2]; · iexact H2
  isplitl [H3]; · iexact H3
  isplitl [H4 H7]
  · isplitl [H4]; · iexact H4
    iexact H7
  isplitl [H5 H8]
  · isplitl [H5]; · iexact H5
    iexact H8
  iexact H6
theorem wring_use (w s d : ℕ) (hsd : s ≤ d) (hd : d < w + 4) :
    wring o w s d ⊢ iprop(wfree o d ∗ (wdone o d -∗ wring o w s (d + 1))) := by
  unfold wring
  rw [bigSep_Ico_succ_bot hd, run_top hsd]
  iintro ⟨H1, H2, ⟨H3, H4⟩, H5, H6⟩
  isplitl [H3]; · iexact H3
  iintro H7
  isplitl [H1]; · iexact H1
  isplitl [H2 H7]
  · isplitl [H2]; · iexact H2
    iexact H7
  isplitl [H4]; · iexact H4
  isplitl [H5]; · iexact H5
  iexact H6
theorem wring_start (w s d : ℕ) (hws : w ≤ s) (hsd : s < d) (hs : s < 320) :
    wring o w s d ⊢ iprop((wdone o s ∗ oldAt o s) ∗ (wfly o s -∗ wring o w (s + 1) d)) := by
  unfold wring
  rw [bigSep_Ico_succ_bot hsd, bigSep_Ico_succ_bot hs, run_top hws]
  iintro ⟨H1, ⟨H2, H3⟩, H4, H5, H6, H7⟩
  isplitl [H2 H6]
  · isplitl [H2]; · iexact H2
    iexact H6
  iintro H
  isplitl [H1 H]
  · isplitl [H1]; · iexact H1
    iexact H
  isplitl [H3]; · iexact H3
  isplitl [H4]; · iexact H4
  isplitl [H5]; · iexact H5
  iexact H7

/-! ## The transfers' rules -/

variable {Λ : Labels} {defs : Defs nD τ sig (Elt F) Λ} (𝒱 : Variants) (bd : Option 𝒱.V)

theorem amtR_pos (g : ℕ) : 0 < amtR o g :=
  Nat.pos_of_ne_zero fun h => absurd ((View.amount_eq_zero_iff (rslot o.xb g).view (.dma (rsem o.ra g))).mp h) (by decide)
theorem amtW_pos (g : ℕ) (h : g < 320) : 0 < amtW o g h :=
  Nat.pos_of_ne_zero fun h' => absurd ((View.amount_eq_zero_iff (blk o.y g h).view (.dma (wsem o.wa g))).mp h') (by decide)

/-- Starting the copy of block `g` into its slot. -/
theorem wp_start_read {α : Type} {Q : α → sProp 𝕄} (g : ℕ) (hg : g < 320) {o1 : Fin 1 → ℕ} {o2 : Fin 3 → ℕ} {o3 : Fin 2 → ℕ}
    (h1 : o1 = ![g % 8]) (h2 : o2 = ![g % 8, 0, 0]) (h3 : o3 = ![g * 512, 0])
    (i1 : ∀ a, o1 a + S1.size a ≤ S8.size a) (i2 : ∀ a, o2 a + S1x512x512.size a ≤ S8x512x512.size a)
    (i3 : ∀ a, o3 a + S512x512.size a ≤ S163840x512.size a) {hsrc hdst hsem}
    {k : PUnit → Prog (TpuEff nD τ sig (Elt F) Λ .tc) α} :
    iprop((rfree o g ∗ rowsAt o g) ∗ (rfly o g -∗ wp frame (wpE defs 𝒱 (o.c : Thread nD τ) bd) Set.univ (k ⟨⟩) Q))
      ⊢ wp frame (wpE defs 𝒱 (o.c : Thread nD τ) bd) Set.univ
        (.op (.enqueueDma (o.xs.slice (Rect.unit (s := S163840x512) o3 S512x512.size i3) (fun _ => rfl))
          (.here ((o.xb.slice (Rect.unit (s := S8x512x512) o2 S1x512x512.size i2) (fun _ => rfl)).squeeze S512x512 squeezes_S1x512x512_S512x512))
          (.dma ((o.ra.slice (Rect.unit (s := S8) o1 S1.size i1)).squeeze S_ squeezes_S1_S_).sem) hsrc hdst hsem) k) Q := by
  subst h1 h2 h3
  unfold rfree
  rw [rowsAt_eq o g hg]
  iintro ⟨⟨⟨Hv, %f, Hf⟩, Hx⟩, Hk⟩
  iapply (wp_dmaLocal (countersEmb) 𝒱 (o.c : Thread nD τ) bd () (amtR o g) rfl (amtR_pos o g) (Finset.Subset.refl _)) $$ [Hx Hf Hv]
  · isplitl [Hx]; · iexact Hx
    isplitl [Hf]; · iexact Hf
    iexact Hv
  iintro HF
  iapply Hk
  unfold rfly
  iapply (Flight_mono (countersEmb) (o.c : Thread nD τ) ?_) $$ HF
  unfold rfull
  rw [rowsAt_eq o g hg]
  iintro ⟨H1, H2⟩
  isplitl [H1]
  · iexists ((rslot o.xb g).view.write (Elt F) f (ReadAs.same.apply ((blk o.xs g hg).view.read (Elt F) o.fx)) Finset.univ)
    isplitr
    · ipureintro
      intro _
      exact View.read_write_univ _ _
    · iexact H1
  · iexact H2

/-- Waiting for block `g` to be in its slot. -/
theorem wp_wait_read {α : Type} {Q : α → sProp 𝕄} (g : ℕ) {o1 : Fin 1 → ℕ} {o2 : Fin 3 → ℕ} {o3 : Fin 2 → ℕ}
    (h1 : o1 = ![g % 8]) (h2 : o2 = ![g % 8, 0, 0])
    (i1 : ∀ a, o1 a + S1.size a ≤ S8.size a) (i2 : ∀ a, o2 a + S1x512x512.size a ≤ S8x512x512.size a)
    (i3 : ∀ a, o3 a + S512x512.size a ≤ S163840x512.size a) {hsrc hdst}
    {k : PUnit → Prog (TpuEff nD τ sig (Elt F) Λ .tc) α} :
    iprop((rfly o g ∗ ∃ W, owes (o.c : Thread nD τ) 0 W)
        ∗ (((rheld o g ∗ rowsAt o g) ∗ ∃ W, owes (o.c : Thread nD τ) 0 W) -∗ wp frame (wpE defs 𝒱 (o.c : Thread nD τ) bd) Set.univ (k ⟨⟩) Q))
      ⊢ wp frame (wpE defs 𝒱 (o.c : Thread nD τ) bd) Set.univ
        (.op (.waitDma2 ((o.ra.slice (Rect.unit (s := S8) o1 S1.size i1)).squeeze S_ squeezes_S1_S_).sem
          (o.xs.slice (Rect.unit (s := S163840x512) o3 S512x512.size i3) (fun _ => rfl))
          ((o.xb.slice (Rect.unit (s := S8x512x512) o2 S1x512x512.size i2) (fun _ => rfl)).squeeze S512x512 squeezes_S1x512x512_S512x512)
          hsrc hdst) k) Q := by
  subst h1 h2
  unfold rfly rheld
  iintro ⟨⟨HF, %W, HO⟩, Hk⟩
  iapply (wp_waitLocal (countersEmb) 𝒱 (o.c : Thread nD τ) bd () rfl) $$ [HF HO]
  · isplitl [HF]; · iexact HF
    iexact HO
  iintro ⟨⟨H1, H2⟩, Hv, HO⟩
  iapply Hk
  isplitl [H1 H2 Hv]
  · isplitl [H1 Hv]
    · isplitl [Hv]; · iexact Hv
      iexact H1
    iexact H2
  iexists _
  iexact HO

/-- Starting the copy of block `g` out of its slot. -/
theorem wp_start_write {α : Type} {Q : α → sProp 𝕄} (g : ℕ) (hg : g < 320) (hgn : g < o.n) {o1 : Fin 1 → ℕ} {o2 : Fin 3 → ℕ} {o3 : Fin 2 → ℕ}
    (h1 : o1 = ![g % 4]) (h2 : o2 = ![g % 4, 0, 0]) (h3 : o3 = ![g * 512, 0])
    (i1 : ∀ a, o1 a + S1.size a ≤ S4.size a) (i2 : ∀ a, o2 a + S1x512x512.size a ≤ S4x512x512.size a)
    (i3 : ∀ a, o3 a + S512x512.size a ≤ S163840x512.size a) {hsrc hdst hsem}
    {k : PUnit → Prog (TpuEff nD τ sig (Elt F) Λ .tc) α} :
    iprop((wdone o g ∗ oldAt o g) ∗ (wfly o g -∗ wp frame (wpE defs 𝒱 (o.c : Thread nD τ) bd) Set.univ (k ⟨⟩) Q))
      ⊢ wp frame (wpE defs 𝒱 (o.c : Thread nD τ) bd) Set.univ
        (.op (.enqueueDma ((o.yb.slice (Rect.unit (s := S4x512x512) o2 S1x512x512.size i2) (fun _ => rfl)).squeeze S512x512 squeezes_S1x512x512_S512x512)
          (.here (o.y.slice (Rect.unit (s := S163840x512) o3 S512x512.size i3) (fun _ => rfl)))
          (.dma ((o.wa.slice (Rect.unit (s := S4) o1 S1.size i1)).squeeze S_ squeezes_S1_S_).sem) hsrc hdst hsem) k) Q := by
  subst h1 h2 h3
  unfold wdone wfly
  rw [oldAt_eq o g hg, dif_pos hg]
  iintro ⟨⟨⟨Hv, %f, %hf, Hf⟩, Hy⟩, Hk⟩
  iapply (wp_dmaLocal (countersEmb) 𝒱 (o.c : Thread nD τ) bd () (amtW o g hg) rfl (amtW_pos o g hg) (Finset.Subset.refl _)) $$ [Hf Hy Hv]
  · isplitl [Hf]; · iexact Hf
    isplitl [Hy]; · iexact Hy
    iexact Hv
  iintro HF
  iapply Hk
  iapply (Flight_mono (countersEmb) (o.c : Thread nD τ) ?_) $$ HF
  rw [newAt_eq o g hg, show ((blk o.y g hg).view.loc (o.c : Thread nD τ) ↦[(blk o.y g hg).view.set]{fullShare} o.G : sProp 𝕄)
      = ((blk o.y g hg).view.loc (o.c : Thread nD τ) ↦[(blk o.y g hg).view.set]{fullShare}
          ((blk o.y g hg).view.write (Elt F) o.y0 (ReadAs.same.apply ((wslot o.yb g).view.read (Elt F) f)) Finset.univ)) from
      pointsTo_congr fun i hi => by
        show o.G i = (blk o.y g hg).view.write (Elt F) o.y0 ((wslot o.yb g).view.read (Elt F) f) Finset.univ i
        rw [hf, ← o.hG g hg hgn, View.write_read_eq_piecewise]
        exact (Finset.piecewise_eq_of_mem _ _ _ hi).symm]
  iintro ⟨H1, H2⟩
  isplitl [H1]; · iexact H1
  iexists _
  iexact H2

/-- Waiting for block `g` to have left its slot. -/
theorem wp_wait_write {α : Type} {Q : α → sProp 𝕄} (g : ℕ) (hg : g < 320) {o1 : Fin 1 → ℕ} {o2 : Fin 3 → ℕ} {o3 : Fin 2 → ℕ}
    (h1 : o1 = ![g % 4]) (h3 : o3 = ![g * 512, 0])
    (i1 : ∀ a, o1 a + S1.size a ≤ S4.size a) (i2 : ∀ a, o2 a + S1x512x512.size a ≤ S4x512x512.size a)
    (i3 : ∀ a, o3 a + S512x512.size a ≤ S163840x512.size a) {hsrc hdst}
    {k : PUnit → Prog (TpuEff nD τ sig (Elt F) Λ .tc) α} :
    iprop((wfly o g ∗ ∃ W, owes (o.c : Thread nD τ) 0 W)
        ∗ (((wfree o g ∗ newAt o g) ∗ ∃ W, owes (o.c : Thread nD τ) 0 W) -∗ wp frame (wpE defs 𝒱 (o.c : Thread nD τ) bd) Set.univ (k ⟨⟩) Q))
      ⊢ wp frame (wpE defs 𝒱 (o.c : Thread nD τ) bd) Set.univ
        (.op (.waitDma2 ((o.wa.slice (Rect.unit (s := S4) o1 S1.size i1)).squeeze S_ squeezes_S1_S_).sem
          ((o.yb.slice (Rect.unit (s := S4x512x512) o2 S1x512x512.size i2) (fun _ => rfl)).squeeze S512x512 squeezes_S1x512x512_S512x512)
          (o.y.slice (Rect.unit (s := S163840x512) o3 S512x512.size i3) (fun _ => rfl))
          hsrc hdst) k) Q := by
  subst h1 h3
  unfold wfly wfree
  rw [dif_pos hg]
  iintro ⟨⟨HF, %W, HO⟩, Hk⟩
  iapply (wp_waitLocal (countersEmb) 𝒱 (o.c : Thread nD τ) bd () rfl) $$ [HF HO]
  · isplitl [HF]; · iexact HF
    iexact HO
  iintro ⟨⟨H1, H2⟩, Hv, HO⟩
  iapply Hk
  isplitl [H1 H2 Hv]
  · isplitl [H2 Hv]
    · isplitl [Hv]; · iexact Hv
      iexact H2
    iexact H1
  iexists _
  iexact HO

end Cert.Kernel.Hand

end

end
-- ==== Proof.Steps.lean ====
/-
  One step of the experts' kernel at a time: loads and stores of the two halves of a slot, loads of the scratch weights, and
  the transfers that a comparison guards, each taking the rings of Ring.lean from one state to the next.
-/
module

public import proofs.«01_k».proof.Proof.Ring
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-! ## Halves of a block -/

/-- The 256 rows of a block from row `b` on, as a load reads them. -/
def halfOf {α : Type} (b : ℕ) (hb : b ≤ 256) (X : S512x512.Idx → α) : S1x256x512.Idx → α := fun x =>
  X (fun a => match a with
    | ⟨0, _⟩ => ⟨b + (x 1).val, by have h : (x 1).val < 256 := (x 1).isLt; show b + (x 1).val < 512; omega⟩
    | ⟨1, _⟩ => ⟨(x 2).val, (x 2).isLt⟩)

/-- The block whose first 256 rows are `p` and whose last are `q`. -/
def glue {α : Type} (p q : S1x256x512.Idx → α) : S512x512.Idx → α := fun i =>
  if h : (i 0).val < 256 then
    p (fun a => match a with | ⟨0, _⟩ => ⟨0, Nat.one_pos⟩ | ⟨1, _⟩ => ⟨(i 0).val, h⟩ | ⟨2, _⟩ => ⟨(i 1).val, (i 1).isLt⟩)
  else
    q (fun a => match a with
      | ⟨0, _⟩ => ⟨0, Nat.one_pos⟩
      | ⟨1, _⟩ => ⟨(i 0).val - 256, by have h' : (i 0).val < 512 := (i 0).isLt; show (i 0).val - 256 < 256; omega⟩
      | ⟨2, _⟩ => ⟨(i 1).val, (i 1).isLt⟩)

section
variable {Val : EltTy → Type}

theorem rslot_read (M : Memref sig .tc .vmem S8x512x512 .i32) (g : ℕ) (f : M.view.ty.Contents Val) (j : S512x512.Idx) :
    (rslot M g).view.read Val f j
      = M.view.read Val f ((Rect.unit (s := S8x512x512) ![g % 8, 0, 0] S1x512x512.size (in8s g)).toLoadRect.idx (Fin.cons ⟨0, Nat.one_pos⟩ j)) :=
  shapeCast_dropUnit_apply ![512, 512]
    (M.view.readAt Val (Rect.unit (s := S8x512x512) ![g % 8, 0, 0] S1x512x512.size (in8s g)).toLoadRect f) (by decide) j
theorem wslot_read (M : Memref sig .tc .vmem S4x512x512 .i32) (g : ℕ) (f : M.view.ty.Contents Val) (j : S512x512.Idx) :
    (wslot M g).view.read Val f j
      = M.view.read Val f ((Rect.unit (s := S4x512x512) ![g % 4, 0, 0] S1x512x512.size (in4s g)).toLoadRect.idx (Fin.cons ⟨0, Nat.one_pos⟩ j)) :=
  shapeCast_dropUnit_apply ![512, 512]
    (M.view.readAt Val (Rect.unit (s := S4x512x512) ![g % 4, 0, 0] S1x512x512.size (in4s g)).toLoadRect f) (by decide) j

/-- A load of half a slot reads that half of the block it holds. -/
theorem half_read (M : Memref sig .tc .vmem S8x512x512 .i32) (g b : ℕ) (hb : b ≤ 256) (f : M.view.ty.Contents Val) (X : S512x512.Idx → Val .i32)
    (hX : (rslot M g).view.read Val f = X) :
    M.view.readAt Val (Rect.unit (s := S8x512x512) ![g % 8, b, 0] S1x256x512.size (in8h g b hb)).toLoadRect f = halfOf b hb X := by
  subst hX
  funext x
  unfold halfOf
  rw [rslot_read, View.readAt_apply]
  refine congrArg _ (funext fun a => Fin.ext ?_)
  have h0 : (x 0).val = 0 := Nat.lt_one_iff.mp (x 0).isLt
  match a with
  | ⟨0, _⟩ => show g % 8 + 1 * (x 0).val = g % 8 + 1 * 0; rw [h0]
  | ⟨1, _⟩ => show b + 1 * (x 1).val = 0 + 1 * (b + (x 1).val); omega
  | ⟨2, _⟩ => show 0 + 1 * (x 2).val = 0 + 1 * (x 2).val; rfl

/-- Half a slot stored. -/
def whalf (M : Memref sig .tc .vmem S4x512x512 .i32) (g b : ℕ) (hb : b ≤ 256) (f : M.view.ty.Contents Val) (p : S1x256x512.Idx → Val .i32) :
    M.view.ty.Contents Val :=
  (M.access (Rect.unit (s := S4x512x512) ![g % 4, b, 0] S1x256x512.size (in4h g b hb))).write Val f p Finset.univ

/-- The two halves of a slot stored, it reads as the block made of them. -/
theorem halves_read (M : Memref sig .tc .vmem S4x512x512 .i32) (g : ℕ) (f : M.view.ty.Contents Val) (p q : S1x256x512.Idx → Val .i32) :
    (wslot M g).view.read Val (whalf M g 256 (le_refl _) (whalf M g 0 (Nat.zero_le _) f p) q) = glue p q := by
  funext i
  rw [wslot_read]
  unfold glue whalf
  by_cases h : (i 0).val < 256
  · rw [dif_pos h, View.read_slice_write_of_not_mem]
    · rw [← View.read_slice_write_emb (v := M.view) (Rect.unit (s := S4x512x512) ![g % 4, 0, 0] S1x256x512.size (in4h g 0 (Nat.zero_le _))) f p (Finset.mem_univ _)]
      refine congrArg _ (funext fun a => Fin.ext ?_)
      match a with
      | ⟨0, _⟩ => rfl
      | ⟨1, _⟩ => rfl
      | ⟨2, _⟩ => rfl
    · intro hm
      obtain ⟨x, _, hx⟩ := Finset.mem_map.mp hm
      have h1 := congrArg (fun i : S4x512x512.Idx => (i 1).val) hx
      have h2 : 256 + 1 * (x 1).val = 0 + 1 * (i 0).val := h1
      omega
  · rw [dif_neg h]
    rw [← View.read_slice_write_emb (v := M.view) (Rect.unit (s := S4x512x512) ![g % 4, 256, 0] S1x256x512.size (in4h g 256 (le_refl _))) (whalf M g 0 (Nat.zero_le _) f p) q (Finset.mem_univ _)]
    refine congrArg _ (funext fun a => Fin.ext ?_)
    match a with
    | ⟨0, _⟩ => rfl
    | ⟨1, _⟩ => show 0 + 1 * (i 0).val = 256 + 1 * ((i 0).val - 256); omega
    | ⟨2, _⟩ => rfl
end

theorem rhalf_subset (M : Memref sig .tc .vmem S8x512x512 .i32) (g b : ℕ) (hb : b ≤ 256) :
    M.view.setOn (Rect.unit (s := S8x512x512) ![g % 8, b, 0] S1x256x512.size (in8h g b hb)).toLoadRect.set ⊆ (rslot M g).view.set := by
  rw [show (rslot M g).view.set = (M.view.slice (Rect.unit (s := S8x512x512) ![g % 8, 0, 0] S1x512x512.size (in8s g))).set from View.set_reshape _ _,
    View.set_slice]
  refine Finset.map_subset_map.mpr fun i hi => ?_
  have h := Rect.mem_set_unit.mp hi
  refine Rect.mem_set_unit.mpr fun a => ?_
  have h' := h a
  match a with
  | ⟨0, _⟩ => exact h'
  | ⟨1, _⟩ =>
    have h1 : b ≤ (i 1).val ∧ (i 1).val < b + 256 := h'
    show 0 ≤ (i 1).val ∧ (i 1).val < 0 + 512
    omega
  | ⟨2, _⟩ => exact h'
theorem whalf_subset (M : Memref sig .tc .vmem S4x512x512 .i32) (g b : ℕ) (hb : b ≤ 256) :
    M.view.setOn (Rect.unit (s := S4x512x512) ![g % 4, b, 0] S1x256x512.size (in4h g b hb)).toLoadRect.set ⊆ (wslot M g).view.set := by
  rw [show (wslot M g).view.set = (M.view.slice (Rect.unit (s := S4x512x512) ![g % 4, 0, 0] S1x512x512.size (in4s g))).set from View.set_reshape _ _,
    View.set_slice]
  refine Finset.map_subset_map.mpr fun i hi => ?_
  have h := Rect.mem_set_unit.mp hi
  refine Rect.mem_set_unit.mpr fun a => ?_
  have h' := h a
  match a with
  | ⟨0, _⟩ => exact h'
  | ⟨1, _⟩ =>
    have h1 : b ≤ (i 1).val ∧ (i 1).val < b + 256 := h'
    show 0 ≤ (i 1).val ∧ (i 1).val < 0 + 512
    omega
  | ⟨2, _⟩ => exact h'

/-! ## Loads and stores -/

variable (o : Ops F)
variable {Λ : Labels} {defs : Defs nD τ sig (Elt F) Λ} (𝒱 : Variants) (bd : Option 𝒱.V)

/-- A load of half a slot of the rows read. -/
theorem ld_rhalf {α : Type} {Q : α → sProp 𝕄} (g b : ℕ) (hb : b ≤ 256) (hg : g < 320) {of : Fin 3 → ℕ} (h2 : of = ![g % 8, b, 0])
    (i2 : ∀ a, of a + S1x256x512.size a ≤ S8x512x512.size a) {hl}
    {k : Vec F S1x256x512 .i32 → Prog (TpuEff nD τ sig (Elt F) Λ .tc) α} :
    iprop(rfull o g ∗ (rfull o g -∗ wp frame (wpE defs 𝒱 (o.c : Thread nD τ) bd) Set.univ
        (k (halfOf b hb ((blk o.xs g hg).view.read (Elt F) o.fx))) Q))
      ⊢ wp frame (wpE defs 𝒱 (o.c : Thread nD τ) bd) Set.univ
        (Prog.lift (.load o.xb (Rect.unit (s := S8x512x512) of S1x256x512.size i2).toLoadRect hl) >>= k) Q := by
  subst h2
  iintro ⟨⟨%f, %hf, Hf⟩, Hk⟩
  iapply (wp_load 𝒱 (o.c : Thread nD τ) bd Set.univ (m := o.xb) (rhalf_subset o.xb g b hb)) $$ Hf
  iintro Hf
  rw [half_read o.xb g b hb f _ (hf hg)]
  iapply Hk
  iexists f
  isplitr
  · ipureintro; exact hf
  · iexact Hf

/-- A load of half a slot of the rows written: whatever it reads, the slot stays. -/
theorem ld_whalf {α : Type} {Q : α → sProp 𝕄} (g b : ℕ) (hb : b ≤ 256) {of : Fin 3 → ℕ} (h2 : of = ![g % 4, b, 0])
    (i2 : ∀ a, of a + S1x256x512.size a ≤ S4x512x512.size a) {hl} (f : Buf (Elt F) ((wslot o.yb g).view.loc (o.c : Thread nD τ)))
    {K : Prog (TpuEff nD τ sig (Elt F) Λ .tc) α} :
    iprop(wpt o g f ∗ (wpt o g f -∗ wp frame (wpE defs 𝒱 (o.c : Thread nD τ) bd) Set.univ K Q))
      ⊢ wp frame (wpE defs 𝒱 (o.c : Thread nD τ) bd) Set.univ
        (Prog.lift (.load o.yb (Rect.unit (s := S4x512x512) of S1x256x512.size i2).toLoadRect hl) >>= fun _ => K) Q := by
  subst h2
  iintro ⟨Hf, Hk⟩
  iapply (wp_load 𝒱 (o.c : Thread nD τ) bd Set.univ (m := o.yb) (whalf_subset o.yb g b hb)) $$ Hf
  iexact Hk

/-- A store of half a slot of the rows written. -/
theorem st_whalf {α : Type} {Q : α → sProp 𝕄} (g b : ℕ) (hb : b ≤ 256) {of : Fin 3 → ℕ} (h2 : of = ![g % 4, b, 0])
    (i2 : ∀ a, of a + S1x256x512.size a ≤ S4x512x512.size a) {hx hm} (f : Buf (Elt F) ((wslot o.yb g).view.loc (o.c : Thread nD τ)))
    (p : S1x256x512.Idx → Elt F .i32)
    {K : Prog (TpuEff nD τ sig (Elt F) Λ .tc) α} :
    iprop(wpt o g f ∗ (wpt o g (whalf o.yb g b hb f p) -∗ wp frame (wpE defs 𝒱 (o.c : Thread nD τ) bd) Set.univ K Q))
      ⊢ wp frame (wpE defs 𝒱 (o.c : Thread nD τ) bd) Set.univ
        (Prog.lift (.store o.yb (Rect.unit (s := S4x512x512) of S1x256x512.size i2) p Finset.univ hx hm) >>= fun _ => K) Q := by
  subst h2
  iintro ⟨Hf, Hk⟩
  iapply (wp_store 𝒱 (o.c : Thread nD τ) bd Set.univ (m := o.yb) (r := Rect.unit (s := S4x512x512) ![g % 4, b, 0] S1x256x512.size i2)
    (show (o.yb.access (Rect.unit (s := S4x512x512) ![g % 4, b, 0] S1x256x512.size i2)).setOn Finset.univ ⊆ (wslot o.yb g).view.set from ?_)) $$ Hf
  · rw [View.setOn_univ, show (o.yb.access (Rect.unit (s := S4x512x512) ![g % 4, b, 0] S1x256x512.size i2)).set = _ from View.set_slice _ _]
    exact whalf_subset o.yb g b hb
  iexact Hk

/-- A buffer held whole that a load at `r` reads `v` from. -/
def holds {sp : Space} {s : Shape} {e : EltTy} (c : Dev nD) (m : Memref sig .tc sp s e) (r : Rect s) (v : r.shape.Idx → Elt F e) : sProp 𝕄 :=
  iprop(∃ f, ⌜m.view.readAt (Elt F) r.toLoadRect f = v⌝ ∗ (m.view.loc (c : Thread nD τ) ↦[m.view.set]{fullShare} f))

theorem ld_holds {α : Type} {Q : α → sProp 𝕄} {sp : CoreSpace} {s : Shape} {e : EltTy} (c : Dev nD) (m : Memref sig .tc sp s e) (r : Rect s)
    (v : r.shape.Idx → Elt F e) {hl} {k : (r.shape.Idx → Elt F e) → Prog (TpuEff nD τ sig (Elt F) Λ .tc) α} :
    iprop(holds c m r v ∗ (holds c m r v -∗ wp frame (wpE defs 𝒱 (c : Thread nD τ) bd) Set.univ (k v) Q))
      ⊢ wp frame (wpE defs 𝒱 (c : Thread nD τ) bd) Set.univ (Prog.lift (.load m r.toLoadRect hl) >>= k) Q := by
  unfold holds
  iintro ⟨⟨%f, %hf, Hf⟩, Hk⟩
  iapply (wp_load 𝒱 (c : Thread nD τ) bd Set.univ (m := m) (View.setOn_subset_set m.view _)) $$ Hf
  iintro Hf
  rw [hf]
  iapply Hk
  iexists f
  isplitr
  · ipureintro; exact hf
  · iexact Hf

theorem st_holds {α : Type} {Q : α → sProp 𝕄} {sp : CoreSpace} {s : Shape} {e : EltTy} (c : Dev nD) (m : Memref sig .tc sp s e) (r : Rect s)
    (v w : r.shape.Idx → Elt F e) {hx hm} {K : Prog (TpuEff nD τ sig (Elt F) Λ .tc) α} :
    iprop(holds c m r v ∗ (holds c m r w -∗ wp frame (wpE defs 𝒱 (c : Thread nD τ) bd) Set.univ K Q))
      ⊢ wp frame (wpE defs 𝒱 (c : Thread nD τ) bd) Set.univ (Prog.lift (.store m r w Finset.univ hx hm) >>= fun _ => K) Q := by
  unfold holds
  iintro ⟨⟨%f, %hf, Hf⟩, Hk⟩
  iapply (wp_store 𝒱 (c : Thread nD τ) bd Set.univ (m := m) (r := r)
    (show (m.access r).setOn Finset.univ ⊆ m.view.set from View.set_slice_subset m.view r)) $$ Hf
  iintro Hf
  iapply Hk
  iexists ((m.access r).write (Elt F) f w Finset.univ)
  isplitr
  · ipureintro
    exact View.read_write_univ _ _
  · iexact Hf

/-! ## Transfers that a comparison guards -/

/-- Starting block `K` if it is in use. -/
theorem start_read_if {α : Type} {Q : α → sProp 𝕄} {c : Prop} [Decidable c] (s a K : ℕ) (hc : c = (K < o.n)) (ha : a ≤ K) (hK : K < s + 8)
    {o1 : Fin 1 → ℕ} {o2 : Fin 3 → ℕ} {o3 : Fin 2 → ℕ}
    (h1 : o1 = ![K % 8]) (h2 : o2 = ![K % 8, 0, 0]) (h3 : o3 = ![K * 512, 0])
    (i1 : c → ∀ a, o1 a + S1.size a ≤ S8.size a) (i2 : c → ∀ a, o2 a + S1x512x512.size a ≤ S8x512x512.size a)
    (i3 : c → ∀ a, o3 a + S512x512.size a ≤ S163840x512.size a)
    {hsrc : ∀ h : c, (o.xs.slice (Rect.unit (s := S163840x512) o3 S512x512.size (i3 h)) (fun _ => rfl)).view.WordExact}
    {hdst : ∀ h : c, ((o.xb.slice (Rect.unit (s := S8x512x512) o2 S1x512x512.size (i2 h)) (fun _ => rfl)).squeeze S512x512 squeezes_S1x512x512_S512x512).view.WordExact}
    {hsem : ∀ h : c, _}
    {R : Prog (TpuEff nD τ sig (Elt F) Λ .tc) α} :
    iprop(rring o s a (min K o.n) ∗ (rring o s a (min (K + 1) o.n) -∗ wp frame (wpE defs 𝒱 (o.c : Thread nD τ) bd) Set.univ R Q))
      ⊢ wp frame (wpE defs 𝒱 (o.c : Thread nD τ) bd) Set.univ
        (if h : c then
          (Prog.lift (.enqueueDma (o.xs.slice (Rect.unit (s := S163840x512) o3 S512x512.size (i3 h)) (fun _ => rfl))
            (.here ((o.xb.slice (Rect.unit (s := S8x512x512) o2 S1x512x512.size (i2 h)) (fun _ => rfl)).squeeze S512x512 squeezes_S1x512x512_S512x512))
            (.dma ((o.ra.slice (Rect.unit (s := S8) o1 S1.size (i1 h))).squeeze S_ squeezes_S1_S_).sem) (hsrc h) (hdst h) (hsem h)) >>= fun _ => R)
          else R) Q := by
  have hn := o.hn
  by_cases h : c
  · rw [dif_pos h]
    have hlt : K < o.n := hc ▸ h
    rw [show min K o.n = K by omega, show min (K + 1) o.n = K + 1 by omega]
    iintro ⟨H, Hk⟩
    ihave ⟨H1, H2⟩ := (rring_start o s a K ha hK (by omega)) $$ H
    iapply (wp_start_read o 𝒱 bd K (by omega) h1 h2 h3 (i1 h) (i2 h) (i3 h))
    isplitl [H1]; · iexact H1
    iintro H
    iapply Hk
    iapply H2
    iexact H
  · rw [dif_neg h]
    have hlt : ¬ K < o.n := hc ▸ h
    rw [show min K o.n = o.n by omega, show min (K + 1) o.n = o.n by omega]
    iintro ⟨H, Hk⟩
    iapply Hk
    iexact H

/-- Waiting for the next block. -/
theorem wait_read {α : Type} {Q : α → sProp 𝕄} (s a r : ℕ) (hsa : s ≤ a) (har : a < r) {o1 : Fin 1 → ℕ} {o2 : Fin 3 → ℕ} {o3 : Fin 2 → ℕ}
    (h1 : o1 = ![a % 8]) (h2 : o2 = ![a % 8, 0, 0])
    (i1 : ∀ a, o1 a + S1.size a ≤ S8.size a) (i2 : ∀ a, o2 a + S1x512x512.size a ≤ S8x512x512.size a)
    (i3 : ∀ a, o3 a + S512x512.size a ≤ S163840x512.size a) {hsrc hdst}
    {R : Prog (TpuEff nD τ sig (Elt F) Λ .tc) α} :
    iprop((rring o s a r ∗ ∃ W, owes (o.c : Thread nD τ) 0 W)
        ∗ ((rring o s (a + 1) r ∗ ∃ W, owes (o.c : Thread nD τ) 0 W) -∗ wp frame (wpE defs 𝒱 (o.c : Thread nD τ) bd) Set.univ R Q))
      ⊢ wp frame (wpE defs 𝒱 (o.c : Thread nD τ) bd) Set.univ
        (Prog.lift (.waitDma2 ((o.ra.slice (Rect.unit (s := S8) o1 S1.size i1)).squeeze S_ squeezes_S1_S_).sem
          (o.xs.slice (Rect.unit (s := S163840x512) o3 S512x512.size i3) (fun _ => rfl))
          ((o.xb.slice (Rect.unit (s := S8x512x512) o2 S1x512x512.size i2) (fun _ => rfl)).squeeze S512x512 squeezes_S1x512x512_S512x512)
          hsrc hdst) >>= fun _ => R) Q := by
  iintro ⟨⟨H, HO⟩, Hk⟩
  ihave ⟨H1, H2⟩ := (rring_wait o s a r hsa har) $$ H
  iapply (wp_wait_read o 𝒱 bd a h1 h2 i1 i2 i3)
  isplitl [H1 HO]
  · isplitl [H1]; · iexact H1
    iexact HO
  iintro ⟨H, HO⟩
  iapply Hk
  isplitl [H H2]
  · iapply H2
    iexact H
  · iexact HO

/-- Waiting for block `g - k` to have left, if there is one. -/
theorem wait_write_if {α : Type} {Q : α → sProp 𝕄} {c : Prop} [Decidable c] (g k s d : ℕ) (hk : 1 ≤ k) (hc : c = (k ≤ g)) (hs : g < s + k) (hd : k ≤ g → d ≤ g - k + 4)
    (hg : g ≤ 320) {o1 : Fin 1 → ℕ} {o2 : Fin 3 → ℕ} {o3 : Fin 2 → ℕ}
    (h1 : k ≤ g → o1 = ![(g - k) % 4]) (h3 : k ≤ g → o3 = ![(g - k) * 512, 0])
    (i1 : c → ∀ a, o1 a + S1.size a ≤ S4.size a) (i2 : c → ∀ a, o2 a + S1x512x512.size a ≤ S4x512x512.size a)
    (i3 : c → ∀ a, o3 a + S512x512.size a ≤ S163840x512.size a)
    {hsrc : ∀ h : c, ((o.yb.slice (Rect.unit (s := S4x512x512) o2 S1x512x512.size (i2 h)) (fun _ => rfl)).squeeze S512x512 squeezes_S1x512x512_S512x512).view.WordExact}
    {hdst : ∀ h : c, (o.y.slice (Rect.unit (s := S163840x512) o3 S512x512.size (i3 h)) (fun _ => rfl)).view.WordExact}
    {R : Prog (TpuEff nD τ sig (Elt F) Λ .tc) α} :
    iprop((wring o (g - k) s d ∗ ∃ W, owes (o.c : Thread nD τ) 0 W)
        ∗ ((wring o (g + 1 - k) s d ∗ ∃ W, owes (o.c : Thread nD τ) 0 W) -∗ wp frame (wpE defs 𝒱 (o.c : Thread nD τ) bd) Set.univ R Q))
      ⊢ wp frame (wpE defs 𝒱 (o.c : Thread nD τ) bd) Set.univ
        (if h : c then
          (Prog.lift (.waitDma2 ((o.wa.slice (Rect.unit (s := S4) o1 S1.size (i1 h))).squeeze S_ squeezes_S1_S_).sem
            ((o.yb.slice (Rect.unit (s := S4x512x512) o2 S1x512x512.size (i2 h)) (fun _ => rfl)).squeeze S512x512 squeezes_S1x512x512_S512x512)
            (o.y.slice (Rect.unit (s := S163840x512) o3 S512x512.size (i3 h)) (fun _ => rfl))
            (hsrc h) (hdst h)) >>= fun _ => R)
          else R) Q := by
  by_cases h : c
  · rw [dif_pos h]
    have hlt : k ≤ g := hc ▸ h
    rw [show g + 1 - k = g - k + 1 by omega]
    iintro ⟨⟨H, HO⟩, Hk⟩
    ihave ⟨H1, H2⟩ := (wring_wait o (g - k) s d (by omega) (hd hlt)) $$ H
    iapply (wp_wait_write o 𝒱 bd (g - k) (by omega) (h1 hlt) (h3 hlt) (i1 h) (i2 h) (i3 h))
    isplitl [H1 HO]
    · isplitl [H1]; · iexact H1
      iexact HO
    iintro ⟨H, HO⟩
    iapply Hk
    isplitl [H H2]
    · iapply H2
      iexact H
    · iexact HO
  · rw [dif_neg h]
    have hlt : ¬ k ≤ g := hc ▸ h
    rw [show g + 1 - k = g - k by omega]
    iintro ⟨H, Hk⟩
    iapply Hk
    iexact H

/-- Starting the oldest block computed on its way out. -/
theorem start_write {α : Type} {Q : α → sProp 𝕄} (w s d : ℕ) (hws : w ≤ s) (hsd : s < d) (hs : s < o.n) {o1 : Fin 1 → ℕ} {o2 : Fin 3 → ℕ} {o3 : Fin 2 → ℕ}
    (h1 : o1 = ![s % 4]) (h2 : o2 = ![s % 4, 0, 0]) (h3 : o3 = ![s * 512, 0])
    (i1 : ∀ a, o1 a + S1.size a ≤ S4.size a) (i2 : ∀ a, o2 a + S1x512x512.size a ≤ S4x512x512.size a)
    (i3 : ∀ a, o3 a + S512x512.size a ≤ S163840x512.size a) {hsrc hdst hsem}
    {R : Prog (TpuEff nD τ sig (Elt F) Λ .tc) α} :
    iprop(wring o w s d ∗ (wring o w (s + 1) d -∗ wp frame (wpE defs 𝒱 (o.c : Thread nD τ) bd) Set.univ R Q))
      ⊢ wp frame (wpE defs 𝒱 (o.c : Thread nD τ) bd) Set.univ
        (Prog.lift (.enqueueDma ((o.yb.slice (Rect.unit (s := S4x512x512) o2 S1x512x512.size i2) (fun _ => rfl)).squeeze S512x512 squeezes_S1x512x512_S512x512)
          (.here (o.y.slice (Rect.unit (s := S163840x512) o3 S512x512.size i3) (fun _ => rfl)))
          (.dma ((o.wa.slice (Rect.unit (s := S4) o1 S1.size i1)).squeeze S_ squeezes_S1_S_).sem) hsrc hdst hsem) >>= fun _ => R) Q := by
  have hn := o.hn
  iintro ⟨H, Hk⟩
  ihave ⟨H1, H2⟩ := (wring_start o w s d hws hsd (by omega)) $$ H
  iapply (wp_start_write o 𝒱 bd s (by omega) hs h1 h2 h3 i1 i2 i3)
  isplitl [H1]; · iexact H1
  iintro H
  iapply Hk
  iapply H2
  iexact H

end Cert.Kernel.Hand

end

end
-- ==== Proof.Parts.lean ====
/-
  The printed parts of the experts' kernel, one trip of its counted loop: from two blocks in flight to two blocks on their
  way out. `g` is the trip's first block.
-/
module

public import proofs.«01_k».proof.Proof.Steps

@[expose] public section

noncomputable section

namespace Cert.Kernel.Hand

open Cert.Kernel Cert.Kernel.Gen
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- What the scratch weights are read through. -/
abbrev r8 : Rect S1024x512 := Rect.unit (s := S1024x512) ![0, 0] S1024x512.size inb_S1024x512_S1024x512_0_0
abbrev r9 : Rect S256x1024 := Rect.unit (s := S256x1024) ![0, 0] S256x1024.size inb_S256x1024_S256x1024_0_0

/-- A block of rows through an expert: both halves, each packed. -/
def block (v8 : Vec F S1024x512 .bf16) (v9 : Vec F S256x1024 .bf16) (X : S512x512.Idx → Elt F .i32) : S512x512.Idx → Elt F .i32 :=
  glue (k0_pay1 (halfOf 0 (Nat.zero_le _) X) v8 v9) (k0_pay1 (halfOf 256 (le_refl _) X) v8 v9)

variable (o : Ops F) (defs : Defs nD τ sig (Elt F) Λ₀) (𝒱 : Variants) (bd : Option 𝒱.V)

abbrev Xof (g : ℕ) (hg : g < 320) : S512x512.Idx → Elt F .i32 := (blk o.xs g hg).view.read (Elt F) o.fx

variable (i : grid0.Coords) (arg1 : Memref sig .tc .smem S64 .i32) (harg1 : arg1.IsWhole) (arg2 : Memref sig .tc .smem S64 .i32) (harg2 : arg2.IsWhole) (arg3 : Memref sig .tc .smem S1 .i32) (harg3 : arg3.IsWhole) (harg4 : o.xs.IsWhole) (arg5 : Memref sig .tc .vmem S1x1024x512 .f32) (harg5 : arg5.IsWhole) (arg6 : Memref sig .tc .vmem S1x256x1024 .f32) (harg6 : arg6.IsWhole) (harg7 : o.y.IsWhole) (arg8 : Memref sig .tc .vmem S1024x512 .bf16) (harg8 : arg8.IsWhole) (arg9 : Memref sig .tc .vmem S256x1024 .bf16) (harg9 : arg9.IsWhole) (harg10 : o.xb.IsWhole) (harg11 : o.yb.IsWhole)
variable (p nb : ℕ) (hp : p + nb ≤ o.n)
  (hw : k0_chk1 (BitVec.ofNat 32 o.n) (BitVec.ofNat 32 p) (BitVec.ofNat 32 nb))

local notation "WP" => wp frame (wpE defs 𝒱 (o.c : Thread nD τ) bd) Set.univ
local notation "N#" => BitVec.ofNat 32

/-- A program that returns. -/
theorem ret_wp {α : Type} {Q : α → sProp 𝕄} (a : α) : Q a ⊢ WP (pure a : Prog (TpuEff nD τ sig (Elt F) Λ₀ .tc) α) Q := by
  rw [show (pure a : Prog (TpuEff nD τ sig (Elt F) Λ₀ .tc) α) = .ret a from rfl, wp_ret]
  iintro H
  imodintro
  iexact H

/-- The first part: the blocks five and six ahead start, block `g` arrives. -/
theorem part1_wp (hp : p + nb ≤ o.n) (t : Fin (k0_t1_loop (N# nb)).trips) (a b : BitVec 32) {Q : _ → sProp 𝕄} (g : ℕ) (hg : g = p + 2 * t.val) :
    iprop((rring o g g (min (g + 5) o.n) ∗ wring o (g - 4) g g ∗ ∃ W, owes (o.c : Thread nD τ) 0 W)
      ∗ (∀ r, (rring o g (g + 1) (min (g + 7) o.n) ∗ wring o (g + 1 - 4) g g ∗ ∃ W, owes (o.c : Thread nD τ) 0 W) -∗ Q r))
      ⊢ WP (k0_part1 (F := F) i arg1 harg1 arg2 harg2 arg3 harg3 o.xs harg4 arg5 harg5 arg6 harg6 o.y harg7 arg8 harg8 arg9 harg9 o.xb harg10 o.yb harg11 o.ra o.wa (N# o.n) (N# p) (N# nb) hw a b t) Q := by
  have hn := o.hn
  have htr := t1lt nb (by omega) t
  subst hg
  rw [k0_part1_eq_skeleton]
  unfold k0_part1_skel
  dsimp only
  iintro ⟨⟨HR, HW, HO⟩, Hk⟩
  iapply (start_read_if o 𝒱 bd (p + 2 * t.val) (p + 2 * t.val) (p + 2 * t.val + 5) (cond8_iff o.n p nb t (by omega) (by omega) (by omega)) (by omega) (by omega)
    (off2_eq p nb t (by omega) (by omega)) (off3_eq p nb t (by omega) (by omega)) (off4_eq p nb t (by omega) (by omega)))
  isplitl [HR]; · iexact HR
  iintro HR
  iapply (wait_read o 𝒱 bd (p + 2 * t.val) (p + 2 * t.val) (min (p + 2 * t.val + 5 + 1) o.n) (le_refl _) (by omega) (off5_eq p nb t (by omega) (by omega)) (off6_eq p nb t (by omega) (by omega)))
  isplitl [HR HO]
  · isplitl [HR]; · iexact HR
    iexact HO
  iintro ⟨HR, HO⟩
  iapply (wait_write_if o 𝒱 bd (p + 2 * t.val) 4 (p + 2 * t.val) (p + 2 * t.val) (by omega) (cond9_iff p nb t (by omega) (by omega)) (by omega) (by omega) (by omega)
    (fun h => off8_eq p nb t (by omega) (by omega) h) (fun h => off9_eq p nb t (by omega) (by omega) h))
  isplitl [HW HO]
  · isplitl [HW]; · iexact HW
    iexact HO
  iintro ⟨HW, HO⟩
  iapply (start_read_if o 𝒱 bd (p + 2 * t.val) (p + 2 * t.val + 1) (p + 2 * t.val + 1 + 5) (cond10_iff o.n p nb t (by omega) (by omega) (by omega)) (by omega) (by omega)
    (off11_eq p nb t (by omega) (by omega)) (off12_eq p nb t (by omega) (by omega)) (off13_eq p nb t (by omega) (by omega)))
  isplitl [HR]; · iexact HR
  iintro HR
  iapply (ret_wp o defs 𝒱 bd)
  iapply Hk
  isplitl [HR]; · iexact HR
  isplitl [HW]; · iexact HW
  iexact HO

/-- The second part: block `g + 1` arrives, and block `g - 3` has left. -/
theorem part2_wp (hp : p + nb ≤ o.n) (t : Fin (k0_t1_loop (N# nb)).trips) (a b c d : BitVec 32) {Q : _ → sProp 𝕄} :
    iprop((rring o (p + 2 * t.val) (p + 2 * t.val + 1) (min ((p + 2 * t.val) + 7) o.n) ∗ wring o ((p + 2 * t.val + 1) - 4) (p + 2 * t.val) (p + 2 * t.val) ∗ ∃ W, owes (o.c : Thread nD τ) 0 W)
      ∗ (∀ r, (rring o (p + 2 * t.val) ((p + 2 * t.val) + 2) (min ((p + 2 * t.val) + 7) o.n) ∗ wring o ((p + 2 * t.val) + 2 - 4) (p + 2 * t.val) (p + 2 * t.val) ∗ ∃ W, owes (o.c : Thread nD τ) 0 W) -∗ Q r))
      ⊢ WP (k0_part2 (F := F) i arg1 harg1 arg2 harg2 arg3 harg3 o.xs harg4 arg5 harg5 arg6 harg6 o.y harg7 arg8 harg8 arg9 harg9 o.xb harg10 o.yb harg11 o.ra o.wa (N# o.n) (N# p) (N# nb) hw t a b c d) Q := by
  have hn := o.hn
  have htr := t1lt nb (by omega) t
  rw [k0_part2_eq_skeleton]
  unfold k0_part2_skel
  dsimp only
  iintro ⟨⟨HR, HW, HO⟩, Hk⟩
  iapply (wait_read o 𝒱 bd (p + 2 * t.val) (p + 2 * t.val + 1) (min ((p + 2 * t.val) + 7) o.n) (by omega) (by omega) (off14_eq p nb t (by omega) (by omega)) (off15_eq p nb t (by omega) (by omega)))
  isplitl [HR HO]
  · isplitl [HR]; · iexact HR
    iexact HO
  iintro ⟨HR, HO⟩
  iapply (wait_write_if o 𝒱 bd (p + 2 * t.val + 1) 4 (p + 2 * t.val) (p + 2 * t.val) (by omega) (cond11_iff p nb t (by omega) (by omega)) (by omega) (by omega) (by omega)
    (fun h => off17_eq p nb t (by omega) (by omega) h) (fun h => off18_eq p nb t (by omega) (by omega) h))
  isplitl [HW HO]
  · isplitl [HW]; · iexact HW
    iexact HO
  iintro ⟨HW, HO⟩
  iapply (ret_wp o defs 𝒱 bd)
  iapply Hk
  isplitl [HR]; · iexact HR
  isplitl [HW]; · iexact HW
  iexact HO

/-- The third part: the first half of block `g`, and the second half's first product. -/
theorem part3_wp (hp : p + nb ≤ o.n) (t : Fin (k0_t1_loop (N# nb)).trips) (hg0 : (p + 2 * t.val) < 320) (a b : BitVec 32) (v8 : Vec F S1024x512 .bf16) (v9 : Vec F S256x1024 .bf16)
    (f : Buf (Elt F) ((wslot o.yb (p + 2 * t.val)).view.loc (o.c : Thread nD τ))) {Q : _ → sProp 𝕄} :
    iprop((rfull o (p + 2 * t.val) ∗ wpt o (p + 2 * t.val) f ∗ holds o.c arg8 r8 v8 ∗ holds o.c arg9 r9 v9)
      ∗ ((rfull o (p + 2 * t.val) ∗ wpt o (p + 2 * t.val) (whalf o.yb (p + 2 * t.val) 0 (Nat.zero_le _) f (k0_pay1 (halfOf 0 (Nat.zero_le _) (Xof o (p + 2 * t.val) hg0)) v8 v9)) ∗ holds o.c arg8 r8 v8 ∗ holds o.c arg9 r9 v9)
        -∗ Q ⟨k0_pay2 (halfOf 256 (le_refl _) (Xof o (p + 2 * t.val) hg0)) v8, k0_pay3 (halfOf 256 (le_refl _) (Xof o (p + 2 * t.val) hg0)) v8⟩))
      ⊢ WP (k0_part3 (F := F) i arg1 harg1 arg2 harg2 arg3 harg3 o.xs harg4 arg5 harg5 arg6 harg6 o.y harg7 arg8 harg8 arg9 harg9 o.xb harg10 o.yb harg11 o.ra o.wa (N# o.n) (N# p) (N# nb) hw t a b) Q := by
  have hn := o.hn
  have htr := t1lt nb (by omega) t
  rw [k0_part3_eq_skeleton]
  unfold k0_part3_skel
  dsimp only
  iintro ⟨⟨HR, HP, H8, H9⟩, Hk⟩
  iapply (ld_rhalf o 𝒱 bd (p + 2 * t.val) 0 (by omega) (by omega) (off20_eq p nb t (by omega) (by omega)))
  isplitl [HR]; · iexact HR
  iintro HR
  iapply (ld_holds 𝒱 bd o.c arg8 r8 v8)
  isplitl [H8]; · iexact H8
  iintro H8
  iapply (ld_holds 𝒱 bd o.c arg9 r9 v9)
  isplitl [H9]; · iexact H9
  iintro H9
  iapply (ld_whalf o 𝒱 bd (p + 2 * t.val) 0 (by omega) (off21_eq p nb t (by omega) (by omega)) _ (f))
  isplitl [HP]; · iexact HP
  iintro HP
  iapply (st_whalf o 𝒱 bd (p + 2 * t.val) 0 (by omega) (off21_eq p nb t (by omega) (by omega)) _ (f))
  isplitl [HP]; · iexact HP
  iintro HP
  iapply (ld_rhalf o 𝒱 bd (p + 2 * t.val) 256 (by omega) (by omega) (off22_eq p nb t (by omega) (by omega)))
  isplitl [HR]; · iexact HR
  iintro HR
  iapply (ld_holds 𝒱 bd o.c arg8 r8 v8)
  isplitl [H8]; · iexact H8
  iintro H8
  iapply (ret_wp o defs 𝒱 bd)
  iapply Hk
  isplitl [HR]; · iexact HR
  isplitl [HP]; · iexact HP
  isplitl [H8]; · iexact H8
  iexact H9

/-- The fourth part: the second half of block `g`; block `g + 1`'s first half is read. -/
theorem part4_wp (hp : p + nb ≤ o.n) (t : Fin (k0_t1_loop (N# nb)).trips) (hg1 : (p + 2 * t.val + 1) < 320) (a b : BitVec 32) (v158 v161) (v8 : Vec F S1024x512 .bf16) (v9 : Vec F S256x1024 .bf16)
    (f : Buf (Elt F) ((wslot o.yb (p + 2 * t.val)).view.loc (o.c : Thread nD τ))) {Q : _ → sProp 𝕄} :
    iprop((rfull o (p + 2 * t.val + 1) ∗ wpt o (p + 2 * t.val) f ∗ holds o.c arg8 r8 v8 ∗ holds o.c arg9 r9 v9)
      ∗ (∀ u v, (rfull o (p + 2 * t.val + 1) ∗ wpt o (p + 2 * t.val) (whalf o.yb (p + 2 * t.val) 256 (le_refl _) f (k0_pay4 v158 v161 v9)) ∗ holds o.c arg8 r8 v8 ∗ holds o.c arg9 r9 v9)
        -∗ Q ⟨u, v, k0_pay5 (halfOf 0 (Nat.zero_le _) (Xof o (p + 2 * t.val + 1) hg1)), k0_pay6 (halfOf 0 (Nat.zero_le _) (Xof o (p + 2 * t.val + 1) hg1)), 16#32⟩))
      ⊢ WP (k0_part4 (F := F) i arg1 harg1 arg2 harg2 arg3 harg3 o.xs harg4 arg5 harg5 arg6 harg6 o.y harg7 arg8 harg8 arg9 harg9 o.xb harg10 o.yb harg11 o.ra o.wa (N# o.n) (N# p) (N# nb) hw t a b v158 v161) Q := by
  have hn := o.hn
  have htr := t1lt nb (by omega) t
  rw [k0_part4_eq_skeleton]
  unfold k0_part4_skel
  dsimp only
  iintro ⟨⟨HR, HP, H8, H9⟩, Hk⟩
  iapply (ld_holds 𝒱 bd o.c arg9 r9 v9)
  isplitl [H9]; · iexact H9
  iintro H9
  iapply (ld_whalf o 𝒱 bd (p + 2 * t.val) 256 (by omega) (off23_eq p nb t (by omega) (by omega)) _ (f))
  isplitl [HP]; · iexact HP
  iintro HP
  iapply (st_whalf o 𝒱 bd (p + 2 * t.val) 256 (by omega) (off23_eq p nb t (by omega) (by omega)) _ (f))
  isplitl [HP]; · iexact HP
  iintro HP
  iapply (ld_rhalf o 𝒱 bd (p + 2 * t.val + 1) 0 (by omega) (by omega) (off24_eq p nb t (by omega) (by omega)))
  isplitl [HR]; · iexact HR
  iintro HR
  iapply (ret_wp o defs 𝒱 bd)
  iapply Hk
  isplitl [HR]; · iexact HR
  isplitl [HP]; · iexact HP
  isplitl [H8]; · iexact H8
  iexact H9

/-- The fifth part: the first half of block `g + 1`, and the second half's two products. -/
theorem part5_wp (hp : p + nb ≤ o.n) (t : Fin (k0_t1_loop (N# nb)).trips) (hg1 : (p + 2 * t.val + 1) < 320) (a b : BitVec 32) (v197 v199 c) (v8 : Vec F S1024x512 .bf16) (v9 : Vec F S256x1024 .bf16)
    (f : Buf (Elt F) ((wslot o.yb (p + 2 * t.val + 1)).view.loc (o.c : Thread nD τ))) {Q : _ → sProp 𝕄} :
    iprop((rfull o (p + 2 * t.val + 1) ∗ wpt o (p + 2 * t.val + 1) f ∗ holds o.c arg8 r8 v8 ∗ holds o.c arg9 r9 v9)
      ∗ ((rfull o (p + 2 * t.val + 1) ∗ wpt o (p + 2 * t.val + 1) (whalf o.yb (p + 2 * t.val + 1) 0 (Nat.zero_le _) f (k0_pay7 v197 v199 c v8 v9)) ∗ holds o.c arg8 r8 v8 ∗ holds o.c arg9 r9 v9)
        -∗ Q (k0_pay8 (halfOf 256 (le_refl _) (Xof o (p + 2 * t.val + 1) hg1)) v8 v9)))
      ⊢ WP (k0_part5 (F := F) i arg1 harg1 arg2 harg2 arg3 harg3 o.xs harg4 arg5 harg5 arg6 harg6 o.y harg7 arg8 harg8 arg9 harg9 o.xb harg10 o.yb harg11 o.ra o.wa (N# o.n) (N# p) (N# nb) hw t a b v197 v199 c) Q := by
  have hn := o.hn
  have htr := t1lt nb (by omega) t
  rw [k0_part5_eq_skeleton]
  unfold k0_part5_skel
  dsimp only
  iintro ⟨⟨HR, HP, H8, H9⟩, Hk⟩
  iapply (ld_holds 𝒱 bd o.c arg8 r8 v8)
  isplitl [H8]; · iexact H8
  iintro H8
  iapply (ld_holds 𝒱 bd o.c arg9 r9 v9)
  isplitl [H9]; · iexact H9
  iintro H9
  iapply (ld_whalf o 𝒱 bd (p + 2 * t.val + 1) 0 (by omega) (off25_eq p nb t (by omega) (by omega)) _ (f))
  isplitl [HP]; · iexact HP
  iintro HP
  iapply (st_whalf o 𝒱 bd (p + 2 * t.val + 1) 0 (by omega) (off25_eq p nb t (by omega) (by omega)) _ (f))
  isplitl [HP]; · iexact HP
  iintro HP
  iapply (ld_rhalf o 𝒱 bd (p + 2 * t.val + 1) 256 (by omega) (by omega) (off26_eq p nb t (by omega) (by omega)))
  isplitl [HR]; · iexact HR
  iintro HR
  iapply (ld_holds 𝒱 bd o.c arg8 r8 v8)
  isplitl [H8]; · iexact H8
  iintro H8
  iapply (ld_holds 𝒱 bd o.c arg9 r9 v9)
  isplitl [H9]; · iexact H9
  iintro H9
  iapply (ret_wp o defs 𝒱 bd)
  iapply Hk
  isplitl [HR]; · iexact HR
  isplitl [HP]; · iexact HP
  isplitl [H8]; · iexact H8
  iexact H9

/-- The sixth part: the second half of block `g + 1`; block `g` starts on its way out. -/
theorem part6_wp (hp : p + nb ≤ o.n) (t : Fin (k0_t1_loop (N# nb)).trips) (a b : BitVec 32) (v241)
    (f : o.yb.view.ty.Contents (Elt F))
    (hY : (wslot o.yb (p + 2 * t.val + 1)).view.read (Elt F) (whalf (Val := Elt F) o.yb (p + 2 * t.val + 1) 256 (le_refl _) f (k0_pay9 v241)) = o.Y (p + 2 * t.val + 1)) {Q : _ → sProp 𝕄} :
    iprop((wsv o (p + 2 * t.val + 1) ∗ wpt o (p + 2 * t.val + 1) f ∗ (wdone o (p + 2 * t.val + 1) -∗ wring o ((p + 2 * t.val) + 2 - 4) (p + 2 * t.val) ((p + 2 * t.val) + 1 + 1)))
      ∗ (wring o ((p + 2 * t.val) + 2 - 4) (p + 2 * t.val + 1) ((p + 2 * t.val) + 1 + 1) -∗ Q ⟨⟩))
      ⊢ WP (k0_part6 (F := F) i arg1 harg1 arg2 harg2 arg3 harg3 o.xs harg4 arg5 harg5 arg6 harg6 o.y harg7 arg8 harg8 arg9 harg9 o.xb harg10 o.yb harg11 o.ra o.wa (N# o.n) (N# p) (N# nb) hw t a b v241) Q := by
  have hn := o.hn
  have htr := t1lt nb (by omega) t
  rw [k0_part6_eq_skeleton]
  unfold k0_part6_skel
  dsimp only
  iintro ⟨⟨HS, HP, HW⟩, Hk⟩
  iapply (ld_whalf o 𝒱 bd (p + 2 * t.val + 1) 256 (by omega) (off27_eq p nb t (by omega) (by omega)) _ (f))
  isplitl [HP]; · iexact HP
  iintro HP
  iapply (st_whalf o 𝒱 bd (p + 2 * t.val + 1) 256 (by omega) (off27_eq p nb t (by omega) (by omega)) _ (f))
  isplitl [HP]; · iexact HP
  iintro HP
  iapply (start_write o 𝒱 bd ((p + 2 * t.val) + 2 - 4) (p + 2 * t.val) ((p + 2 * t.val) + 1 + 1) (by omega) (by omega) (by omega) (off28_eq p nb t (by omega) (by omega)) (off29_eq p nb t (by omega) (by omega)) (off7_eq p nb t (by omega) (by omega)))
  isplitl [HS HP HW]
  · iapply HW
    unfold wdone
    isplitl [HS]; · iexact HS
    iexists (whalf o.yb (p + 2 * t.val + 1) 256 (le_refl _) f (k0_pay9 v241))
    isplitr [HP]
    · ipureintro; exact hY
    iexact HP
  iintro HW
  iapply (ret_wp o defs 𝒱 bd)
  iapply Hk
  iexact HW

theorem pay4_eq (X : Vec F S1x256x512 .i32) (v8 : Vec F S1024x512 .bf16) (v9 : Vec F S256x1024 .bf16) :
    k0_pay4 (k0_pay2 X v8) (k0_pay3 X v8) v9 = k0_pay1 X v8 v9 := rfl
theorem pay7_eq (X : Vec F S1x256x512 .i32) (v8 : Vec F S1024x512 .bf16) (v9 : Vec F S256x1024 .bf16) :
    k0_pay7 (k0_pay5 X) (k0_pay6 X) 16#32 v8 v9 = k0_pay1 X v8 v9 := rfl
theorem pay9_eq (X : Vec F S1x256x512 .i32) (v8 : Vec F S1024x512 .bf16) (v9 : Vec F S256x1024 .bf16) :
    k0_pay9 (k0_pay8 X v8 v9) = k0_pay1 X v8 v9 := rfl

/-- What holds between two blocks, `g` of them done: the rings, the expert's weights. -/
def between (v8 : Vec F S1024x512 .bf16) (v9 : Vec F S256x1024 .bf16) (g : ℕ) : sProp 𝕄 :=
  iprop(rring o g g (min (g + 5) o.n) ∗ wring o (g - 4) g g ∗ (∃ W, owes (o.c : Thread nD τ) 0 W) ∗ holds o.c arg8 r8 v8 ∗ holds o.c arg9 r9 v9)

/-- One trip of the loop: two blocks. -/
theorem trip_wp (hp : p + nb ≤ o.n) (t : Fin (k0_t1_loop (N# nb)).trips) (v8 : Vec F S1024x512 .bf16) (v9 : Vec F S256x1024 .bf16)
    (hY : ∀ (g : ℕ) (hg : g < 320), p ≤ g → g < p + nb → o.Y g = block v8 v9 (Xof o g hg)) :
    between o arg8 arg9 v8 v9 (p + 2 * t.val)
      ⊢ WP (k0_t1_body (F := F) i arg1 harg1 arg2 harg2 arg3 harg3 o.xs harg4 arg5 harg5 arg6 harg6 o.y harg7 arg8 harg8 arg9 harg9 o.xb harg10 o.yb harg11 o.ra o.wa (N# o.n) (N# p) (N# nb) hw t ()) (fun _ => between o arg8 arg9 v8 v9 (p + 2 * (t.val + 1))) := by
  have hn := o.hn
  have htr := t1lt nb (by omega) t
  have hg0 : (p + 2 * t.val) < 320 := by omega
  have hg1 : (p + 2 * t.val + 1) < 320 := by omega
  have hY0 := hY (p + 2 * t.val) hg0 (by omega) (by omega)
  have hY1 := hY (p + 2 * t.val + 1) hg1 (by omega) (by omega)
  rw [show p + 2 * (t.val + 1) = (p + 2 * t.val) + 2 from by omega]
  unfold between k0_t1_body
  iintro ⟨HR, HW, HO, H8, H9⟩
  rw [wp_bind]
  iapply (part1_wp o defs 𝒱 bd i arg1 harg1 arg2 harg2 arg3 harg3 harg4 arg5 harg5 arg6 harg6 harg7 arg8 harg8 arg9 harg9 harg10 harg11 p nb hw hp t 0#32 1#32 (p + 2 * t.val) rfl)
  isplitl [HR HW HO]
  · isplitl [HR]; · iexact HR
    isplitl [HW]; · iexact HW
    iexact HO
  iintro %r ⟨HR, HW, HO⟩
  obtain ⟨v50, v75, v81, v82⟩ := r
  dsimp only
  rw [wp_bind]
  iapply (part2_wp o defs 𝒱 bd i arg1 harg1 arg2 harg2 arg3 harg3 harg4 arg5 harg5 arg6 harg6 harg7 arg8 harg8 arg9 harg9 harg10 harg11 p nb hw hp t v50 v75 v81 v82)
  isplitl [HR HW HO]
  · isplitl [HR]; · iexact HR
    isplitl [HW]; · iexact HW
    iexact HO
  iintro %r ⟨HR, HW, HO⟩
  obtain ⟨v109, v119⟩ := r
  dsimp only
  ihave ⟨HF, HR⟩ := (rring_use o (p + 2 * t.val) ((p + 2 * t.val) + 2) (min ((p + 2 * t.val) + 7) o.n) (by omega) (by omega)) $$ HR
  ihave ⟨HP, HW⟩ := (wring_use o ((p + 2 * t.val) + 2 - 4) (p + 2 * t.val) (p + 2 * t.val) (le_refl _) (by omega)) $$ HW
  unfold rheld wfree
  icases HF with ⟨HFs, HF⟩
  icases HP with ⟨HPs, %f, HP⟩
  rw [wp_bind]
  iapply (part3_wp o defs 𝒱 bd i arg1 harg1 arg2 harg2 arg3 harg3 harg4 arg5 harg5 arg6 harg6 harg7 arg8 harg8 arg9 harg9 harg10 harg11 p nb hw hp t hg0 v109 v119 v8 v9 f)
  isplitl [HF HP H8 H9]
  · isplitl [HF]; · iexact HF
    isplitl [HP]; · iexact HP
    isplitl [H8]; · iexact H8
    iexact H9
  iintro ⟨HF, HP, H8, H9⟩
  dsimp only
  icases HF with ⟨%fr, %hfr, HF⟩
  ihave HR := HR $$ [HFs HF]
  · unfold rfree
    isplitl [HFs]; · iexact HFs
    iexists fr
    iexact HF
  ihave ⟨HF, HR⟩ := (rring_use o ((p + 2 * t.val) + 1) ((p + 2 * t.val) + 2) (min ((p + 2 * t.val) + 7) o.n) (by omega) (by omega)) $$ HR
  unfold rheld
  icases HF with ⟨HFs, HF⟩
  rw [wp_bind]
  iapply (part4_wp o defs 𝒱 bd i arg1 harg1 arg2 harg2 arg3 harg3 harg4 arg5 harg5 arg6 harg6 harg7 arg8 harg8 arg9 harg9 harg10 harg11 p nb hw hp t hg1 v50 v119 _ _ v8 v9 _)
  isplitl [HF HP H8 H9]
  · isplitl [HF]; · iexact HF
    isplitl [HP]; · iexact HP
    isplitl [H8]; · iexact H8
    iexact H9
  iintro %u %v ⟨HF, HP, H8, H9⟩
  dsimp only
  rw [pay4_eq]
  ihave HW := HW $$ [HPs HP]
  · unfold wdone
    isplitl [HPs]; · iexact HPs
    iexists _
    isplitr [HP]
    swap
    · iexact HP
    ipureintro
    rw [halves_read, hY0]
    rfl
  ihave ⟨HP, HW⟩ := (wring_use o ((p + 2 * t.val) + 2 - 4) (p + 2 * t.val) ((p + 2 * t.val) + 1) (by omega) (by omega)) $$ HW
  unfold wfree
  icases HP with ⟨HPs, %f1, HP⟩
  rw [wp_bind]
  iapply (part5_wp o defs 𝒱 bd i arg1 harg1 arg2 harg2 arg3 harg3 harg4 arg5 harg5 arg6 harg6 harg7 arg8 harg8 arg9 harg9 harg10 harg11 p nb hw hp t hg1 u v _ _ _ v8 v9 f1)
  isplitl [HF HP H8 H9]
  · isplitl [HF]; · iexact HF
    isplitl [HP]; · iexact HP
    isplitl [H8]; · iexact H8
    iexact H9
  iintro ⟨HF, HP, H8, H9⟩
  rw [pay7_eq]
  icases HF with ⟨%fr1, %hfr1, HF⟩
  ihave HR := HR $$ [HFs HF]
  · unfold rfree
    isplitl [HFs]; · iexact HFs
    iexists fr1
    iexact HF
  rw [wp_bind]
  have hY1' : (wslot o.yb (p + 2 * t.val + 1)).view.read (Elt F) (whalf (Val := Elt F) o.yb (p + 2 * t.val + 1) 256 (le_refl _)
      (whalf (Val := Elt F) o.yb (p + 2 * t.val + 1) 0 (Nat.zero_le _) f1 (k0_pay1 (halfOf 0 (Nat.zero_le _) (Xof o (p + 2 * t.val + 1) hg1)) v8 v9))
      (k0_pay9 (k0_pay8 (halfOf 256 (le_refl _) (Xof o (p + 2 * t.val + 1) hg1)) v8 v9))) = o.Y (p + 2 * t.val + 1) := by
    rw [pay9_eq, halves_read, hY1]
    rfl
  iapply (part6_wp o defs 𝒱 bd i arg1 harg1 arg2 harg2 arg3 harg3 harg4 arg5 harg5 arg6 harg6 harg7 arg8 harg8 arg9 harg9 harg10 harg11 p nb hw hp t v50 v (k0_pay8 (halfOf 256 (le_refl _) (Xof o (p + 2 * t.val + 1) hg1)) v8 v9)
    (whalf (Val := Elt F) o.yb (p + 2 * t.val + 1) 0 (Nat.zero_le _) f1 (k0_pay1 (halfOf 0 (Nat.zero_le _) (Xof o (p + 2 * t.val + 1) hg1)) v8 v9)) hY1')
  isplitl [HPs HP HW]
  · isplitl [HPs]; · iexact HPs
    isplitl [HP]; · iexact HP
    iexact HW
  iintro HW
  iapply (start_write o 𝒱 bd ((p + 2 * t.val) + 2 - 4) (p + 2 * t.val + 1) ((p + 2 * t.val) + 1 + 1) (by omega) (by omega) (by omega) (off30_eq p nb t (by omega) (by omega)) (off31_eq p nb t (by omega) (by omega)) (off16_eq p nb t (by omega) (by omega)))
  isplitl [HW]; · iexact HW
  iintro HW
  iapply (ret_wp o defs 𝒱 bd)
  isplitl [HR]; · iexact HR
  isplitl [HW]; · iexact HW
  isplitl [HO]; · iexact HO
  isplitl [H8]; · iexact H8
  iexact H9

end Cert.Kernel.Hand

end

end
-- ==== Proof.Body.lean ====
/-
  One step of the experts' kernel: the first transfers start, the expert's weights are rounded, its blocks go through in
  pairs, a last odd block alone, and the last step waits for what is still on its way out.
-/
module

public import proofs.«01_k».proof.Proof.Parts
public import Idealize.ShloMosaic.Lib.LoopRemainder

@[expose] public section

set_option pp.maxSteps 400

noncomputable section

namespace Cert.Kernel.Hand

open Cert.Kernel Cert.Kernel.Gen
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (o : Ops F) (defs : Defs nD τ sig (Elt F) Λ₀) (𝒱 : Variants) (bd : Option 𝒱.V)

variable (i : grid0.Coords) (arg1 : Memref sig .tc .smem S64 .i32) (harg1 : arg1.IsWhole) (arg2 : Memref sig .tc .smem S64 .i32) (harg2 : arg2.IsWhole) (arg3 : Memref sig .tc .smem S1 .i32) (harg3 : arg3.IsWhole) (harg4 : o.xs.IsWhole) (arg5 : Memref sig .tc .vmem S1x1024x512 .f32) (harg5 : arg5.IsWhole) (arg6 : Memref sig .tc .vmem S1x256x1024 .f32) (harg6 : arg6.IsWhole) (harg7 : o.y.IsWhole) (arg8 : Memref sig .tc .vmem S1024x512 .bf16) (harg8 : arg8.IsWhole) (arg9 : Memref sig .tc .vmem S256x1024 .bf16) (harg9 : arg9.IsWhole) (harg10 : o.xb.IsWhole) (harg11 : o.yb.IsWhole)
variable (p nb : ℕ) (hp : p + nb ≤ o.n)
  (hw : k0_chk1 (BitVec.ofNat 32 o.n) (BitVec.ofNat 32 p) (BitVec.ofNat 32 nb))

local notation "WP" => wp frame (wpE defs 𝒱 (o.c : Thread nD τ) bd) Set.univ
local notation "N#" => BitVec.ofNat 32

/-- The odd block: the block five ahead starts, the odd block arrives, the block four before has left. -/
theorem part13_wp (hp : p + nb ≤ o.n) (h16 : k0_cond16 (N# nb) = 1#1) {Q : _ → sProp 𝕄} :
    iprop((rring o (p + nb - 1) (p + nb - 1) (min ((p + nb - 1) + 5) o.n) ∗ wring o ((p + nb - 1) - 4) (p + nb - 1) (p + nb - 1) ∗ (∃ W, owes (o.c : Thread nD τ) 0 W))
      ∗ (∀ r, (rring o (p + nb - 1) ((p + nb - 1) + 1) (min ((p + nb - 1) + 5 + 1) o.n) ∗ wring o ((p + nb - 1) + 1 - 4) (p + nb - 1) (p + nb - 1) ∗ (∃ W, owes (o.c : Thread nD τ) 0 W)) -∗ Q r))
      ⊢ WP (k0_part13 (F := F) i arg1 harg1 arg2 harg2 arg3 harg3 o.xs harg4 arg5 harg5 arg6 harg6 o.y harg7 arg8 harg8 arg9 harg9 o.xb harg10 o.yb harg11 o.ra o.wa (N# o.n) (N# p) (N# nb) hw h16) Q := by
  have hn := o.hn
  have hodd : nb % 2 = 1 := by rw [← cond16_iff nb (by omega)]; exact h16
  rw [k0_part13_eq_skeleton]
  unfold k0_part13_skel
  dsimp only
  iintro ⟨⟨HR, HW, HO⟩, Hk⟩
  iapply (start_read_if o 𝒱 bd (p + nb - 1) (p + nb - 1) ((p + nb - 1) + 5) (cond17_iff o.n p nb (by omega) (by omega) (by omega) (by omega)) (by omega) (by omega)
    (off62_eq p nb (by omega) (by omega) (by omega)) (off63_eq p nb (by omega) (by omega) (by omega)) (off64_eq p nb (by omega) (by omega) (by omega)))
  isplitl [HR]; · iexact HR
  iintro HR
  iapply (wait_read o 𝒱 bd (p + nb - 1) (p + nb - 1) (min ((p + nb - 1) + 5 + 1) o.n) (le_refl _) (by omega) (off65_eq p nb (by omega) (by omega) (by omega)) (off66_eq p nb (by omega) (by omega) (by omega)))
  isplitl [HR HO]
  · isplitl [HR]; · iexact HR
    iexact HO
  iintro ⟨HR, HO⟩
  iapply (wait_write_if o 𝒱 bd (p + nb - 1) 4 (p + nb - 1) (p + nb - 1) (by omega) (cond18_iff p nb (by omega) (by omega) (by omega)) (by omega) (by omega) (by omega)
    (fun h => off68_eq p nb (by omega) (by omega) h (by omega)) (fun h => off69_eq p nb (by omega) (by omega) h (by omega)))
  isplitl [HW HO]
  · isplitl [HW]; · iexact HW
    iexact HO
  iintro ⟨HW, HO⟩
  iapply (ret_wp o defs 𝒱 bd)
  iapply Hk
  isplitl [HR]; · iexact HR
  isplitl [HW]; · iexact HW
  iexact HO

/-- The odd block's first half. -/
theorem part14_wp (hp : p + nb ≤ o.n) (h16 : k0_cond16 (N# nb) = 1#1) (hg : (p + nb - 1) < 320) (a b : BitVec 32) (v8 : Vec F S1024x512 .bf16) (v9 : Vec F S256x1024 .bf16)
    (f : o.yb.view.ty.Contents (Elt F)) {Q : _ → sProp 𝕄} :
    iprop((rfull o (p + nb - 1) ∗ wpt o (p + nb - 1) f ∗ holds o.c arg8 r8 v8 ∗ holds o.c arg9 r9 v9)
      ∗ (∀ u, (rfull o (p + nb - 1) ∗ wpt o (p + nb - 1) (whalf (Val := Elt F) o.yb (p + nb - 1) 0 (Nat.zero_le _) f (k0_pay19 (halfOf 0 (Nat.zero_le _) (Xof o (p + nb - 1) hg)) v8 v9)) ∗ holds o.c arg8 r8 v8 ∗ holds o.c arg9 r9 v9)
        -∗ Q ⟨u, k0_pay20 (halfOf 256 (le_refl _) (Xof o (p + nb - 1) hg))⟩))
      ⊢ WP (k0_part14 (F := F) i arg1 harg1 arg2 harg2 arg3 harg3 o.xs harg4 arg5 harg5 arg6 harg6 o.y harg7 arg8 harg8 arg9 harg9 o.xb harg10 o.yb harg11 o.ra o.wa (N# o.n) (N# p) (N# nb) hw h16 a b) Q := by
  have hn := o.hn
  have hodd : nb % 2 = 1 := by rw [← cond16_iff nb (by omega)]; exact h16
  rw [k0_part14_eq_skeleton]
  unfold k0_part14_skel
  dsimp only
  iintro ⟨⟨HR, HP, H8, H9⟩, Hk⟩
  iapply (ld_rhalf o 𝒱 bd (p + nb - 1) 0 (by omega) (by omega) (off71_eq p nb (by omega) (by omega) (by omega)))
  isplitl [HR]; · iexact HR
  iintro HR
  iapply (ld_holds 𝒱 bd o.c arg8 r8 v8)
  isplitl [H8]; · iexact H8
  iintro H8
  iapply (ld_holds 𝒱 bd o.c arg9 r9 v9)
  isplitl [H9]; · iexact H9
  iintro H9
  iapply (ld_whalf o 𝒱 bd (p + nb - 1) 0 (by omega) (off72_eq p nb (by omega) (by omega) (by omega)) _ (f))
  isplitl [HP]; · iexact HP
  iintro HP
  iapply (st_whalf o 𝒱 bd (p + nb - 1) 0 (by omega) (off72_eq p nb (by omega) (by omega) (by omega)) _ (f))
  isplitl [HP]; · iexact HP
  iintro HP
  iapply (ld_rhalf o 𝒱 bd (p + nb - 1) 256 (by omega) (by omega) (off73_eq p nb (by omega) (by omega) (by omega)))
  isplitl [HR]; · iexact HR
  iintro HR
  iapply (ret_wp o defs 𝒱 bd)
  iapply Hk
  isplitl [HR]; · iexact HR
  isplitl [HP]; · iexact HP
  isplitl [H8]; · iexact H8
  iexact H9

/-- The odd block's second half. -/
theorem part15_wp (hp : p + nb ≤ o.n) (h16 : k0_cond16 (N# nb) = 1#1) (a b : BitVec 32) (v124) (v8 : Vec F S1024x512 .bf16) (v9 : Vec F S256x1024 .bf16)
    (f : o.yb.view.ty.Contents (Elt F)) {Q : _ → sProp 𝕄} :
    iprop((wpt o (p + nb - 1) f ∗ holds o.c arg8 r8 v8 ∗ holds o.c arg9 r9 v9)
      ∗ ((wpt o (p + nb - 1) (whalf (Val := Elt F) o.yb (p + nb - 1) 256 (le_refl _) f (k0_pay21 v124 v8 v9)) ∗ holds o.c arg8 r8 v8 ∗ holds o.c arg9 r9 v9) -∗ Q ⟨⟩))
      ⊢ WP (k0_part15 (F := F) i arg1 harg1 arg2 harg2 arg3 harg3 o.xs harg4 arg5 harg5 arg6 harg6 o.y harg7 arg8 harg8 arg9 harg9 o.xb harg10 o.yb harg11 o.ra o.wa (N# o.n) (N# p) (N# nb) hw h16 a b v124) Q := by
  have hn := o.hn
  have hodd : nb % 2 = 1 := by rw [← cond16_iff nb (by omega)]; exact h16
  rw [k0_part15_eq_skeleton]
  unfold k0_part15_skel
  dsimp only
  iintro ⟨⟨HP, H8, H9⟩, Hk⟩
  iapply (ld_holds 𝒱 bd o.c arg8 r8 v8)
  isplitl [H8]; · iexact H8
  iintro H8
  iapply (ld_holds 𝒱 bd o.c arg9 r9 v9)
  isplitl [H9]; · iexact H9
  iintro H9
  iapply (ld_whalf o 𝒱 bd (p + nb - 1) 256 (by omega) (off74_eq p nb (by omega) (by omega) (by omega)) _ (f))
  isplitl [HP]; · iexact HP
  iintro HP
  iapply (st_whalf o 𝒱 bd (p + nb - 1) 256 (by omega) (off74_eq p nb (by omega) (by omega) (by omega)) _ (f))
  isplitl [HP]; · iexact HP
  iintro HP
  iapply (ret_wp o defs 𝒱 bd)
  iapply Hk
  isplitl [HP]; · iexact HP
  isplitl [H8]; · iexact H8
  iexact H9

theorem pay19_eq (X : Vec F S1x256x512 .i32) (v8 : Vec F S1024x512 .bf16) (v9 : Vec F S256x1024 .bf16) :
    k0_pay19 X v8 v9 = k0_pay1 X v8 v9 := rfl
theorem pay21_eq (X : Vec F S1x256x512 .i32) (v8 : Vec F S1024x512 .bf16) (v9 : Vec F S256x1024 .bf16) :
    k0_pay21 (k0_pay20 X) v8 v9 = k0_pay1 X v8 v9 := rfl

/-- Both loops: the pairs of blocks; the second loop has no trips. -/
theorem loops_wp (hp : p + nb ≤ o.n) (v8 : Vec F S1024x512 .bf16) (v9 : Vec F S256x1024 .bf16)
    (hY : ∀ (g : ℕ) (hg : g < 320), p ≤ g → g < p + nb → o.Y g = block v8 v9 (Xof o g hg))
    {h1 : (k0_t1_loop (N# nb)).OK} {h2 : (k0_t2_loop (N# nb)).OK} {v32 : BitVec 32} {α : Type}
    {K : Unit → Prog (TpuEff nD τ sig (Elt F) Λ₀ .tc) α} {Q : α → sProp 𝕄} :
    iprop(between o arg8 arg9 v8 v9 p ∗ (between o arg8 arg9 v8 v9 (p + 2 * (nb / 2)) -∗ WP (K ()) Q))
      ⊢ WP (Scf.Loop.for (k0_t1_loop (N# nb)) h1 () (k0_t1_body (F := F) i arg1 harg1 arg2 harg2 arg3 harg3 o.xs harg4 arg5 harg5 arg6 harg6 o.y harg7 arg8 harg8 arg9 harg9 o.xb harg10 o.yb harg11 o.ra o.wa (N# o.n) (N# p) (N# nb) hw)
          >>= fun _ => Scf.Loop.for (k0_t2_loop (N# nb)) h2 () (k0_t2_body (F := F) i arg1 harg1 arg2 harg2 arg3 harg3 o.xs harg4 arg5 harg5 arg6 harg6 o.y harg7 arg8 harg8 arg9 harg9 o.xb harg10 o.yb harg11 o.ra o.wa (N# o.n) (N# p) (N# nb) hw v32) >>= K) Q := by
  have hn := o.hn
  iintro ⟨HB, Hk⟩
  have key := Scf.wp_for_bind (M := 𝕄) frame (wpE defs 𝒱 (o.c : Thread nD τ) bd) Set.univ (k0_t1_loop (N# nb)).lb (k0_t1_loop (N# nb)).ub (k0_t1_loop (N# nb)).st h1 ()
    (k0_t1_body (F := F) i arg1 harg1 arg2 harg2 arg3 harg3 o.xs harg4 arg5 harg5 arg6 harg6 o.y harg7 arg8 harg8 arg9 harg9 o.xb harg10 o.yb harg11 o.ra o.wa (N# o.n) (N# p) (N# nb) hw) (fun k _ => between o arg8 arg9 v8 v9 (p + 2 * k))
    (fun k acc => trip_wp o defs 𝒱 bd i arg1 harg1 arg2 harg2 arg3 harg3 harg4 arg5 harg5 arg6 harg6 harg7 arg8 harg8 arg9 harg9 harg10 harg11 p nb hw hp k v8 v9 hY)
    (kk := fun _ => Scf.Loop.for (k0_t2_loop (N# nb)) h2 () (k0_t2_body (F := F) i arg1 harg1 arg2 harg2 arg3 harg3 o.xs harg4 arg5 harg5 arg6 harg6 o.y harg7 arg8 harg8 arg9 harg9 o.xb harg10 o.yb harg11 o.ra o.wa (N# o.n) (N# p) (N# nb) hw v32) >>= K) (Q := Q)
  iapply key $$ HB
  iintro %acc HB
  rw [show Scf.trips (k0_t1_loop (N# nb)).lb (k0_t1_loop (N# nb)).ub (k0_t1_loop (N# nb)).st = nb / 2 from t1_trips nb (by omega)]
  rw [show Scf.Loop.for (k0_t2_loop (N# nb)) h2 () (k0_t2_body (F := F) i arg1 harg1 arg2 harg2 arg3 harg3 o.xs harg4 arg5 harg5 arg6 harg6 o.y harg7 arg8 harg8 arg9 harg9 o.xb harg10 o.yb harg11 o.ra o.wa (N# o.n) (N# p) (N# nb) hw v32) = .ret () from
    Scf.for_eq_ret _ _ _ _ _ _ (t2_trips nb (by omega))]
  iapply Hk
  iexact HB

/-- The first test of a proposition proved. -/
theorem assume_wp {α : Type} {Q : α → sProp 𝕄} {P : Prop} {d : Decidable P} {k : PLift P → Prog (TpuEff nD τ sig (Elt F) Λ₀ .tc) α} (h : P) :
    WP (k ⟨h⟩) Q ⊢ WP (Prog.lift (.assume P d) >>= k) Q :=
  wp_assume 𝒱 (o.c : Thread nD τ) bd Set.univ h

/-- A word of a table. -/
theorem ld_table {α : Type} {Q : α → sProp 𝕄} {s : Shape} (m : Memref sig .tc .smem s .i32) (q : PosShare TreeShare)
    (f : Buf (Elt F) (m.view.loc (o.c : Thread nD τ))) (v : BitVec 32)
    {r : Rect s} {h1 : r.shape.numel = 1} {hp : EltTy.i32.packing = 1} (hv : ∀ x, (m.access r).read (Elt F) f x = v) {k : BitVec 32 → Prog (TpuEff nD τ sig (Elt F) Λ₀ .tc) α} :
    iprop((m.view.loc (o.c : Thread nD τ) ↦{q} f) ∗ ((m.view.loc (o.c : Thread nD τ) ↦{q} f) -∗ WP (k v) Q))
      ⊢ WP (smemLoad m r h1 hp >>= k) Q := by
  subst_vars
  iintro ⟨H, Hk⟩
  rw [wp_bind]
  unfold smemLoad
  iapply (wp_smemLoadElt 𝒱 (o.c : Thread nD τ) bd Set.univ (m := m) (r := r) (S := Finset.univ) (Finset.subset_univ _)) $$ H
  iintro H
  rw [wp_ret, hv]
  imodintro
  iapply Hk
  iexact H

/-- A load of a window's block. -/
theorem ld_owns {α : Type} {Q : α → sProp 𝕄} {s : Shape} {e : EltTy} (m : Memref sig .tc .vmem s e) (q : PosShare TreeShare)
    (d : s.Idx → Elt F e) (r : Rect s) {hl} {k : (r.shape.Idx → Elt F e) → Prog (TpuEff nD τ sig (Elt F) Λ₀ .tc) α} :
    iprop(owns (o.c : Thread nD τ) m q d ∗ (owns (o.c : Thread nD τ) m q d -∗ WP (k (View.ld d r)) Q))
      ⊢ WP (Prog.lift (.load m r.toLoadRect hl) >>= k) Q := by
  unfold owns
  iintro ⟨⟨%f, %hf, H⟩, Hk⟩
  iapply (wp_load 𝒱 (o.c : Thread nD τ) bd Set.univ (m := m) (View.setOn_subset_set m.view _)) $$ H
  iintro H
  subst hf
  iapply Hk
  iexists f
  isplitr
  · ipureintro; rfl
  · iexact H

/-- What the windows' blocks are read through. -/
abbrev r5 : Rect S1x1024x512 := Rect.unit (s := S1x1024x512) ![0, 0, 0] S1x1024x512.size inb_S1x1024x512_S1x1024x512_0_0_0
abbrev r6 : Rect S1x256x1024 := Rect.unit (s := S1x256x1024) ![0, 0, 0] S1x256x1024.size inb_S1x256x1024_S1x256x1024_0_0_0

/-- A test that succeeds, a test that fails. -/
theorem wp_dif_pos {α : Type} {Q : α → sProp 𝕄} {c : Prop} [Decidable c] (h : c) {t : c → Prog (TpuEff nD τ sig (Elt F) Λ₀ .tc) α}
    {e : ¬ c → Prog (TpuEff nD τ sig (Elt F) Λ₀ .tc) α} : WP (t h) Q ⊢ WP (dite c t e) Q := by rw [dif_pos h]
theorem wp_dif_neg {α : Type} {Q : α → sProp 𝕄} {c : Prop} [Decidable c] (h : ¬ c) {t : c → Prog (TpuEff nD τ sig (Elt F) Λ₀ .tc) α}
    {e : ¬ c → Prog (TpuEff nD τ sig (Elt F) Λ₀ .tc) α} : WP (e h) Q ⊢ WP (dite c t e) Q := by rw [dif_neg h]
theorem wp_if_pos {α : Type} {Q : α → sProp 𝕄} {c : Prop} [Decidable c] (h : c) {t e : Prog (TpuEff nD τ sig (Elt F) Λ₀ .tc) α} :
    WP t Q ⊢ WP (ite c t e) Q := by rw [if_pos h]
theorem wp_if_neg {α : Type} {Q : α → sProp 𝕄} {c : Prop} [Decidable c] (h : ¬ c) {t e : Prog (TpuEff nD τ sig (Elt F) Λ₀ .tc) α} :
    WP e Q ⊢ WP (ite c t e) Q := by rw [if_neg h]

theorem some_iff (n K : ℕ) (hn : n < 1048576) (hK : K < 1048576) :
    (Scalar.cmpi .ne (Scalar.extui (Scalar.cmpi .sgt (N# n) (N# K))) 0#32 = 1#1) = (K < n) := by
  rw [w_bit, w_sgt n K (by omega) (by omega)]

/-- Starting block `K` of the first five, if it is in use. -/
theorem start_first {α : Type} {Q : α → sProp 𝕄} {c : Prop} [Decidable c] (K : ℕ) (hc : c = (K < o.n)) (hK : K < 8)
    {o1 : Fin 1 → ℕ} {o2 : Fin 3 → ℕ} {o3 : Fin 2 → ℕ}
    (h1 : o1 = ![K % 8]) (h2 : o2 = ![K % 8, 0, 0]) (h3 : o3 = ![K * 512, 0])
    (i1 : ∀ a, o1 a + S1.size a ≤ S8.size a) (i2 : ∀ a, o2 a + S1x512x512.size a ≤ S8x512x512.size a)
    (i3 : ∀ a, o3 a + S512x512.size a ≤ S163840x512.size a) {hsrc hdst hsem}
    {R : Prog (TpuEff nD τ sig (Elt F) Λ₀ .tc) α} :
    iprop(rring o 0 0 (min K o.n) ∗ (rring o 0 0 (min (K + 1) o.n) -∗ WP R Q))
      ⊢ WP (if c then
          (Prog.lift (.enqueueDma (o.xs.slice (Rect.unit (s := S163840x512) o3 S512x512.size i3) (fun _ => rfl))
            (.here ((o.xb.slice (Rect.unit (s := S8x512x512) o2 S1x512x512.size i2) (fun _ => rfl)).squeeze S512x512 squeezes_S1x512x512_S512x512))
            (.dma ((o.ra.slice (Rect.unit (s := S8) o1 S1.size i1)).squeeze S_ squeezes_S1_S_).sem) hsrc hdst hsem) >>= fun _ => R)
          else R) Q := by
  have h := start_read_if o 𝒱 bd (defs := defs) (Q := Q) (R := R) 0 0 K hc (Nat.zero_le _) (by omega) h1 h2 h3 (fun _ => i1) (fun _ => i2) (fun _ => i3)
    (hsrc := fun _ => hsrc) (hdst := fun _ => hdst) (hsem := fun _ => hsem)
  rw [dite_eq_ite] at h
  exact h

/-- What a step holds beside the rings: the tables, the windows' blocks. -/
def sides (q : PosShare TreeShare) (f1 : Buf (Elt F) (arg1.view.loc (o.c : Thread nD τ))) (f2 : Buf (Elt F) (arg2.view.loc (o.c : Thread nD τ)))
    (f3 : Buf (Elt F) (arg3.view.loc (o.c : Thread nD τ))) (d5 : S1x1024x512.Idx → Elt F .f32) (d6 : S1x256x1024.Idx → Elt F .f32) : sProp 𝕄 :=
  iprop((arg1.view.loc (o.c : Thread nD τ) ↦{q} f1) ∗ (arg2.view.loc (o.c : Thread nD τ) ↦{q} f2) ∗ (arg3.view.loc (o.c : Thread nD τ) ↦{q} f3)
    ∗ owns (o.c : Thread nD τ) arg5 fullShare d5 ∗ owns (o.c : Thread nD τ) arg6 fullShare d6)

/-- A step up to its odd block: the tables are read, at the first step five transfers start, the weights are rounded if the
    expert has blocks, and the pairs of blocks go through. -/
theorem part16_wp (hp : p + nb ≤ o.n) (h0 : (i 0).val = 0 → p = 0) (q : PosShare TreeShare) (f1 : Buf (Elt F) (arg1.view.loc (o.c : Thread nD τ))) (f2 : Buf (Elt F) (arg2.view.loc (o.c : Thread nD τ)))
    (f3 : Buf (Elt F) (arg3.view.loc (o.c : Thread nD τ))) (d5 : S1x1024x512.Idx → Elt F .f32) (d6 : S1x256x1024.Idx → Elt F .f32)
    (hf1 : ∀ x, (arg1.access (Rect.unit (s := S64) (k0_off1 i) S1.size (k0_off1_inb i))).read (Elt F) f1 x = N# p)
    (hf2 : ∀ x, (arg2.access (Rect.unit (s := S64) (k0_off1 i) S1.size (k0_off1_inb i))).read (Elt F) f2 x = N# nb)
    (hf3 : ∀ x, (arg3.access (Rect.unit (s := S1) ![0] S1.size inb_S1_S1_0)).read (Elt F) f3 x = N# o.n)
    (hYs : ∀ (g : ℕ) (hg : g < 320), p ≤ g → g < p + nb → o.Y g = block (k0_pay22 (View.ld d5 r5)) (k0_pay23 (View.ld d6 r6)) (Xof o g hg)) {Q : _ → sProp 𝕄} :
    iprop((sides o arg1 arg2 arg3 arg5 arg6 q f1 f2 f3 d5 d6 ∗ (rring o p p (if (i 0).val = 0 then 0 else min (p + 5) o.n)) ∗ wring o (p - 4) p p ∗ (∃ W, owes (o.c : Thread nD τ) 0 W) ∗ (∃ v8, holds o.c arg8 r8 v8) ∗ (∃ v9, holds o.c arg9 r9 v9))
      ∗ (∀ a c d h2 h1 v8 v9, (sides o arg1 arg2 arg3 arg5 arg6 q f1 f2 f3 d5 d6 ∗ between o arg8 arg9 v8 v9 (p + 2 * (nb / 2))
          ∗ ⌜0 < nb → v8 = k0_pay22 (View.ld d5 r5) ∧ v9 = k0_pay23 (View.ld d6 r6)⌝) -∗ Q ⟨a, N# o.n, h2, N# p, N# nb, h1, c, d⟩))
      ⊢ WP (k0_part16 (F := F) i arg1 harg1 arg2 harg2 arg3 harg3 o.xs harg4 arg5 harg5 arg6 harg6 o.y harg7 arg8 harg8 arg9 harg9 o.xb harg10 o.yb harg11 o.ra o.wa) Q := by
  have hn := o.hn
  rw [k0_part16_eq_skeleton]
  unfold k0_part16_skel
  dsimp only
  iintro ⟨⟨HT, HR, HW, HO, ⟨%v8, H8⟩, ⟨%v9, H9⟩⟩, Hk⟩
  unfold sides
  icases HT with ⟨HT1, HT2, HT3, HV5, HV6⟩
  iapply (ld_table o defs 𝒱 bd arg3 q f3 (N# o.n) hf3)
  isplitl [HT3]; · iexact HT3
  iintro HT3
  iapply (assume_wp o defs 𝒱 bd (chk2 i o.n hn))
  iapply (ld_table o defs 𝒱 bd arg1 q f1 (N# p) hf1)
  isplitl [HT1]; · iexact HT1
  iintro HT1
  iapply (ld_table o defs 𝒱 bd arg2 q f2 (N# nb) hf2)
  isplitl [HT2]; · iexact HT2
  iintro HT2
  iapply (assume_wp o defs 𝒱 bd (chk1 o.n p nb hn hp))
  by_cases hi : (i 0).val = 0
  · iapply (wp_dif_pos o defs 𝒱 bd ((cond1_iff i).mpr hi))
    have hp0 := h0 hi
    ihave HR := (show (rring o p p (if (i 0).val = 0 then 0 else min (p + 5) o.n) : sProp 𝕄) ⊢ rring o 0 0 (min 0 o.n) by rw [if_pos hi, hp0, Nat.zero_min]) $$ HR
    iapply (start_first o defs 𝒱 bd 0 (o1 := ![0]) (o2 := ![0, 0, 0]) (o3 := ![0, 0]) (some_iff o.n 0 (by omega) (by omega)) (by omega) rfl rfl rfl inb_S8_S1_0 inb_S8x512x512_S1x512x512_0_0_0 inb_S163840x512_S512x512_0_0)
    isplitl [HR]; · iexact HR
    iintro HR
    iapply (start_first o defs 𝒱 bd 1 (o1 := ![1]) (o2 := ![1, 0, 0]) (o3 := ![512, 0]) (some_iff o.n 1 (by omega) (by omega)) (by omega) rfl rfl rfl inb_S8_S1_1 inb_S8x512x512_S1x512x512_1_0_0 inb_S163840x512_S512x512_512_0)
    isplitl [HR]; · iexact HR
    iintro HR
    iapply (start_first o defs 𝒱 bd 2 (o1 := ![2]) (o2 := ![2, 0, 0]) (o3 := ![1024, 0]) (some_iff o.n 2 (by omega) (by omega)) (by omega) rfl rfl rfl inb_S8_S1_2 inb_S8x512x512_S1x512x512_2_0_0 inb_S163840x512_S512x512_1024_0)
    isplitl [HR]; · iexact HR
    iintro HR
    iapply (start_first o defs 𝒱 bd 3 (o1 := ![3]) (o2 := ![3, 0, 0]) (o3 := ![1536, 0]) (some_iff o.n 3 (by omega) (by omega)) (by omega) rfl rfl rfl inb_S8_S1_3 inb_S8x512x512_S1x512x512_3_0_0 inb_S163840x512_S512x512_1536_0)
    isplitl [HR]; · iexact HR
    iintro HR
    iapply (start_first o defs 𝒱 bd 4 (o1 := ![4]) (o2 := ![4, 0, 0]) (o3 := ![2048, 0]) (some_iff o.n 4 (by omega) (by omega)) (by omega) rfl rfl rfl inb_S8_S1_4 inb_S8x512x512_S1x512x512_4_0_0 inb_S163840x512_S512x512_2048_0)
    isplitl [HR]; · iexact HR
    iintro HR
    ihave HR := (show (rring o 0 0 (min (4 + 1) o.n) : sProp 𝕄) ⊢ rring o p p (min (p + 5) o.n) by rw [hp0]) $$ HR
    by_cases hnb : 0 < nb
    · iapply (wp_if_pos o defs 𝒱 bd ((some_iff nb 0 (by omega) (by omega)).mpr hnb))
      iapply (ld_owns o defs 𝒱 bd arg5 fullShare d5 r5)
      isplitl [HV5]; · iexact HV5
      iintro HV5
      iapply (ld_holds 𝒱 bd o.c arg8 r8 v8)
      isplitl [H8]; · iexact H8
      iintro H8
      iapply (st_holds 𝒱 bd o.c arg8 r8 v8 (k0_pay22 (View.ld d5 r5)))
      isplitl [H8]; · iexact H8
      iintro H8
      iapply (ld_owns o defs 𝒱 bd arg6 fullShare d6 r6)
      isplitl [HV6]; · iexact HV6
      iintro HV6
      iapply (ld_holds 𝒱 bd o.c arg9 r9 v9)
      isplitl [H9]; · iexact H9
      iintro H9
      iapply (st_holds 𝒱 bd o.c arg9 r9 v9 (k0_pay23 (View.ld d6 r6)))
      isplitl [H9]; · iexact H9
      iintro H9
      iapply (loops_wp o defs 𝒱 bd i arg1 harg1 arg2 harg2 arg3 harg3 harg4 arg5 harg5 arg6 harg6 harg7 arg8 harg8 arg9 harg9 harg10 harg11 p nb (chk1 o.n p nb hn hp) hp (k0_pay22 (View.ld d5 r5)) (k0_pay23 (View.ld d6 r6)) hYs)
      isplitl [HR HW HO H8 H9]
      · unfold between
        isplitl [HR]; · iexact HR
        isplitl [HW]; · iexact HW
        isplitl [HO]; · iexact HO
        isplitl [H8]; · iexact H8
        iexact H9
      iintro HB
      iapply (ret_wp o defs 𝒱 bd)
      iapply Hk
      isplitl [HT1 HT2 HT3 HV5 HV6]
      · isplitl [HT1]; · iexact HT1
        isplitl [HT2]; · iexact HT2
        isplitl [HT3]; · iexact HT3
        isplitl [HV5]; · iexact HV5
        iexact HV6
      isplitl [HB]; · iexact HB
      ipureintro
      exact fun _ => ⟨rfl, rfl⟩
    · iapply (wp_if_neg o defs 𝒱 bd (fun h => hnb ((some_iff nb 0 (by omega) (by omega)).mp h)))
      iapply (loops_wp o defs 𝒱 bd i arg1 harg1 arg2 harg2 arg3 harg3 harg4 arg5 harg5 arg6 harg6 harg7 arg8 harg8 arg9 harg9 harg10 harg11 p nb (chk1 o.n p nb hn hp) hp v8 v9 (fun g hg h1 h2 => absurd h2 (by omega)))
      isplitl [HR HW HO H8 H9]
      · unfold between
        isplitl [HR]; · iexact HR
        isplitl [HW]; · iexact HW
        isplitl [HO]; · iexact HO
        isplitl [H8]; · iexact H8
        iexact H9
      iintro HB
      iapply (ret_wp o defs 𝒱 bd)
      iapply Hk
      isplitl [HT1 HT2 HT3 HV5 HV6]
      · isplitl [HT1]; · iexact HT1
        isplitl [HT2]; · iexact HT2
        isplitl [HT3]; · iexact HT3
        isplitl [HV5]; · iexact HV5
        iexact HV6
      isplitl [HB]; · iexact HB
      ipureintro
      exact fun h => absurd h hnb
  · iapply (wp_dif_neg o defs 𝒱 bd (fun h => hi ((cond1_iff i).mp h)))
    ihave HR := (show (rring o p p (if (i 0).val = 0 then 0 else min (p + 5) o.n) : sProp 𝕄) ⊢ rring o p p (min (p + 5) o.n) by rw [if_neg hi]) $$ HR
    by_cases hnb : 0 < nb
    · iapply (wp_if_pos o defs 𝒱 bd ((some_iff nb 0 (by omega) (by omega)).mpr hnb))
      iapply (ld_owns o defs 𝒱 bd arg5 fullShare d5 r5)
      isplitl [HV5]; · iexact HV5
      iintro HV5
      iapply (ld_holds 𝒱 bd o.c arg8 r8 v8)
      isplitl [H8]; · iexact H8
      iintro H8
      iapply (st_holds 𝒱 bd o.c arg8 r8 v8 (k0_pay22 (View.ld d5 r5)))
      isplitl [H8]; · iexact H8
      iintro H8
      iapply (ld_owns o defs 𝒱 bd arg6 fullShare d6 r6)
      isplitl [HV6]; · iexact HV6
      iintro HV6
      iapply (ld_holds 𝒱 bd o.c arg9 r9 v9)
      isplitl [H9]; · iexact H9
      iintro H9
      iapply (st_holds 𝒱 bd o.c arg9 r9 v9 (k0_pay23 (View.ld d6 r6)))
      isplitl [H9]; · iexact H9
      iintro H9
      iapply (loops_wp o defs 𝒱 bd i arg1 harg1 arg2 harg2 arg3 harg3 harg4 arg5 harg5 arg6 harg6 harg7 arg8 harg8 arg9 harg9 harg10 harg11 p nb (chk1 o.n p nb hn hp) hp (k0_pay22 (View.ld d5 r5)) (k0_pay23 (View.ld d6 r6)) hYs)
      isplitl [HR HW HO H8 H9]
      · unfold between
        isplitl [HR]; · iexact HR
        isplitl [HW]; · iexact HW
        isplitl [HO]; · iexact HO
        isplitl [H8]; · iexact H8
        iexact H9
      iintro HB
      iapply (ret_wp o defs 𝒱 bd)
      iapply Hk
      isplitl [HT1 HT2 HT3 HV5 HV6]
      · isplitl [HT1]; · iexact HT1
        isplitl [HT2]; · iexact HT2
        isplitl [HT3]; · iexact HT3
        isplitl [HV5]; · iexact HV5
        iexact HV6
      isplitl [HB]; · iexact HB
      ipureintro
      exact fun _ => ⟨rfl, rfl⟩
    · iapply (wp_if_neg o defs 𝒱 bd (fun h => hnb ((some_iff nb 0 (by omega) (by omega)).mp h)))
      iapply (loops_wp o defs 𝒱 bd i arg1 harg1 arg2 harg2 arg3 harg3 harg4 arg5 harg5 arg6 harg6 harg7 arg8 harg8 arg9 harg9 harg10 harg11 p nb (chk1 o.n p nb hn hp) hp v8 v9 (fun g hg h1 h2 => absurd h2 (by omega)))
      isplitl [HR HW HO H8 H9]
      · unfold between
        isplitl [HR]; · iexact HR
        isplitl [HW]; · iexact HW
        isplitl [HO]; · iexact HO
        isplitl [H8]; · iexact H8
        iexact H9
      iintro HB
      iapply (ret_wp o defs 𝒱 bd)
      iapply Hk
      isplitl [HT1 HT2 HT3 HV5 HV6]
      · isplitl [HT1]; · iexact HT1
        isplitl [HT2]; · iexact HT2
        isplitl [HT3]; · iexact HT3
        isplitl [HV5]; · iexact HV5
        iexact HV6
      isplitl [HB]; · iexact HB
      ipureintro
      exact fun h => absurd h hnb

/-- What a step leaves: the rings at its last block, all written out after the last step. -/
def ends (q : ℕ) : sProp 𝕄 :=
  iprop(rring o q q (min (q + 5) o.n) ∗ wring o (if (i 0).val = 63 then o.n else q - 4) q q ∗ (∃ W, owes (o.c : Thread nD τ) 0 W) ∗ (∃ v8, holds o.c arg8 r8 v8) ∗ (∃ v9, holds o.c arg9 r9 v9))

/-- One step of the kernel. -/
theorem experts_wp (hp : p + nb ≤ o.n) (h0 : (i 0).val = 0 → p = 0) (h63 : (i 0).val = 63 → p + nb = o.n) (q : PosShare TreeShare) (f1 : Buf (Elt F) (arg1.view.loc (o.c : Thread nD τ))) (f2 : Buf (Elt F) (arg2.view.loc (o.c : Thread nD τ)))
    (f3 : Buf (Elt F) (arg3.view.loc (o.c : Thread nD τ))) (d5 : S1x1024x512.Idx → Elt F .f32) (d6 : S1x256x1024.Idx → Elt F .f32)
    (hf1 : ∀ x, (arg1.access (Rect.unit (s := S64) (k0_off1 i) S1.size (k0_off1_inb i))).read (Elt F) f1 x = N# p)
    (hf2 : ∀ x, (arg2.access (Rect.unit (s := S64) (k0_off1 i) S1.size (k0_off1_inb i))).read (Elt F) f2 x = N# nb)
    (hf3 : ∀ x, (arg3.access (Rect.unit (s := S1) ![0] S1.size inb_S1_S1_0)).read (Elt F) f3 x = N# o.n)
    (hYs : ∀ (g : ℕ) (hg : g < 320), p ≤ g → g < p + nb → o.Y g = block (k0_pay22 (View.ld d5 r5)) (k0_pay23 (View.ld d6 r6)) (Xof o g hg)) :
    iprop(sides o arg1 arg2 arg3 arg5 arg6 q f1 f2 f3 d5 d6 ∗ (rring o p p (if (i 0).val = 0 then 0 else min (p + 5) o.n)) ∗ wring o (p - 4) p p ∗ (∃ W, owes (o.c : Thread nD τ) 0 W) ∗ (∃ v8, holds o.c arg8 r8 v8) ∗ (∃ v9, holds o.c arg9 r9 v9))
      ⊢ WP (cc0_experts (F := F) i arg1 harg1 arg2 harg2 arg3 harg3 o.xs harg4 arg5 harg5 arg6 harg6 o.y harg7 arg8 harg8 arg9 harg9 o.xb harg10 o.yb harg11 o.ra o.wa) (fun _ => iprop(sides o arg1 arg2 arg3 arg5 arg6 q f1 f2 f3 d5 d6 ∗ ends o i arg8 arg9 (p + nb))) := by
  have hn := o.hn
  rw [cc0_experts_eq_skeleton]
  unfold cc0_experts_skel ends
  dsimp only
  iintro H
  rw [wp_bind]
  iapply (part16_wp o defs 𝒱 bd i arg1 harg1 arg2 harg2 arg3 harg3 harg4 arg5 harg5 arg6 harg6 harg7 arg8 harg8 arg9 harg9 harg10 harg11 p nb hp h0 q f1 f2 f3 d5 d6 hf1 hf2 hf3 hYs)
  isplitl [H]; · iexact H
  iintro %a %c %d %h2 %h1 %v8 %v9 ⟨HT, HB, %hv⟩
  dsimp only
  unfold between
  icases HB with ⟨HR, HW, HO, H8, H9⟩
  by_cases hodd : nb % 2 = 1
  · have h16 := (cond16_iff nb (by omega)).mpr hodd
    iapply (wp_dif_pos o defs 𝒱 bd h16)
    rw [show p + 2 * (nb / 2) = (p + nb - 1) by omega]
    have hg : (p + nb - 1) < 320 := by omega
    obtain ⟨hv8, hv9⟩ := hv (by omega)
    have hY := hYs (p + nb - 1) hg (by omega) (by omega)
    rw [← hv8, ← hv9] at hY
    rw [wp_bind]
    iapply (part13_wp o defs 𝒱 bd i arg1 harg1 arg2 harg2 arg3 harg3 harg4 arg5 harg5 arg6 harg6 harg7 arg8 harg8 arg9 harg9 harg10 harg11 p nb h1 hp h16)
    isplitl [HR HW HO]
    · isplitl [HR]; · iexact HR
      isplitl [HW]; · iexact HW
      iexact HO
    iintro %r ⟨HR, HW, HO⟩
    obtain ⟨u50, u84⟩ := r
    dsimp only
    ihave ⟨HF, HR⟩ := (rring_use o (p + nb - 1) ((p + nb - 1) + 1) (min ((p + nb - 1) + 5 + 1) o.n) (by omega) (by omega)) $$ HR
    ihave ⟨HP, HW⟩ := (wring_use o ((p + nb - 1) + 1 - 4) (p + nb - 1) (p + nb - 1) (le_refl _) (by omega)) $$ HW
    unfold rheld wfree
    icases HF with ⟨HFs, HF⟩
    icases HP with ⟨HPs, %f, HP⟩
    rw [wp_bind]
    iapply (part14_wp o defs 𝒱 bd i arg1 harg1 arg2 harg2 arg3 harg3 harg4 arg5 harg5 arg6 harg6 harg7 arg8 harg8 arg9 harg9 harg10 harg11 p nb h1 hp h16 hg u50 u84 v8 v9 f)
    isplitl [HF HP H8 H9]
    · isplitl [HF]; · iexact HF
      isplitl [HP]; · iexact HP
      isplitl [H8]; · iexact H8
      iexact H9
    iintro %u ⟨HF, HP, H8, H9⟩
    dsimp only
    rw [pay19_eq]
    icases HF with ⟨%fr, %hfr, HF⟩
    ihave HR := HR $$ [HFs HF]
    · unfold rfree
      isplitl [HFs]; · iexact HFs
      iexists fr
      iexact HF
    rw [wp_bind]
    iapply (part15_wp o defs 𝒱 bd i arg1 harg1 arg2 harg2 arg3 harg3 harg4 arg5 harg5 arg6 harg6 harg7 arg8 harg8 arg9 harg9 harg10 harg11 p nb h1 hp h16 u50 u (k0_pay20 (halfOf 256 (le_refl _) (Xof o (p + nb - 1) hg))) v8 v9
      (whalf (Val := Elt F) o.yb (p + nb - 1) 0 (Nat.zero_le _) f (k0_pay1 (halfOf 0 (Nat.zero_le _) (Xof o (p + nb - 1) hg)) v8 v9)))
    isplitl [HP H8 H9]
    · isplitl [HP]; · iexact HP
      isplitl [H8]; · iexact H8
      iexact H9
    iintro ⟨HP, H8, H9⟩
    rw [pay21_eq]
    ihave HW := HW $$ [HPs HP]
    · unfold wdone
      isplitl [HPs]; · iexact HPs
      iexists _
      isplitr [HP]
      swap
      · iexact HP
      ipureintro
      rw [halves_read, hY]
      rfl
    iapply (start_write o 𝒱 bd ((p + nb - 1) + 1 - 4) (p + nb - 1) ((p + nb - 1) + 1) (by omega) (by omega) (by omega) (off75_eq p nb (by omega) (by omega) (by omega)) (off76_eq p nb (by omega) (by omega) (by omega)) (off67_eq p nb (by omega) (by omega) (by omega)))
    isplitl [HW]; · iexact HW
    iintro HW
    rw [show (p + nb - 1) + 5 + 1 = p + nb + 5 by omega, show (p + nb - 1) + 1 - 4 = p + nb - 4 by omega, show (p + nb - 1) + 1 = p + nb by omega]
    by_cases hi : (i 0).val = 63
    · iapply (wp_dif_pos o defs 𝒱 bd ((cond19_iff i).mpr hi))
      have hq := h63 hi
      rw [hq, if_pos hi]
      iapply (wait_write_if o 𝒱 bd o.n 4 o.n o.n (by omega) (cond20_iff o.n (by omega)) (by omega) (by omega) (by omega)
        (fun h => off77_eq o.n (by omega) h) (fun h => off78_eq o.n (by omega) h))
      isplitl [HW HO]
      · isplitl [HW]; · iexact HW
        iexact HO
      iintro ⟨HW, HO⟩
      rw [show o.n + 1 - 4 = o.n - 3 by omega]
      iapply (wait_write_if o 𝒱 bd o.n 3 o.n o.n (by omega) (cond21_iff o.n (by omega)) (by omega) (by omega) (by omega)
        (fun h => off80_eq o.n (by omega) h) (fun h => off81_eq o.n (by omega) h))
      isplitl [HW HO]
      · isplitl [HW]; · iexact HW
        iexact HO
      iintro ⟨HW, HO⟩
      rw [show o.n + 1 - 3 = o.n - 2 by omega]
      iapply (wait_write_if o 𝒱 bd o.n 2 o.n o.n (by omega) (cond22_iff o.n (by omega)) (by omega) (by omega) (by omega)
        (fun h => off83_eq o.n (by omega) h) (fun h => off84_eq o.n (by omega) h))
      isplitl [HW HO]
      · isplitl [HW]; · iexact HW
        iexact HO
      iintro ⟨HW, HO⟩
      rw [show o.n + 1 - 2 = o.n - 1 by omega]
      iapply (wait_write_if o 𝒱 bd o.n 1 o.n o.n (by omega) (cond23_iff o.n (by omega)) (by omega) (by omega) (by omega)
        (fun h => off86_eq o.n (by omega) h) (fun h => off87_eq o.n (by omega) h))
      isplitl [HW HO]
      · isplitl [HW]; · iexact HW
        iexact HO
      iintro ⟨HW, HO⟩
      rw [show o.n + 1 - 1 = o.n by omega]
      iapply (ret_wp o defs 𝒱 bd)
      isplitl [HT]; · iexact HT
      isplitl [HR]; · iexact HR
      isplitl [HW]; · iexact HW
      isplitl [HO]; · iexact HO
      isplitl [H8]
      · iexists v8; iexact H8
      · iexists v9; iexact H9
    · iapply (wp_dif_neg o defs 𝒱 bd (fun h => hi ((cond19_iff i).mp h)))
      rw [if_neg hi]
      iapply (ret_wp o defs 𝒱 bd)
      isplitl [HT]; · iexact HT
      isplitl [HR]; · iexact HR
      isplitl [HW]; · iexact HW
      isplitl [HO]; · iexact HO
      isplitl [H8]
      · iexists v8; iexact H8
      · iexists v9; iexact H9
  · iapply (wp_dif_neg o defs 𝒱 bd (fun h => hodd ((cond16_iff nb (by omega)).mp h)))
    rw [show p + 2 * (nb / 2) = p + nb by omega]
    by_cases hi : (i 0).val = 63
    · iapply (wp_dif_pos o defs 𝒱 bd ((cond19_iff i).mpr hi))
      have hq := h63 hi
      rw [hq, if_pos hi]
      iapply (wait_write_if o 𝒱 bd o.n 4 o.n o.n (by omega) (cond20_iff o.n (by omega)) (by omega) (by omega) (by omega)
        (fun h => off77_eq o.n (by omega) h) (fun h => off78_eq o.n (by omega) h))
      isplitl [HW HO]
      · isplitl [HW]; · iexact HW
        iexact HO
      iintro ⟨HW, HO⟩
      rw [show o.n + 1 - 4 = o.n - 3 by omega]
      iapply (wait_write_if o 𝒱 bd o.n 3 o.n o.n (by omega) (cond21_iff o.n (by omega)) (by omega) (by omega) (by omega)
        (fun h => off80_eq o.n (by omega) h) (fun h => off81_eq o.n (by omega) h))
      isplitl [HW HO]
      · isplitl [HW]; · iexact HW
        iexact HO
      iintro ⟨HW, HO⟩
      rw [show o.n + 1 - 3 = o.n - 2 by omega]
      iapply (wait_write_if o 𝒱 bd o.n 2 o.n o.n (by omega) (cond22_iff o.n (by omega)) (by omega) (by omega) (by omega)
        (fun h => off83_eq o.n (by omega) h) (fun h => off84_eq o.n (by omega) h))
      isplitl [HW HO]
      · isplitl [HW]; · iexact HW
        iexact HO
      iintro ⟨HW, HO⟩
      rw [show o.n + 1 - 2 = o.n - 1 by omega]
      iapply (wait_write_if o 𝒱 bd o.n 1 o.n o.n (by omega) (cond23_iff o.n (by omega)) (by omega) (by omega) (by omega)
        (fun h => off86_eq o.n (by omega) h) (fun h => off87_eq o.n (by omega) h))
      isplitl [HW HO]
      · isplitl [HW]; · iexact HW
        iexact HO
      iintro ⟨HW, HO⟩
      rw [show o.n + 1 - 1 = o.n by omega]
      iapply (ret_wp o defs 𝒱 bd)
      isplitl [HT]; · iexact HT
      isplitl [HR]; · iexact HR
      isplitl [HW]; · iexact HW
      isplitl [HO]; · iexact HO
      isplitl [H8]
      · iexists v8; iexact H8
      · iexists v9; iexact H9
    · iapply (wp_dif_neg o defs 𝒱 bd (fun h => hi ((cond19_iff i).mp h)))
      rw [if_neg hi]
      iapply (ret_wp o defs 𝒱 bd)
      isplitl [HT]; · iexact HT
      isplitl [HR]; · iexact HR
      isplitl [HW]; · iexact HW
      isplitl [HO]; · iexact HO
      isplitl [H8]
      · iexists v8; iexact H8
      · iexists v9; iexact H9

end Cert.Kernel.Hand

end

end
-- ==== Proof.Ends.lean ====
/-
  Where the two rings begin and end: the two arrays of rows cut in blocks, the two scratch buffers cut in slots, and the
  twelve semaphores, each slot's beside it.
-/
module

public import proofs.«01_k».proof.Proof.Body

@[expose] public section

noncomputable section

namespace Cert.Kernel.Hand

open Cert.Kernel Cert.Kernel.Gen
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The operands of the rings in the program: its own buffers and semaphores. -/
@[reducible] def opsOf (c : Dev nD) (fx : Buf (Elt F) ((c : Thread nD τ).loc main_arg3)) (y0 G : Buf (Elt F) ((c : Thread nD τ).loc main_v0))
    (Y : ℕ → S512x512.Idx → Elt F .i32) (n : ℕ) (hn : n ≤ 320)
    (hG : ∀ (g : ℕ) (h : g < 320), g < n → (blk (Memref.whole main_v0) g h).view.read (Elt F) G = Y g) : Ops F where
  c := c
  xs := Memref.whole main_arg3
  y := Memref.whole main_v0
  xb := Memref.whole cc0_scratch2
  yb := Memref.whole cc0_scratch3
  ra := cc0_scratch4
  wa := cc0_scratch5
  fx := fx
  y0 := y0
  G := G
  Y := Y
  n := n
  hn := hn
  hG := hG

/-- The semaphores the body's own transfers end on. -/
abbrev osem0 : Fin 12 → SemLoc sig := fun j => SemLoc.dma (⟨j.val + 4, by have := j.isLt; show j.val + 4 < 16; omega⟩ : Fin 16)
theorem ownSemFacts0 : Pipeline.OwnSemFacts spec0 osem0 := by decide

/-- The numbers below `k` one by one, as a type or as a run. -/
theorem bigSep_below (k : ℕ) (A : ℕ → sProp 𝕄) : bigSep Finset.univ (fun g : Fin k => A g.val) = bigSep (Finset.Ico 0 k) A := by
  rw [show Finset.Ico 0 k = (Finset.univ : Finset (Fin k)).map Fin.valEmbedding from by
    ext x; simp only [Finset.mem_Ico, Finset.mem_map, Finset.mem_univ, true_and, Fin.valEmbedding_apply, Nat.zero_le]
    exact ⟨fun h => ⟨⟨x, h⟩, rfl⟩, fun ⟨a, ha⟩ => ha ▸ a.isLt⟩, bigSep_map]
  rfl

/-! ## Blocks and slots, disjoint and covering -/

abbrev hset (g : Fin 320) : Finset S163840x512.Idx := (Rect.unit (s := S163840x512) ![g.val * 512, 0] S512x512.size (inHbm g.val g.isLt)).set
theorem hset_disjoint (b b' : Fin 320) (h : b ≠ b') : Disjoint (hset b) (hset b') :=
  Ring.lead_disjoint (s := S163840x512) (0 : Fin 2) 512 (fun g : Fin 320 => (![g.val * 512, 0] : Fin 2 → ℕ)) S512x512.size
    (fun g => inHbm g.val g.isLt) (fun b => Nat.mul_comm _ _) rfl b b' h
theorem hset_cover : Finset.univ.biUnion hset = Finset.univ :=
  Ring.lead_cover (s := S163840x512) (0 : Fin 2) 512 (fun g : Fin 320 => (![g.val * 512, 0] : Fin 2 → ℕ)) S512x512.size
    (fun g => inHbm g.val g.isLt) (fun b => Nat.mul_comm _ _) (fun b a h => by fin_cases a; exact absurd rfl h; rfl) rfl
    (fun a h => by fin_cases a; exact absurd rfl h; rfl) rfl

abbrev rset (g : Fin 8) : Finset S8x512x512.Idx := (Rect.unit (s := S8x512x512) ![g.val % 8, 0, 0] S1x512x512.size (in8s g.val)).set
theorem rset_disjoint (b b' : Fin 8) (h : b ≠ b') : Disjoint (rset b) (rset b') :=
  Ring.lead_disjoint (s := S8x512x512) (0 : Fin 3) 1 (fun g : Fin 8 => (![g.val % 8, 0, 0] : Fin 3 → ℕ)) S1x512x512.size
    (fun g => in8s g.val) (fun b => by show b.val % 8 = 1 * b.val; omega) rfl b b' h
theorem rset_cover : Finset.univ.biUnion rset = Finset.univ :=
  Ring.lead_cover (s := S8x512x512) (0 : Fin 3) 1 (fun g : Fin 8 => (![g.val % 8, 0, 0] : Fin 3 → ℕ)) S1x512x512.size
    (fun g => in8s g.val) (fun b => by show b.val % 8 = 1 * b.val; omega) (fun b a h => by fin_cases a; exact absurd rfl h; rfl; rfl) rfl
    (fun a h => by fin_cases a; exact absurd rfl h; rfl; rfl) rfl

abbrev wset (g : Fin 4) : Finset S4x512x512.Idx := (Rect.unit (s := S4x512x512) ![g.val % 4, 0, 0] S1x512x512.size (in4s g.val)).set
theorem wset_disjoint (b b' : Fin 4) (h : b ≠ b') : Disjoint (wset b) (wset b') :=
  Ring.lead_disjoint (s := S4x512x512) (0 : Fin 3) 1 (fun g : Fin 4 => (![g.val % 4, 0, 0] : Fin 3 → ℕ)) S1x512x512.size
    (fun g => in4s g.val) (fun b => by show b.val % 4 = 1 * b.val; omega) rfl b b' h
theorem wset_cover : Finset.univ.biUnion wset = Finset.univ :=
  Ring.lead_cover (s := S4x512x512) (0 : Fin 3) 1 (fun g : Fin 4 => (![g.val % 4, 0, 0] : Fin 3 → ℕ)) S1x512x512.size
    (fun g => in4s g.val) (fun b => by show b.val % 4 = 1 * b.val; omega) (fun b a h => by fin_cases a; exact absurd rfl h; rfl; rfl) rfl
    (fun a h => by fin_cases a; exact absurd rfl h; rfl; rfl) rfl

theorem xs_set (g : Fin 320) : (blk (Memref.whole main_arg3) g.val g.isLt).view.set = hset g := View.set_slice_whole _ _
theorem y_set (g : Fin 320) : (blk (Memref.whole main_v0) g.val g.isLt).view.set = hset g := View.set_slice_whole _ _
theorem xb_set (g : Fin 8) : (rslot (Memref.whole cc0_scratch2) g.val).view.set = rset g :=
  (View.set_reshape _ _).trans (View.set_slice_whole _ _)
theorem yb_set (g : Fin 4) : (wslot (Memref.whole cc0_scratch3) g.val).view.set = wset g :=
  (View.set_reshape _ _).trans (View.set_slice_whole _ _)

variable (c : Dev nD) (fx : Buf (Elt F) ((c : Thread nD τ).loc main_arg3)) (y0 G : Buf (Elt F) ((c : Thread nD τ).loc main_v0))
    (Y : ℕ → S512x512.Idx → Elt F .i32) (n : ℕ) (hn : n ≤ 320)
    (hG : ∀ (g : ℕ) (h : g < 320), g < n → (blk (Memref.whole main_v0) g h).view.read (Elt F) G = Y g)

/-- The array of rows read, held whole, is held block by block; -/
theorem rows_blocks : (((c : Thread nD τ).loc main_arg3) ↦{fullShare} fx : sProp 𝕄) = bigSep (Finset.Ico 0 320) (rowsAt (opsOf c fx y0 G Y n hn hG)) := by
  rw [Ring.pointsTo_blocks (ℓ := (c : Thread nD τ).loc main_arg3) hset hset_disjoint hset_cover, ← bigSep_below]
  refine bigSep_congr fun g _ => ?_
  rw [rowsAt_eq _ g.val g.isLt, ← xs_set g]
/-- the array written likewise, as it was and as it ends. -/
theorem old_blocks : (((c : Thread nD τ).loc main_v0) ↦{fullShare} y0 : sProp 𝕄) = bigSep (Finset.Ico 0 320) (oldAt (opsOf c fx y0 G Y n hn hG)) := by
  rw [Ring.pointsTo_blocks (ℓ := (c : Thread nD τ).loc main_v0) hset hset_disjoint hset_cover, ← bigSep_below]
  refine bigSep_congr fun g _ => ?_
  rw [oldAt_eq _ g.val g.isLt, ← y_set g]
theorem new_blocks : (((c : Thread nD τ).loc main_v0) ↦{fullShare} G : sProp 𝕄) = bigSep (Finset.Ico 0 320) (newAt (opsOf c fx y0 G Y n hn hG)) := by
  rw [Ring.pointsTo_blocks (ℓ := (c : Thread nD τ).loc main_v0) hset hset_disjoint hset_cover, ← bigSep_below]
  refine bigSep_congr fun g _ => ?_
  rw [newAt_eq _ g.val g.isLt, ← y_set g]

/-- The slots of the rows read, free, from any block on. -/
theorem rfree_turn (o : Ops F) (a : ℕ) : bigSep (Finset.Ico a (a + 8)) (rfree o) = bigSep (Finset.Ico 0 8) (rfree o) := by
  induction a with
  | zero => rfl
  | succ a ih =>
    rw [show a + 1 + 8 = (a + 8) + 1 from by omega, bigSep_Ico_succ_top (by omega), rfree_add, ← ih,
      bigSep_Ico_succ_bot (show a < a + 8 by omega)]
theorem wfree_turn (o : Ops F) (a : ℕ) : bigSep (Finset.Ico a (a + 4)) (wfree o) = bigSep (Finset.Ico 0 4) (wfree o) := by
  induction a with
  | zero => rfl
  | succ a ih =>
    rw [show a + 1 + 4 = (a + 4) + 1 from by omega, bigSep_Ico_succ_top (by omega), wfree_add, ← ih,
      bigSep_Ico_succ_bot (show a < a + 4 by omega)]

theorem osem_r : ∀ g : Fin 8, osem0 (finSumFinEquiv (Sum.inl g : Fin 8 ⊕ Fin 4)) = SemLoc.dma (rsem cc0_scratch4 g.val) := by decide
theorem osem_w : ∀ g : Fin 4, osem0 (finSumFinEquiv (Sum.inr g : Fin 8 ⊕ Fin 4)) = SemLoc.dma (wsem cc0_scratch5 g.val) := by decide
/-- The twelve semaphores at zero are the eight of the one ring and the four of the other. -/
theorem ownSems_split : (Pipeline.ownSems0 (Ix := Unit) (Name := ℕ) (U := Pipeline.UD sig nD τ) (Lvl := ℕ) (Val := Elt F) (τ := τ) osem0 c : sProp 𝕄)
    = iprop(bigSep (Finset.Ico 0 8) (rsv (opsOf c fx y0 G Y n hn hG)) ∗ bigSep (Finset.Ico 0 4) (wsv (opsOf c fx y0 G Y n hn hG))) := by
  unfold Pipeline.ownSems0
  rw [bigSep_univ_equiv (finSumFinEquiv : Fin 8 ⊕ Fin 4 ≃ Fin 12), bigSep_univ_sum, ← bigSep_below, ← bigSep_below]
  congr 1

/-- The slots free are the semaphores and the slots' own contents; -/
theorem rfree_split : (bigSep (Finset.Ico 0 8) (rfree (opsOf c fx y0 G Y n hn hG)) : sProp 𝕄)
    = iprop(bigSep (Finset.Ico 0 8) (rsv (opsOf c fx y0 G Y n hn hG)) ∗ bigSep (Finset.Ico 0 8) (fun g => iprop(∃ f, rpt (opsOf c fx y0 G Y n hn hG) g f))) :=
  (bigSep_congr fun g _ => rfl).trans (bigSep_sep _ _ _)
theorem rfree_slot (g : Fin 8) (f : Buf (Elt F) ((c : Thread nD τ).loc cc0_scratch2)) :
    ((((c : Thread nD τ).loc cc0_scratch2) ↦[rset g]{fullShare} f) : sProp 𝕄) ⊢ iprop(∃ f, rpt (opsOf c fx y0 G Y n hn hG) g.val f) := by
  rw [← xb_set g]; iintro H; iexists f; iexact H
theorem rfree_slot' (g : Fin 8) :
    (iprop(∃ f, rpt (opsOf c fx y0 G Y n hn hG) g.val f) : sProp 𝕄) = iprop(∃ f : Buf (Elt F) ((c : Thread nD τ).loc cc0_scratch2), ((c : Thread nD τ).loc cc0_scratch2) ↦[rset g]{fullShare} f) := by
  rw [← xb_set g]
/-- the scratch buffer held whole is its slots at contents of their own; -/
theorem rfree_cut (f : Buf (Elt F) ((c : Thread nD τ).loc cc0_scratch2)) : (((c : Thread nD τ).loc cc0_scratch2) ↦{fullShare} f : sProp 𝕄)
      ⊢ bigSep (Finset.Ico 0 8) (fun g => iprop(∃ f, rpt (opsOf c fx y0 G Y n hn hG) g f)) := by
  rw [Ring.pointsTo_blocks (ℓ := (c : Thread nD τ).loc cc0_scratch2) rset rset_disjoint rset_cover, ← bigSep_below]
  exact BI.bigSep_mono fun g _ => rfree_slot c fx y0 G Y n hn hG g f
/-- and back. -/
theorem rfree_join : (bigSep (Finset.Ico 0 8) (fun g => iprop(∃ f, rpt (opsOf c fx y0 G Y n hn hG) g f)) : sProp 𝕄) ⊢ iprop(∃ f : Buf (Elt F) ((c : Thread nD τ).loc cc0_scratch2), ((c : Thread nD τ).loc cc0_scratch2) ↦{fullShare} f) := by
  rw [← bigSep_below, bigSep_congr fun g _ => rfree_slot' c fx y0 G Y n hn hG g]
  exact Ring.pointsTo_blocks_join_exists (ℓ := (c : Thread nD τ).loc cc0_scratch2) rset rset_disjoint rset_cover (fun _ => Classical.arbitrary _)
/-- The slots free are the semaphores and the slots' own contents; -/
theorem wfree_split : (bigSep (Finset.Ico 0 4) (wfree (opsOf c fx y0 G Y n hn hG)) : sProp 𝕄)
    = iprop(bigSep (Finset.Ico 0 4) (wsv (opsOf c fx y0 G Y n hn hG)) ∗ bigSep (Finset.Ico 0 4) (fun g => iprop(∃ f, wpt (opsOf c fx y0 G Y n hn hG) g f))) :=
  (bigSep_congr fun g _ => rfl).trans (bigSep_sep _ _ _)
theorem wfree_slot (g : Fin 4) (f : Buf (Elt F) ((c : Thread nD τ).loc cc0_scratch3)) :
    ((((c : Thread nD τ).loc cc0_scratch3) ↦[wset g]{fullShare} f) : sProp 𝕄) ⊢ iprop(∃ f, wpt (opsOf c fx y0 G Y n hn hG) g.val f) := by
  rw [← yb_set g]; iintro H; iexists f; iexact H
theorem wfree_slot' (g : Fin 4) :
    (iprop(∃ f, wpt (opsOf c fx y0 G Y n hn hG) g.val f) : sProp 𝕄) = iprop(∃ f : Buf (Elt F) ((c : Thread nD τ).loc cc0_scratch3), ((c : Thread nD τ).loc cc0_scratch3) ↦[wset g]{fullShare} f) := by
  rw [← yb_set g]
/-- the scratch buffer held whole is its slots at contents of their own; -/
theorem wfree_cut (f : Buf (Elt F) ((c : Thread nD τ).loc cc0_scratch3)) : (((c : Thread nD τ).loc cc0_scratch3) ↦{fullShare} f : sProp 𝕄)
      ⊢ bigSep (Finset.Ico 0 4) (fun g => iprop(∃ f, wpt (opsOf c fx y0 G Y n hn hG) g f)) := by
  rw [Ring.pointsTo_blocks (ℓ := (c : Thread nD τ).loc cc0_scratch3) wset wset_disjoint wset_cover, ← bigSep_below]
  exact BI.bigSep_mono fun g _ => wfree_slot c fx y0 G Y n hn hG g f
/-- and back. -/
theorem wfree_join : (bigSep (Finset.Ico 0 4) (fun g => iprop(∃ f, wpt (opsOf c fx y0 G Y n hn hG) g f)) : sProp 𝕄) ⊢ iprop(∃ f : Buf (Elt F) ((c : Thread nD τ).loc cc0_scratch3), ((c : Thread nD τ).loc cc0_scratch3) ↦{fullShare} f) := by
  rw [← bigSep_below, bigSep_congr fun g _ => wfree_slot' c fx y0 G Y n hn hG g]
  exact Ring.pointsTo_blocks_join_exists (ℓ := (c : Thread nD τ).loc cc0_scratch3) wset wset_disjoint wset_cover (fun _ => Classical.arbitrary _)

/-- Two runs of numbers that meet. -/
theorem runs_join {a b d : ℕ} (h1 : a ≤ b) (h2 : b ≤ d) (A : ℕ → sProp 𝕄) :
    bigSep (Finset.Ico a d) A = iprop(bigSep (Finset.Ico a b) A ∗ bigSep (Finset.Ico b d) A) := by
  rw [← Finset.Ico_union_Ico_eq_Ico h1 h2, bigSep_union (Finset.Ico_disjoint_Ico_consecutive a b d)]
  rfl
theorem run_none (a : ℕ) (A : ℕ → sProp 𝕄) : bigSep (Finset.Ico a a) A = iprop(emp) := by
  rw [Finset.Ico_self]; rfl

/-- What both rings are made of, the array written at `W`. -/
def whole (W : Buf (Elt F) ((c : Thread nD τ).loc main_v0)) : sProp 𝕄 :=
  iprop((∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ Pipeline.ownSems0 (Ix := Unit) (Name := ℕ) (U := Pipeline.UD sig nD τ) (Lvl := ℕ) (Val := Elt F) (τ := τ) osem0 c
    ∗ (((c : Thread nD τ).loc main_arg3) ↦{fullShare} fx) ∗ (((c : Thread nD τ).loc main_v0) ↦{fullShare} W))

/-- The rings before the first step. -/
theorem rings_begin : whole c fx y0 ⊢ iprop(rring (opsOf c fx y0 G Y n hn hG) 0 0 0 ∗ wring (opsOf c fx y0 G Y n hn hG) 0 0 0) := by
  unfold whole rring wring
  rw [ownSems_split c fx y0 G Y n hn hG, rows_blocks c fx y0 G Y n hn hG, old_blocks c fx y0 G Y n hn hG, Nat.zero_add, Nat.zero_add,
    rfree_split, wfree_split]
  iintro ⟨⟨%f2, H2⟩, ⟨%f3, H3⟩, ⟨Hr, Hw⟩, Hx, Hy⟩
  ihave H2 := (rfree_cut c fx y0 G Y n hn hG f2) $$ H2
  ihave H3 := (wfree_cut c fx y0 G Y n hn hG f3) $$ H3
  simp only [run_none]
  isplitl [Hr H2 Hx]
  · isplitr [Hr H2 Hx]; · iempintro
    isplitr [Hr H2 Hx]; · iempintro
    isplitl [Hr H2]
    · isplitl [Hr]; · iexact Hr
      iexact H2
    isplitr [Hx]; · iempintro
    iexact Hx
  · isplitr [Hw H3 Hy]; · iempintro
    isplitr [Hw H3 Hy]; · iempintro
    isplitl [Hw H3]
    · isplitl [Hw]; · iexact Hw
      iexact H3
    isplitr [Hy]; · iempintro
    iexact Hy

/-- The rings after the last step: every block in use is final, and the others are as they were. -/
theorem rings_end (hrest : ∀ (g : ℕ) (h : g < 320), n ≤ g → ∀ i ∈ hset ⟨g, h⟩, G i = y0 i) :
    iprop(rring (opsOf c fx y0 G Y n hn hG) n n n ∗ wring (opsOf c fx y0 G Y n hn hG) n n n) ⊢ whole c fx G := by
  unfold whole rring wring
  rw [ownSems_split c fx y0 G Y n hn hG, rows_blocks c fx y0 G Y n hn hG, new_blocks c fx y0 G Y n hn hG, rfree_turn, wfree_turn, rfree_split, wfree_split,
    runs_join (Nat.zero_le n) hn, runs_join (Nat.zero_le n) hn,
    show bigSep (Finset.Ico n 320) (oldAt (opsOf c fx y0 G Y n hn hG)) = bigSep (Finset.Ico n 320) (newAt (opsOf c fx y0 G Y n hn hG)) from by
      refine bigSep_congr fun g hg => ?_
      obtain ⟨h1, h2⟩ := Finset.mem_Ico.mp hg
      rw [oldAt_eq _ g h2, newAt_eq _ g h2]
      refine pointsTo_congr fun i hi => ?_
      rw [show (blk (Memref.whole main_v0) g h2).view.set = hset ⟨g, h2⟩ from y_set ⟨g, h2⟩] at hi
      exact (hrest g h2 h1 i hi).symm]
  iintro ⟨⟨-, -, ⟨Hr, H2⟩, Hx, Hx'⟩, -, -, ⟨Hw, H3⟩, Hy, Hy'⟩
  ihave H2 := (rfree_join c fx y0 G Y n hn hG) $$ H2
  ihave H3 := (wfree_join c fx y0 G Y n hn hG) $$ H3
  isplitl [H2]; · iexact H2
  isplitl [H3]; · iexact H3
  isplitl [Hr Hw]
  · isplitl [Hr]; · iexact Hr
    iexact Hw
  isplitl [Hx Hx']
  · isplitl [Hx]; · iexact Hx
    iexact Hx'
  · isplitl [Hy]; · iexact Hy
    iexact Hy'

end Cert.Kernel.Hand

end

end
-- ==== Proof.Launch.lean ====
/-
  The launch of the experts' kernel: what the two rings hold between two steps of the grid, one step from the theorem
  on the body, and the whole run, with the argument arrays unchanged and the result's array named.
-/
module

public import proofs.«01_k».proof.Proof.Ends
public import Idealize.ShloMosaic.Lib.Pipeline.FrameValue

@[expose] public section

set_option pp.maxSteps 600

noncomputable section

namespace Cert.Kernel.Hand

open Cert.Kernel Cert.Kernel.Gen
open Idealize.ShloMosaic Idealize.ShloMosaic.TcCoe Idealize.ShloMosaic.Transfers
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-- A core's buffers when the region is entered: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The tables' contents. -/
abbrev tabs : (p : Fin 1) → (pcfgs (F := F) p).Adm := fun _ => ⟨fun k => m (((0 : Dev nD) : Thread nD τ).loc (pre0.ref k)), trivial⟩
abbrev cfgM : Pipeline.Cfg sig Λ₀ := cfg0 (tabs m 0)
theorem hpf (c : Dev nD) (k : Fin pre0.K) : V m c (pre0.ref k) = (tabs m 0).1 k := by
  obtain rfl : c = 0 := Subsingleton.elim _ _
  rfl

/-! ## The tables as numbers -/

/-- The places of an array of 64 words, of one word, of a block. -/
abbrev at64 (t : ℕ) (h : t < 64) : S64.Idx := fun a => match a with | ⟨0, _⟩ => ⟨t, h⟩
abbrev at1 : S1.Idx := fun a => match a with | ⟨0, _⟩ => ⟨0, Nat.one_pos⟩
abbrev atB (r s : ℕ) (hr : r < 512) (hs : s < 512) : S512x512.Idx := fun a => match a with | ⟨0, _⟩ => ⟨r, hr⟩ | ⟨1, _⟩ => ⟨s, hs⟩
/-- The first block of expert `t`; past the last expert, the number of blocks in use. -/
def first (t : ℕ) : ℕ :=
  if h : t < 64 then ((V m 0 main_arg0 : S64.Idx → BitVec 32) (at64 t h)).toNat else ((V m 0 main_arg2 : S1.Idx → BitVec 32) at1).toNat
/-- How many blocks expert `t` has. -/
def count (t : ℕ) : ℕ := if h : t < 64 then ((V m 0 main_arg1 : S64.Idx → BitVec 32) (at64 t h)).toNat else 0

/-- The experts' groups lie one after the other from block 0 on, within the array. -/
structure Laid : Prop where
  start : first m 0 = 0
  step : ∀ t < 64, first m (t + 1) = first m t + count m t
  top : first m 64 ≤ 320

theorem Laid.mono {m : (ℓ : Loc nD τ sig) → Buf (Elt F) ℓ} (L : Laid m) {s t : ℕ} (h : s ≤ t) (ht : t ≤ 64) : first m s ≤ first m t := by
  induction t, h using Nat.le_induction with
  | base => exact le_refl _
  | succ t hst ih => rw [L.step t (by omega)]; exact (ih (by omega)).trans (Nat.le_add_right _ _)

/-- The expert of block `g`: how many groups end at or before it. -/
def ex (g : ℕ) : ℕ := ((Finset.range 64).filter fun t => first m (t + 1) ≤ g).card
theorem Laid.ex_eq {m : (ℓ : Loc nD τ sig) → Buf (Elt F) ℓ} (L : Laid m) {t g : ℕ} (ht : t < 64) (h1 : first m t ≤ g) (h2 : g < first m (t + 1)) : ex m g = t := by
  unfold ex
  rw [show (Finset.range 64).filter (fun t => first m (t + 1) ≤ g) = Finset.range t from ?_, Finset.card_range]
  ext s
  simp only [Finset.mem_filter, Finset.mem_range]
  constructor
  · rintro ⟨hs, h⟩
    by_contra hc
    have := L.mono (show t + 1 ≤ s + 1 by omega) (by omega)
    omega
  · intro hs
    exact ⟨by omega, (L.mono (show s + 1 ≤ t by omega) (by omega)).trans h1⟩

/-! ## What the result's array ends at -/

/-- The weights of expert `t`. -/
abbrev W0 (t : Fin grid0.N) : S1x1024x512.Idx → Elt F .f32 := ((win0 (tabs m 0) 0).blk t).view.read (Elt F) (V m 0 main_arg4)
abbrev W1 (t : Fin grid0.N) : S1x256x1024.Idx → Elt F .f32 := ((win0 (tabs m 0) 1).blk t).view.read (Elt F) (V m 0 main_arg5)
/-- Block `g` of the result. -/
def Yof (g : ℕ) : S512x512.Idx → Elt F .i32 :=
  if h : ex m g < grid0.N ∧ g < 320 then
    block (k0_pay22 (View.ld (W0 m ⟨ex m g, h.1⟩) r5)) (k0_pay23 (View.ld (W1 m ⟨ex m g, h.1⟩) r6))
      ((blk (Memref.whole main_arg3) g h.2).view.read (Elt F) (V m 0 main_arg3))
  else fun _ => Classical.arbitrary _
/-- The result's array: the blocks in use computed, the others as they were. -/
def Gof : S163840x512.Idx → Elt F .i32 := fun i =>
  if (i 0).val / 512 < first m 64 then
    Yof m ((i 0).val / 512) (atB ((i 0).val % 512) (i 1).val (Nat.mod_lt _ (by decide)) (i 1).isLt)
  else (V m 0 main_v0 : S163840x512.Idx → Elt F .i32) i

theorem Gof_block (g : ℕ) (h : g < 320) (hg : g < first m 64) :
    (blk (Memref.whole main_v0) g h).view.read (Elt F) (Gof m) = Yof m g := by
  funext j
  have h0 : ((Rect.unit (s := S163840x512) ![g * 512, 0] S512x512.size (inHbm g h)).emb j 0).val = g * 512 + (j 0).val := by
    rw [Rect.emb_apply]; show g * 512 + 1 * (j 0).val = _; rw [Nat.one_mul]
  have h1 : ((Rect.unit (s := S163840x512) ![g * 512, 0] S512x512.size (inHbm g h)).emb j 1).val = (j 1).val := by
    rw [Rect.emb_apply]; show 0 + 1 * (j 1).val = _; rw [Nat.one_mul, Nat.zero_add]
  have hj : (j 0).val < 512 := (j 0).isLt
  show Gof m ((Rect.unit (s := S163840x512) ![g * 512, 0] S512x512.size (inHbm g h)).emb j) = _
  unfold Gof
  have hd : (g * 512 + (j 0).val) / 512 = g := by omega
  rw [if_pos (by rw [h0, hd]; exact hg)]
  have key : ∀ (x y : ℕ) (hx : x % 512 < 512) (hy : y < 512), x = g * 512 + (j 0).val → y = (j 1).val →
      Yof m (x / 512) (atB (x % 512) y hx hy) = Yof m g j := by
    intro x y hx hy ex ey
    subst ex ey
    have hd' : (g * 512 + (j 0).val) % 512 = (j 0).val := by omega
    rw [hd]
    congr 1
    funext a
    fin_cases a
    · exact Fin.ext hd'
    · rfl
  exact key _ _ _ _ h0 h1
theorem Gof_rest (g : ℕ) (h : g < 320) (hg : first m 64 ≤ g) (i : S163840x512.Idx) (hi : i ∈ hset ⟨g, h⟩) :
    Gof m i = (V m 0 main_v0 : S163840x512.Idx → Elt F .i32) i := by
  have h1 := (Rect.mem_set_unit.mp hi) 0
  have h2 : g * 512 ≤ (i 0).val := h1.1
  unfold Gof
  rw [if_neg (by omega)]

/-! ## Between two steps -/

variable (L : Laid m)

/-- The operands of the rings at this launch. -/
abbrev opsM : Ops F := opsOf 0 (V m 0 main_arg3) (V m 0 main_v0) (Gof m) (Yof m) (first m 64) L.top (fun g h hg => Gof_block m g h hg)

/-- The three tables, along a share. -/
def tables (q : PosShare TreeShare) : sProp 𝕄 :=
  iprop((((0 : Dev nD) : Thread nD τ).loc main_arg0 ↦{q} V m 0 main_arg0) ∗ (((0 : Dev nD) : Thread nD τ).loc main_arg1 ↦{q} V m 0 main_arg1)
    ∗ (((0 : Dev nD) : Thread nD τ).loc main_arg2 ↦{q} V m 0 main_arg2))
theorem tables_eq : (Pipeline.ΦT pre0 (tabs m 0).1 (0 : Dev nD) : sProp 𝕄) = tables m fullShare.right := by
  unfold Pipeline.ΦT Pipeline.prefHeld tables
  exact bigSep_univ_eq_bigSepL [(0 : Fin 3), (1 : Fin 3), (2 : Fin 3)] (by decide) (by decide) _

/-- The rings before step `k`, or after the last. -/
def rings (k : ℕ) : sProp 𝕄 :=
  iprop(rring (opsM m L) (first m k) (first m k) (if k = 0 then 0 else min (first m k + 5) (first m 64))
    ∗ wring (opsM m L) (if k = 64 then first m 64 else first m k - 4) (first m k) (first m k))

/-- Everything the body keeps from step to step. -/
def PhiS (k : ℕ) (_ : k ≤ (cfgM m).N) : sProp 𝕄 :=
  iprop(tables m fullShare.right ∗ rings m L k
    ∗ (∃ v8, holds ((0 : Dev nD)) (Memref.whole cc0_scratch0) r8 v8) ∗ (∃ v9, holds ((0 : Dev nD)) (Memref.whole cc0_scratch1) r9 v9)
    ∗ (∃ r, prngReg (0 : Dev nD) r))

/-- The proof data of the one pipeline: the weights as the region finds them, left in place by the body. -/
def dats (_ : Fin 1) (c : Dev nD) : Dat τ (Elt F) Unit ℕ (Pipeline.UD sig nD τ) ℕ (cfgM m) c where
  A w := V m c (Pipeline.arrRef spec0 w)
  after w t := ((win0 (tabs m 0) w).blk t).view.read (Elt F) (V m c (Pipeline.arrRef spec0 w))
  Φ t := PhiS m L t.val (Nat.le_of_lt_succ t.isLt)
  q _ := fullShare
  owed _ := 0

theorem A_eq (c : Dev nD) (w : Fin (cfgM m).W) : (dats m L 0 c).A w = V m c (Pipeline.arrRef spec0 w) := by
  dsimp only [dats]
theorem after0 (t : Fin (cfgM m).N) : (dats m L 0 0).after 0 t = W0 m t := rfl
theorem after1 (t : Fin (cfgM m).N) : (dats m L 0 0).after 1 t = W1 m t := rfl
theorem before0 (t : Fin (cfgM m).N) (d) : (dats m L 0 0).before 0 t d = W0 m t :=
  ((dats m L 0 0).before_in_eq_fetched 0 rfl (fun _ => rfl) (fun _ _ _ => rfl) (fun _ => after0 m L _) t d).trans rfl
theorem before1 (t : Fin (cfgM m).N) (d) : (dats m L 0 0).before 1 t d = W1 m t :=
  ((dats m L 0 0).before_in_eq_fetched 1 rfl (fun _ => rfl) (fun _ _ _ => rfl) (fun _ => after1 m L _) t d).trans rfl

abbrev ms0 (t : Fin (cfgM m).N) : Memref sig .tc .vmem S1x1024x512 .f32 := spec0_0.stage ((cfgM m).slots t 0)
abbrev ms1 (t : Fin (cfgM m).N) : Memref sig .tc .vmem S1x256x1024 .f32 := spec0_1.stage ((cfgM m).slots t 1)
abbrev bodyAt (t : Fin (cfgM m).N) : Prog (TpuEff nD τ sig (Elt F) Λ₀ .tc) PUnit :=
  cc0_experts (F := F) (grid0.coords t) (Memref.whole main_arg0) (Memref.isWhole_whole _) (Memref.whole main_arg1) (Memref.isWhole_whole _) (Memref.whole main_arg2) (Memref.isWhole_whole _) (Memref.whole main_arg3) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5

theorem defs₀_row (t : Fin (cfgM m).N) :
    defs₀ (F := F) .tc (cfgM m).body ((cfgM m).bodyArgs t ((cfgM m).slots t)) = bodyAt m t := by
  unfold defs₀; rw [Defs.onTc_tc]

theorem coord : ∀ t : Fin grid0.N, (grid0.coords t 0).val = t.val := by decide

/-! ## One step -/

def stepPre (t : Fin (cfgM m).N) : sProp 𝕄 :=
  iprop((dats m L 0 0).Φ t.castSucc ∗ (dats m L 0 0).owesAt () t.castSucc
    ∗ (∃ d, owns ((0 : Dev nD) : Thread nD τ) (ms0 m t) fullShare ((dats m L 0 0).before 0 t d))
    ∗ (∃ d, owns ((0 : Dev nD) : Thread nD τ) (ms1 m t) fullShare ((dats m L 0 0).before 1 t d)))
def stepPost (t : Fin (cfgM m).N) : sProp 𝕄 :=
  iprop((dats m L 0 0).Φ t.succ ∗ (dats m L 0 0).owesAt () t.succ
    ∗ owns ((0 : Dev nD) : Thread nD τ) (ms0 m t) fullShare ((dats m L 0 0).after 0 t)
    ∗ owns ((0 : Dev nD) : Thread nD τ) (ms1 m t) fullShare ((dats m L 0 0).after 1 t))

theorem read_table0 (t : Fin grid0.N) (ht : t.val < 64) (x) :
    ((Memref.whole main_arg0).access (Rect.unit (s := S64) (k0_off1 (grid0.coords t)) S1.size (k0_off1_inb (grid0.coords t)))).read (Elt F) (V m 0 main_arg0) x
      = BitVec.ofNat 32 (first m t.val) := by
  unfold first
  rw [dif_pos ht, BitVec.ofNat_toNat, BitVec.setWidth_eq]
  show (V m 0 main_arg0 : S64.Idx → BitVec 32) _ = _
  congr 1
  funext a
  fin_cases a
  refine Fin.ext ?_
  show k0_off1 (grid0.coords t) 0 + 1 * (x 0).val = t.val
  have hx : (x 0).val < 1 := (x 0).isLt
  have e : k0_off1 (grid0.coords t) 0 = t.val := (congrFun (off1_eq (grid0.coords t)) 0).trans (coord t)
  omega
theorem read_table1 (t : Fin grid0.N) (ht : t.val < 64) (x) :
    ((Memref.whole main_arg1).access (Rect.unit (s := S64) (k0_off1 (grid0.coords t)) S1.size (k0_off1_inb (grid0.coords t)))).read (Elt F) (V m 0 main_arg1) x
      = BitVec.ofNat 32 (count m t.val) := by
  unfold count
  rw [dif_pos ht, BitVec.ofNat_toNat, BitVec.setWidth_eq]
  show (V m 0 main_arg1 : S64.Idx → BitVec 32) _ = _
  congr 1
  funext a
  fin_cases a
  refine Fin.ext ?_
  show k0_off1 (grid0.coords t) 0 + 1 * (x 0).val = t.val
  have hx : (x 0).val < 1 := (x 0).isLt
  have e : k0_off1 (grid0.coords t) 0 = t.val := (congrFun (off1_eq (grid0.coords t)) 0).trans (coord t)
  omega
theorem read_table2 (x) :
    ((Memref.whole main_arg2).access (Rect.unit (s := S1) ![0] S1.size inb_S1_S1_0)).read (Elt F) (V m 0 main_arg2) x
      = BitVec.ofNat 32 (first m 64) := by
  unfold first
  rw [dif_neg (by omega), BitVec.ofNat_toNat, BitVec.setWidth_eq]
  show (V m 0 main_arg2 : S1.Idx → BitVec 32) _ = _
  congr 1
  funext a
  fin_cases a
  refine Fin.ext ?_
  have hx : (x 0).val < 1 := (x 0).isLt
  show 0 + 1 * (x 0).val = 0
  omega

/-- What block `g` ends at is what the step of its expert computes. -/
theorem Yof_step (t : Fin grid0.N) (ht : t.val < 64) (g : ℕ) (hg : g < 320) (h1 : first m t.val ≤ g) (h2 : g < first m t.val + count m t.val) :
    Yof m g = block (k0_pay22 (View.ld (W0 m t) r5)) (k0_pay23 (View.ld (W1 m t) r6)) (Xof (opsM m L) g hg) := by
  have he : ex m g = t.val := L.ex_eq ht h1 (by rw [L.step _ ht]; exact h2)
  unfold Yof
  rw [dif_pos ⟨by rw [he]; exact t.isLt, hg⟩]
  have hf : (⟨ex m g, by rw [he]; exact t.isLt⟩ : Fin grid0.N) = t := Fin.ext he
  rw [hf]

theorem step (t : Fin (cfgM m).N) :
    stepPre m L t ⊢ wp frame (wpE (defs₀ (F := F)) Variants.none ((0 : Dev nD) : Thread nD τ) none) Set.univ (bodyAt m t) (fun _ => stepPost m L t) := by
  have ht : t.val < 64 := t.isLt
  have hc := coord t
  unfold stepPre stepPost
  simp only [before0, before1]
  rw [after0, after1, show (dats m L 0 0).Φ t.castSucc = PhiS m L t.val (Nat.le_of_lt t.isLt) from rfl,
    show (dats m L 0 0).Φ t.succ = PhiS m L (t.val + 1) t.isLt from rfl]
  unfold Dat.owesAt Pipeline.owesWithin
  rw [show (dats m L 0 0).owed t.castSucc = 0 from rfl, show (dats m L 0 0).owed t.succ = 0 from rfl]
  unfold PhiS rings tables
  have hb := experts_wp (opsM m L) (defs₀ (F := F)) Variants.none none (grid0.coords t) (Memref.whole main_arg0) (Memref.isWhole_whole _)
    (Memref.whole main_arg1) (Memref.isWhole_whole _) (Memref.whole main_arg2) (Memref.isWhole_whole _) (Memref.isWhole_whole _)
    (ms0 m t) (hstage0_0 (((cfgM m).slots t 0).cast nbuf0_0)) (ms1 m t) (hstage0_1 (((cfgM m).slots t 1).cast nbuf0_1)) (Memref.isWhole_whole _)
    (Memref.whole cc0_scratch0) (Memref.isWhole_whole _) (Memref.whole cc0_scratch1) (Memref.isWhole_whole _) (Memref.isWhole_whole _) (Memref.isWhole_whole _)
    (first m t.val) (count m t.val) (by rw [← L.step _ ht]; exact L.mono (by omega) (le_refl _))
    (fun h => by rw [hc] at h; rw [h]; exact L.start)
    (fun h => by rw [hc] at h; rw [← L.step _ ht, h])
    fullShare.right (V m 0 main_arg0) (V m 0 main_arg1) (V m 0 main_arg2) (W0 m t) (W1 m t)
    (read_table0 m t ht) (read_table1 m t ht) (read_table2 m)
    (fun g hg h1 h2 => Yof_step m L t ht g hg h1 h2)
  unfold sides ends at hb
  rw [hc, ← L.step _ ht] at hb
  rw [if_neg (show ¬ t.val = 64 by omega), if_neg (show ¬ t.val + 1 = 0 by omega),
    show (if t.val + 1 = 64 then first m 64 else first m (t.val + 1) - 4) = (if t.val = 63 then first m 64 else first m (t.val + 1) - 4) from by
      split_ifs <;> first | rfl | omega]
  iintro ⟨⟨⟨Ht0, Ht1, Ht2⟩, ⟨Hr, Hw⟩, H8, H9, Hg⟩, ⟨%W, -, HO⟩, ⟨%d0, H0⟩, %d1, H1⟩
  iapply (wp_wand _ _ _) $$ [Ht0 Ht1 Ht2 Hr Hw H8 H9 HO H0 H1]
  · iapply hb
    isplitl [Ht0 Ht1 Ht2 H0 H1]
    · isplitl [Ht0]; · iexact Ht0
      isplitl [Ht1]; · iexact Ht1
      isplitl [Ht2]; · iexact Ht2
      isplitl [H0]; · iexact H0
      iexact H1
    isplitl [Hr]; · iexact Hr
    isplitl [Hw]; · iexact Hw
    isplitl [HO]; · iexists W; iexact HO
    isplitl [H8]; · iexact H8
    iexact H9
  iintro %_ ⟨⟨Ht0, Ht1, Ht2, H0, H1⟩, Hr, Hw, ⟨%W', HO⟩, H8, H9⟩
  isplitl [Ht0 Ht1 Ht2 Hr Hw H8 H9 Hg]
  · isplitl [Ht0 Ht1 Ht2]
    · isplitl [Ht0]; · iexact Ht0
      isplitl [Ht1]; · iexact Ht1
      iexact Ht2
    isplitl [Hr Hw]
    · isplitl [Hr]; · iexact Hr
      iexact Hw
    isplitl [H8]; · iexact H8
    isplitl [H9]; · iexact H9
    iexact Hg
  isplitl [HO]
  · iexists W'; isplitr; · ipureintro; exact fun _ _ => Or.inl trivial
    iexact HO
  isplitl [H0]; · iexact H0
  iexact H1

theorem body_obligation (c : Dev nD) : BodyObligation (dats (F := F) m L 0 c) (defs₀ (F := F)) Variants.none () Set.univ := fun t => by
  obtain rfl : c = 0 := Subsingleton.elim _ _
  rw [bigSep_W0, bigSep_W0, defs₀_row]
  exact triple_restated (step m L t) rfl .rfl fun _ => .rfl

end Cert.Kernel.Hand

end

end
-- ==== Proof.Run.lean ====
/-
  The whole run of the experts' kernel: how the region's resources become what the body keeps and come back, and the run
  itself, with the argument arrays unchanged, every counter at zero, and the result's array named.
-/
module

public import proofs.«01_k».proof.Proof.Launch

@[expose] public section

noncomputable section

namespace Cert.Kernel.Hand

open Cert.Kernel Cert.Kernel.Gen
open Idealize.ShloMosaic Idealize.ShloMosaic.TcCoe Idealize.ShloMosaic.Transfers
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg) (L : Laid m)

/-- The buffer the body reads by its own copies, and the one it writes. -/
def H0 : Finset (Ref sig .tc) := {main_arg3}
def R0 : Finset (Ref sig .tc) := {main_v0}
theorem H0_sub : H0 ⊆ Pipeline.restRefsP sig pre0 spec0 := by decide
theorem R0_sub : R0 ⊆ Pipeline.restRefsP sig pre0 spec0 \ H0 := by decide

/-- The buffers after the run: the result's array computed, the others as launched. -/
def Gfin (c : Dev nD) (b : Ref sig .tc) : Buf (Elt F) ((c : Thread nD τ).loc b) :=
  if h : b = main_v0 then h ▸ Gof m else V m c b
theorem Gfin_out (c : Dev nD) : Gfin m c main_v0 = Gof m := by
  unfold Gfin; rw [dif_pos rfl]

/-- What the region hands over or takes back, piece by piece, the written array at `W`. -/
theorem region_eq (W : (c : Dev nD) → (b : Ref sig .tc) → Buf (Elt F) ((c.tc : Thread nD τ).loc b)) :
    (Pipeline.ΦDRG osem0 spec0 H0 R0 (V m) W (0 : Dev nD) : sProp 𝕄)
      = iprop(((∃ f : Buf (Elt F) (((0 : Dev nD) : Thread nD τ).loc cc0_scratch0), (((0 : Dev nD) : Thread nD τ).loc cc0_scratch0) ↦{fullShare} f)
          ∗ (∃ f : Buf (Elt F) (((0 : Dev nD) : Thread nD τ).loc cc0_scratch1), (((0 : Dev nD) : Thread nD τ).loc cc0_scratch1) ↦{fullShare} f)
          ∗ (∃ f : Buf (Elt F) (((0 : Dev nD) : Thread nD τ).loc cc0_scratch2), (((0 : Dev nD) : Thread nD τ).loc cc0_scratch2) ↦{fullShare} f)
          ∗ (∃ f : Buf (Elt F) (((0 : Dev nD) : Thread nD τ).loc cc0_scratch3), (((0 : Dev nD) : Thread nD τ).loc cc0_scratch3) ↦{fullShare} f))
        ∗ (∃ r, prngReg (0 : Dev nD) r)
        ∗ Pipeline.ownSems0 (Ix := Unit) (Name := ℕ) (U := Pipeline.UD sig nD τ) (Lvl := ℕ) (Val := Elt F) (τ := τ) osem0 (0 : Dev nD)
        ∗ ((((0 : Dev nD) : Thread nD τ).loc main_arg3) ↦{fullShare} V m 0 main_arg3)
        ∗ ((((0 : Dev nD) : Thread nD τ).loc main_v0) ↦{fullShare} W 0 main_v0)) := by
  rw [Pipeline.ΦDRG_eq, scopedRest0_eq]
  unfold Pipeline.routed H0 R0
  rw [bigSep_singleton, bigSep_singleton]

/-- A weight buffer at some contents is one whose used part holds something, and the other way round. -/
theorem holds_of8 : iprop(∃ f : Buf (Elt F) (((0 : Dev nD) : Thread nD τ).loc cc0_scratch0), (((0 : Dev nD) : Thread nD τ).loc cc0_scratch0) ↦{fullShare} f)
    ⊢ (iprop(∃ v8, holds (0 : Dev nD) (Memref.whole cc0_scratch0) r8 v8) : sProp 𝕄) := by
  unfold holds
  iintro ⟨%f, H⟩
  iexists _; iexists f
  isplitr; · ipureintro; rfl
  rw [show (Memref.whole cc0_scratch0 : Memref sig .tc .vmem _ _).view.set = Finset.univ from View.set_whole _]
  iexact H
theorem holds_of9 : iprop(∃ f : Buf (Elt F) (((0 : Dev nD) : Thread nD τ).loc cc0_scratch1), (((0 : Dev nD) : Thread nD τ).loc cc0_scratch1) ↦{fullShare} f)
    ⊢ (iprop(∃ v9, holds (0 : Dev nD) (Memref.whole cc0_scratch1) r9 v9) : sProp 𝕄) := by
  unfold holds
  iintro ⟨%f, H⟩
  iexists _; iexists f
  isplitr; · ipureintro; rfl
  rw [show (Memref.whole cc0_scratch1 : Memref sig .tc .vmem _ _).view.set = Finset.univ from View.set_whole _]
  iexact H
theorem of_holds8 : (iprop(∃ v8, holds (0 : Dev nD) (Memref.whole cc0_scratch0) r8 v8) : sProp 𝕄)
    ⊢ iprop(∃ f : Buf (Elt F) (((0 : Dev nD) : Thread nD τ).loc cc0_scratch0), (((0 : Dev nD) : Thread nD τ).loc cc0_scratch0) ↦{fullShare} f) := by
  unfold holds
  rw [show (Memref.whole cc0_scratch0 : Memref sig .tc .vmem _ _).view.set = Finset.univ from View.set_whole _]
  iintro ⟨%v, %f, -, H⟩
  iexists f; iexact H
theorem of_holds9 : (iprop(∃ v9, holds (0 : Dev nD) (Memref.whole cc0_scratch1) r9 v9) : sProp 𝕄)
    ⊢ iprop(∃ f : Buf (Elt F) (((0 : Dev nD) : Thread nD τ).loc cc0_scratch1), (((0 : Dev nD) : Thread nD τ).loc cc0_scratch1) ↦{fullShare} f) := by
  unfold holds
  rw [show (Memref.whole cc0_scratch1 : Memref sig .tc .vmem _ _).view.set = Finset.univ from View.set_whole _]
  iintro ⟨%v, %f, -, H⟩
  iexists f; iexact H

/-- Before the first step: what the region hands over is what the body keeps. -/
theorem enter : iprop(Pipeline.ΦDRG osem0 spec0 H0 R0 (V m) (V m) (0 : Dev nD) ∗ Pipeline.ΦT pre0 (tabs m 0).1 (0 : Dev nD))
    ⊢ PhiS m L 0 (Nat.zero_le _) := by
  rw [region_eq, tables_eq]
  unfold PhiS rings
  rw [if_pos rfl, if_neg (by decide), L.start, Nat.zero_sub]
  iintro ⟨⟨⟨H8, H9, H10, H11⟩, Hg, Hs, Hx, Hy⟩, Ht⟩
  isplitl [Ht]; · iexact Ht
  isplitl [H10 H11 Hs Hx Hy]
  · iapply (rings_begin 0 (V m 0 main_arg3) (V m 0 main_v0) (Gof m) (Yof m) (first m 64) L.top (fun g h hg => Gof_block m g h hg))
    unfold whole
    isplitl [H10]; · iexact H10
    isplitl [H11]; · iexact H11
    isplitl [Hs]; · iexact Hs
    isplitl [Hx]; · iexact Hx
    iexact Hy
  isplitl [H8]; · iapply holds_of8; iexact H8
  isplitl [H9]; · iapply holds_of9; iexact H9
  iexact Hg

/-- After the last step: what the body keeps is what the region takes back. -/
theorem leave : PhiS m L 64 (le_refl 64) ⊢ Pipeline.ΦDRG osem0 spec0 H0 R0 (V m) (Gfin m) (0 : Dev nD) := by
  rw [region_eq, Gfin_out]
  unfold PhiS rings
  rw [if_neg (by decide), if_pos rfl, Nat.min_eq_right (Nat.le_add_right _ _)]
  iintro ⟨-, Hr, H8, H9, Hg⟩
  ihave Hr := (rings_end 0 (V m 0 main_arg3) (V m 0 main_v0) (Gof m) (Yof m) (first m 64) L.top (fun g h hg => Gof_block m g h hg)
    (fun g h hg i hi => Gof_rest m g h hg i hi)) $$ Hr
  ihave H8 := of_holds8 $$ H8
  ihave H9 := of_holds9 $$ H9
  unfold whole
  icases Hr with ⟨H10, H11, Hs, Hx, Hy⟩
  isplitl [H8 H9 H10 H11]
  · isplitl [H8]; · iexact H8
    isplitl [H9]; · iexact H9
    isplitl [H10]; · iexact H10
    iexact H11
  isplitl [Hg]; · iexact Hg
  isplitl [Hs]; · iexact Hs
  isplitl [Hx]; · iexact Hx
  iexact Hy

include L in
set_option backward.isDefEq.respectTransparency.types false in
theorem run_main : θ_run defs (onTc (τ := τ) (main (F := F))) (s₀ m ρ)
    (fun r => Pipeline.FramePostRG (Pipeline.pin pcfgs (tabs m)) (dats m L) 0 R0 (V m) (Gfin m) r ∧ r.2.sem = fun _ => 0) :=
  Pipeline.θ_run_frameP_dmaRG (Q' := _) pcfgs (tabs m) (dats m L) (0 : Fin 1) launch0 osem0 defs₀ Variants.none ownSemFacts0 H0 R0 H0_sub R0_sub m ρ main
    (hbody := fun c => (body_obligation m L c).loose) (hshare := fun c => (dats m L 0 c).share_full fun _ => rfl)
    (howed := fun _ _ => rfl) (V := V m) (hmain := hmain m Variants.none) (hA := A_eq m L) (hpf := hpf m) (G := Gfin m)
    (hin := fun c => by obtain rfl : c = 0 := Subsingleton.elim _ _; exact enter m L)
    (hout := fun c => by obtain rfl : c = 0 := Subsingleton.elim _ _; exact leave m L)
    (hQ' := fun _ h => h)

include L in
/-- The run: the argument arrays end unchanged, the result's array at `Gof`, every counter at zero. -/
theorem run : θ_run defs (onTc (τ := τ) (main (F := F))) ⟨m, fun _ => 0, ρ⟩ (fun r => (∀ c : Dev nD,
      r.2.mem ((c.tc : Thread nD τ).loc main_v0) = Gof m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1.2 c main_v0 (by decide)).trans (Gfin_out m c),
      (h.1.1 c).2 main_arg0 (Finset.mem_sdiff.mpr ⟨Pipeline.mem_restRefs_of (win := spec0) main_arg0 (by decide) (by decide), by decide⟩),
      (h.1.1 c).2 main_arg1 (Finset.mem_sdiff.mpr ⟨Pipeline.mem_restRefs_of (win := spec0) main_arg1 (by decide) (by decide), by decide⟩),
      (h.1.1 c).2 main_arg2 (Finset.mem_sdiff.mpr ⟨Pipeline.mem_restRefs_of (win := spec0) main_arg2 (by decide) (by decide), by decide⟩),
      (h.1.1 c).2 main_arg3 (Finset.mem_sdiff.mpr ⟨Pipeline.mem_restRefs_of (win := spec0) main_arg3 (by decide) (by decide), by decide⟩),
      ((h.1.1 c).1 0).trans (((dats m L 0 c).arrAt_in 0 rfl _).trans (A_eq m L c 0)),
      ((h.1.1 c).1 1).trans (((dats m L 0 c).arrAt_in 1 rfl _).trans (A_eq m L c 1))⟩, h.2⟩) (run_main m ρ L)

end Cert.Kernel.Hand

end

end
-- ==== Proof.Groups.lean ====
/-
  What the precondition says of the three tables, as numbers: the groups lie one after the other from block 0 on.
-/
module

public import proofs.«01_k».proof.Proof.Run
public import proofs.«01_k».proof.Defs
public import proofs.«01_k».proof.Proof.Gen.Pre_groups_laid
public import Idealize.ShloMosaic.Lib.StableHlo.Predicate
public import Idealize.ShloMosaic.Lib.WordCmp
public import Idealize.ShloMosaic.Lib.Affine

@[expose] public section

noncomputable section

namespace Cert.Kernel.Hand

open Cert.Kernel Cert.Kernel.Gen
open Idealize.ShloMosaic

/-- The precondition, word by word. -/
theorem words_laid (a0 a1 : IVec S64 32) (a2 : IVec S1 32) (a3 : IVec S163840x512 32) (a4 : FVec Bits S64x1024x512 .f32) (a5 : FVec Bits S64x256x1024 .f32)
    (h : Cert.Pre_groups_laid.fn (F := Bits) a0 a1 a2 a3 a4 a5 = fun _ => 1#1) :
    (∀ (t : ℕ) (ht : t < 64), (a1 (at64 t ht)).toNat ≤ 320) ∧ a0 (at64 0 (by omega)) = 0#32
      ∧ (∀ (t : ℕ) (ht : t + 1 < 64), a0 (at64 (t + 1) ht) = a0 (at64 t (by omega)) + a1 (at64 t (by omega)))
      ∧ a2 at1 = a0 (at64 63 (by omega)) + a1 (at64 63 (by omega)) ∧ IntOp.cmpi .sle (a2 at1) 320#32 = 1#1 := by
  have key := fun (t : ℕ) (ht : t < 64) => congrFun h (at64 t ht)
  unfold Cert.Pre_groups_laid.fn Cert.Pre_groups_laid.fn_part1 at key
  simp only [andi, IntOp.andi_eq_one, broadcastInDim] at key
  have hlast : IntOp.cmpi .eq (a2 at1) (a0 (at64 63 (by omega)) + a1 (at64 63 (by omega))) = 1#1 ∧ IntOp.cmpi .sle (a2 at1) 320#32 = 1#1 := by
    have hx : ∀ x : S1.Idx, x = at1 := fun x => by
      funext a; fin_cases a; exact Fin.ext (by have := (x 0).isLt; have : (x 0).val < 1 := this; show (x 0).val = 0; omega)
    obtain ⟨e1, e2⟩ := (key 0 (by omega)).2
    rw [hx (fun a => _)] at e1 e2
    refine ⟨?_, e2⟩
    refine Eq.trans (congrArg₂ (IntOp.cmpi .eq) rfl ?_) e1
    exact congrArg₂ (· + ·) (congrArg a0 (by funext a; fin_cases a; rfl)) (congrArg a1 (by funext a; fin_cases a; rfl))
  refine ⟨fun t ht => ?_, ?_, fun t ht => ?_, StableHlo.Predicate.cmpi_eq_iff.mp hlast.1, hlast.2⟩
  · have h1 : IntOp.cmpi .sge (a1 (at64 t ht)) 0#32 = 1#1 ∧ IntOp.cmpi .sle (a1 (at64 t ht)) 320#32 = 1#1 := (key t ht).1.1
    generalize a1 (at64 t ht) = v at h1 ⊢
    simp only [IntOp.cmpi, StableHlo.Predicate.ofBool_eq_one_iff, BitVec.sle, decide_eq_true_eq, BitVec.toInt_eq_toNat_cond, BitVec.toNat_ofNat] at h1
    obtain ⟨h1, h2⟩ := h1
    have := v.isLt
    split_ifs at h1 h2 <;> omega
  · have h1 := (key 0 (by omega)).1.2
    have h2 := (concatenate_pair_apply_left (t := Cert.Pre_groups_laid.S64) (s₁ := Cert.Pre_groups_laid.S1) (s₂ := Cert.Pre_groups_laid.S63) 0 _ _ _ _ rfl
      (fun a => match a with | ⟨0, _⟩ => ⟨0, Nat.one_pos⟩) (fun b => by match b with | ⟨0, _⟩ => rfl)).symm.trans h1
    have h3 := StableHlo.Predicate.cmpi_eq_iff.mp h2
    exact (congrArg a0 (by funext a; fin_cases a; rfl)).trans h3
  · have h1 := (key (t + 1) ht).1.2
    have h2 := (concatenate_pair_apply_right (t := Cert.Pre_groups_laid.S64) (s₁ := Cert.Pre_groups_laid.S1) (s₂ := Cert.Pre_groups_laid.S63) 0 _ _ _ _ rfl rfl
      (fun a => match a with | ⟨0, _⟩ => ⟨t, by show t < 63; omega⟩)
      (fun b hb => by match b with | ⟨0, _⟩ => exact absurd rfl hb) rfl).symm.trans h1
    have h3 := StableHlo.Predicate.cmpi_eq_iff.mp h2
    refine Eq.trans (congrArg a0 ?_) (h3.trans (congrArg₂ (· + ·) (congrArg a0 ?_) (congrArg a1 ?_)))
    · funext a; fin_cases a; exact Fin.ext (Nat.add_comm t 1)
    · funext a; fin_cases a; exact Fin.ext (Nat.zero_add t)
    · funext a; fin_cases a; exact Fin.ext (Nat.zero_add t)

variable (m : (ℓ : Loc nD τ sig) → Buf (Elt Bits) ℓ)

/-- The tables of a memory the precondition holds of lay the groups one after the other. -/
theorem laid_of (h : Cert.Pre_Kernel m) : Laid m := by
  obtain ⟨h1, h2, h3, h4, h5⟩ := words_laid _ _ _ _ _ _ (h 0)
  have hcount : ∀ t, count m t ≤ 320 := fun t => by
    unfold count
    split_ifs with ht
    · exact h1 t ht
    · exact Nat.zero_le _
  have hstart : first m 0 = 0 := by
    unfold first; rw [dif_pos (by omega)]; exact congrArg BitVec.toNat h2
  have hstep0 : ∀ t, t < 64 → first m (t + 1) = (first m t + count m t) % 2 ^ 32 := fun t ht => by
    unfold first count
    rw [dif_pos ht, dif_pos ht]
    by_cases hl : t + 1 < 64
    · rw [dif_pos hl]; exact (congrArg BitVec.toNat (h3 t hl)).trans (BitVec.toNat_add _ _)
    · obtain rfl : t = 63 := by omega
      rw [dif_neg hl]; exact (congrArg BitVec.toNat h4).trans (BitVec.toNat_add _ _)
  have hb : ∀ t, t ≤ 64 → first m t ≤ t * 320 := fun t => by
    induction t with
    | zero => intro _; rw [hstart]
    | succ t ih =>
      intro ht
      rw [hstep0 t (by omega)]
      have := ih (by omega); have := hcount t
      exact (Nat.mod_le _ _).trans (by omega)
  refine ⟨hstart, fun t ht => ?_, ?_⟩
  · rw [hstep0 t ht, Nat.mod_eq_of_lt (by have := hb t (by omega); have := hcount t; omega)]
  · have hlt : first m 64 < 2 ^ 31 := by have := hb 64 (le_refl _); omega
    have e : first m 64 = ((m (((0 : Dev nD).tc : Thread nD τ).loc main_arg2) : S1.Idx → BitVec 32) at1).toNat := by
      unfold first; rw [dif_neg (by omega)]
    rw [e] at hlt ⊢
    exact (StableHlo.Predicate.sle_iff_toNat hlt (by decide)).mp h5

end Cert.Kernel.Hand

end

end
-- ==== Proof.Norm.lean ====
/-
  One row of the projection's input: normalized, scaled and shifted.
-/
module

public import Idealize.ShloMosaic.Lib.Pointwise

@[expose] public section

noncomputable section

namespace Cert.Projected

open Idealize.ShloMosaic

/-- The mean of a row of 1024: its sum divided by 1024. -/
def mean (x : Fin 1024 → EReal) : EReal := Ideal.div (∑ k, x k) (Ideal.ofBits .f32 1149239296#32)

/-- A row of 1024 at `k`: its distance from the mean over the root of the mean squared distance (with 1e-5 added), times
    one more than `sc k`, plus `sh k`. -/
def row (x sc sh : Fin 1024 → EReal) (k : Fin 1024) : EReal :=
  (x k - mean x) * Ideal.rsqrt (mean (fun l => (x l - mean x) * (x l - mean x)) + Ideal.ofBits .f32 925353388#32) * (1 + sc k) + sh k

/-- One element of the projection: such a row against a column of the weights. -/
def element (x sc sh w : Fin 1024 → EReal) : EReal := ∑ k, row x sc sh k * w k

/-- The weights in the order of the result's columns: column `j` is column `j` below 2048, the 512 columns from 2064 then
    the 16 from 2048, and zero from 2576 on. -/
def column (w : Fin 1024 → Fin 2576 → EReal) (j : Fin 2688) (k : Fin 1024) : EReal :=
  if h : j.val < 2048 then w k ⟨j.val, by omega⟩
  else if h : j.val - 2048 < 512 then w k ⟨2064 + (j.val - 2048), by omega⟩
  else if h : j.val - 2048 - 512 < 16 then w k ⟨2048 + (j.val - 2048 - 512), by omega⟩
  else 0

/-- The projection of the whole array: row `r` is row `r % 4096` of batch element `r / 4096`. -/
def projected (x : Fin 4 → Fin 4096 → Fin 1024 → EReal) (sc sh : Fin 4 → Fin 1024 → EReal) (w : Fin 1024 → Fin 2576 → EReal)
    (r : Fin 16384) (j : Fin 2688) : EReal :=
  element (x ⟨r.val / 4096, by omega⟩ ⟨r.val % 4096, by omega⟩) (sc ⟨r.val / 4096, by omega⟩) (sh ⟨r.val / 4096, by omega⟩) (column w j)

/-- An element is the projection's at row `r` and column `j` when its row, scale, shift and column are those of `r` and `j`. -/
theorem element_eq {x : Fin 4 → Fin 4096 → Fin 1024 → EReal} {sc sh : Fin 4 → Fin 1024 → EReal} {w : Fin 1024 → Fin 2576 → EReal}
    (r : Fin 16384) (j : Fin 2688) {x' sc' sh' w' : Fin 1024 → EReal}
    (hx : ∀ k, x' k = x ⟨r.val / 4096, by omega⟩ ⟨r.val % 4096, by omega⟩ k) (hsc : ∀ k, sc' k = sc ⟨r.val / 4096, by omega⟩ k)
    (hsh : ∀ k, sh' k = sh ⟨r.val / 4096, by omega⟩ k) (hw : ∀ k, w' k = column w j k) :
    element x' sc' sh' w' = projected x sc sh w r j := by
  obtain rfl := funext hx
  obtain rfl := funext hsc
  obtain rfl := funext hsh
  obtain rfl := funext hw
  rfl

/-- The projection at token `t` of batch element `b` and column `j`, where that is the weights' column `l`. -/
theorem projected_at (x : Fin 4 → Fin 4096 → Fin 1024 → EReal) (sc sh : Fin 4 → Fin 1024 → EReal) (w : Fin 1024 → Fin 2576 → EReal)
    (b : Fin 4) (t : Fin 4096) (r : Fin 16384) (hr : r.val = b.val * 4096 + t.val) (j : Fin 2688) (l : Fin 2576)
    (h : ∀ k, column w j k = w k l) : projected x sc sh w r j = element (x b t) (sc b) (sh b) (fun k => w k l) := by
  have hb : (⟨r.val / 4096, by omega⟩ : Fin 4) = b := Fin.ext (by show r.val / 4096 = b.val; omega)
  have ht : (⟨r.val % 4096, by omega⟩ : Fin 4096) = t := Fin.ext (by show r.val % 4096 = t.val; omega)
  unfold projected
  rw [hb, ht, show column w j = fun k => w k l from funext h]

/-- Below 2048 a column is its own. -/
theorem column_low (w : Fin 1024 → Fin 2576 → EReal) (j : Fin 2688) (l : Fin 2576) (h : j.val < 2048) (e : l.val = j.val) (k : Fin 1024) :
    column w j k = w k l := by
  rw [column, dif_pos h]; exact congrArg (w k) (Fin.ext e.symm)

/-- From 2048 to 2560 it is the one 16 columns on. -/
theorem column_mid (w : Fin 1024 → Fin 2576 → EReal) (j : Fin 2688) (l : Fin 2576) (h : 2048 ≤ j.val) (h' : j.val < 2560)
    (e : l.val = j.val + 16) (k : Fin 1024) : column w j k = w k l := by
  rw [column, dif_neg (by omega), dif_pos (by omega)]; exact congrArg (w k) (Fin.ext (by show 2064 + (j.val - 2048) = l.val; omega))

/-- From 2560 to 2576 it is the one 512 columns before. -/
theorem column_high (w : Fin 1024 → Fin 2576 → EReal) (j : Fin 2688) (l : Fin 2576) (h : 2560 ≤ j.val) (h' : j.val < 2576)
    (e : l.val + 512 = j.val) (k : Fin 1024) : column w j k = w k l := by
  rw [column, dif_neg (by omega), dif_neg (by omega), dif_pos (by omega)]
  exact congrArg (w k) (Fin.ext (by show 2048 + (j.val - 2048 - 512) = l.val; omega))

end Cert.Projected
-- ==== Proof.ProjKernel.lean ====
/-
  What the input projection's kernel leaves, element by element.
-/
module

public import proofs.«01_k».proof.Proof.Gen.ProjIdeal.Frame
public import proofs.«01_k».proof.Proof.Norm
public import Idealize.ShloMosaic.Lib.Pipeline.ValueKit.Geometry

@[expose] public section

noncomputable section

namespace Cert.ProjIdeal.Hand

open Cert.ProjIdeal Cert.ProjIdeal.Gen Idealize.ShloMosaic Idealize.ShloMosaic.TcCoe Idealize.SL.Sem

/-- The lower half of a block. -/
theorem pay2_apply (x : Vec Ideal S512x1024 .f32) (sc sh : Vec Ideal S1x1x1024 .f32) (w : Vec Ideal S1024x2688 .bf16) (r : Fin 512) (j : Fin 2688) :
    k0_pay2 x sc sh w (ix2 r j)
      = Projected.element (fun k => x (ix2 r k)) (fun k => sc (ix3 0 0 k)) (fun k => sh (ix3 0 0 k)) (fun k => w (ix2 k j)) := by
  pointwise [k0_pay2]
  rfl

/-- The upper half of a block. -/
theorem pay1_apply (x : Vec Ideal S512x1024 .f32) (sc sh : Vec Ideal S1x1x1024 .f32) (w : Vec Ideal S1024x2688 .bf16) (r : Fin 512) (j : Fin 2688) :
    k0_pay1 (k0_pay3 x) (k0_pay4 x) sc sh w (ix2 r j)
      = Projected.element (fun k => x (ix2 r k)) (fun k => sc (ix3 0 0 k)) (fun k => sh (ix3 0 0 k)) (fun k => w (ix2 k j)) := by
  pointwise [k0_pay1, k0_pay3, k0_pay4]
  rfl

variable (m : (ℓ : Loc nD τ sig) → Buf (Elt Ideal) ℓ) (c : Dev nD)

/-- The region finds the rows of the first argument, its batch elements one after another. -/
theorem V_rows : V m c main_v6 = shapeCast S16384x1024 (m ((c : Thread nD τ).loc main_arg0)) shapeCasts_S4x4096x1024_S16384x1024 := by
  show StableHlo.after (List.flatten [hostOps0]) _ _ = _
  rw [List.flatten_singleton]
  unfold hostOps0
  after_results_simp
  rfl

/-- Those rows, element by element. -/
theorem rows_apply (a0 : FVec Ideal S4x4096x1024 .f32) (r : Fin 16384) (k : Fin 1024) :
    shapeCast S16384x1024 a0 shapeCasts_S4x4096x1024_S16384x1024 (ix2 r k)
      = a0 (ix3 (⟨r.val / 4096, by omega⟩ : Fin 4) (⟨r.val % 4096, by omega⟩ : Fin 4096) k) := by
  pointwise

/-- The weights as the host's operations lay them out. -/
def weights (a3 : FVec Ideal S1024x2576 .f32) : FVec Ideal S1024x2688 .bf16 :=
  truncf .bf16 (concatenate S1024x2688 1 [⟨S1024x2048, extractStridedSlice S1024x2048 ![0, 0] a3 slices_S1024x2576_S1024x2048_0_0⟩,
    ⟨S1024x512, extractStridedSlice S1024x512 ![0, 2064] a3 slices_S1024x2576_S1024x512_0_2064⟩,
    ⟨S1024x16, extractStridedSlice S1024x16 ![0, 2048] a3 slices_S1024x2576_S1024x16_0_2048⟩,
    ⟨S1024x112, broadcastInDim S1024x112 ![] bcast_S_S1024x112 (constant (F := Ideal) S_ .f32 0x00000000#32)⟩]
    concatenates_S1024x2048_S1024x512_S1024x16_S1024x112_S1024x2688_d1) bitsLt_bf16_f32

/-- The region finds the weights laid out so. -/
theorem V_weights : V m c main_v5 = weights (m ((c : Thread nD τ).loc main_arg3)) := by
  show StableHlo.after (List.flatten [hostOps0]) _ _ = _
  rw [List.flatten_singleton]
  unfold hostOps0
  after_results_simp
  rfl

/-- Those weights, element by element. -/
theorem weights_apply (a3 : FVec Ideal S1024x2576 .f32) (k : Fin 1024) (j : Fin 2688) :
    weights a3 (ix2 k j) = Projected.column (fun k l => a3 (ix2 k l)) j k := by
  pointwise [weights]
  rfl

/-- What the body leaves of a block. -/
theorem out_apply (x0 : Vec Ideal S1024x1024 .f32) (x1 x2 : Vec Ideal S1x1x1024 .f32) (x3 : Vec Ideal S1024x2688 .bf16) (y : S1024x2688.Idx) :
    out0_4 x0 x1 x2 x3 y
      = Projected.element (fun k => x0 (ix2 (y 0) k)) (fun k => x2 (ix3 0 0 k)) (fun k => x1 (ix3 0 0 k)) (fun k => x3 (ix2 k (y 1))) := by
  unfold out0_4
  refine View.canon_apply_of_pieces (Val := Elt Ideal) (e := .f32) (fun y : S1024x2688.Idx => (Projected.element (fun k => x0 (ix2 (y 0) k)) (fun k => x2 (ix3 0 0 k)) (fun k => x1 (ix3 0 0 k)) (fun k => x3 (ix2 k (y 1))) : EReal)) _ ?_ y (cover0_4 _ _ y)
  intro p hp
  simp only [List.mem_cons, List.not_mem_nil, or_false] at hp
  rcases hp with rfl | rfl
  · intro x
    obtain ⟨r, j, rfl⟩ : ∃ (r : Fin 512) (j : Fin 2688), x = ix2 r j := ⟨x 0, x 1, eq_ix2 x⟩
    dsimp only
    rw [pay1_apply]
    have e0 : r0_5.emb (ix2 r j) 0 = (⟨512 + r.val, by omega⟩ : Fin 1024) := Fin.ext (by simp [Rect.emb_apply])
    have e1 : r0_5.emb (ix2 r j) 1 = j := Fin.ext (by simp [Rect.emb_apply])
    rw [e0, e1]
    pointwise
  · intro x
    obtain ⟨r, j, rfl⟩ : ∃ (r : Fin 512) (j : Fin 2688), x = ix2 r j := ⟨x 0, x 1, eq_ix2 x⟩
    dsimp only
    rw [pay2_apply]
    have e0 : r0_3.emb (ix2 r j) 0 = (⟨r.val, by omega⟩ : Fin 1024) := Fin.ext (by simp [Rect.emb_apply])
    have e1 : r0_3.emb (ix2 r j) 1 = j := Fin.ext (by simp [Rect.emb_apply])
    rw [e0, e1]
    pointwise

theorem e0 : ∀ t : Fin cfg0.N, win0_0.index t = ![t.val, 0] := (by decide +kernel : ∀ t : Fin grid0.N, _)
theorem e1 : ∀ t : Fin cfg0.N, win0_1.index t = ![t.val / 4, 0, 0] := (by decide +kernel : ∀ t : Fin grid0.N, _)
theorem e2 : ∀ t : Fin cfg0.N, win0_2.index t = ![t.val / 4, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)

/-- The array the kernel leaves. -/
theorem final : (dats m 0 c).arrAt 4 cfg0.N = (fun i : S16384x2688.Idx =>
    (Projected.projected (fun b t k => m ((c : Thread nD τ).loc main_arg0) (ix3 b t k)) (fun b k => m ((c : Thread nD τ).loc main_arg2) (ix3 b 0 k))
      (fun b k => m ((c : Thread nD τ).loc main_arg1) (ix3 b 0 k)) (fun k l => m ((c : Thread nD τ).loc main_arg3) (ix2 k l)) (i 0) (i 1) : EReal)) := by
  refine (dats m 0 c).arrAt_eq_of_covers 4 _ (by decide +kernel) fun t hf y => ?_
  blk_simp
  rw [after0_4, out_apply]
  have hy : (y 0).val < 1024 := (y 0).isLt
  have ht : t.val < 16 := t.isLt.trans_eq N_0
  have h0 (k : Fin 1024) : (win0_0.blk t).view.emb (ix2 (y 0) k) = ix2 (⟨t.val * 1024 + (y 0).val, by omega⟩ : Fin 16384) k := by
    blk_ext [e0]
  have h1 (k : Fin 1024) : (win0_1.blk t).view.emb (ix3 0 0 k) = ix3 (⟨t.val / 4, by omega⟩ : Fin 4) 0 k := by
    blk_ext [e1]
  have h2 (k : Fin 1024) : (win0_2.blk t).view.emb (ix3 0 0 k) = ix3 (⟨t.val / 4, by omega⟩ : Fin 4) 0 k := by
    blk_ext [e2]
  have h3 (k : Fin 1024) : (win0_3.blk t).view.emb (ix2 k (y 1)) = ix2 k (y 1) := by
    blk_ext [e3]
  have h4 : (win0_4.blk t).view.emb y = ix2 (⟨t.val * 1024 + (y 0).val, by omega⟩ : Fin 16384) (y 1) := by
    blk_ext [e4]
  blk_simp [iblk]
  rw [h4]
  refine Projected.element_eq _ (y 1) (fun k => ?_) (fun k => ?_) (fun k => ?_) fun k => ?_
  · rw [h0 k]; exact (congrFun (V_rows m c) _).trans (rows_apply _ _ k)
  · rw [h2 k]; exact (congrFun (V_main_arg2 m c) _).trans (congrArg (fun b : Fin 4 => m ((c : Thread nD τ).loc main_arg2) (ix3 b 0 k)) (Fin.ext (by show t.val / 4 = (t.val * 1024 + (y 0).val) / 4096; omega)))
  · rw [h1 k]; exact (congrFun (V_main_arg1 m c) _).trans (congrArg (fun b : Fin 4 => m ((c : Thread nD τ).loc main_arg1) (ix3 b 0 k)) (Fin.ext (by show t.val / 4 = (t.val * 1024 + (y 0).val) / 4096; omega)))
  · rw [h3 k]; exact (congrFun (V_weights m c) _).trans (weights_apply _ k (y 1))

/-- That array, shaped as the batch's tokens. -/
def tokens : FVec Ideal S4x4096x2688 .f32 :=
  shapeCast S4x4096x2688 ((dats m 0 c).arrAt 4 cfg0.N : FVec Ideal S16384x2688 .f32) shapeCasts_S16384x2688_S4x4096x2688

/-- An array of all tokens' rows, shaped as the batch's tokens, at a token. -/
theorem shaped_apply (a : FVec Ideal S16384x2688 .f32) (b : Fin 4) (t : Fin 4096) (j : Fin 2688) :
    shapeCast S4x4096x2688 a shapeCasts_S16384x2688_S4x4096x2688 (ix3 b t j) = a (ix2 (⟨b.val * 4096 + t.val, by omega⟩ : Fin 16384) j) :=
  shapeCast_apply a _ _ _ (by rw [Shape.rowMajor_val_three, Shape.rowMajor_val_two]; rfl)

/-- It, element by element, where column `j` is the weights' column `l`. -/
theorem tokens_apply (b : Fin 4) (t : Fin 4096) (j : Fin 2688) (l : Fin 2576) (h : ∀ w k, Projected.column w j k = w k l) :
    tokens m c (ix3 b t j)
      = Projected.element (fun k => m ((c : Thread nD τ).loc main_arg0) (ix3 b t k)) (fun k => m ((c : Thread nD τ).loc main_arg2) (ix3 b 0 k))
        (fun k => m ((c : Thread nD τ).loc main_arg1) (ix3 b 0 k)) (fun k => m ((c : Thread nD τ).loc main_arg3) (ix2 k l)) := by
  have e : tokens m c (ix3 b t j) = ((dats m 0 c).arrAt 4 cfg0.N : FVec Ideal S16384x2688 .f32)
      (ix2 (⟨b.val * 4096 + t.val, by omega⟩ : Fin 16384) j) := shaped_apply _ b t j
  rw [e, final]
  exact Projected.projected_at _ _ _ _ b t _ rfl j l (h _)

/-- The kernel's program ends with its five results the parts of that array, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v9) = extractStridedSlice S4x4096x1024 ![0, 0, 0] (tokens m c) slices_S4x4096x2688_S4x4096x1024_0_0_0
      ∧ r.2.mem ((c.tc : Thread nD τ).loc main_v10) = extractStridedSlice S4x4096x512 ![0, 0, 1024] (tokens m c) slices_S4x4096x2688_S4x4096x512_0_0_1024
      ∧ r.2.mem ((c.tc : Thread nD τ).loc main_v11) = extractStridedSlice S4x4096x512 ![0, 0, 1536] (tokens m c) slices_S4x4096x2688_S4x4096x512_0_0_1536
      ∧ r.2.mem ((c.tc : Thread nD τ).loc main_v12) = extractStridedSlice S4x4096x16 ![0, 0, 2560] (tokens m c) slices_S4x4096x2688_S4x4096x16_0_0_2560
      ∧ r.2.mem ((c.tc : Thread nD τ).loc main_v13) = extractStridedSlice S4x4096x512 ![0, 0, 2048] (tokens m c) slices_S4x4096x2688_S4x4096x512_0_0_2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (θ_run_and (run_main m ρ) (unchanged m ρ))
  obtain ⟨h, hu⟩ := h
  have h7 : Pipeline.withArrays (cfgs 0).spec c (V0 m c) (fun w => (dats m 0 c).arrAt w (cfgs 0).N) (Proc.devRef .tc main_v7)
      = (dats m 0 c).arrAt 4 cfg0.N := Pipeline.withArrays_arr spec0 (by decide) c (V0 m c) (fun w => (dats m 0 c).arrAt w cfg0.N) 4
  refine ⟨((h c).2 main_v9 (by decide)).trans ?_, ((h c).2 main_v10 (by decide)).trans ?_, ((h c).2 main_v11 (by decide)).trans ?_,
    ((h c).2 main_v12 (by decide)).trans ?_, ((h c).2 main_v13 (by decide)).trans ?_, hu c⟩
  all_goals
    unfold Pipeline.afterTail₀
    rw [List.flatten_singleton]
    unfold hostOps1
    after_results_simp
    rw [h7]
    rfl

end Cert.ProjIdeal.Hand
-- ==== Proof.ProjPlain.lean ====
/-
  What the plain input projection leaves, element by element.
-/
module

public import proofs.«01_k».proof.Proof.Gen.ProjPlainIdeal.Run
public import proofs.«01_k».proof.Proof.Norm

@[expose] public section

noncomputable section

namespace Cert.ProjPlainIdeal.Hand

open Cert.ProjPlainIdeal Cert.ProjPlainIdeal.Gen Idealize.ShloMosaic Idealize.ShloMosaic.TcCoe Idealize.SL.Sem

/-- The product of the normalized rows and the weights, as the host's operations compute it. -/
def product (a0 : FVec Ideal S4x4096x1024 .f32) (a1 a2 : FVec Ideal S4x1x1024 .f32) (a3 : FVec Ideal S1024x2576 .f32) : FVec Ideal S4x4096x2576 .f32 :=
  (Host.dotGeneral dot_S4x4096x1024_S1024x2576_S4x4096x2576_2_0_01_1_n_n none (addf (mulf (mulf (subf a0 (broadcastInDim S4x4096x1024 ![0, 1, 2] bcast_S4x4096x1_S4x4096x1024_0_1_2 (Host.divf (broadcastInDim S4x4096x1 ![0, 1] bcast_S4x4096_S4x4096x1_0_1 (Host.reduceAdd a0 (constant S_ .f32 0x00000000#32) reducesTo_S4x4096x1024_S4x4096_d2 h_S_)) (broadcastInDim S4x4096x1 ![] bcast_S_S4x4096x1 (constant S_ .f32 0x44800000#32))))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (subf a0 (broadcastInDim S4x4096x1024 ![0, 1, 2] bcast_S4x4096x1_S4x4096x1024_0_1_2 (Host.divf (broadcastInDim S4x4096x1 ![0, 1] bcast_S4x4096_S4x4096x1_0_1 (Host.reduceAdd a0 (constant S_ .f32 0x00000000#32) reducesTo_S4x4096x1024_S4x4096_d2 h_S_)) (broadcastInDim S4x4096x1 ![] bcast_S_S4x4096x1 (constant S_ .f32 0x44800000#32))))) (subf a0 (broadcastInDim S4x4096x1024 ![0, 1, 2] bcast_S4x4096x1_S4x4096x1024_0_1_2 (Host.divf (broadcastInDim S4x4096x1 ![0, 1] bcast_S4x4096_S4x4096x1_0_1 (Host.reduceAdd a0 (constant S_ .f32 0x00000000#32) reducesTo_S4x4096x1024_S4x4096_d2 h_S_)) (broadcastInDim S4x4096x1 ![] bcast_S_S4x4096x1 (constant S_ .f32 0x44800000#32)))))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S4x1x1024_S4x4096x1024_0_1_2 (addf (broadcastInDim S4x1x1024 ![] bcast_S_S4x1x1024 (constant S_ .f32 0x3F800000#32)) a2))) (broadcastInDim S4x4096x1024 ![0, 1, 2] bcast_S4x1x1024_S4x4096x1024_0_1_2 a1)) a3)

/-- One element of that product. -/
theorem product_apply (a0 : FVec Ideal S4x4096x1024 .f32) (a1 a2 : FVec Ideal S4x1x1024 .f32) (a3 : FVec Ideal S1024x2576 .f32)
    (b : Fin 4) (t : Fin 4096) (j : Fin 2576) :
    product a0 a1 a2 a3 (ix3 b t j)
      = Projected.element (fun k => a0 (ix3 b t k)) (fun k => a2 (ix3 b 0 k)) (fun k => a1 (ix3 b 0 k)) (fun k => a3 (ix2 k j)) := by
  pointwise [product]
  rfl

/-- The plain projection ends with its five results the parts of that product, the arguments unchanged. -/
theorem run (m : (ℓ : Loc nD τ sig) → Buf (Elt Ideal) ℓ) (ρ : Dev nD → PrngReg) (p : Dev nD → FVec Ideal S4x4096x2576 .f32)
    (hp : ∀ c : Dev nD, product (m ((c.tc : Thread nD τ).loc main_arg0)) (m ((c.tc : Thread nD τ).loc main_arg1))
      (m ((c.tc : Thread nD τ).loc main_arg2)) (m ((c.tc : Thread nD τ).loc main_arg3)) = p c) :
    θ_run defs (onTc (τ := τ) (main (F := Ideal))) ⟨m, fun _ => 0, ρ⟩ fun r => ∀ c : Dev nD,
      r.2.mem ((c.tc : Thread nD τ).loc main_v25) = extractStridedSlice S4x4096x1024 ![0, 0, 0] (p c) slices_S4x4096x2576_S4x4096x1024_0_0_0
      ∧ r.2.mem ((c.tc : Thread nD τ).loc main_v26) = extractStridedSlice S4x4096x512 ![0, 0, 1024] (p c) slices_S4x4096x2576_S4x4096x512_0_0_1024
      ∧ r.2.mem ((c.tc : Thread nD τ).loc main_v27) = extractStridedSlice S4x4096x512 ![0, 0, 1536] (p c) slices_S4x4096x2576_S4x4096x512_0_0_1536
      ∧ r.2.mem ((c.tc : Thread nD τ).loc main_v28) = extractStridedSlice S4x4096x16 ![0, 0, 2048] (p c) slices_S4x4096x2576_S4x4096x16_0_0_2048
      ∧ r.2.mem ((c.tc : Thread nD τ).loc main_v29) = extractStridedSlice S4x4096x512 ![0, 0, 2064] (p c) slices_S4x4096x2576_S4x4096x512_0_0_2064
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    have e := h c
    rw [← hp c]
    exact e) (Value.run m ρ)

end Cert.ProjPlainIdeal.Hand
-- ==== Proof.RefValue.lean ====
/-
  What the reference's gridless call leaves: block `b` of the result is the feed-forward network of block `b`'s rows and
  block `b`'s weights.
-/
module

public import proofs.«01_k».proof.Proof.Gen.Reference.Frame
public import Idealize.ShloMosaic.Lib.ValueIdxCore
public import Idealize.ShloMosaic.Lib.Pipeline.ValueKit

@[expose] public section

noncomputable section

namespace Cert.Reference.Hand

open Cert.Reference Cert.Reference.Gen
open Idealize.ShloMosaic Idealize.ShloMosaic.TcCoe

variable {F : FTy → Type} [BitOps F]

/-- Block `b` of a stack of blocks. -/
def slab {α : Type} {n r c : ℕ} (X : (⟨3, ![n, r, c]⟩ : Shape).Idx → α) (b : Fin n) : (⟨3, ![1, r, c]⟩ : Shape).Idx → α :=
  fun j => X (ValueIdx.ix3 b (j 1) (j 2))

/-- A load of one block of a whole staging buffer reads that block. -/
theorem load_slab {sp : Space} {e : EltTy} {n r c : ℕ} {κ : Kind} (v : Memref sig κ sp ⟨3, ![n, r, c]⟩ e) (hv : v.IsWhole) (x : Vec F ⟨3, ![n, r, c]⟩ e)
    (b : Fin n) {off : Fin 3 → ℕ} (ho : off = ![b.val, 0, 0]) (hin) :
    View.readAt (Elt F) v.view (Rect.unit (s := ⟨3, ![n, r, c]⟩) off (⟨3, ![1, r, c]⟩ : Shape).size hin).toLoadRect (hv.unread x) = slab x b := by
  subst ho
  rw [View.readAt_eq_ld, Memref.IsWhole.read_unread]
  funext j
  rw [View.ld_apply]
  unfold slab
  congr 1
  funext a
  match a with
  | ⟨0, _⟩ =>
    refine Fin.ext ?_
    have : (j 0).val < 1 := (j 0).isLt
    show b.val + 1 * (j 0).val = b.val
    omega
  | ⟨1, _⟩ => refine Fin.ext ?_; show 0 + 1 * (j 1).val = (j 1).val; omega
  | ⟨2, _⟩ => refine Fin.ext ?_; show 0 + 1 * (j 2).val = (j 2).val; omega

section
variable (c : Dev nD) (arg0 : Memref sig .tc .vmem S640x256x1024 .bf16) (harg0 : arg0.IsWhole) (arg1 : Memref sig .tc .vmem S640x1024x512 .bf16) (harg1 : arg1.IsWhole) (arg2 : Memref sig .tc .vmem S640x256x1024 .bf16) (harg2 : arg2.IsWhole) (arg3 : Memref sig .tc .vmem S640x256x1024 .f32) (harg3 : arg3.IsWhole)
  (x0 : Vec F S640x256x1024 .bf16) (x1 : Vec F S640x1024x512 .bf16) (x2 : Vec F S640x256x1024 .bf16)

/-- One trip writes one block: the network of that trip's rows and weights. -/
theorem trip_pieces (𝒱 : Variants) (bd : Option 𝒱.V) (k : Fin k0_t1_loop.trips) :
    tripL_k0_t1 (F := F) 𝒱 c bd arg0 harg0 arg1 harg1 arg2 harg2 arg3 harg3 (harg0.unread x0) (harg1.unread x1) (harg2.unread x2) k
      = [⟨Rect.unit (s := S640x256x1024) (k0_off1 k) S1x256x1024.size (k0_off1_inb k),
          k0_pay1 (View.readAt (Elt F) arg0.view (Rect.unit (s := S640x256x1024) (k0_off1 k) S1x256x1024.size (k0_off1_inb k)).toLoadRect (harg0.unread x0))
            (View.readAt (Elt F) arg1.view (Rect.unit (s := S640x1024x512) (k0_off2 k) S1x1024x512.size (k0_off2_inb k)).toLoadRect (harg1.unread x1))
            (View.readAt (Elt F) arg2.view (Rect.unit (s := S640x256x1024) (k0_off1 k) S1x256x1024.size (k0_off1_inb k)).toLoadRect (harg2.unread x2))⟩] := by
  unfold tripL_k0_t1 trip_k0_t1
  rfl

/-- The call's result, block by block. -/
def rows : Vec F S640x256x1024 .f32 := fun i => k0_pay1 (slab x0 (i 0)) (slab x1 (i 0)) (slab x2 (i 0)) (ValueIdx.ix3 0 (i 1) (i 2))

theorem pieces_rows (𝒱 : Variants) (bd : Option 𝒱.V) (n : ℕ) (hn : n ≤ k0_t1_loop.trips) :
    ∀ p ∈ pb_k0_t1 (F := F) 𝒱 c bd arg0 harg0 arg1 harg1 arg2 harg2 arg3 harg3 (harg0.unread x0) (harg1.unread x1) (harg2.unread x2) n,
      ∀ x : p.1.shape.Idx, p.2 x = rows x0 x1 x2 (p.1.emb x) := by
  induction n with
  | zero => intro p hp; exact absurd hp List.not_mem_nil
  | succ n ih =>
    intro p hp
    have hk := pb_k0_t1_succ (F := F) 𝒱 c bd arg0 harg0 arg1 harg1 arg2 harg2 arg3 harg3 (harg0.unread x0) (harg1.unread x1) (harg2.unread x2) ⟨n, hn⟩
    rw [trip_pieces] at hk
    rw [show n + 1 = (⟨n, hn⟩ : Fin k0_t1_loop.trips).val + 1 from rfl, hk] at hp
    rcases List.mem_append.mp hp with h | h
    · have hp' := List.mem_singleton.mp h
      subst hp'
      have h640 : n < 640 := Nat.lt_of_lt_of_le hn k0_t1_abs.2.1
      intro x
      refine (congrFun (congr (congr (congrArg k0_pay1 (load_slab arg0 harg0 x0 ⟨n, h640⟩ (k0_off1_eq _) _))
        (load_slab arg1 harg1 x1 ⟨n, h640⟩ (k0_off2_eq _) _)) (load_slab arg2 harg2 x2 ⟨n, h640⟩ (k0_off1_eq _) _)) x).trans ?_
      have e : (Rect.unit (s := S640x256x1024) (k0_off1 ⟨n, hn⟩) S1x256x1024.size (k0_off1_inb ⟨n, hn⟩)).emb x = ValueIdx.ix3 (⟨n, h640⟩ : Fin 640) (x 1) (x 2) := by
        funext a
        have ho := fun b => congrFun (k0_off1_eq ⟨n, hn⟩) b
        match a with
        | ⟨0, _⟩ =>
          refine Fin.ext ?_
          have : (x 0).val < 1 := (x 0).isLt
          show k0_off1 ⟨n, hn⟩ 0 + 1 * (x 0).val = n
          rw [ho 0]; show n + 1 * (x 0).val = n; omega
        | ⟨1, _⟩ => refine Fin.ext ?_; show k0_off1 ⟨n, hn⟩ 1 + 1 * (x 1).val = (x 1).val; rw [ho 1]; show 0 + 1 * (x 1).val = _; omega
        | ⟨2, _⟩ => refine Fin.ext ?_; show k0_off1 ⟨n, hn⟩ 2 + 1 * (x 2).val = (x 2).val; rw [ho 2]; show 0 + 1 * (x 2).val = _; omega
      rw [e]
      show _ = k0_pay1 (slab x0 ⟨n, h640⟩) (slab x1 ⟨n, h640⟩) (slab x2 ⟨n, h640⟩) (ValueIdx.ix3 0 (x 1) (x 2))
      congr 1
      rw [ValueIdx.eq_ix3 x]
      congr 1
      exact Fin.ext (by have : (x 0).val < 1 := (x 0).isLt; show (x 0).val = 0; omega)
    · exact ih (Nat.le_of_succ_le hn) p h

theorem out_rows : out0_A_3 c arg0 harg0 arg1 harg1 arg2 harg2 arg3 harg3 x0 x1 x2 = rows x0 x1 x2 := by
  funext y
  unfold out0_A_3
  exact View.read_writes_apply_of_pieces _ _ _ _
    (pieces_rows c arg0 harg0 arg1 harg1 arg2 harg2 arg3 harg3 x0 x1 x2 Variants.none none k0_t1_loop.trips le_rfl) y
    (cover0_A_3 c arg0 harg0 arg1 harg1 arg2 harg2 arg3 harg3 x0 x1 x2 y)
end

variable (m : (ℓ : Loc nD τ sig) → Buf (Elt F) ℓ) (ρ : Dev nD → PrngReg)

/-- The call's one block of window 0 is its whole array. -/
theorem read_all0 (t : Fin cfg0.N) (X : S640x256x1024.Idx → Elt F .bf16) : ((cfg0.win 0).blk t).view.read (Elt F) X = X := by
  have e : ∀ t : Fin grid0.N, win0_0.index t = ![0, 0, 0] := by decide +kernel
  funext y
  have h : ((cfg0.win 0).blk t).view.emb y = y := by blk_ext [e]
  exact congrArg X h

/-- The call's one block of window 1 is its whole array. -/
theorem read_all1 (t : Fin cfg0.N) (X : S640x1024x512.Idx → Elt F .bf16) : ((cfg0.win 1).blk t).view.read (Elt F) X = X := by
  have e : ∀ t : Fin grid0.N, win0_1.index t = ![0, 0, 0] := by decide +kernel
  funext y
  have h : ((cfg0.win 1).blk t).view.emb y = y := by blk_ext [e]
  exact congrArg X h

/-- The call's one block of window 2 is its whole array. -/
theorem read_all2 (t : Fin cfg0.N) (X : S640x256x1024.Idx → Elt F .bf16) : ((cfg0.win 2).blk t).view.read (Elt F) X = X := by
  have e : ∀ t : Fin grid0.N, win0_2.index t = ![0, 0, 0] := by decide +kernel
  funext y
  have h : ((cfg0.win 2).blk t).view.emb y = y := by blk_ext [e]
  exact congrArg X h

/-- The array the call writes, after the run. -/
theorem arr_rows (c : Dev nD) : (dats m 0 c).arrAt 3 cfg0.N = rows (V m c main_v22) (V m c main_v30) (V m c main_v38) := by
  refine (dats m 0 c).arrAt_eq_of_covers 3 _ (by decide +kernel) fun t hf y => ?_
  blk_simp
  rw [after0_3]
  unfold outsAt0
  rw [out_rows]
  have e3 : ∀ t : Fin grid0.N, win0_3.index t = ![0, 0, 0] := by decide +kernel
  have e : (win0_3.blk t).view.emb y = y := by blk_ext [e3]
  have i0 : iblk m c 0 t = V m c main_v22 := read_all0 t _
  have i1 : iblk m c 1 t = V m c main_v30 := read_all1 t _
  have i2 : iblk m c 2 t = V m c main_v38 := read_all2 t _
  rw [e, i0, i1, i2]

end Cert.Reference.Hand
-- ==== Proof.RefHost.lean ====
/-
  What the reference's host operations compute: the three operands of its gridless call from the arguments, and the
  result from what the call left.
-/
module

public import proofs.«01_k».proof.Proof.RefValue
public import Idealize.ShloMosaic.Lib.StableHlo.RunRead

@[expose] public section

noncomputable section

namespace Cert.Reference.Hand

open Cert.Reference Cert.Reference.Gen
open Idealize.ShloMosaic Idealize.ShloMosaic.TcCoe

variable {F : FTy → Type} [BitOps F]

/-- The result from the call's array: rows rounded to bf16, the two halves of a row packed into words. -/
def tailOf (y : Vec F S640x256x1024 .f32) : IVec S163840x512 32 :=
  have y2 : FVec F S163840x1024 .bf16 := truncf .bf16 (shapeCast S163840x1024 y shapeCasts_S640x256x1024_S163840x1024) bitsLt_bf16_f32
  have lo : FVec F S163840x512 .bf16 := extractStridedSlice S163840x512 ![0, 0] y2 slices_S163840x1024_S163840x512_0_0
  have hi : FVec F S163840x512 .bf16 := extractStridedSlice S163840x512 ![0, 512] y2 slices_S163840x1024_S163840x512_0_512
  Host.bitcastConvertWiden S163840x512 32 (bitcastToInt (concatenate S163840x512x2 2
    [⟨S163840x512x1, broadcastInDim S163840x512x1 ![0, 1] bcast_S163840x512_S163840x512x1_0_1 lo⟩,
     ⟨S163840x512x1, broadcastInDim S163840x512x1 ![0, 1] bcast_S163840x512_S163840x512x1_0_1 hi⟩]
    concatenates_S163840x512x1_S163840x512x1_S163840x512x2_d2)) splits_S163840x512_w32_S163840x512x2_w16

variable (m : (ℓ : Loc nD τ sig) → Buf (Elt F) ℓ) (ρ : Dev nD → PrngReg)

theorem tail_read (V : Valuation τ sig (Elt F)) : StableHlo.after hostOps1 V (Proc.devRef .tc main_v47) = tailOf (V (Proc.devRef .tc main_v39)) := by
  unfold hostOps1
  after_reads_simp
  rfl

/-- The expert of each block of 256 rows, as the reference computes it. -/
def expertOf (a0 a1 : IVec S64 32) : IVec S640 32 :=
  minsi (Host.reduce IntOp.addi
      (select (cmpi .sle
          (broadcastInDim S640x64 ![0, 1] bcast_S1x64_S640x64_0_1 (broadcastInDim S1x64 ![1] bcast_S64_S1x64_1
            (muli (addi a0 a1) (broadcastInDim S64 ![] bcast_S_S64 (constantI S_ 32 512#32)))))
          (broadcastInDim S640x64 ![0, 1] bcast_S640x1_S640x64_0_1 (broadcastInDim S640x1 ![0] bcast_S640_S640x1_0
            (muli (iotaInDim S640 32 0) (broadcastInDim S640 ![] bcast_S_S640 (constantI S_ 32 256#32))))))
        (broadcastInDim S640x64 ![] bcast_S_S640x64 (constantI S_ 32 1#32))
        (broadcastInDim S640x64 ![] bcast_S_S640x64 (constantI S_ 32 0#32)))
      (constantI S_ 32 0#32) reducesTo_S640x64_S640_d1 h_S_)
    (broadcastInDim S640 ![] bcast_S_S640 (constantI S_ 32 63#32))

/-- The index the gather reads: a negative one counts from the end. -/
def indexOf (e : IVec S640 32) : IVec S640x1 32 :=
  broadcastInDim S640x1 ![0] bcast_S640_S640x1_0
    (select (cmpi .slt e (broadcastInDim S640 ![] bcast_S_S640 (constantI S_ 32 0#32)))
      (addi e (broadcastInDim S640 ![] bcast_S_S640 (constantI S_ 32 64#32))) e)

/-- The rows, unpacked: a row's first half is its words' low halves, its second half their high halves. -/
def unpack (xs : IVec S163840x512 32) : FVec F S640x256x1024 .bf16 :=
  have p : FVec F S163840x512x2 .bf16 := bitcastToFloat .bf16 (Host.bitcastConvertNarrow S163840x512x2 16 xs splits_S163840x512_w32_S163840x512x2_w16)
  shapeCast S640x256x1024 (concatenate S163840x1024 1
    [⟨S163840x512, shapeCast S163840x512 (extractStridedSlice S163840x512x1 ![0, 0, 0] p slices_S163840x512x2_S163840x512x1_0_0_0) shapeCasts_S163840x512x1_S163840x512⟩,
     ⟨S163840x512, shapeCast S163840x512 (extractStridedSlice S163840x512x1 ![0, 0, 1] p slices_S163840x512x2_S163840x512x1_0_0_1) shapeCasts_S163840x512x1_S163840x512⟩]
    concatenates_S163840x512_S163840x512_S163840x1024_d1) shapeCasts_S163840x1024_S640x256x1024

set_option maxHeartbeats 1000000 in
theorem V_v22 (c : Dev nD) : V m c main_v22 = unpack (m ((c : Thread nD τ).loc main_arg3)) := by
  show StableHlo.after (List.flatten [hostOps0, hostOps0_1, hostOps0_2]) (fun b => m (c, b)) (Proc.devRef .tc main_v22) = _
  simp only [hostOps0, hostOps0_1, hostOps0_2, List.flatten_cons, List.flatten_nil, List.append_nil, List.cons_append, List.nil_append]
  after_reads_simp
  rfl

set_option maxHeartbeats 1000000 in
theorem V_v30 (c : Dev nD) : V m c main_v30 = Host.gather gather_S64x1024x512_S640x1_S640x1024x512_12_0_n_n_0_1_11024512
    (truncf .bf16 (m ((c : Thread nD τ).loc main_arg4) : FVec F S64x1024x512 .f32) bitsLt_bf16_f32)
    (indexOf (expertOf (m ((c : Thread nD τ).loc main_arg0)) (m ((c : Thread nD τ).loc main_arg1)))) := by
  show StableHlo.after (List.flatten [hostOps0, hostOps0_1, hostOps0_2]) (fun b => m (c, b)) (Proc.devRef .tc main_v30) = _
  simp only [hostOps0, hostOps0_1, hostOps0_2, List.flatten_cons, List.flatten_nil, List.append_nil, List.cons_append, List.nil_append]
  after_reads_simp
  rfl

set_option maxHeartbeats 1000000 in
theorem V_v38 (c : Dev nD) : V m c main_v38 = Host.gather gather_S64x256x1024_S640x1_S640x256x1024_12_0_n_n_0_1_12561024
    (truncf .bf16 (m ((c : Thread nD τ).loc main_arg5) : FVec F S64x256x1024 .f32) bitsLt_bf16_f32)
    (indexOf (expertOf (m ((c : Thread nD τ).loc main_arg0)) (m ((c : Thread nD τ).loc main_arg1)))) := by
  show StableHlo.after (List.flatten [hostOps0, hostOps0_1, hostOps0_2]) (fun b => m (c, b)) (Proc.devRef .tc main_v38) = _
  simp only [hostOps0, hostOps0_1, hostOps0_2, List.flatten_cons, List.flatten_nil, List.append_nil, List.cons_append, List.nil_append]
  after_reads_simp
  rfl

end Cert.Reference.Hand
-- ==== Proof.Pick.lean ====
/-
  The expert the reference reads for a block of rows: a count of the groups that end at or before the block, and the
  weights the gather then takes.
-/
module

public import proofs.«01_k».proof.Proof.RefHost
public import Idealize.ShloMosaic.Lib.StableHlo.Predicate
public import Idealize.ShloMosaic.Lib.WordArith

@[expose] public section

noncomputable section

namespace Cert.Reference.Hand

open Cert.Reference Cert.Reference.Gen
open Idealize.ShloMosaic

/-- A widened truth value is a choice between one and zero. -/
theorem widen_bit (b : BitVec 1) : b.setWidth 32 = if b = 1#1 then 1#32 else 0#32 := by
  rcases BitVec.eq_zero_or_eq_one b with rfl | rfl <;> rfl

/-- Whether group `q` ends at or before block `p`. -/
abbrev ended (a0 a1 : IVec S64 32) : IVec S640x64 1 :=
  cmpi .sle
    (broadcastInDim S640x64 ![0, 1] bcast_S1x64_S640x64_0_1 (broadcastInDim S1x64 ![1] bcast_S64_S1x64_1
      (muli (addi a0 a1) (broadcastInDim S64 ![] bcast_S_S64 (constantI S_ 32 512#32)))))
    (broadcastInDim S640x64 ![0, 1] bcast_S640x1_S640x64_0_1 (broadcastInDim S640x1 ![0] bcast_S640_S640x1_0
      (muli (iotaInDim S640 32 0) (broadcastInDim S640 ![] bcast_S_S640 (constantI S_ 32 256#32)))))

/-- The end of group `q` in rows, as a word and as a number. -/
theorem end_val (a b : BitVec 32) (h : a.toNat + b.toNat ≤ 320) : (IntOp.muli (IntOp.addi a b) 512#32).toNat = (a.toNat + b.toNat) * 512 := by
  unfold IntOp.muli IntOp.addi
  rw [BitVec.toNat_mul, BitVec.toNat_add]
  have h512 : (512#32 : BitVec 32).toNat = 512 := by decide
  rw [h512]
  omega

/-- The first row of block `p`, as a word and as a number. -/
theorem row_val (p : ℕ) (h : p < 640) : (IntOp.muli (BitVec.ofNat 32 p) 256#32).toNat = p * 256 := by
  unfold IntOp.muli
  rw [BitVec.toNat_mul, BitVec.toNat_ofNat]
  have h256 : (256#32 : BitVec 32).toNat = 256 := by decide
  rw [h256]
  omega

theorem ended_apply (a0 a1 : IVec S64 32) (p : Fin 640) (q : Fin 64) :
    ended a0 a1 (StableHlo.Predicate.ij p q)
      = IntOp.cmpi .sle (IntOp.muli (IntOp.addi (a0 (Shape.Idx.ofFin q)) (a1 (Shape.Idx.ofFin q))) 512#32) (IntOp.muli (BitVec.ofNat 32 p.val) 256#32) :=
  congr (congrArg (IntOp.cmpi .sle)
    (StableHlo.Predicate.bcast_cols bcast_S64_S1x64_1 bcast_S1x64_S640x64_0_1 _ p q))
    (StableHlo.Predicate.bcast_rows bcast_S640_S640x1_0 bcast_S640x1_S640x64_0_1 _ p q)

theorem ended_iff (a0 a1 : IVec S64 32) (hb : ∀ q : Fin 64, (a0 (Shape.Idx.ofFin q)).toNat + (a1 (Shape.Idx.ofFin q)).toNat ≤ 320) (p : Fin 640) (q : Fin 64) :
    ended a0 a1 (StableHlo.Predicate.ij p q) = 1#1 ↔ ((a0 (Shape.Idx.ofFin q)).toNat + (a1 (Shape.Idx.ofFin q)).toNat) * 512 ≤ p.val * 256 := by
  have h := hb q
  have hp := p.isLt
  have e1 := end_val _ _ h
  have e2 := row_val p.val hp
  rw [ended_apply, StableHlo.Predicate.sle_iff_toNat (by omega) (by omega), e1, e2]

/-- The expert of block `p`: how many groups end at or before it, at most the last expert. -/
theorem expertOf_val (a0 a1 : IVec S64 32) (hb : ∀ q : Fin 64, (a0 (Shape.Idx.ofFin q)).toNat + (a1 (Shape.Idx.ofFin q)).toNat ≤ 320) (p : Fin 640) :
    (expertOf a0 a1 (Shape.Idx.ofFin p)).toNat
      = min (Finset.univ.filter fun q : Fin 64 => ((a0 (Shape.Idx.ofFin q)).toNat + (a1 (Shape.Idx.ofFin q)).toNat) * 512 ≤ p.val * 256).card 63 := by
  have hw : (1 : ℕ) < 32 := by decide
  have e : (select (ended a0 a1) (broadcastInDim S640x64 ![] bcast_S_S640x64 (constantI S_ 32 1#32)) (broadcastInDim S640x64 ![] bcast_S_S640x64 (constantI S_ 32 0#32)) : IVec S640x64 32)
      = extui 32 (ended a0 a1) hw := by
    funext i
    exact (widen_bit (ended a0 a1 i)).symm
  have hc := StableHlo.Predicate.toNat_reduce_count_cols (by decide) (ended a0 a1) hw reducesTo_S640x64_S640_d1 h_S_ (Shape.Idx.ofFin p)
  have hcard : (Finset.univ.filter fun q : Fin 64 => ended a0 a1 (StableHlo.Predicate.ij p q) = 1#1)
      = Finset.univ.filter fun q : Fin 64 => ((a0 (Shape.Idx.ofFin q)).toNat + (a1 (Shape.Idx.ofFin q)).toNat) * 512 ≤ p.val * 256 :=
    Finset.filter_congr fun q _ => ended_iff a0 a1 hb p q
  have hc' := hc.trans (congrArg Finset.card hcard)
  have hle : (Finset.univ.filter fun q : Fin 64 => ((a0 (Shape.Idx.ofFin q)).toNat + (a1 (Shape.Idx.ofFin q)).toNat) * 512 ≤ p.val * 256).card ≤ 64 :=
    (Finset.card_le_univ _).trans (by simp)
  have h1 : expertOf a0 a1 (Shape.Idx.ofFin p)
      = IntOp.minsi (Host.reduce IntOp.addi (extui 32 (ended a0 a1) hw) (constantI S_ 32 0#32) reducesTo_S640x64_S640_d1 h_S_ (Shape.Idx.ofFin p)) 63#32 := by
    rw [← e]; rfl
  rw [h1]
  generalize Host.reduce IntOp.addi (extui 32 (ended a0 a1) hw) (constantI S_ 32 0#32) reducesTo_S640x64_S640_d1 h_S_ (Shape.Idx.ofFin p) = w at hc'
  rw [WordArith.toNat_minsi_of_lt w 63#32 (by omega) (by decide), hc']
  rfl

/-- An index that is not negative is read as it stands. -/
theorem indexOf_apply (e : IVec S640 32) (p : Fin 640) (k : ℕ) (hk : k < 64) (h : (e (Shape.Idx.ofFin p)).toNat = k) :
    indexOf e (ValueIdx.ix2 p (0 : Fin 1)) = BitVec.ofNat 32 k := by
  have hlt : (e (Shape.Idx.ofFin p)).toNat < 2 ^ 31 := by omega
  have hw : e (Shape.Idx.ofFin p) = BitVec.ofNat 32 k := by
    apply BitVec.eq_of_toNat_eq; rw [h, BitVec.toNat_ofNat]; omega
  have hix : (ValueIdx.ix2 p (0 : Fin 1) : S640x1.Idx) = StableHlo.Predicate.ixP p := by
    funext a; match a with | ⟨0, _⟩ => rfl | ⟨1, _⟩ => rfl
  unfold indexOf
  rw [hix, StableHlo.Predicate.bcast_col1]
  show (if IntOp.cmpi .slt (e (Shape.Idx.ofFin p)) 0#32 = 1#1 then _ else e (Shape.Idx.ofFin p)) = _
  rw [if_neg, hw]
  intro hc
  have := (StableHlo.Predicate.slt_iff_toNat hlt (by decide)).mp hc
  exact absurd this (Nat.not_lt_zero _)

/-- The first weights gathered for block `p` are those of its expert. -/
theorem gather_first {α : Type} (x : S64x1024x512.Idx → α) (idx : IVec S640x1 32) (p : Fin 640) (k : Fin 64) (r : Fin 1024) (c : Fin 512)
    (h : idx (ValueIdx.ix2 p (0 : Fin 1)) = BitVec.ofNat 32 k.val) :
    Host.gather gather_S64x1024x512_S640x1_S640x1024x512_12_0_n_n_0_1_11024512 x idx (ValueIdx.ix3 p r c) = x (ValueIdx.ix3 k r c) := by
  unfold Host.gather
  refine congrArg x (funext fun a => Fin.ext ?_)
  have hk := k.isLt
  have hsi : ∀ q, gather_S64x1024x512_S640x1_S640x1024x512_12_0_n_n_0_1_11024512.siIdx (ValueIdx.ix3 p r c) q = ValueIdx.ix2 p (0 : Fin 1) := by
    intro q
    have hq : q.val < 1 := q.isLt
    funext b; refine Fin.ext ?_
    match b with
    | ⟨0, _⟩ => rfl
    | ⟨1, _⟩ => show q.val = 0; omega
  match a with
  | ⟨0, _⟩ =>
    show min (idx (gather_S64x1024x512_S640x1_S640x1024x512_12_0_n_n_0_1_11024512.siIdx (ValueIdx.ix3 p r c) _)).toInt.toNat (64 - 1) + 0 + 0 = k.val
    rw [hsi, h, StableHlo.Predicate.toInt_ofNat_small _ (by omega)]
    omega
  | ⟨1, _⟩ => show 0 + 0 + r.val = r.val; omega
  | ⟨2, _⟩ => show 0 + 0 + c.val = c.val; omega

/-- The second weights gathered for block `p` are those of its expert. -/
theorem gather_second {α : Type} (x : S64x256x1024.Idx → α) (idx : IVec S640x1 32) (p : Fin 640) (k : Fin 64) (r : Fin 256) (c : Fin 1024)
    (h : idx (ValueIdx.ix2 p (0 : Fin 1)) = BitVec.ofNat 32 k.val) :
    Host.gather gather_S64x256x1024_S640x1_S640x256x1024_12_0_n_n_0_1_12561024 x idx (ValueIdx.ix3 p r c) = x (ValueIdx.ix3 k r c) := by
  unfold Host.gather
  refine congrArg x (funext fun a => Fin.ext ?_)
  have hk := k.isLt
  have hsi : ∀ q, gather_S64x256x1024_S640x1_S640x256x1024_12_0_n_n_0_1_12561024.siIdx (ValueIdx.ix3 p r c) q = ValueIdx.ix2 p (0 : Fin 1) := by
    intro q
    have hq : q.val < 1 := q.isLt
    funext b; refine Fin.ext ?_
    match b with
    | ⟨0, _⟩ => rfl
    | ⟨1, _⟩ => show q.val = 0; omega
  match a with
  | ⟨0, _⟩ =>
    show min (idx (gather_S64x256x1024_S640x1_S640x256x1024_12_0_n_n_0_1_12561024.siIdx (ValueIdx.ix3 p r c) _)).toInt.toNat (64 - 1) + 0 + 0 = k.val
    rw [hsi, h, StableHlo.Predicate.toInt_ofNat_small _ (by omega)]
    omega
  | ⟨1, _⟩ => show 0 + 0 + r.val = r.val; omega
  | ⟨2, _⟩ => show 0 + 0 + c.val = c.val; omega

end Cert.Reference.Hand

end

end
-- ==== Proof.Packing.lean ====
/-
  The words both programs pack: the network of a block of rows, common to both, the two halves of a row of results in one
  row of words, and the rows of words taken apart.
-/
module

public import proofs.«01_k».proof.Proof.Pick
public import proofs.«01_k».proof.Proof.Parts
public import Idealize.ShloMosaic.Lib.BitcastConvert
public import Idealize.ShloMosaic.Lib.Pipeline.Value

@[expose] public section

noncomputable section

namespace Cert.Equation

open Idealize.ShloMosaic
open Cert.Reference (S1x256x1024 S1x1024x512 S256x1024 S1024x512 S256x512 S256x256 S640x256x1024 S640x1024x512 S163840x512 S163840x1024 S163840x512x1 S163840x512x2)
open Cert.Kernel (S1x256x512 S512x512)

variable {F : FTy → Type} [BitOps F]

/-- One expert on a block of 256 rows, both products accumulated in f32. -/
def net (x : FVec F S256x1024 .bf16) (wg : FVec F S1024x512 .bf16) (wd : FVec F S256x1024 .bf16) : FVec F S256x1024 .f32 :=
  have gu : FVec F S256x512 .f32 := matmul Cert.Reference.dot_S256x1024_S1024x512_S256x512_1_0_0_1_n_n none x wg (constant S256x512 .f32 0x00000000#32)
  have g : FVec F S256x256 .f32 := extractStridedSlice S256x256 ![0, 0] gu Cert.Reference.Gen.slices_S256x512_o0_0_S256x256
  have u : FVec F S256x256 .f32 := extractStridedSlice S256x256 ![0, 256] gu Cert.Reference.Gen.slices_S256x512_o0_256_S256x256
  matmul Cert.Reference.dot_S256x256_S256x1024_S256x1024_1_0_0_1_n_n none (truncf .bf16 (mulf (mulf g (logistic g)) u) Cert.Reference.Gen.bitsLt_bf16_f32) wd
    (constant S256x1024 .f32 0x00000000#32)

/-- The kernel's unpacking of 256 rows of words. -/
def join (w : IVec S1x256x512 32) : FVec F S256x1024 .bf16 :=
  have v : IVec S256x512 32 := shapeCast S256x512 w Cert.Kernel.Gen.shapeCasts_S1x256x512_S256x512
  concatenate S256x1024 1
    [⟨S256x512, (bitcastToFloat .bf16 (trunci 16 v Cert.Kernel.Gen.natLt_16_32) : FVec F S256x512 .bf16)⟩,
     ⟨S256x512, (bitcastToFloat .bf16 (trunci 16 (shrui v (broadcast S256x512 16#32)) Cert.Kernel.Gen.natLt_16_32) : FVec F S256x512 .bf16)⟩]
    Cert.Kernel.Gen.concatenates_S256x512_S256x512_S256x1024_d1

/-- Two numbers rounded to bf16, in one word, the first in the low half. -/
def pair (lo hi : F .f32) : BitVec 32 :=
  BitOps.toBits (FloatOps.truncf .bf16 Cert.Reference.Gen.bitsLt_bf16_f32 hi) ++ BitOps.toBits (FloatOps.truncf .bf16 Cert.Reference.Gen.bitsLt_bf16_f32 lo)

theorem kernel_pay (w : IVec S1x256x512 32) (wg : FVec F S1024x512 .bf16) (wd : FVec F S256x1024 .bf16) (r : Fin 256) (c : Fin 512) :
    Cert.Kernel.Gen.k0_pay1 w wg wd (ValueIdx.ix3 (0 : Fin 1) r c)
      = pair (net (join w) wg wd (ValueIdx.ix2 r (⟨c.val, by omega⟩ : Fin 1024))) (net (join w) wg wd (ValueIdx.ix2 r (⟨c.val + 512, by omega⟩ : Fin 1024))) := by
  show shapeCast S1x256x512 (packElementwise (extractStridedSlice S256x512 ![0, 0] (net (join w) wg wd) _) (extractStridedSlice S256x512 ![0, 512] (net (join w) wg wd) _)) _ _ = _
  generalize net (join w) wg wd = M
  refine (shapeCast_apply _ _ _ (ValueIdx.ix2 r c) ?_).trans ?_
  · rw [Shape.rowMajor_val_two, Shape.rowMajor_val_three]
    show r.val * 512 + c.val = (0 * 256 + r.val) * 512 + c.val
    omega
  · show pair (extractStridedSlice S256x512 ![0, 0] M _ (ValueIdx.ix2 r c)) (extractStridedSlice S256x512 ![0, 512] M _ (ValueIdx.ix2 r c)) = _
    refine congr (congrArg pair (extractStridedSlice_apply _ _ _ _ _ fun a => ?_)) (extractStridedSlice_apply _ _ _ _ _ fun a => ?_)
    · match a with
      | ⟨0, _⟩ => show r.val = 0 + r.val; omega
      | ⟨1, _⟩ => show c.val = 0 + c.val; omega
    · match a with
      | ⟨0, _⟩ => show r.val = 0 + r.val; omega
      | ⟨1, _⟩ => show c.val + 512 = 512 + c.val; omega

theorem reference_pay (x : Vec F S1x256x1024 .bf16) (wg : Vec F S1x1024x512 .bf16) (wd : Vec F S1x256x1024 .bf16) (r : Fin 256) (c : Fin 1024) :
    Cert.Reference.Gen.k0_pay1 x wg wd (ValueIdx.ix3 (0 : Fin 1) r c)
      = net (shapeCast S256x1024 x Cert.Reference.Gen.shapeCasts_S1x256x1024_S256x1024) (shapeCast S1024x512 wg Cert.Reference.Gen.shapeCasts_S1x1024x512_S1024x512)
          (shapeCast S256x1024 wd Cert.Reference.Gen.shapeCasts_S1x256x1024_S256x1024) (ValueIdx.ix2 r c) := by
  show shapeCast S1x256x1024 (net _ _ _) _ _ = _
  refine shapeCast_apply _ _ _ (ValueIdx.ix2 r c) ?_
  rw [Shape.rowMajor_val_two, Shape.rowMajor_val_three]
  show r.val * 1024 + c.val = (0 * 256 + r.val) * 1024 + c.val
  omega

/-- A row of the result's words: row `r` of block `b`, both halves. -/
theorem tailOf_apply (y : Vec F S640x256x1024 .f32) (b : Fin 640) (r : Fin 256) (c : Fin 512) (R : Fin 163840) (hR : R.val = b.val * 256 + r.val) :
    Cert.Reference.Hand.tailOf y (ValueIdx.ix2 R c)
      = pair (y (ValueIdx.ix3 b r (⟨c.val, by omega⟩ : Fin 1024))) (y (ValueIdx.ix3 b r (⟨c.val + 512, by omega⟩ : Fin 1024))) := by
  have hy : ∀ k : Fin 1024, shapeCast S163840x1024 y Cert.Reference.Gen.shapeCasts_S640x256x1024_S163840x1024 (ValueIdx.ix2 R k) = y (ValueIdx.ix3 b r k) := by
    intro k
    refine shapeCast_apply _ _ _ _ ?_
    rw [Shape.rowMajor_val_two, Shape.rowMajor_val_three]
    show (b.val * 256 + r.val) * 1024 + k.val = R.val * 1024 + k.val
    rw [hR]
  unfold Cert.Reference.Hand.tailOf
  refine (Host.bitcastConvertWiden_apply_16_32 _ _ _ _).trans ?_
  unfold pair
  refine congrArg₂ (fun p q : BitVec 16 => (p ++ q : BitVec 32)) ?_ ?_
  · refine (congrArg BitOps.toBits (concatenate_pair_apply_right (t := S163840x512x2) (s₁ := S163840x512x1) (s₂ := S163840x512x1) 2 _ _ _ _ rfl rfl
      (ValueIdx.ix3 R c (0 : Fin 1)) (fun a ha => ?_) ?_)).trans ?_
    · match a with
      | ⟨0, _⟩ => rfl
      | ⟨1, _⟩ => rfl
      | ⟨2, _⟩ => exact absurd rfl ha
    · rfl
    · refine congrArg BitOps.toBits ((broadcastInDim_apply _ _ _ _ (ValueIdx.ix2 R c) fun a => ?_).trans ((extractStridedSlice_apply _ _ _ _ (ValueIdx.ix2 R (⟨c.val + 512, by omega⟩ : Fin 1024)) fun a => ?_).trans ?_))
      · match a with
        | ⟨0, _⟩ => rfl
        | ⟨1, _⟩ => rfl
      · match a with
        | ⟨0, _⟩ => show R.val = 0 + R.val; omega
        | ⟨1, _⟩ => show c.val + 512 = 512 + c.val; omega
      · exact congrArg (FloatOps.truncf .bf16 Cert.Reference.Gen.bitsLt_bf16_f32) (hy _)
  · refine (congrArg BitOps.toBits (concatenate_pair_apply_left (t := S163840x512x2) (s₁ := S163840x512x1) (s₂ := S163840x512x1) 2 _ _ _ _ rfl
      (ValueIdx.ix3 R c (0 : Fin 1)) (fun a => ?_))).trans ?_
    · match a with
      | ⟨0, _⟩ => rfl
      | ⟨1, _⟩ => rfl
      | ⟨2, _⟩ => rfl
    · refine congrArg BitOps.toBits ((broadcastInDim_apply _ _ _ _ (ValueIdx.ix2 R c) fun a => ?_).trans ((extractStridedSlice_apply _ _ _ _ (ValueIdx.ix2 R (⟨c.val, by omega⟩ : Fin 1024)) fun a => ?_).trans ?_))
      · match a with
        | ⟨0, _⟩ => rfl
        | ⟨1, _⟩ => rfl
      · match a with
        | ⟨0, _⟩ => show R.val = 0 + R.val; omega
        | ⟨1, _⟩ => show c.val = 0 + c.val; omega
      · exact congrArg (FloatOps.truncf .bf16 Cert.Reference.Gen.bitsLt_bf16_f32) (hy _)

/-- A word's low half and its high half. -/
theorem low_half (w : BitVec 32) : w.setWidth 16 = w.extractLsb' (0 * 16) 16 := by
  apply BitVec.eq_of_getLsbD_eq
  intro i hi
  simp [BitVec.getLsbD_extractLsb']
theorem high_half (w : BitVec 32) : (w >>> 16).setWidth 16 = w.extractLsb' (1 * 16) 16 := by
  apply BitVec.eq_of_getLsbD_eq
  intro i hi
  simp [BitVec.getLsbD_extractLsb', hi]

/-- A row of the reference's unpacked rows. -/
theorem unpack_low (xs : IVec S163840x512 32) (b : Fin 640) (r : Fin 256) (k : Fin 1024) (hk : k.val < 512) (R : Fin 163840) (hR : R.val = b.val * 256 + r.val) :
    (Cert.Reference.Hand.unpack xs : FVec F S640x256x1024 .bf16) (ValueIdx.ix3 b r k)
      = FloatOps.ofBits .bf16 ((xs (ValueIdx.ix2 R (⟨k.val, hk⟩ : Fin 512))).extractLsb' (0 * 16) 16) := by
  unfold Cert.Reference.Hand.unpack
  refine (shapeCast_apply _ _ _ (ValueIdx.ix2 R k : S163840x1024.Idx) ?_).trans ?_
  · rw [Shape.rowMajor_val_two, Shape.rowMajor_val_three]
    show R.val * 1024 + k.val = (b.val * 256 + r.val) * 1024 + k.val
    rw [hR]
  refine (concatenate_pair_apply_left (t := S163840x1024) (s₁ := S163840x512) (s₂ := S163840x512) 1 _ _ _ _ rfl
    (ValueIdx.ix2 R (⟨k.val, hk⟩ : Fin 512)) (fun a => ?_)).trans ?_
  · match a with
    | ⟨0, _⟩ => rfl
    | ⟨1, _⟩ => rfl
  refine (shapeCast_apply _ _ _ (ValueIdx.ix3 R (⟨k.val, hk⟩ : Fin 512) (0 : Fin 1) : S163840x512x1.Idx) ?_).trans ?_
  · rw [Shape.rowMajor_val_two, Shape.rowMajor_val_three]
    show (R.val * 512 + k.val) * 1 + 0 = R.val * 512 + k.val
    omega
  refine (extractStridedSlice_apply _ _ _ _ (ValueIdx.ix3 R (⟨k.val, hk⟩ : Fin 512) (0 : Fin 2) : S163840x512x2.Idx) fun a => ?_).trans ?_
  · match a with
    | ⟨0, _⟩ => show R.val = 0 + R.val; omega
    | ⟨1, _⟩ => show k.val = 0 + k.val; omega
    | ⟨2, _⟩ => rfl
  refine congrArg (FloatOps.ofBits .bf16) ?_
  refine congrArg (fun w : BitVec 32 => w.extractLsb' (0 * 16) 16) (congrArg xs (funext fun a => ?_))
  match a with
  | ⟨0, _⟩ => rfl
  | ⟨1, _⟩ => rfl

theorem unpack_high (xs : IVec S163840x512 32) (b : Fin 640) (r : Fin 256) (k : Fin 1024) (hk : k.val - 512 < 512) (hk' : 512 ≤ k.val) (R : Fin 163840) (hR : R.val = b.val * 256 + r.val) :
    (Cert.Reference.Hand.unpack xs : FVec F S640x256x1024 .bf16) (ValueIdx.ix3 b r k)
      = FloatOps.ofBits .bf16 ((xs (ValueIdx.ix2 R (⟨k.val - 512, hk⟩ : Fin 512))).extractLsb' (1 * 16) 16) := by
  unfold Cert.Reference.Hand.unpack
  refine (shapeCast_apply _ _ _ (ValueIdx.ix2 R k : S163840x1024.Idx) ?_).trans ?_
  · rw [Shape.rowMajor_val_two, Shape.rowMajor_val_three]
    show R.val * 1024 + k.val = (b.val * 256 + r.val) * 1024 + k.val
    rw [hR]
  refine (concatenate_pair_apply_right (t := S163840x1024) (s₁ := S163840x512) (s₂ := S163840x512) 1 _ _ _ _ rfl rfl
    (ValueIdx.ix2 R (⟨k.val - 512, hk⟩ : Fin 512)) (fun a ha => ?_) ?_).trans ?_
  · match a with
    | ⟨0, _⟩ => rfl
    | ⟨1, _⟩ => exact absurd rfl ha
  · show k.val - 512 + 512 = k.val
    omega
  refine (shapeCast_apply _ _ _ (ValueIdx.ix3 R (⟨k.val - 512, hk⟩ : Fin 512) (0 : Fin 1) : S163840x512x1.Idx) ?_).trans ?_
  · rw [Shape.rowMajor_val_two, Shape.rowMajor_val_three]
    show (R.val * 512 + (k.val - 512)) * 1 + 0 = R.val * 512 + (k.val - 512)
    omega
  refine (extractStridedSlice_apply _ _ _ _ (ValueIdx.ix3 R (⟨k.val - 512, hk⟩ : Fin 512) (1 : Fin 2) : S163840x512x2.Idx) fun a => ?_).trans ?_
  · match a with
    | ⟨0, _⟩ => show R.val = 0 + R.val; omega
    | ⟨1, _⟩ => show k.val - 512 = 0 + (k.val - 512); omega
    | ⟨2, _⟩ => rfl
  refine congrArg (FloatOps.ofBits .bf16) ?_
  refine congrArg (fun w : BitVec 32 => w.extractLsb' (1 * 16) 16) (congrArg xs (funext fun a => ?_))
  match a with
  | ⟨0, _⟩ => rfl
  | ⟨1, _⟩ => rfl

/-- The kernel's unpacked rows, a number at a time. -/
theorem join_low (w : IVec S1x256x512 32) (r : Fin 256) (k : Fin 1024) (hk : k.val < 512) :
    (join w : FVec F S256x1024 .bf16) (ValueIdx.ix2 r k)
      = FloatOps.ofBits .bf16 ((w (ValueIdx.ix3 (0 : Fin 1) r (⟨k.val, hk⟩ : Fin 512))).extractLsb' (0 * 16) 16) := by
  unfold join
  refine (concatenate_pair_apply_left (t := S256x1024) (s₁ := S256x512) (s₂ := S256x512) 1 _ _ _ _ rfl
    (ValueIdx.ix2 r (⟨k.val, hk⟩ : Fin 512)) (fun a => ?_)).trans ?_
  · match a with
    | ⟨0, _⟩ => rfl
    | ⟨1, _⟩ => rfl
  refine congrArg (FloatOps.ofBits .bf16) ?_
  rw [← low_half]
  refine congrArg (BitVec.setWidth 16) (shapeCast_apply _ _ _ _ ?_)
  rw [Shape.rowMajor_val_two, Shape.rowMajor_val_three]
  show (0 * 256 + r.val) * 512 + k.val = r.val * 512 + k.val
  omega

theorem join_high (w : IVec S1x256x512 32) (r : Fin 256) (k : Fin 1024) (hk : k.val - 512 < 512) (hk' : 512 ≤ k.val) :
    (join w : FVec F S256x1024 .bf16) (ValueIdx.ix2 r k)
      = FloatOps.ofBits .bf16 ((w (ValueIdx.ix3 (0 : Fin 1) r (⟨k.val - 512, hk⟩ : Fin 512))).extractLsb' (1 * 16) 16) := by
  unfold join
  refine (concatenate_pair_apply_right (t := S256x1024) (s₁ := S256x512) (s₂ := S256x512) 1 _ _ _ _ rfl rfl
    (ValueIdx.ix2 r (⟨k.val - 512, hk⟩ : Fin 512)) (fun a ha => ?_) ?_).trans ?_
  · match a with
    | ⟨0, _⟩ => rfl
    | ⟨1, _⟩ => exact absurd rfl ha
  · show k.val - 512 + 512 = k.val
    omega
  refine congrArg (FloatOps.ofBits .bf16) ?_
  rw [← high_half]
  have e : shapeCast S256x512 w Cert.Kernel.Gen.shapeCasts_S1x256x512_S256x512 (ValueIdx.ix2 r (⟨k.val - 512, hk⟩ : Fin 512)) = w (ValueIdx.ix3 (0 : Fin 1) r (⟨k.val - 512, hk⟩ : Fin 512)) := by
    refine shapeCast_apply _ _ _ _ ?_
    rw [Shape.rowMajor_val_two, Shape.rowMajor_val_three]
    show (0 * 256 + r.val) * 512 + (k.val - 512) = r.val * 512 + (k.val - 512)
    omega
  rw [← e]
  rfl

/-- Both programs unpack the same rows: where `w` holds the words of block `b`. -/
theorem join_eq (xs : IVec S163840x512 32) (w : IVec S1x256x512 32) (b : Fin 640)
    (hw : ∀ (r : Fin 256) (c : Fin 512) (R : Fin 163840), R.val = b.val * 256 + r.val → w (ValueIdx.ix3 (0 : Fin 1) r c) = xs (ValueIdx.ix2 R c)) :
    (join w : FVec F S256x1024 .bf16)
      = shapeCast S256x1024 (Cert.Reference.Hand.slab (Cert.Reference.Hand.unpack xs : FVec F S640x256x1024 .bf16) b) Cert.Reference.Gen.shapeCasts_S1x256x1024_S256x1024 := by
  funext j
  obtain ⟨r, k, rfl⟩ : ∃ (r : Fin 256) (k : Fin 1024), j = ValueIdx.ix2 r k := ⟨j 0, j 1, ValueIdx.eq_ix2 j⟩
  have hb := b.isLt
  have hr := r.isLt
  have hkk := k.isLt
  refine Eq.trans ?_ (shapeCast_apply _ _ _ (ValueIdx.ix3 (0 : Fin 1) r k) ?_).symm
  · show _ = (Cert.Reference.Hand.unpack xs : FVec F S640x256x1024 .bf16) (ValueIdx.ix3 b r k)
    by_cases hk : k.val < 512
    · rw [join_low w r k hk, unpack_low xs b r k hk ⟨b.val * 256 + r.val, by omega⟩ rfl, hw r _ ⟨b.val * 256 + r.val, by omega⟩ rfl]
    · rw [join_high w r k (by omega) (by omega), unpack_high xs b r k (by omega) (by omega) ⟨b.val * 256 + r.val, by omega⟩ rfl, hw r _ ⟨b.val * 256 + r.val, by omega⟩ rfl]
  · rw [Shape.rowMajor_val_two, Shape.rowMajor_val_three]
    show (0 * 256 + r.val) * 1024 + k.val = r.val * 1024 + k.val
    omega

end Cert.Equation

end

end
-- ==== Proof.Equation.lean ====
/-
  The kernel's result is the reference's on the rows in use: block by block, the same network of the same rows and the same
  expert's weights.
-/
module

public import proofs.«01_k».proof.Proof.Packing
public import proofs.«01_k».proof.Proof.Launch
public import Idealize.ShloMosaic.Lib.Pipeline.ValueKit

@[expose] public section

noncomputable section

namespace Cert.Equation

open Idealize.ShloMosaic Idealize.ShloMosaic.TcCoe
open Cert.Reference (S1x256x1024 S1x1024x512 S256x1024 S1024x512 S640x256x1024 S640x1024x512 S640x1 S640 S64)
open Cert.Kernel (S1x256x512 S512x512 S163840x512 S64x1024x512 S64x256x1024 grid0)
open Cert.Kernel.Hand (first ex Laid Gof Yof W0 W1 halfOf glue block blk atB at64)

variable {F : FTy → Type} [BitOps F]
variable (m : (ℓ : Loc Cert.Kernel.nD Cert.Kernel.τ Cert.Kernel.sig) → Buf (Elt F) ℓ)

/-- The kernel's arguments as arrays. -/
abbrev A0 : IVec S64 32 := m (((0 : Dev Cert.Kernel.nD) : Thread Cert.Kernel.nD Cert.Kernel.τ).loc Cert.Kernel.main_arg0)
abbrev A1 : IVec S64 32 := m (((0 : Dev Cert.Kernel.nD) : Thread Cert.Kernel.nD Cert.Kernel.τ).loc Cert.Kernel.main_arg1)
abbrev A3 : IVec S163840x512 32 := m (((0 : Dev Cert.Kernel.nD) : Thread Cert.Kernel.nD Cert.Kernel.τ).loc Cert.Kernel.main_arg3)
abbrev A4 : FVec F S64x1024x512 .f32 := m (((0 : Dev Cert.Kernel.nD) : Thread Cert.Kernel.nD Cert.Kernel.τ).loc Cert.Kernel.main_arg4)
abbrev A5 : FVec F S64x256x1024 .f32 := m (((0 : Dev Cert.Kernel.nD) : Thread Cert.Kernel.nD Cert.Kernel.τ).loc Cert.Kernel.main_arg5)

/-! ## The weights -/

theorem W0_apply (t : Fin grid0.N) (k : Fin 64) (hk : k.val = t.val) (r : Fin 1024) (c : Fin 512) :
    W0 m t (ValueIdx.ix3 (0 : Fin 1) r c) = A4 m (ValueIdx.ix3 k r c) := by
  have e : ∀ t : Fin grid0.N, Cert.Kernel.cc0_transform_1 (grid0.coords t) = ![t.val, 0, 0] := by decide +kernel
  refine congrArg (A4 m) (funext fun a => Fin.ext ?_)
  refine (Pipeline.Window.rect_emb_val (Cert.Kernel.win0 (Cert.Kernel.Hand.tabs m 0) 0) t _ a).trans ?_
  show Cert.Kernel.cc0_transform_1 (grid0.coords t) a * _ + _ = _
  rw [e]
  match a with
  | ⟨0, _⟩ => show t.val * 1 + 0 = k.val; omega
  | ⟨1, _⟩ => show 0 * 1024 + r.val = r.val; omega
  | ⟨2, _⟩ => show 0 * 512 + c.val = c.val; omega

theorem W1_apply (t : Fin grid0.N) (k : Fin 64) (hk : k.val = t.val) (r : Fin 256) (c : Fin 1024) :
    W1 m t (ValueIdx.ix3 (0 : Fin 1) r c) = A5 m (ValueIdx.ix3 k r c) := by
  have e : ∀ t : Fin grid0.N, Cert.Kernel.cc0_transform_2 (grid0.coords t) = ![t.val, 0, 0] := by decide +kernel
  refine congrArg (A5 m) (funext fun a => Fin.ext ?_)
  refine (Pipeline.Window.rect_emb_val (Cert.Kernel.win0 (Cert.Kernel.Hand.tabs m 0) 1) t _ a).trans ?_
  show Cert.Kernel.cc0_transform_2 (grid0.coords t) a * _ + _ = _
  rw [e]
  match a with
  | ⟨0, _⟩ => show t.val * 1 + 0 = k.val; omega
  | ⟨1, _⟩ => show 0 * 256 + r.val = r.val; omega
  | ⟨2, _⟩ => show 0 * 1024 + c.val = c.val; omega

/-- The kernel's first weights at expert `t` are the reference's at a block of that expert. -/
theorem first_weights (t : Fin grid0.N) (k : Fin 64) (hk : k.val = t.val) (idx : IVec S640x1 32) (b : Fin 640)
    (h : idx (ValueIdx.ix2 b (0 : Fin 1)) = BitVec.ofNat 32 k.val) :
    Cert.Kernel.Gen.k0_pay22 (View.ld (W0 m t) Cert.Kernel.Hand.r5)
      = shapeCast S1024x512 (Cert.Reference.Hand.slab
          (Host.gather Cert.Reference.gather_S64x1024x512_S640x1_S640x1024x512_12_0_n_n_0_1_11024512 (truncf .bf16 (A4 m) Cert.Reference.Gen.bitsLt_bf16_f32 : FVec F S64x1024x512 .bf16) idx) b)
          Cert.Reference.Gen.shapeCasts_S1x1024x512_S1024x512 := by
  funext j
  obtain ⟨r, c, rfl⟩ : ∃ (r : Fin 1024) (c : Fin 512), j = ValueIdx.ix2 r c := ⟨j 0, j 1, ValueIdx.eq_ix2 j⟩
  have hp : ((⟨3, ![1, 1024, 512]⟩ : Shape).rowMajor (ValueIdx.ix3 (0 : Fin 1) r c)).val = ((⟨2, ![1024, 512]⟩ : Shape).rowMajor (ValueIdx.ix2 r c)).val := by
    rw [Shape.rowMajor_val_two, Shape.rowMajor_val_three]
    show (0 * 1024 + r.val) * 512 + c.val = r.val * 512 + c.val
    omega
  refine Eq.trans ?_ (shapeCast_apply _ _ _ (ValueIdx.ix3 (0 : Fin 1) r c) hp).symm
  refine Eq.trans ?_ (Cert.Reference.Hand.gather_first _ idx b k r c h).symm
  unfold Cert.Kernel.Gen.k0_pay22
  refine (congrFun (shapeCast_self _ _) _).trans ?_
  refine congrArg (FloatOps.truncf .bf16 Cert.Reference.Gen.bitsLt_bf16_f32) ?_
  refine (shapeCast_apply _ _ _ (ValueIdx.ix3 (0 : Fin 1) r c) hp).trans ?_
  refine Eq.trans ?_ (W0_apply m t k hk r c)
  rw [View.ld_apply]
  refine congrArg (W0 m t) (funext fun a => Fin.ext ?_)
  match a with
  | ⟨0, _⟩ => rfl
  | ⟨1, _⟩ => show 0 + 1 * r.val = r.val; omega
  | ⟨2, _⟩ => show 0 + 1 * c.val = c.val; omega

/-- The kernel's second weights at expert `t` are the reference's at a block of that expert. -/
theorem second_weights (t : Fin grid0.N) (k : Fin 64) (hk : k.val = t.val) (idx : IVec S640x1 32) (b : Fin 640)
    (h : idx (ValueIdx.ix2 b (0 : Fin 1)) = BitVec.ofNat 32 k.val) :
    Cert.Kernel.Gen.k0_pay23 (View.ld (W1 m t) Cert.Kernel.Hand.r6)
      = shapeCast S256x1024 (Cert.Reference.Hand.slab
          (Host.gather Cert.Reference.gather_S64x256x1024_S640x1_S640x256x1024_12_0_n_n_0_1_12561024 (truncf .bf16 (A5 m) Cert.Reference.Gen.bitsLt_bf16_f32 : FVec F S64x256x1024 .bf16) idx) b)
          Cert.Reference.Gen.shapeCasts_S1x256x1024_S256x1024 := by
  funext j
  obtain ⟨r, c, rfl⟩ : ∃ (r : Fin 256) (c : Fin 1024), j = ValueIdx.ix2 r c := ⟨j 0, j 1, ValueIdx.eq_ix2 j⟩
  have hp : ((⟨3, ![1, 256, 1024]⟩ : Shape).rowMajor (ValueIdx.ix3 (0 : Fin 1) r c)).val = ((⟨2, ![256, 1024]⟩ : Shape).rowMajor (ValueIdx.ix2 r c)).val := by
    rw [Shape.rowMajor_val_two, Shape.rowMajor_val_three]
    show (0 * 256 + r.val) * 1024 + c.val = r.val * 1024 + c.val
    omega
  refine Eq.trans ?_ (shapeCast_apply _ _ _ (ValueIdx.ix3 (0 : Fin 1) r c) hp).symm
  refine Eq.trans ?_ (Cert.Reference.Hand.gather_second _ idx b k r c h).symm
  unfold Cert.Kernel.Gen.k0_pay23
  refine (congrFun (shapeCast_self _ _) _).trans ?_
  refine congrArg (FloatOps.truncf .bf16 Cert.Reference.Gen.bitsLt_bf16_f32) ?_
  refine (shapeCast_apply _ _ _ (ValueIdx.ix3 (0 : Fin 1) r c) hp).trans ?_
  refine Eq.trans ?_ (W1_apply m t k hk r c)
  rw [View.ld_apply]
  refine congrArg (W1 m t) (funext fun a => Fin.ext ?_)
  match a with
  | ⟨0, _⟩ => rfl
  | ⟨1, _⟩ => show 0 + 1 * r.val = r.val; omega
  | ⟨2, _⟩ => show 0 + 1 * c.val = c.val; omega

/-! ## The expert of a block -/

/-- A block in use has an expert. -/
theorem ex_lt (L : Laid m) (g : ℕ) (h : g < first m 64) : ex m g < 64 := by
  unfold ex
  refine lt_of_lt_of_eq (Finset.card_lt_card (Finset.filter_ssubset.mpr ⟨63, Finset.mem_range.mpr (by omega), ?_⟩)) (Finset.card_range 64)
  exact fun h' => absurd h (Nat.not_lt.mpr h')

theorem table0 (q : Fin 64) : (A0 m (Shape.Idx.ofFin q)).toNat = first m q.val := by
  unfold first
  rw [dif_pos q.isLt]
  refine congrArg (fun i => BitVec.toNat (A0 m i)) (funext fun a => ?_)
  match a with
  | ⟨0, _⟩ => rfl
theorem table1 (q : Fin 64) : (A1 m (Shape.Idx.ofFin q)).toNat = Cert.Kernel.Hand.count m q.val := by
  unfold Cert.Kernel.Hand.count
  rw [dif_pos q.isLt]
  refine congrArg (fun i => BitVec.toNat (A1 m i)) (funext fun a => ?_)
  match a with
  | ⟨0, _⟩ => rfl

/-- The reference's expert of a half block is the kernel's expert of the block. -/
theorem index_eq (L : Laid m) (g : ℕ) (h : g < first m 64) (b : Fin 640) (hb : b.val / 2 = g) :
    Cert.Reference.Hand.indexOf (Cert.Reference.Hand.expertOf (A0 m) (A1 m)) (ValueIdx.ix2 b (0 : Fin 1)) = BitVec.ofNat 32 (ex m g) := by
  have hlt := ex_lt m L g h
  have hs : ∀ q : Fin 64, (A0 m (Shape.Idx.ofFin q)).toNat + (A1 m (Shape.Idx.ofFin q)).toNat = first m (q.val + 1) := fun q => by
    rw [table0, table1, L.step q.val q.isLt]
  refine Cert.Reference.Hand.indexOf_apply _ b _ hlt ?_
  rw [Cert.Reference.Hand.expertOf_val _ _ (fun q => by rw [hs]; exact (L.mono (by omega) (le_refl _)).trans L.top)]
  have hc : (Finset.univ.filter fun q : Fin 64 => ((A0 m (Shape.Idx.ofFin q)).toNat + (A1 m (Shape.Idx.ofFin q)).toNat) * 512 ≤ b.val * 256).card = ex m g := by
    unfold ex
    refine Finset.card_bij (fun q _ => q.val) (fun q hq => ?_) (fun q _ q' _ e => Fin.ext e) (fun t ht => ?_)
    · have := (Finset.mem_filter.mp hq).2
      rw [hs] at this
      exact Finset.mem_filter.mpr ⟨Finset.mem_range.mpr q.isLt, by omega⟩
    · obtain ⟨ht1, ht2⟩ := Finset.mem_filter.mp ht
      refine ⟨⟨t, Finset.mem_range.mp ht1⟩, Finset.mem_filter.mpr ⟨Finset.mem_univ _, ?_⟩, rfl⟩
      rw [hs]
      show first m (t + 1) * 512 ≤ b.val * 256
      omega
  rw [hc]
  omega

/-! ## The result -/

/-- The reference's result from the arguments. -/
def refOf (a0 a1 : IVec S64 32) (a3 : IVec S163840x512 32) (a4 : FVec F S64x1024x512 .f32) (a5 : FVec F S64x256x1024 .f32) : IVec S163840x512 32 :=
  Cert.Reference.Hand.tailOf (Cert.Reference.Hand.rows (Cert.Reference.Hand.unpack a3)
    (Host.gather Cert.Reference.gather_S64x1024x512_S640x1_S640x1024x512_12_0_n_n_0_1_11024512 (truncf .bf16 a4 Cert.Reference.Gen.bitsLt_bf16_f32 : FVec F S64x1024x512 .bf16)
      (Cert.Reference.Hand.indexOf (Cert.Reference.Hand.expertOf a0 a1)))
    (Host.gather Cert.Reference.gather_S64x256x1024_S640x1_S640x256x1024_12_0_n_n_0_1_12561024 (truncf .bf16 a5 Cert.Reference.Gen.bitsLt_bf16_f32 : FVec F S64x256x1024 .bf16)
      (Cert.Reference.Hand.indexOf (Cert.Reference.Hand.expertOf a0 a1))))

/-- Half a block of the words, read out of the array. -/
theorem half_words (g : ℕ) (h : g < 320) (s : ℕ) (hs : s ≤ 256) (b : Fin 640) (hb : b.val * 256 = g * 512 + s) (r : Fin 256) (c : Fin 512) (R : Fin 163840)
    (hR : R.val = b.val * 256 + r.val) :
    halfOf s hs ((blk (Memref.whole Cert.Kernel.main_arg3) g h).view.read (Elt F) (A3 m)) (ValueIdx.ix3 (0 : Fin 1) r c) = A3 m (ValueIdx.ix2 R c) := by
  unfold halfOf
  refine congrArg (A3 m) (funext fun a => Fin.ext ?_)
  match a with
  | ⟨0, _⟩ => show g * 512 + 1 * (s + r.val) = R.val; omega
  | ⟨1, _⟩ => show 0 + 1 * c.val = c.val; omega

/-- Half a block of the kernel's result is a block of the reference's. -/
theorem half_eq (L : Laid m) (g : ℕ) (h : g < 320) (hg : g < first m 64) (t : Fin grid0.N) (ht : t.val = ex m g) (s : ℕ) (hs : s ≤ 256)
    (b : Fin 640) (hb : b.val * 256 = g * 512 + s) (hd : b.val / 2 = g) (r : Fin 256) (c : Fin 512) (R : Fin 163840) (hR : R.val = b.val * 256 + r.val) :
    Cert.Kernel.Gen.k0_pay1 (halfOf s hs ((blk (Memref.whole Cert.Kernel.main_arg3) g h).view.read (Elt F) (A3 m)))
        (Cert.Kernel.Gen.k0_pay22 (View.ld (W0 m t) Cert.Kernel.Hand.r5)) (Cert.Kernel.Gen.k0_pay23 (View.ld (W1 m t) Cert.Kernel.Hand.r6)) (ValueIdx.ix3 (0 : Fin 1) r c)
      = refOf (A0 m) (A1 m) (A3 m) (A4 m) (A5 m) (ValueIdx.ix2 R c) := by
  have hx := index_eq m L g hg b hd
  have hlt := ex_lt m L g hg
  rw [first_weights m t ⟨ex m g, hlt⟩ ht.symm _ b hx, second_weights m t ⟨ex m g, hlt⟩ ht.symm _ b hx, kernel_pay,
    join_eq (A3 m) _ b (fun r c R hR => half_words m g h s hs b hb r c R hR)]
  unfold refOf
  rw [tailOf_apply _ b r c R hR]
  exact congrArg₂ pair (reference_pay _ _ _ _ _).symm (reference_pay _ _ _ _ _).symm

/-- The kernel's result is the reference's at every row in use. -/
theorem result_eq (L : Laid m) (R : Fin 163840) (c : Fin 512) (h : R.val / 512 < first m 64) :
    Gof m (ValueIdx.ix2 R c) = refOf (A0 m) (A1 m) (A3 m) (A4 m) (A5 m) (ValueIdx.ix2 R c) := by
  have hR := R.isLt
  have hlt := ex_lt m L _ h
  have hg : R.val / 512 < 320 := by omega
  unfold Gof
  rw [if_pos (show R.val / 512 < first m 64 from h)]
  show Yof m (R.val / 512) (atB (R.val % 512) c.val _ _) = _
  unfold Yof
  rw [dif_pos ⟨hlt, hg⟩]
  unfold block glue
  by_cases h2 : R.val % 512 < 256
  · rw [dif_pos (show ((atB (R.val % 512) c.val (Nat.mod_lt _ (by decide)) c.isLt) 0).val < 256 from h2)]
    refine Eq.trans ?_ (half_eq m L _ hg h ⟨ex m (R.val / 512), hlt⟩ rfl 0 (Nat.zero_le _) ⟨R.val / 512 * 2, by omega⟩
      (by show R.val / 512 * 2 * 256 = _; omega) (by show R.val / 512 * 2 / 2 = _; omega) ⟨R.val % 512, h2⟩ c R (by show R.val = R.val / 512 * 2 * 256 + R.val % 512; omega))
    refine congrArg _ (funext fun a => ?_)
    match a with
    | ⟨0, _⟩ => rfl
    | ⟨1, _⟩ => rfl
    | ⟨2, _⟩ => rfl
  · rw [dif_neg (show ¬ ((atB (R.val % 512) c.val (Nat.mod_lt _ (by decide)) c.isLt) 0).val < 256 from h2)]
    refine Eq.trans ?_ (half_eq m L _ hg h ⟨ex m (R.val / 512), hlt⟩ rfl 256 (le_refl _) ⟨R.val / 512 * 2 + 1, by omega⟩
      (by show (R.val / 512 * 2 + 1) * 256 = _; omega) (by show (R.val / 512 * 2 + 1) / 2 = _; omega) ⟨R.val % 512 - 256, by omega⟩ c R
      (by show R.val = (R.val / 512 * 2 + 1) * 256 + (R.val % 512 - 256); omega))
    refine congrArg _ (funext fun a => ?_)
    match a with
    | ⟨0, _⟩ => rfl
    | ⟨1, _⟩ => rfl
    | ⟨2, _⟩ => rfl

end Cert.Equation

end

end
-- ==== Proof.RefRun.lean ====
/-
  The reference's run: its result as the function of the arguments that Equation.lean compares with the kernel's, the
  arguments unchanged.
-/
module

public import proofs.«01_k».proof.Proof.Equation
public import Idealize.ShloMosaic.Lib.Claim

@[expose] public section

noncomputable section

namespace Cert.Reference.Hand

open Cert.Reference Cert.Reference.Gen
open Idealize.ShloMosaic Idealize.ShloMosaic.TcCoe Idealize.SL.Sem

variable {F : FTy → Type} [BitOps F]
variable (m : (ℓ : Loc nD τ sig) → Buf (Elt F) ℓ) (ρ : Dev nD → PrngReg)

/-- The result's buffer after the lines past the region. -/
theorem tail_result (c : Dev nD) : Pipeline.afterTail₀ cfgs (dats m) 0 (V0 m) [hostOps1] c main_v47
    = Cert.Equation.refOf (m ((c : Thread nD τ).loc main_arg0)) (m ((c : Thread nD τ).loc main_arg1)) (m ((c : Thread nD τ).loc main_arg3))
        (m ((c : Thread nD τ).loc main_arg4)) (m ((c : Thread nD τ).loc main_arg5)) := by
  unfold Pipeline.afterTail₀
  rw [show ([hostOps1] : List _).flatten = hostOps1 from List.flatten_singleton]
  refine (tail_read _).trans ?_
  unfold Cert.Equation.refOf
  refine congrArg tailOf ?_
  refine (Pipeline.withArrays_arr spec0 launch0.win.arr_inj c (V0 m c) (fun w => (dats m 0 c).arrAt w cfg0.N) 3).trans ?_
  rw [arr_rows, V_v22, V_v30, V_v38]

/-- The reference runs, its result named, its arguments unchanged. -/
theorem run : θ_run defs (onTc (τ := τ) (main (F := F))) ⟨m, fun _ => 0, ρ⟩ (fun r => ∀ c : Dev nD,
      r.2.mem ((c.tc : Thread nD τ).loc main_v47)
        = Cert.Equation.refOf (m ((c : Thread nD τ).loc main_arg0)) (m ((c : Thread nD τ).loc main_arg1)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_v47 (Pipeline.mem_restRefs_of main_v47 (by decide) (by decide))).trans (tail_result m c), h.2 c⟩)
    (θ_run_and (run_main m ρ) (unchanged m ρ))

end Cert.Reference.Hand

end

end
-- ==== Proof.Combined.lean ====
/-
  One row of the combine: the shared expert, the eight weighted rows, the residual and the normalization.
-/
module

public import proofs.«01_k».proof.Proof.Norm
public import Idealize.ShloMosaic.Lib.BitcastConvert

@[expose] public section

noncomputable section

namespace Cert.Combined

open Idealize.ShloMosaic

/-- The bf16 number in half `q` of a word. -/
def half (q : ℕ) (w : BitVec 32) : EReal := Ideal.ofBits .bf16 (w.extractLsb' (q * 16) 16)

/-- A row of words as numbers: the low halves, then the high ones. -/
def numbers (w : Fin 512 → BitVec 32) (k : Fin 1024) : EReal :=
  if h : k.val < 512 then half 0 (w ⟨k.val, h⟩) else half 1 (w ⟨k.val - 512, by omega⟩)

/-- An f32 number whose low half is zero is the bf16 number of its high half. -/
theorem wide (b : BitVec 16) : Ideal.ofBits .f32 (b ++ 0#16) = Ideal.ofBits .bf16 b := by
  have e (n k : ℕ) : ((b ++ 0#16).extractLsb' n k).toNat = b.toNat * 65536 / 2 ^ n % 2 ^ k := by
    rw [BitVec.extractLsb'_toNat, BitVec.toNat_append, Nat.shiftRight_eq_div_pow, Nat.shiftLeft_eq]
    simp
  have e' (n k : ℕ) : (b.extractLsb' n k).toNat = b.toNat / 2 ^ n % 2 ^ k := by
    rw [BitVec.extractLsb'_toNat, Nat.shiftRight_eq_div_pow]
  have hb := b.isLt
  have h1 : (b ++ 0#16).extractLsb' 31 1 = b.extractLsb' 15 1 := BitVec.eq_of_toNat_eq (by rw [e, e']; omega)
  have h2 : ((b ++ 0#16).extractLsb' 23 8).toNat = (b.extractLsb' 7 8).toNat := by rw [e, e']; omega
  have h3 : ((b ++ 0#16).extractLsb' 0 23).toNat = (b.extractLsb' 0 7).toNat * 65536 := by rw [e, e']; omega
  show Ideal.ieee 8 23 (b ++ 0#16) = Ideal.ieee 8 7 b
  have p16 : (2 : ℝ) ^ (16 : ℤ) = 65536 := by norm_num
  unfold Ideal.ieee
  simp only [show 8 + 23 = 31 from rfl, show 8 + 7 = 15 from rfl, h1, h2, h3]
  generalize (b.extractLsb' 15 1 == 1#1) = s
  generalize (b.extractLsb' 7 8).toNat = x
  generalize (b.extractLsb' 0 7).toNat = f
  have q (k : ℤ) : (2 : ℝ) ^ (k - ((7 : ℕ) : ℤ)) = 65536 * (2 : ℝ) ^ (k - ((23 : ℕ) : ℤ)) := by
    rw [← p16, ← zpow_add₀ (two_ne_zero)]; congr 1; push_cast; ring
  split_ifs <;> first | rfl | omega | skip
  all_goals
    refine congrArg _ ?_
    rw [q]
    push_cast
    ring

/-- A word shifted up by 16 is its low half's number. -/
theorem shifted (w : BitVec 32) : Ideal.ofBits .f32 (IntOp.shli .vector w 16#32) = half 0 w := by
  rw [half, ← wide]
  refine congrArg _ (BitVec.eq_of_toNat_eq ?_)
  show (w <<< (16#32)).toNat = _
  rw [BitVec.toNat_append, BitVec.extractLsb'_toNat, BitVec.shiftLeft_eq', BitVec.toNat_shiftLeft, Nat.shiftLeft_eq, Nat.shiftLeft_eq]
  have := w.isLt
  simp
  omega

/-- A word with its low half cleared is its high half's number. -/
theorem masked (w : BitVec 32) : Ideal.ofBits .f32 (IntOp.andi w 4294901760#32) = half 1 w := by
  rw [half, ← wide]
  refine congrArg _ ?_
  show w &&& 4294901760#32 = w.extractLsb' 16 16 ++ 0#16
  have h : (4294901760#32 : BitVec 32) = (BitVec.allOnes 16) ++ (0#16) := by decide
  have h' : w = w.extractLsb' 16 16 ++ w.extractLsb' 0 16 := by
    refine BitVec.eq_of_toNat_eq ?_
    have := w.isLt
    rw [BitVec.toNat_append, BitVec.extractLsb'_toNat, BitVec.extractLsb'_toNat, ← Nat.shiftLeft_add_eq_or_of_lt (by omega), Nat.shiftLeft_eq, Nat.shiftRight_eq_div_pow,
      Nat.shiftRight_eq_div_pow]
    omega
  rw [h]
  conv_lhs => rw [h']
  rw [BitVec.and_append, BitVec.and_allOnes, BitVec.and_zero]

/-- A word's low half. -/
theorem lower (w : BitVec 32) : Ideal.ofBits .bf16 (BitVec.setWidth 16 w) = half 0 w := by
  refine congrArg _ (BitVec.eq_of_toNat_eq ?_)
  rw [BitVec.toNat_setWidth, BitVec.extractLsb'_toNat, Nat.shiftRight_eq_div_pow]
  simp

/-- A word's high half. -/
theorem upper (w : BitVec 32) : Ideal.ofBits .bf16 (BitVec.setWidth 16 (IntOp.shrui .vector w 16#32)) = half 1 w := by
  refine congrArg _ (BitVec.eq_of_toNat_eq ?_)
  show (BitVec.setWidth 16 (w >>> (16#32))).toNat = _
  rw [BitVec.toNat_setWidth, BitVec.extractLsb'_toNat, BitVec.ushiftRight_eq', BitVec.toNat_ushiftRight]
  rfl

/-- A row of words as the kernel turns it into numbers. -/
theorem numbers_eq (w : Fin 512 → BitVec 32) (j : Fin 1024) :
    (if h : j.val < 512 then Ideal.ofBits .f32 (IntOp.shli .vector (w ⟨j.val, h⟩) 16#32)
      else Ideal.ofBits .f32 (IntOp.andi (w ⟨j.val - 512, by omega⟩) 4294901760#32)) = numbers w j := by
  unfold numbers
  split
  · exact shifted _
  · exact masked _

/-- One element of the shared expert's first product. -/
def inner (w : Fin 512 → BitVec 32) (wg : Fin 1024 → Fin 512 → EReal) (n : Fin 512) : EReal := ∑ k, numbers w k * wg k n

/-- The low and the high halves against the weights' upper and lower rows make up that product. -/
theorem inner_eq (w : Fin 512 → BitVec 32) (wg : Fin 1024 → Fin 512 → EReal) (n : Fin 512) :
    (∑ k : Fin 512, Ideal.ofBits .bf16 (BitVec.setWidth 16 (w k)) * wg ⟨k.val, by omega⟩ n
      + ∑ k : Fin 512, Ideal.ofBits .bf16 (BitVec.setWidth 16 (IntOp.shrui .vector (w k) 16#32)) * wg ⟨512 + k.val, by omega⟩ n) = inner w wg n := by
  unfold inner
  rw [show (∑ k : Fin 1024, numbers w k * wg k n) = ∑ k : Fin (512 + 512), numbers w k * wg k n from rfl, Fin.sum_univ_add]
  refine congrArg₂ (· + ·) (Finset.sum_congr rfl fun k _ => ?_) (Finset.sum_congr rfl fun k _ => ?_)
  · rw [lower, numbers, dif_pos (show (Fin.castAdd 512 k).val < 512 from k.isLt)]; rfl
  · rw [upper, numbers, dif_neg (show ¬ (Fin.natAdd 512 k).val < 512 by simp)]
    refine congrArg₂ (· * ·) (congrArg (half 1) (congrArg w (Fin.ext ?_))) rfl
    show k.val = 512 + k.val - 512
    omega

/-- One element of the shared expert: the gated first product against a column of the second weights. -/
def shared (w : Fin 512 → BitVec 32) (wg : Fin 1024 → Fin 512 → EReal) (wd : Fin 256 → Fin 1024 → EReal) (j : Fin 1024) : EReal :=
  ∑ l : Fin 256, inner w wg ⟨l.val, by omega⟩ * Ideal.logistic (inner w wg ⟨l.val, by omega⟩) * inner w wg ⟨256 + l.val, by omega⟩ * wd l j

/-- A token's row before the normalization: `2^(1/4)` times the stream, plus the gate times the sum of its eight weighted rows
    and the shared expert. -/
def mixed (w : Fin 512 → BitVec 32) (wg : Fin 1024 → Fin 512 → EReal) (wd : Fin 256 → Fin 1024 → EReal) (g : Fin 8 → EReal)
    (rows : Fin 8 → Fin 512 → BitVec 32) (s gt : Fin 1024 → EReal) (j : Fin 1024) : EReal :=
  Ideal.ofBits .f32 1066940400#32 * s j + gt j * (∑ i, numbers (rows i) j * g i + shared w wg wd j)

/-- The kernel's order of that sum. -/
theorem mixed_eq (w : Fin 512 → BitVec 32) (wg : Fin 1024 → Fin 512 → EReal) (wd : Fin 256 → Fin 1024 → EReal) (g : Fin 8 → EReal)
    (rows : Fin 8 → Fin 512 → BitVec 32) (s gt : Fin 1024 → EReal) (j : Fin 1024) :
    Ideal.ofBits .f32 1066940400#32 * s j + gt j * (shared w wg wd j + g 0 * numbers (rows 0) j + g 1 * numbers (rows 1) j
      + g 2 * numbers (rows 2) j + g 3 * numbers (rows 3) j + g 4 * numbers (rows 4) j + g 5 * numbers (rows 5) j
      + g 6 * numbers (rows 6) j + g 7 * numbers (rows 7) j) = mixed w wg wd g rows s gt j := by
  unfold mixed
  rw [Fin.sum_univ_eight, add_comm _ (shared w wg wd j)]
  simp only [mul_comm (g _), add_assoc]

/-- A row of 1024 at `j`, normalized, times `a`, plus `b`. -/
def normed (z a b : Fin 1024 → EReal) (j : Fin 1024) : EReal :=
  (z j - Projected.mean z) * Ideal.rsqrt (Projected.mean (fun l => (z l - Projected.mean z) * (z l - Projected.mean z)) + Ideal.ofBits .f32 925353388#32)
    * a j + b j

/-- The combine of the whole arrays: token `r` is token `r % 4096` of batch element `r / 4096`, its `i`-th row is row
    `i * 16384 + r` of all rows. -/
def combined (rows : Fin 131072 → Fin 512 → BitVec 32) (g : Fin 16384 → Fin 8 → EReal) (s : Fin 4 → Fin 4096 → Fin 1024 → EReal)
    (w : Fin 16384 → Fin 512 → BitVec 32) (gt : Fin 4 → Fin 1024 → EReal) (wg : Fin 1024 → Fin 512 → EReal) (wd : Fin 256 → Fin 1024 → EReal)
    (a b : Fin 1024 → EReal) (r : Fin 16384) (j : Fin 1024) : EReal :=
  normed (mixed (w r) wg wd (g r) (fun i => rows ⟨i.val * 16384 + r.val, by omega⟩) (s ⟨r.val / 4096, by omega⟩ ⟨r.val % 4096, by omega⟩)
    (gt ⟨r.val / 4096, by omega⟩)) a b j

/-- An element is the combine's at token `r` when its operands are those of `r`. -/
theorem combined_eq {rows : Fin 131072 → Fin 512 → BitVec 32} {g : Fin 16384 → Fin 8 → EReal} {s : Fin 4 → Fin 4096 → Fin 1024 → EReal}
    {w : Fin 16384 → Fin 512 → BitVec 32} {gt : Fin 4 → Fin 1024 → EReal} {wg : Fin 1024 → Fin 512 → EReal} {wd : Fin 256 → Fin 1024 → EReal}
    {a b : Fin 1024 → EReal} (r : Fin 16384) (j : Fin 1024) {rows' : Fin 8 → Fin 512 → BitVec 32} {g' : Fin 8 → EReal} {s' gt' : Fin 1024 → EReal}
    {w' : Fin 512 → BitVec 32} {wg' : Fin 1024 → Fin 512 → EReal} {wd' : Fin 256 → Fin 1024 → EReal} {a' b' : Fin 1024 → EReal}
    (hrows : ∀ i k, rows' i k = rows ⟨i.val * 16384 + r.val, by omega⟩ k) (hg : ∀ i, g' i = g r i)
    (hs : ∀ k, s' k = s ⟨r.val / 4096, by omega⟩ ⟨r.val % 4096, by omega⟩ k) (hw : ∀ k, w' k = w r k)
    (hgt : ∀ k, gt' k = gt ⟨r.val / 4096, by omega⟩ k) (hwg : ∀ k n, wg' k n = wg k n) (hwd : ∀ l k, wd' l k = wd l k)
    (ha : ∀ k, a' k = a k) (hb : ∀ k, b' k = b k) :
    normed (mixed w' wg' wd' g' rows' s' gt') a' b' j = combined rows g s w gt wg wd a b r j := by
  obtain rfl : rows' = _ := funext fun i => funext (hrows i)
  obtain rfl := funext hg
  obtain rfl := funext hs
  obtain rfl := funext hw
  obtain rfl := funext hgt
  obtain rfl : wg' = wg := funext fun k => funext (hwg k)
  obtain rfl : wd' = wd := funext fun k => funext (hwd k)
  obtain rfl : a' = a := funext ha
  obtain rfl : b' = b := funext hb
  rfl

end Cert.Combined
-- ==== Proof.CombKernel.lean ====
/-
  What the combine's kernel leaves, element by element.
-/
module

public import proofs.«01_k».proof.Proof.Gen.CombIdeal.Frame
public import proofs.«01_k».proof.Proof.Gen.Comb.Frame
public import proofs.«01_k».proof.Proof.Combined
public import Idealize.ShloMosaic.Lib.Pipeline.ValueKit.Geometry

@[expose] public section

noncomputable section

namespace Cert.CombIdeal.Hand

open Cert.CombIdeal Cert.CombIdeal.Gen Idealize.ShloMosaic Idealize.ShloMosaic.TcCoe Idealize.SL.Sem
open Cert.Combined (combined combined_eq numbers numbers_eq inner inner_eq shared mixed mixed_eq normed)

/-- The shared expert and the first of the eight rows. -/
theorem pay2_apply (v0 : Vec Ideal S512x512 .i32) (v8 : Vec Ideal S1024x512 .bf16) (v17 : Vec Ideal S256x1024 .bf16) (v20 : Vec Ideal S512x8 .f32)
    (v22 : Vec Ideal S512x512 .i32) (r : Fin 512) (j : Fin 1024) :
    k0_pay2 v0 v8 v17 v20 v22 (ix2 r j)
      = shared (fun k => v0 (ix2 r k)) (fun k n => v8 (ix2 k n)) (fun l j => v17 (ix2 l j)) j + v20 (ix2 r 0) * numbers (fun k => v22 (ix2 r k)) j := by
  rw [← numbers_eq]
  unfold shared
  simp only [← inner_eq]
  pointwise [k0_pay2]

/-- The gate weight of the second row. -/
theorem pay3_apply (v20 : Vec Ideal S512x8 .f32) (r : Fin 512) : k0_pay3 v20 (ix2 r 0) = v20 (ix2 r 1) := by
  pointwise [k0_pay3]

/-- The gate weight of the sixth row. -/
theorem pay7_apply (v20 : Vec Ideal S512x8 .f32) (r : Fin 512) : k0_pay7 v20 (ix2 r 0) = v20 (ix2 r 5) := by
  pointwise [k0_pay7]

/-- The second to the fifth of the eight rows. -/
theorem pay6_apply (v20 : Vec Ideal S512x8 .f32) (v32 : FVec Ideal S512x1024 .f32) (v34 v46 v58 v70 : Vec Ideal S512x512 .i32) (r : Fin 512) (j : Fin 1024) :
    k0_pay6 v20 v32 (k0_pay3 v20) (k0_pay4 v34) (k0_pay5 (F := Ideal) v34) v46 v58 v70 (ix2 r j)
      = v32 (ix2 r j) + v20 (ix2 r 1) * numbers (fun k => v34 (ix2 r k)) j + v20 (ix2 r 2) * numbers (fun k => v46 (ix2 r k)) j
        + v20 (ix2 r 3) * numbers (fun k => v58 (ix2 r k)) j + v20 (ix2 r 4) * numbers (fun k => v70 (ix2 r k)) j := by
  simp only [← numbers_eq]
  pointwise [k0_pay6, k0_pay3, k0_pay4, k0_pay5]

/-- The last three rows, the gate and the stream. -/
theorem pay9_apply (v20 : Vec Ideal S512x8 .f32) (v80 : FVec Ideal S512x1024 .f32) (v82 v94 v106 : Vec Ideal S512x512 .i32) (v117 : Vec Ideal S512x1024 .f32)
    (v121 : Vec Ideal S1x1x1024 .f32) (r : Fin 512) (j : Fin 1024) :
    k0_pay9 v20 v80 (k0_pay7 v20) v82 (k0_pay8 (F := Ideal) v82) v94 v106 v117 v121 (ix2 r j)
      = Ideal.ofBits .f32 1066940400#32 * v117 (ix2 r j) + v121 (ix3 0 0 j) * (v80 (ix2 r j) + v20 (ix2 r 5) * numbers (fun k => v82 (ix2 r k)) j
        + v20 (ix2 r 6) * numbers (fun k => v94 (ix2 r k)) j + v20 (ix2 r 7) * numbers (fun k => v106 (ix2 r k)) j) := by
  simp only [← numbers_eq]
  pointwise [k0_pay9, k0_pay7, k0_pay8]

/-- The sum of a row before the normalization. -/
theorem pay10_apply (v20 : Vec Ideal S512x8 .f32) (v80 : FVec Ideal S512x1024 .f32) (v81 : FVec Ideal S512x1 .f32) (v82 : Vec Ideal S512x512 .i32)
    (v84 : IVec S512x512 32) (v94 v106 : Vec Ideal S512x512 .i32) (v117 : Vec Ideal S512x1024 .f32) (v121 : Vec Ideal S1x1x1024 .f32) (r : Fin 512) :
    k0_pay10 v20 v80 v81 v82 v84 v94 v106 v117 v121 (ix2 r 0) = ∑ k : Fin 1024, k0_pay9 v20 v80 v81 v82 v84 v94 v106 v117 v121 (ix2 r k) := by
  unfold k0_pay10
  generalize k0_pay9 v20 v80 v81 v82 v84 v94 v106 v117 v121 = z
  pointwise

/-- The normalization. -/
theorem pay1_apply (z : FVec Ideal S512x1024 .f32) (s : FVec Ideal S512x1 .f32) (a b : Vec Ideal S1x1024 .f32) (r : Fin 512) (j : Fin 1024)
    (h : s (ix2 r 0) = ∑ k : Fin 1024, z (ix2 r k)) :
    k0_pay1 z s (Ideal.ofBits .f32 1149239296#32) a b (ix2 r j) = normed (fun k => z (ix2 r k)) (fun k => a (ix2 0 k)) (fun k => b (ix2 0 k)) j := by
  unfold normed Projected.mean
  rw [← h]
  pointwise [k0_pay1]

/-- One element of a block of the result, of the blocks of the operands. -/
def element (x : Fin 8 → Vec Ideal S512x512 .i32) (x8 : Vec Ideal S512x8 .f32) (x9 : Vec Ideal S512x1024 .f32) (x10 : Vec Ideal S512x512 .i32)
    (x11 : Vec Ideal S1x1x1024 .f32) (x12 : Vec Ideal S1024x512 .bf16) (x13 : Vec Ideal S256x1024 .bf16) (x14 x15 : Vec Ideal S1x1024 .f32)
    (r : Fin 512) (j : Fin 1024) : EReal :=
  normed (mixed (fun k => x10 (ix2 r k)) (fun k n => x12 (ix2 k n)) (fun l j => x13 (ix2 l j)) (fun i => x8 (ix2 r i)) (fun i k => x i (ix2 r k))
    (fun k => x9 (ix2 r k)) (fun k => x11 (ix3 0 0 k))) (fun k => x14 (ix2 0 k)) (fun k => x15 (ix2 0 k)) j

/-- What the body computes of its loads. -/
theorem body_apply (x0 x1 x2 x3 x4 x5 x6 x7 : Vec Ideal S512x512 .i32) (x8 : Vec Ideal S512x8 .f32) (x9 : Vec Ideal S512x1024 .f32) (x10 : Vec Ideal S512x512 .i32)
    (x11 : Vec Ideal S1x1x1024 .f32) (x12 : Vec Ideal S1024x512 .bf16) (x13 : Vec Ideal S256x1024 .bf16) (x14 x15 : Vec Ideal S1x1024 .f32)
    (r : Fin 512) (j : Fin 1024) (v80 : FVec Ideal S512x1024 .f32)
    (h : v80 = k0_pay6 x8 (k0_pay2 x10 x12 x13 x8 x0) (k0_pay3 x8) (k0_pay4 x1) (k0_pay5 (F := Ideal) x1) x2 x3 x4) :
    k0_pay1 (k0_pay9 x8 v80 (k0_pay7 x8) x5 (k0_pay8 (F := Ideal) x5) x6 x7 x9 x11) (k0_pay10 x8 v80 (k0_pay7 x8) x5 (k0_pay8 (F := Ideal) x5) x6 x7 x9 x11)
        (Scalar.ofBits .f32 0x44800000#32) x14 x15 (ix2 r j)
      = element ![x0, x1, x2, x3, x4, x5, x6, x7] x8 x9 x10 x11 x12 x13 x14 x15 r j := by
  refine (pay1_apply _ _ x14 x15 r j (pay10_apply _ _ _ _ _ _ _ _ _ r)).trans ?_
  refine congrArg (fun z => normed z (fun k => x14 (ix2 0 k)) (fun k => x15 (ix2 0 k)) j) (funext fun k => ?_)
  rw [pay9_apply, h, pay6_apply, pay2_apply]
  exact mixed_eq _ _ _ (fun i => x8 (ix2 r i)) (fun i k => ![x0, x1, x2, x3, x4, x5, x6, x7] i (ix2 r k)) (fun k => x9 (ix2 r k)) (fun k => x11 (ix3 0 0 k)) k

/-- What the body leaves of a block. -/
theorem out_apply (x0 x1 x2 x3 x4 x5 x6 x7 : Vec Ideal S512x512 .i32) (x8 : Vec Ideal S512x8 .f32) (x9 : Vec Ideal S512x1024 .f32) (x10 : Vec Ideal S512x512 .i32)
    (x11 : Vec Ideal S1x1x1024 .f32) (x12 : Vec Ideal S1024x512 .bf16) (x13 : Vec Ideal S256x1024 .bf16) (x14 x15 : Vec Ideal S1x1024 .f32) (y : S512x1024.Idx) :
    out0_16 x0 x1 x2 x3 x4 x5 x6 x7 x8 x9 x10 x11 x12 x13 x14 x15 y
      = element ![x0, x1, x2, x3, x4, x5, x6, x7] x8 x9 x10 x11 x12 x13 x14 x15 (y 0) (y 1) := by
  have l0 (x : Vec Ideal S512x512 .i32) : View.ld x r0_0 = x := by funext i; obtain ⟨r, j, rfl⟩ : ∃ (r : Fin 512) (j : Fin 512), i = ix2 r j := ⟨i 0, i 1, eq_ix2 i⟩; pointwise
  have l1 (x : Vec Ideal S1024x512 .bf16) : View.ld x r0_1 = x := by funext i; obtain ⟨r, j, rfl⟩ : ∃ (r : Fin 1024) (j : Fin 512), i = ix2 r j := ⟨i 0, i 1, eq_ix2 i⟩; pointwise
  have l2 (x : Vec Ideal S256x1024 .bf16) : View.ld x r0_2 = x := by funext i; obtain ⟨r, j, rfl⟩ : ∃ (r : Fin 256) (j : Fin 1024), i = ix2 r j := ⟨i 0, i 1, eq_ix2 i⟩; pointwise
  have l3 (x : Vec Ideal S512x8 .f32) : View.ld x r0_3 = x := by funext i; obtain ⟨r, j, rfl⟩ : ∃ (r : Fin 512) (j : Fin 8), i = ix2 r j := ⟨i 0, i 1, eq_ix2 i⟩; pointwise
  have l4 (x : Vec Ideal S512x1024 .f32) : View.ld x r0_4 = x := by funext i; obtain ⟨r, j, rfl⟩ : ∃ (r : Fin 512) (j : Fin 1024), i = ix2 r j := ⟨i 0, i 1, eq_ix2 i⟩; pointwise
  have l5 (x : Vec Ideal S1x1x1024 .f32) : View.ld x r0_5 = x := by funext i; obtain ⟨p, r, j, rfl⟩ : ∃ (p : Fin 1) (r : Fin 1) (j : Fin 1024), i = ix3 p r j := ⟨i 0, i 1, i 2, eq_ix3 i⟩; obtain rfl := Subsingleton.elim p 0; obtain rfl := Subsingleton.elim r 0; pointwise
  have l6 (x : Vec Ideal S1x1024 .f32) : View.ld x r0_6 = x := by funext i; obtain ⟨r, j, rfl⟩ : ∃ (r : Fin 1) (j : Fin 1024), i = ix2 r j := ⟨i 0, i 1, eq_ix2 i⟩; obtain rfl := Subsingleton.elim r 0; pointwise
  unfold_out out0_16
  simp only [l0, l1, l2, l3, l4, l5, l6]
  refine View.canon_apply_of_pieces (Val := Elt Ideal) (e := .f32) (fun y : S512x1024.Idx => (element ![x0, x1, x2, x3, x4, x5, x6, x7] x8 x9 x10 x11 x12 x13 x14 x15 (y 0) (y 1) : EReal)) _ ?_ y (cover0_16 _ y)
  intro p hp
  simp only [List.mem_cons, List.not_mem_nil, or_false] at hp
  obtain rfl := hp
  intro x
  obtain ⟨r, j, rfl⟩ : ∃ (r : Fin 512) (j : Fin 1024), x = ix2 r j := ⟨x 0, x 1, eq_ix2 x⟩
  dsimp only
  have e0 : r0_4.emb (ix2 r j) 0 = r := Fin.ext (by simp [Rect.emb_apply])
  have e1 : r0_4.emb (ix2 r j) 1 = j := Fin.ext (by simp [Rect.emb_apply])
  rw [e0, e1]
  exact body_apply _ _ _ _ _ _ _ _ _ _ _ _ _ _ _ _ r j _ rfl

variable (m : (ℓ : Loc nD τ sig) → Buf (Elt Ideal) ℓ) (c : Dev nD)

/-- The region finds the rows of the stream, its batch elements one after another. -/
theorem V_stream : V m c main_v0 = shapeCast S16384x1024 (m ((c : Thread nD τ).loc main_arg2)) shapeCasts_S4x4096x1024_S16384x1024 := by
  show StableHlo.after (List.flatten [hostOps0]) _ _ = _
  rw [List.flatten_singleton]
  unfold hostOps0
  after_results_simp
  rfl

/-- The region finds the shared expert's first weights. -/
theorem V_wg : V m c main_v1 = (m ((c : Thread nD τ).loc main_arg5) : FVec Ideal S1024x512 .f32) := by
  show StableHlo.after (List.flatten [hostOps0]) _ _ = _
  rw [List.flatten_singleton]
  unfold hostOps0
  after_results_simp
  rfl

/-- The region finds the shared expert's second weights. -/
theorem V_wd : V m c main_v2 = (m ((c : Thread nD τ).loc main_arg6) : FVec Ideal S256x1024 .f32) := by
  show StableHlo.after (List.flatten [hostOps0]) _ _ = _
  rw [List.flatten_singleton]
  unfold hostOps0
  after_results_simp
  rfl

/-- The region finds the gain as a row. -/
theorem V_gain : V m c main_v3 = broadcastInDim S1x1024 ![1] bcast_S1024_S1x1024_1 (m ((c : Thread nD τ).loc main_arg7)) := by
  show StableHlo.after (List.flatten [hostOps0]) _ _ = _
  rw [List.flatten_singleton]
  unfold hostOps0
  after_results_simp

/-- The region finds the bias as a row. -/
theorem V_bias : V m c main_v4 = broadcastInDim S1x1024 ![1] bcast_S1024_S1x1024_1 (m ((c : Thread nD τ).loc main_arg8)) := by
  show StableHlo.after (List.flatten [hostOps0]) _ _ = _
  rw [List.flatten_singleton]
  unfold hostOps0
  after_results_simp

/-- Those rows, element by element. -/
theorem stream_apply (a : FVec Ideal S4x4096x1024 .f32) (r : Fin 16384) (k : Fin 1024) :
    shapeCast S16384x1024 a shapeCasts_S4x4096x1024_S16384x1024 (ix2 r k)
      = a (ix3 (⟨r.val / 4096, by omega⟩ : Fin 4) (⟨r.val % 4096, by omega⟩ : Fin 4096) k) := by
  pointwise

/-- A row of 1024 laid out as one row. -/
theorem row_apply (a : FVec Ideal S1024 .f32) (k : Fin 1024) : broadcastInDim S1x1024 ![1] bcast_S1024_S1x1024_1 a (ix2 0 k) = a (ix1 k) := by
  pointwise

theorem e0 : ∀ t : Fin cfg0.N, win0_0.index t = ![t.val, 0] := (by decide +kernel : ∀ t : Fin grid0.N, _)
theorem e1 : ∀ t : Fin cfg0.N, win0_1.index t = ![32 + t.val, 0] := (by decide +kernel : ∀ t : Fin grid0.N, _)
theorem e2 : ∀ t : Fin cfg0.N, win0_2.index t = ![64 + t.val, 0] := (by decide +kernel : ∀ t : Fin grid0.N, _)
theorem e3 : ∀ t : Fin cfg0.N, win0_3.index t = ![96 + t.val, 0] := (by decide +kernel : ∀ t : Fin grid0.N, _)
theorem e4 : ∀ t : Fin cfg0.N, win0_4.index t = ![128 + t.val, 0] := (by decide +kernel : ∀ t : Fin grid0.N, _)
theorem e5 : ∀ t : Fin cfg0.N, win0_5.index t = ![160 + t.val, 0] := (by decide +kernel : ∀ t : Fin grid0.N, _)
theorem e6 : ∀ t : Fin cfg0.N, win0_6.index t = ![192 + t.val, 0] := (by decide +kernel : ∀ t : Fin grid0.N, _)
theorem e7 : ∀ t : Fin cfg0.N, win0_7.index t = ![224 + t.val, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val / 8, 0, 0] := (by decide +kernel : ∀ t : Fin grid0.N, _)
theorem e12 : ∀ t : Fin cfg0.N, win0_12.index t = ![0, 0] := (by decide +kernel : ∀ t : Fin grid0.N, _)
theorem e13 : ∀ t : Fin cfg0.N, win0_13.index t = ![0, 0] := (by decide +kernel : ∀ t : Fin grid0.N, _)
theorem e14 : ∀ t : Fin cfg0.N, win0_14.index t = ![0, 0] := (by decide +kernel : ∀ t : Fin grid0.N, _)
theorem e15 : ∀ t : Fin cfg0.N, win0_15.index t = ![0, 0] := (by decide +kernel : ∀ t : Fin grid0.N, _)
theorem e16 : ∀ t : Fin cfg0.N, win0_16.index t = ![t.val, 0] := (by decide +kernel : ∀ t : Fin grid0.N, _)

/-- A row of window 0's block. -/
theorem rows0 (t : Fin cfg0.N) (r : Fin 512) (k : Fin 512) :
    (iblk m c 0 t : Vec Ideal S512x512 .i32) (ix2 r k)
      = m ((c : Thread nD τ).loc main_arg0) (ix2 (⟨t.val * 512 + r.val, by have := t.isLt.trans_eq N_0; omega⟩ : Fin 131072) k) := by
  have ht : t.val < 32 := t.isLt.trans_eq N_0
  have h : (win0_0.blk t).view.emb (ix2 r k) = ix2 (⟨t.val * 512 + r.val, by omega⟩ : Fin 131072) k := by
    blk_ext [e0]
  blk_simp [iblk]
  rw [h]
  exact congrFun (V_main_arg0 m c) _

/-- A row of window 1's block. -/
theorem rows1 (t : Fin cfg0.N) (r : Fin 512) (k : Fin 512) :
    (iblk m c 1 t : Vec Ideal S512x512 .i32) (ix2 r k)
      = m ((c : Thread nD τ).loc main_arg0) (ix2 (⟨1 * 16384 + (t.val * 512 + r.val), by have := t.isLt.trans_eq N_0; omega⟩ : Fin 131072) k) := by
  have ht : t.val < 32 := t.isLt.trans_eq N_0
  have h : (win0_1.blk t).view.emb (ix2 r k) = ix2 (⟨1 * 16384 + (t.val * 512 + r.val), by omega⟩ : Fin 131072) k := by
    blk_ext [e1]
  blk_simp [iblk]
  rw [h]
  exact congrFun (V_main_arg0 m c) _

/-- A row of window 2's block. -/
theorem rows2 (t : Fin cfg0.N) (r : Fin 512) (k : Fin 512) :
    (iblk m c 2 t : Vec Ideal S512x512 .i32) (ix2 r k)
      = m ((c : Thread nD τ).loc main_arg0) (ix2 (⟨2 * 16384 + (t.val * 512 + r.val), by have := t.isLt.trans_eq N_0; omega⟩ : Fin 131072) k) := by
  have ht : t.val < 32 := t.isLt.trans_eq N_0
  have h : (win0_2.blk t).view.emb (ix2 r k) = ix2 (⟨2 * 16384 + (t.val * 512 + r.val), by omega⟩ : Fin 131072) k := by
    blk_ext [e2]
  blk_simp [iblk]
  rw [h]
  exact congrFun (V_main_arg0 m c) _

/-- A row of window 3's block. -/
theorem rows3 (t : Fin cfg0.N) (r : Fin 512) (k : Fin 512) :
    (iblk m c 3 t : Vec Ideal S512x512 .i32) (ix2 r k)
      = m ((c : Thread nD τ).loc main_arg0) (ix2 (⟨3 * 16384 + (t.val * 512 + r.val), by have := t.isLt.trans_eq N_0; omega⟩ : Fin 131072) k) := by
  have ht : t.val < 32 := t.isLt.trans_eq N_0
  have h : (win0_3.blk t).view.emb (ix2 r k) = ix2 (⟨3 * 16384 + (t.val * 512 + r.val), by omega⟩ : Fin 131072) k := by
    blk_ext [e3]
  blk_simp [iblk]
  rw [h]
  exact congrFun (V_main_arg0 m c) _

/-- A row of window 4's block. -/
theorem rows4 (t : Fin cfg0.N) (r : Fin 512) (k : Fin 512) :
    (iblk m c 4 t : Vec Ideal S512x512 .i32) (ix2 r k)
      = m ((c : Thread nD τ).loc main_arg0) (ix2 (⟨4 * 16384 + (t.val * 512 + r.val), by have := t.isLt.trans_eq N_0; omega⟩ : Fin 131072) k) := by
  have ht : t.val < 32 := t.isLt.trans_eq N_0
  have h : (win0_4.blk t).view.emb (ix2 r k) = ix2 (⟨4 * 16384 + (t.val * 512 + r.val), by omega⟩ : Fin 131072) k := by
    blk_ext [e4]
  blk_simp [iblk]
  rw [h]
  exact congrFun (V_main_arg0 m c) _

/-- A row of window 5's block. -/
theorem rows5 (t : Fin cfg0.N) (r : Fin 512) (k : Fin 512) :
    (iblk m c 5 t : Vec Ideal S512x512 .i32) (ix2 r k)
      = m ((c : Thread nD τ).loc main_arg0) (ix2 (⟨5 * 16384 + (t.val * 512 + r.val), by have := t.isLt.trans_eq N_0; omega⟩ : Fin 131072) k) := by
  have ht : t.val < 32 := t.isLt.trans_eq N_0
  have h : (win0_5.blk t).view.emb (ix2 r k) = ix2 (⟨5 * 16384 + (t.val * 512 + r.val), by omega⟩ : Fin 131072) k := by
    blk_ext [e5]
  blk_simp [iblk]
  rw [h]
  exact congrFun (V_main_arg0 m c) _

/-- A row of window 6's block. -/
theorem rows6 (t : Fin cfg0.N) (r : Fin 512) (k : Fin 512) :
    (iblk m c 6 t : Vec Ideal S512x512 .i32) (ix2 r k)
      = m ((c : Thread nD τ).loc main_arg0) (ix2 (⟨6 * 16384 + (t.val * 512 + r.val), by have := t.isLt.trans_eq N_0; omega⟩ : Fin 131072) k) := by
  have ht : t.val < 32 := t.isLt.trans_eq N_0
  have h : (win0_6.blk t).view.emb (ix2 r k) = ix2 (⟨6 * 16384 + (t.val * 512 + r.val), by omega⟩ : Fin 131072) k := by
    blk_ext [e6]
  blk_simp [iblk]
  rw [h]
  exact congrFun (V_main_arg0 m c) _

/-- A row of window 7's block. -/
theorem rows7 (t : Fin cfg0.N) (r : Fin 512) (k : Fin 512) :
    (iblk m c 7 t : Vec Ideal S512x512 .i32) (ix2 r k)
      = m ((c : Thread nD τ).loc main_arg0) (ix2 (⟨7 * 16384 + (t.val * 512 + r.val), by have := t.isLt.trans_eq N_0; omega⟩ : Fin 131072) k) := by
  have ht : t.val < 32 := t.isLt.trans_eq N_0
  have h : (win0_7.blk t).view.emb (ix2 r k) = ix2 (⟨7 * 16384 + (t.val * 512 + r.val), by omega⟩ : Fin 131072) k := by
    blk_ext [e7]
  blk_simp [iblk]
  rw [h]
  exact congrFun (V_main_arg0 m c) _

/-- The combine of the arguments. -/
def result (r : Fin 16384) (j : Fin 1024) : EReal :=
  combined (fun i k => m ((c : Thread nD τ).loc main_arg0) (ix2 i k)) (fun r i => m ((c : Thread nD τ).loc main_arg1) (ix2 r i)) (fun b t k => m ((c : Thread nD τ).loc main_arg2) (ix3 b t k))
    (fun r k => m ((c : Thread nD τ).loc main_arg3) (ix2 r k)) (fun b k => m ((c : Thread nD τ).loc main_arg4) (ix3 b 0 k)) (fun k n => m ((c : Thread nD τ).loc main_arg5) (ix2 k n))
    (fun l k => m ((c : Thread nD τ).loc main_arg6) (ix2 l k)) (fun k => m ((c : Thread nD τ).loc main_arg7) (ix1 k)) (fun k => m ((c : Thread nD τ).loc main_arg8) (ix1 k)) r j

set_option maxHeartbeats 1000000 in
/-- The array the kernel leaves. -/
theorem final : (dats m 0 c).arrAt 16 cfg0.N = (fun i : S16384x1024.Idx => (result m c (i 0) (i 1) : EReal)) := by
  refine (dats m 0 c).arrAt_eq_of_covers 16 _ (by decide +kernel) fun t hf y => ?_
  blk_simp
  rw [after0_16, out_apply]
  have hy : (y 0).val < 512 := (y 0).isLt
  have ht : t.val < 32 := t.isLt.trans_eq N_0
  have h8 (i : Fin 8) : (win0_8.blk t).view.emb (ix2 (y 0) i) = ix2 (⟨t.val * 512 + (y 0).val, by omega⟩ : Fin 16384) i := by
    blk_ext [e8]
  have h9 (k : Fin 1024) : (win0_9.blk t).view.emb (ix2 (y 0) k) = ix2 (⟨t.val * 512 + (y 0).val, by omega⟩ : Fin 16384) k := by
    blk_ext [e9]
  have h10 (k : Fin 512) : (win0_10.blk t).view.emb (ix2 (y 0) k) = ix2 (⟨t.val * 512 + (y 0).val, by omega⟩ : Fin 16384) k := by
    blk_ext [e10]
  have h11 (k : Fin 1024) : (win0_11.blk t).view.emb (ix3 0 0 k) = ix3 (⟨t.val / 8, by omega⟩ : Fin 4) 0 k := by
    blk_ext [e11]
  have h12 (k : Fin 1024) (n : Fin 512) : (win0_12.blk t).view.emb (ix2 k n) = ix2 k n := by
    blk_ext [e12]
  have h13 (l : Fin 256) (k : Fin 1024) : (win0_13.blk t).view.emb (ix2 l k) = ix2 l k := by
    blk_ext [e13]
  have h14 (k : Fin 1024) : (win0_14.blk t).view.emb (ix2 0 k) = ix2 0 k := by
    blk_ext [e14]
  have h15 (k : Fin 1024) : (win0_15.blk t).view.emb (ix2 0 k) = ix2 0 k := by
    blk_ext [e15]
  have h16 : (win0_16.blk t).view.emb y = ix2 (⟨t.val * 512 + (y 0).val, by omega⟩ : Fin 16384) (y 1) := by
    blk_ext [e16]
  rw [h16]
  refine combined_eq (⟨t.val * 512 + (y 0).val, by omega⟩ : Fin 16384) (y 1) (fun i k => ?_) (fun i => ?_) (fun k => ?_) (fun k => ?_) (fun k => ?_) (fun k n => ?_)
    (fun l k => ?_) (fun k => ?_) fun k => ?_
  · match i with
      | ⟨0, _⟩ =>
        exact (rows0 m c t (y 0) k).trans (congrArg (fun i : Fin 131072 => m ((c : Thread nD τ).loc main_arg0) (ix2 i k))
          (Fin.ext (by show t.val * 512 + (y 0).val = 0 * 16384 + (t.val * 512 + (y 0).val); omega)))
      | ⟨1, _⟩ => exact rows1 m c t (y 0) k
      | ⟨2, _⟩ => exact rows2 m c t (y 0) k
      | ⟨3, _⟩ => exact rows3 m c t (y 0) k
      | ⟨4, _⟩ => exact rows4 m c t (y 0) k
      | ⟨5, _⟩ => exact rows5 m c t (y 0) k
      | ⟨6, _⟩ => exact rows6 m c t (y 0) k
      | ⟨7, _⟩ => exact rows7 m c t (y 0) k
  · blk_simp [iblk]; rw [h8 i]; exact congrFun (V_main_arg1 m c) _
  · blk_simp [iblk]; rw [h9 k]; exact (congrFun (V_stream m c) _).trans (stream_apply _ _ k)
  · blk_simp [iblk]; rw [h10 k]; exact congrFun (V_main_arg3 m c) _
  · blk_simp [iblk]; rw [h11 k]
    exact (congrFun (V_main_arg4 m c) _).trans (congrArg (fun b : Fin 4 => m ((c : Thread nD τ).loc main_arg4) (ix3 b 0 k)) (Fin.ext (by show t.val / 8 = (t.val * 512 + (y 0).val) / 4096; omega)))
  · blk_simp [iblk]; rw [h12 k n]; exact congrFun (V_wg m c) _
  · blk_simp [iblk]; rw [h13 l k]; exact congrFun (V_wd m c) _
  · blk_simp [iblk]; rw [h14 k]; exact (congrFun (V_gain m c) _).trans (row_apply _ k)
  · blk_simp [iblk]; rw [h15 k]; exact (congrFun (V_bias m c) _).trans (row_apply _ k)

/-- That array, shaped as the batch's tokens. -/
def tokens : FVec Ideal S4x4096x1024 .f32 :=
  shapeCast S4x4096x1024 ((dats m 0 c).arrAt 16 cfg0.N : FVec Ideal S16384x1024 .f32) shapeCasts_S16384x1024_S4x4096x1024

/-- An array of all tokens' rows, shaped as the batch's tokens, at a token. -/
theorem shaped_apply (a : FVec Ideal S16384x1024 .f32) (b : Fin 4) (t : Fin 4096) (j : Fin 1024) :
    shapeCast S4x4096x1024 a shapeCasts_S16384x1024_S4x4096x1024 (ix3 b t j) = a (ix2 (⟨b.val * 4096 + t.val, by omega⟩ : Fin 16384) j) :=
  shapeCast_apply a _ _ _ (by rw [Shape.rowMajor_val_three, Shape.rowMajor_val_two]; rfl)

/-- It, element by element. -/
theorem tokens_apply (b : Fin 4) (t : Fin 4096) (j : Fin 1024) : tokens m c (ix3 b t j) = result m c ⟨b.val * 4096 + t.val, by omega⟩ j := by
  have e : tokens m c (ix3 b t j) = ((dats m 0 c).arrAt 16 cfg0.N : FVec Ideal S16384x1024 .f32)
      (ix2 (⟨b.val * 4096 + t.val, by omega⟩ : Fin 16384) j) := shaped_apply _ b t j
  rw [e, final]
  rfl

/-- The kernel's program ends with that array as its result, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v6) = tokens m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (θ_run_and (run_main m ρ) (unchanged m ρ))
  obtain ⟨h, hu⟩ := h
  have h7 : Pipeline.withArrays (cfgs 0).spec c (V0 m c) (fun w => (dats m 0 c).arrAt w (cfgs 0).N) (Proc.devRef .tc main_v5)
      = (dats m 0 c).arrAt 16 cfg0.N := (dats m 0 c).withArrays_arrAt (by decide) (V0 m c) (A_eq m c) 16
  refine ⟨((h c).2 main_v6 (by decide)).trans ?_, hu c⟩
  unfold Pipeline.afterTail₀
  rw [List.flatten_singleton]
  unfold hostOps1
  after_results_simp
  rw [h7]
  rfl

end Cert.CombIdeal.Hand
-- ==== Proof.CombPlain.lean ====
/-
  What the plain combine leaves, element by element.
-/
module

public import proofs.«01_k».proof.Proof.Gen.CombPlainIdeal.Run
public import proofs.«01_k».proof.Proof.Combined

@[expose] public section

noncomputable section

namespace Cert.CombPlainIdeal.Hand

open Cert.CombPlainIdeal Cert.CombPlainIdeal.Gen Idealize.ShloMosaic Idealize.ShloMosaic.TcCoe Idealize.SL.Sem
open Cert.Combined (half numbers shared mixed normed combined)

/-- The experts' rows as numbers. -/
def gathered (a0 : IVec S131072x512 32) : FVec Ideal S131072x1024 .f32 :=
  concatenate S131072x1024 1 [⟨S131072x512, (shapeCast _ (extractStridedSlice S131072x512x1 ![0, 0, 0] (extf .f32 (bitcastToFloat (F := Ideal) .bf16 (Host.bitcastConvertNarrow S131072x512x2 16 a0 splits_S131072x512_w32_S131072x512x2_w16)) bitsLt_bf16_f32) slices_S131072x512x2_S131072x512x1_0_0_0) shapeCasts_S131072x512x1_S131072x512)⟩, ⟨S131072x512, (shapeCast _ (extractStridedSlice S131072x512x1 ![0, 0, 1] (extf .f32 (bitcastToFloat (F := Ideal) .bf16 (Host.bitcastConvertNarrow S131072x512x2 16 a0 splits_S131072x512_w32_S131072x512x2_w16)) bitsLt_bf16_f32) slices_S131072x512x2_S131072x512x1_0_0_1) shapeCasts_S131072x512x1_S131072x512)⟩] concatenates_S131072x512_S131072x512_S131072x1024_d1

/-- The tokens as numbers. -/
def inputs (a3 : IVec S16384x512 32) : FVec Ideal S16384x1024 .f32 :=
  concatenate S16384x1024 1 [⟨S16384x512, (shapeCast _ (extractStridedSlice S16384x512x1 ![0, 0, 0] (extf .f32 (bitcastToFloat (F := Ideal) .bf16 (Host.bitcastConvertNarrow S16384x512x2 16 a3 splits_S16384x512_w32_S16384x512x2_w16)) bitsLt_bf16_f32) slices_S16384x512x2_S16384x512x1_0_0_0) shapeCasts_S16384x512x1_S16384x512)⟩, ⟨S16384x512, (shapeCast _ (extractStridedSlice S16384x512x1 ![0, 0, 1] (extf .f32 (bitcastToFloat (F := Ideal) .bf16 (Host.bitcastConvertNarrow S16384x512x2 16 a3 splits_S16384x512_w32_S16384x512x2_w16)) bitsLt_bf16_f32) slices_S16384x512x2_S16384x512x1_0_0_1) shapeCasts_S16384x512x1_S16384x512)⟩] concatenates_S16384x512_S16384x512_S16384x1024_d1

/-- The sum of a token's eight weighted rows. -/
def routed (a0 : IVec S131072x512 32) (a1 : FVec Ideal S16384x8 .f32) : FVec Ideal S16384x1024 .f32 :=
  Host.reduceAdd (mulf (shapeCast _ (gathered a0) shapeCasts_S131072x1024_S8x16384x1024) (broadcastInDim S8x16384x1024 ![0, 1, 2] bcast_S8x16384x1_S8x16384x1024_0_1_2 (broadcastInDim S8x16384x1 ![0, 1] bcast_S8x16384_S8x16384x1_0_1 (transpose S8x16384 [1, 0] a1 transposes_S16384x8_S8x16384_1_0)))) (constant S_ .f32 0x00000000#32) reducesTo_S8x16384x1024_S16384x1024_d0 h_S_

/-- The shared expert's first product. -/
def first (a3 : IVec S16384x512 32) (a5 : FVec Ideal S1024x512 .f32) : FVec Ideal S16384x512 .f32 :=
  Host.dotGeneral dot_S16384x1024_S1024x512_S16384x512_1_0_0_1_n_n none (inputs a3) a5

/-- The shared expert. -/
def expert (a3 : IVec S16384x512 32) (a5 : FVec Ideal S1024x512 .f32) (a6 : FVec Ideal S256x1024 .f32) : FVec Ideal S16384x1024 .f32 :=
  Host.dotGeneral dot_S16384x256_S256x1024_S16384x1024_1_0_0_1_n_n none (mulf (mulf (extractStridedSlice S16384x256 ![0, 0] (first a3 a5) slices_S16384x512_S16384x256_0_0) (Host.divf (broadcastInDim S16384x256 ![] bcast_S_S16384x256 (constant S_ .f32 0x3F800000#32)) (addf (broadcastInDim S16384x256 ![] bcast_S_S16384x256 (constant S_ .f32 0x3F800000#32)) (Host.exp (Host.negf (extractStridedSlice S16384x256 ![0, 0] (first a3 a5) slices_S16384x512_S16384x256_0_0)))))) (extractStridedSlice S16384x256 ![0, 256] (first a3 a5) slices_S16384x512_S16384x256_0_256)) a6

/-- The stream and the gated sum. -/
def before (a0 : IVec S131072x512 32) (a1 : FVec Ideal S16384x8 .f32) (a2 : FVec Ideal S4x4096x1024 .f32) (a3 : IVec S16384x512 32) (a4 : FVec Ideal S4x1x1024 .f32)
    (a5 : FVec Ideal S1024x512 .f32) (a6 : FVec Ideal S256x1024 .f32) : FVec Ideal S4x4096x1024 .f32 :=
  addf (mulf (broadcastInDim S4x4096x1024 ![] bcast_S_S4x4096x1024 (constant S_ .f32 0x3F9837F0#32)) a2) (mulf (broadcastInDim S4x4096x1024 ![0, 1, 2] bcast_S4x1x1024_S4x4096x1024_0_1_2 a4) (shapeCast _ (addf (routed a0 a1) (expert a3 a5 a6)) shapeCasts_S16384x1024_S4x4096x1024))

/-- The normalization. -/
def after (z : FVec Ideal S4x4096x1024 .f32) (a7 a8 : FVec Ideal S1024 .f32) : FVec Ideal S4x4096x1024 .f32 :=
  addf (mulf (mulf (subf z (broadcastInDim S4x4096x1024 ![0, 1, 2] bcast_S4x4096x1_S4x4096x1024_0_1_2 (Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32))))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (subf z (broadcastInDim S4x4096x1024 ![0, 1, 2] bcast_S4x4096x1_S4x4096x1024_0_1_2 (Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32))))) (subf z (broadcastInDim S4x4096x1024 ![0, 1, 2] bcast_S4x4096x1_S4x4096x1024_0_1_2 (Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32)))))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 a7))) (broadcastInDim S4x4096x1024 ![0, 1, 2] bcast_S1x1x1024_S4x4096x1024_0_1_2 (broadcastInDim S1x1x1024 ![2] bcast_S1024_S1x1x1024_2 a8))

/-- The experts' rows, element by element. -/
theorem gathered_apply (a0 : IVec S131072x512 32) (r : Fin 131072) (k : Fin 1024) : gathered a0 (ix2 r k) = numbers (fun k => a0 (ix2 r k)) k := by
  have e (k : Fin 512) (p : Fin 2) : splits_S131072x512_w32_S131072x512x2_w16.drop (ix3 r k p) = ix2 r k := by
    funext a; exact Fin.ext (by match a with | ⟨0, _⟩ => rfl | ⟨1, _⟩ => rfl)
  unfold numbers half
  pointwise [gathered]
  simp only [e]

/-- The tokens, element by element. -/
theorem inputs_apply (a3 : IVec S16384x512 32) (r : Fin 16384) (k : Fin 1024) : inputs a3 (ix2 r k) = numbers (fun k => a3 (ix2 r k)) k := by
  have e (k : Fin 512) (p : Fin 2) : splits_S16384x512_w32_S16384x512x2_w16.drop (ix3 r k p) = ix2 r k := by
    funext a; exact Fin.ext (by match a with | ⟨0, _⟩ => rfl | ⟨1, _⟩ => rfl)
  unfold numbers half
  pointwise [inputs]
  simp only [e]

/-- All rows, shaped as eight arrays of the tokens' rows, at a token. -/
theorem slots_apply (a : FVec Ideal S131072x1024 .f32) (i : Fin 8) (r : Fin 16384) (j : Fin 1024) :
    shapeCast S8x16384x1024 a shapeCasts_S131072x1024_S8x16384x1024 (ix3 i r j) = a (ix2 (⟨i.val * 16384 + r.val, by omega⟩ : Fin 131072) j) :=
  shapeCast_apply a _ _ _ (by rw [Shape.rowMajor_val_three, Shape.rowMajor_val_two]; rfl)

/-- The gate weights, spread over the rows, at a token. -/
theorem weights_apply (a1 : FVec Ideal S16384x8 .f32) (i : Fin 8) (r : Fin 16384) (j : Fin 1024) :
    broadcastInDim S8x16384x1024 ![0, 1, 2] bcast_S8x16384x1_S8x16384x1024_0_1_2 (broadcastInDim S8x16384x1 ![0, 1] bcast_S8x16384_S8x16384x1_0_1
      (transpose S8x16384 [1, 0] a1 transposes_S16384x8_S8x16384_1_0)) (ix3 i r j) = a1 (ix2 r i) := by
  pointwise

/-- The sum of eight products, element by element. -/
theorem sum_apply (x w : FVec Ideal S8x16384x1024 .f32) (r : Fin 16384) (j : Fin 1024) :
    Host.reduceAdd (mulf x w) (constant S_ .f32 0x00000000#32) reducesTo_S8x16384x1024_S16384x1024_d0 h_S_ (ix2 r j)
      = ∑ i : Fin 8, x (ix3 i r j) * w (ix3 i r j) := by
  pointwise

/-- The weighted sum, element by element. -/
theorem routed_apply (a0 : IVec S131072x512 32) (a1 : FVec Ideal S16384x8 .f32) (r : Fin 16384) (j : Fin 1024) :
    routed a0 a1 (ix2 r j) = ∑ i : Fin 8, numbers (fun k => a0 (ix2 (⟨i.val * 16384 + r.val, by omega⟩ : Fin 131072) k)) j * a1 (ix2 r i) := by
  unfold routed
  rw [sum_apply]
  refine Finset.sum_congr rfl fun i _ => ?_
  rw [slots_apply, weights_apply, gathered_apply]

/-- The first product, element by element. -/
theorem first_apply (a3 : IVec S16384x512 32) (a5 : FVec Ideal S1024x512 .f32) (r : Fin 16384) (n : Fin 512) :
    first a3 a5 (ix2 r n) = Combined.inner (fun k => a3 (ix2 r k)) (fun k n => a5 (ix2 k n)) n := by
  unfold Combined.inner
  simp only [← inputs_apply]
  unfold first
  generalize inputs a3 = g
  pointwise

/-- The shared expert, element by element. -/
theorem expert_apply (a3 : IVec S16384x512 32) (a5 : FVec Ideal S1024x512 .f32) (a6 : FVec Ideal S256x1024 .f32) (r : Fin 16384) (j : Fin 1024) :
    expert a3 a5 a6 (ix2 r j) = shared (fun k => a3 (ix2 r k)) (fun k n => a5 (ix2 k n)) (fun l k => a6 (ix2 l k)) j := by
  unfold shared Ideal.logistic
  simp only [← first_apply]
  unfold expert
  generalize first a3 a5 = g
  pointwise

/-- An array of all tokens' rows, shaped as the batch's tokens, at a token. -/
theorem shaped_apply (a : FVec Ideal S16384x1024 .f32) (b : Fin 4) (t : Fin 4096) (j : Fin 1024) :
    shapeCast S4x4096x1024 a shapeCasts_S16384x1024_S4x4096x1024 (ix3 b t j) = a (ix2 (⟨b.val * 4096 + t.val, by omega⟩ : Fin 16384) j) :=
  shapeCast_apply a _ _ _ (by rw [Shape.rowMajor_val_three, Shape.rowMajor_val_two]; rfl)

/-- Before the normalization, element by element. -/
theorem before_apply (a0 : IVec S131072x512 32) (a1 : FVec Ideal S16384x8 .f32) (a2 : FVec Ideal S4x4096x1024 .f32) (a3 : IVec S16384x512 32) (a4 : FVec Ideal S4x1x1024 .f32)
    (a5 : FVec Ideal S1024x512 .f32) (a6 : FVec Ideal S256x1024 .f32) (b : Fin 4) (t : Fin 4096) (j : Fin 1024) :
    before a0 a1 a2 a3 a4 a5 a6 (ix3 b t j)
      = mixed (fun k => a3 (ix2 (⟨b.val * 4096 + t.val, by omega⟩ : Fin 16384) k)) (fun k n => a5 (ix2 k n)) (fun l k => a6 (ix2 l k)) (fun i => a1 (ix2 (⟨b.val * 4096 + t.val, by omega⟩ : Fin 16384) i))
        (fun i k => a0 (ix2 (⟨i.val * 16384 + (b.val * 4096 + t.val), by omega⟩ : Fin 131072) k)) (fun k => a2 (ix3 b t k)) (fun k => a4 (ix3 b 0 k)) j := by
  unfold mixed
  rw [← expert_apply]
  have e := routed_apply a0 a1 (⟨b.val * 4096 + t.val, by omega⟩ : Fin 16384) j
  refine Eq.trans ?_ (congrArg (fun x => Ideal.ofBits .f32 1066940400#32 * a2 (ix3 b t j) + a4 (ix3 b 0 j) * (x + _)) e)
  unfold before
  generalize routed a0 a1 = p
  generalize expert a3 a5 a6 = q
  have e' := shaped_apply (addf p q) b t j
  generalize shapeCast S4x4096x1024 (addf p q) shapeCasts_S16384x1024_S4x4096x1024 = w at e' ⊢
  pointwise at e'
  pointwise
  rw [e']

/-- The normalization, element by element. -/
theorem after_apply (z : FVec Ideal S4x4096x1024 .f32) (a7 a8 : FVec Ideal S1024 .f32) (b : Fin 4) (t : Fin 4096) (j : Fin 1024) :
    after z a7 a8 (ix3 b t j) = normed (fun k => z (ix3 b t k)) (fun k => a7 (ix1 k)) (fun k => a8 (ix1 k)) j := by
  unfold normed Projected.mean
  pointwise [after]

set_option maxRecDepth 8192 in
/-- The plain combine's result. -/
theorem res_eq (m : (ℓ : Loc nD τ sig) → Buf (Elt Ideal) ℓ) (c : Dev nD) :
    Value.res_main_v56 m c = after (before (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      (m ((c.tc : Thread nD τ).loc main_arg7)) (m ((c.tc : Thread nD τ).loc main_arg8)) := by
  unfold Value.res_main_v56 after before routed expert first gathered inputs
  rfl

end Cert.CombPlainIdeal.Hand
-- ==== Proof.Mixed.lean ====
/-
  One row of the output projection: the two products, the residual and the normalization, and the router's scores of it.
-/
module

public import proofs.«01_k».proof.Proof.Combined
public import Idealize.ShloMosaic.Lib.Routing.OpsOne

@[expose] public section

noncomputable section

namespace Cert.Mixed

open Idealize.ShloMosaic
open Cert.Combined (normed)

/-- Two rows of 512 end to end. -/
def joined (y z : Fin 512 → EReal) (k : Fin 1024) : EReal := if h : k.val < 512 then y ⟨k.val, h⟩ else z ⟨k.val - 512, by omega⟩

/-- The two rows against the weights' upper and lower rows make up the product of the joined row. -/
theorem joined_eq (y z : Fin 512 → EReal) (w : Fin 1024 → EReal) :
    (∑ k : Fin 512, y k * w ⟨k.val, by omega⟩ + ∑ k : Fin 512, z k * w ⟨512 + k.val, by omega⟩) = ∑ k, joined y z k * w k := by
  rw [show (∑ k : Fin 1024, joined y z k * w k) = ∑ k : Fin (512 + 512), joined y z k * w k from rfl, Fin.sum_univ_add]
  refine congrArg₂ (· + ·) (Finset.sum_congr rfl fun k _ => ?_) (Finset.sum_congr rfl fun k _ => ?_)
  · rw [joined, dif_pos (show (Fin.castAdd 512 k).val < 512 from k.isLt)]; rfl
  · rw [joined, dif_neg (show ¬ (Fin.natAdd 512 k).val < 512 by simp)]
    refine congrArg₂ (· * ·) (congrArg z (Fin.ext ?_)) rfl
    show k.val = 512 + k.val - 512
    omega

/-- A row before the normalization: `2^(1/4)` times the stream, plus the gate times the sum of the two products. -/
def before (y z : Fin 512 → EReal) (u v : Fin 512 → Fin 1024 → EReal) (s gt : Fin 1024 → EReal) (j : Fin 1024) : EReal :=
  Ideal.ofBits .f32 1066940400#32 * s j + gt j * (∑ k, y k * u k j + ∑ k, z k * v k j)

/-- One score of a row: it, normalized, scaled and shifted, against a column of the router's weights, in the logistic function. -/
def score (x sc sh w : Fin 1024 → EReal) : EReal := Ideal.logistic (∑ k, Projected.row x sc sh k * w k)

/-- The stream after the mixer: row `r` is row `r % 4096` of batch element `r / 4096`. -/
def stream (y z : Fin 4 → Fin 4096 → Fin 512 → EReal) (w : Fin 1024 → Fin 1024 → EReal) (s : Fin 4 → Fin 4096 → Fin 1024 → EReal)
    (gt : Fin 4 → Fin 1024 → EReal) (a b : Fin 1024 → EReal) (r : Fin 16384) : Fin 1024 → EReal :=
  normed (before (y ⟨r.val / 4096, by omega⟩ ⟨r.val % 4096, by omega⟩) (z ⟨r.val / 4096, by omega⟩ ⟨r.val % 4096, by omega⟩)
    (fun k j => w ⟨k.val, by omega⟩ j) (fun k j => w ⟨512 + k.val, by omega⟩ j) (s ⟨r.val / 4096, by omega⟩ ⟨r.val % 4096, by omega⟩)
    (gt ⟨r.val / 4096, by omega⟩)) a b

/-- A row is the stream's at `r` when its operands are those of `r`. -/
theorem stream_eq {y z : Fin 4 → Fin 4096 → Fin 512 → EReal} {w : Fin 1024 → Fin 1024 → EReal} {s : Fin 4 → Fin 4096 → Fin 1024 → EReal}
    {gt : Fin 4 → Fin 1024 → EReal} {a b : Fin 1024 → EReal} (r : Fin 16384) {y' z' : Fin 512 → EReal} {u v : Fin 512 → Fin 1024 → EReal}
    {s' gt' a' b' : Fin 1024 → EReal}
    (hy : ∀ k, y' k = y ⟨r.val / 4096, by omega⟩ ⟨r.val % 4096, by omega⟩ k) (hz : ∀ k, z' k = z ⟨r.val / 4096, by omega⟩ ⟨r.val % 4096, by omega⟩ k)
    (hu : ∀ k j, u k j = w ⟨k.val, by omega⟩ j) (hv : ∀ k j, v k j = w ⟨512 + k.val, by omega⟩ j)
    (hs : ∀ k, s' k = s ⟨r.val / 4096, by omega⟩ ⟨r.val % 4096, by omega⟩ k) (hgt : ∀ k, gt' k = gt ⟨r.val / 4096, by omega⟩ k)
    (ha : ∀ k, a' k = a k) (hb : ∀ k, b' k = b k) :
    normed (before y' z' u v s' gt') a' b' = stream y z w s gt a b r := by
  obtain rfl := funext hy
  obtain rfl := funext hz
  obtain rfl : u = _ := funext fun k => funext (hu k)
  obtain rfl : v = _ := funext fun k => funext (hv k)
  obtain rfl := funext hs
  obtain rfl := funext hgt
  obtain rfl : a' = a := funext ha
  obtain rfl : b' = b := funext hb
  rfl

/-- A score is that of other operands where they are equal. -/
theorem score_eq {x sc sh w x' sc' sh' w' : Fin 1024 → EReal} (hx : x = x') (hsc : ∀ k, sc k = sc' k) (hsh : ∀ k, sh k = sh' k)
    (hw : ∀ k, w k = w' k) : score x sc sh w = score x' sc' sh' w' := by
  obtain rfl := hx
  obtain rfl := funext hsc
  obtain rfl := funext hsh
  obtain rfl := funext hw
  rfl

end Cert.Mixed
-- ==== Proof.MixKernel.lean ====
/-
  What the output projection's kernel leaves, element by element.
-/
module

public import proofs.«01_k».proof.Proof.Gen.MixIdeal.Frame
public import proofs.«01_k».proof.Proof.Gen.Mix.Frame
public import proofs.«01_k».proof.Proof.Mixed
public import Idealize.ShloMosaic.Lib.Pipeline.ValueKit.Geometry

@[expose] public section

noncomputable section

namespace Cert.MixIdeal.Hand

open Cert.MixIdeal Cert.MixIdeal.Gen Idealize.ShloMosaic Idealize.ShloMosaic.TcCoe Idealize.SL.Sem
open Cert.Combined (normed)
open Cert.Mixed (before score stream stream_eq score_eq)

/-- A row before the normalization. -/
theorem pay11_apply (y : Vec Ideal S512x512 .bf16) (u : Vec Ideal S512x1024 .bf16) (z : Vec Ideal S512x512 .f32) (v : Vec Ideal S512x1024 .bf16)
    (s : Vec Ideal S512x1024 .f32) (g : Vec Ideal S1x1x1024 .f32) (r : Fin 512) (j : Fin 1024) :
    k0_pay11 y u z v s g (ix2 r j)
      = before (fun k => y (ix2 r k)) (fun k => z (ix2 r k)) (fun k j => u (ix2 k j)) (fun k j => v (ix2 k j)) (fun k => s (ix2 r k)) (fun k => g (ix3 0 0 k)) j := by
  unfold before
  pointwise [k0_pay11]

/-- The lower half's normalization. -/
theorem pay5_apply (y : Vec Ideal S512x512 .bf16) (u : Vec Ideal S512x1024 .bf16) (z : Vec Ideal S512x512 .f32) (v : Vec Ideal S512x1024 .bf16)
    (s : Vec Ideal S512x1024 .f32) (g : Vec Ideal S1x1x1024 .f32) (a b : Vec Ideal S1x1024 .f32) (r : Fin 512) (j : Fin 1024) :
    k0_pay5 (k0_pay4 y u z v s g) a b (ix2 r j)
      = normed (before (fun k => y (ix2 r k)) (fun k => z (ix2 r k)) (fun k j => u (ix2 k j)) (fun k j => v (ix2 k j)) (fun k => s (ix2 r k)) (fun k => g (ix3 0 0 k)))
        (fun k => a (ix2 0 k)) (fun k => b (ix2 0 k)) j := by
  unfold normed Projected.mean
  simp only [← pay11_apply]
  pointwise [k0_pay5, k0_pay4, k0_pay11]

/-- The upper half's normalization. -/
theorem pay14_apply (x : FVec Ideal S512x1024 .f32) (s : FVec Ideal S512x1 .f32) (a b : Vec Ideal S1x1024 .f32) (r : Fin 512) (j : Fin 1024)
    (h : s (ix2 r 0) = ∑ k : Fin 1024, x (ix2 r k)) :
    k0_pay14 x s k0_pay13 a b (ix2 r j) = normed (fun k => x (ix2 r k)) (fun k => a (ix2 0 k)) (fun k => b (ix2 0 k)) j := by
  unfold normed Projected.mean
  rw [← h]
  pointwise [k0_pay14, k0_pay13]

/-- The upper half's sum of a row. -/
theorem pay12_apply (y : Vec Ideal S512x512 .bf16) (u : Vec Ideal S512x1024 .bf16) (z : Vec Ideal S512x512 .f32) (v : Vec Ideal S512x1024 .bf16)
    (s : Vec Ideal S512x1024 .f32) (g : Vec Ideal S1x1x1024 .f32) (r : Fin 512) :
    k0_pay12 y u z v s g (ix2 r 0) = ∑ k : Fin 1024, k0_pay11 y u z v s g (ix2 r k) := by
  unfold k0_pay12
  generalize k0_pay11 y u z v s g = x
  pointwise

/-- The lower half's row for the router. -/
theorem pay6_apply (x : FVec Ideal S512x1024 .f32) (a b : Vec Ideal S1x1024 .f32) (sc sh : Vec Ideal S1x1x1024 .f32) (r : Fin 512) (j : Fin 1024) :
    k0_pay6 x a b sc sh (ix2 r j)
      = Projected.row (fun k => k0_pay5 x a b (ix2 r k)) (fun k => sc (ix3 0 0 k)) (fun k => sh (ix3 0 0 k)) j := by
  unfold k0_pay6
  generalize k0_pay5 x a b = z
  pointwise
  rfl

/-- The upper half's row for the router. -/
theorem pay1_apply (x : FVec Ideal S512x1024 .f32) (s n : FVec Ideal S512x1 .f32) (a b : Vec Ideal S1x1024 .f32) (sc sh : Vec Ideal S1x1x1024 .f32) (r : Fin 512)
    (j : Fin 1024) :
    k0_pay1 (k0_pay15 x s n a b) (k0_pay16 sc) k0_pay17 sh (ix2 r j)
      = Projected.row (fun k => k0_pay14 x s n a b (ix2 r k)) (fun k => sc (ix3 0 0 k)) (fun k => sh (ix3 0 0 k)) j := by
  unfold k0_pay15
  generalize k0_pay14 x s n a b = z
  pointwise [k0_pay1, k0_pay16, k0_pay17]
  rfl

/-- The lower half's scores. -/
theorem pay10_apply (x : FVec Ideal S512x1024 .bf16) (w : Vec Ideal S1024x128 .bf16) (r : Fin 512) (j : Fin 128) :
    k0_pay10 x w (ix2 r j) = Ideal.logistic (∑ k : Fin 1024, x (ix2 r k) * w (ix2 k j)) := by
  pointwise [k0_pay10]

/-- The upper half's scores. -/
theorem pay3_apply (x : FVec Ideal S512x1024 .f32) (p q : FVec Ideal S1x1024 .f32) (sh : Vec Ideal S1x1x1024 .f32) (w : Vec Ideal S1024x128 .bf16) (r : Fin 512)
    (j : Fin 128) : k0_pay3 x p q sh w (ix2 r j) = Ideal.logistic (∑ k : Fin 1024, k0_pay1 x p q sh (ix2 r k) * w (ix2 k j)) := by
  unfold k0_pay3
  generalize k0_pay1 x p q sh = z
  pointwise

/-- The router's weights as the host's operations lay them out. -/
def padded (a9 : FVec Ideal S1024x64 .f32) : FVec Ideal S1024x128 .f32 :=
  Host.scatter scatter_S1024x128_S1_S1024x64_01_n_1_0 (fun _ b => b) (broadcastInDim S1024x128 ![] bcast_S_S1024x128 (constant (F := Ideal) S_ .f32 0x00000000#32))
    (broadcastInDim S1 ![] bcast_S_S1 (constantI S_ 32 0#32)) a9

/-- Where an update lands: at its own row and column. -/
theorem lands (j : S1024x64.Idx) (r : Fin 1024) (c : Fin 128) :
    scatter_S1024x128_S1_S1024x64_01_n_1_0.resultIdx? j (broadcastInDim S1 ![] bcast_S_S1 (constantI S_ 32 0#32)) = some (ix2 r c)
      ↔ (j 0).val = r.val ∧ (j 1).val = c.val := by
  refine (Routing.resultIdx?_ix2 (R := 1024) (C := 128) scatter_S1024x128_S1_S1024x64_01_n_1_0 j _ r c).trans ?_
  have s0 : scatter_S1024x128_S1_S1024x64_01_n_1_0.start j (broadcastInDim S1 ![] bcast_S_S1 (constantI S_ 32 0#32)) 0 = 0 := by
    unfold ScatterDims.start
    exact dif_neg (by show (0 : Fin 2) ∉ [(1 : Fin 2)]; decide)
  have s1 : scatter_S1024x128_S1_S1024x64_01_n_1_0.start j (broadcastInDim S1 ![] bcast_S_S1 (constantI S_ 32 0#32)) 1 = 0 := by
    unfold ScatterDims.start
    exact dif_pos (by show (1 : Fin 2) ∈ [(1 : Fin 2)]; decide)
  have w0 : scatter_S1024x128_S1_S1024x64_01_n_1_0.window j 0 = (j 0).val := rfl
  have w1 : scatter_S1024x128_S1_S1024x64_01_n_1_0.window j 1 = (j 1).val := rfl
  rw [s0, s1, w0, w1]
  omega

/-- Those weights, element by element, in the columns that aren't padding. -/
theorem padded_apply (a9 : FVec Ideal S1024x64 .f32) (k : Fin 1024) (j : Fin 64) : padded a9 (ix2 k (⟨j.val, by omega⟩ : Fin 128)) = a9 (ix2 k j) := by
  refine Routing.scatter_set_hit _ _ _ _ _ _ (fun i h => ?_) (ix2 k j) ((lands _ _ _).2 ⟨rfl, rfl⟩)
  obtain ⟨h0, h1⟩ := (lands _ _ _).1 h
  rw [show i = ix2 k j from (eq_ix2 i).trans (by rw [show i 0 = k from Fin.ext h0, show i 1 = j from Fin.ext h1])]

/-- One element of a block of the stream, of the blocks of the operands. -/
def first (x0 : Vec Ideal S1024x1024 .f32) (x1 : Vec Ideal S1024x512 .bf16) (x2 : Vec Ideal S1024x512 .f32) (x3 x4 : Vec Ideal S512x1024 .bf16)
    (x5 : Vec Ideal S1x1x1024 .f32) (x6 x7 : Vec Ideal S1x1024 .f32) (r : Fin 1024) : Fin 1024 → EReal :=
  normed (before (fun k => x1 (ix2 r k)) (fun k => x2 (ix2 r k)) (fun k j => x3 (ix2 k j)) (fun k j => x4 (ix2 k j)) (fun k => x0 (ix2 r k)) (fun k => x5 (ix3 0 0 k)))
    (fun k => x6 (ix2 0 k)) (fun k => x7 (ix2 0 k))

/-- The lower half of a block of the stream. -/
theorem lower_apply (x0 : Vec Ideal S1024x1024 .f32) (x1 : Vec Ideal S1024x512 .bf16) (x2 : Vec Ideal S1024x512 .f32) (x3 x4 : Vec Ideal S512x1024 .bf16)
    (x5 : Vec Ideal S1x1x1024 .f32) (x6 x7 : Vec Ideal S1x1024 .f32) (x8 x9 : Vec Ideal S1x1x1024 .f32) (x10 : Vec Ideal S1024x128 .bf16) (r : Fin 512) (j : Fin 1024) :
    k0_pay5 (k0_pay18 x0 x1 x2 x3 x4 x5 x6 x7 x8 x9 x10) (View.ld x6 r0_4) (View.ld x7 r0_4) (ix2 r j) = first x0 x1 x2 x3 x4 x5 x6 x7 ⟨r.val, by omega⟩ j := by
  unfold k0_pay18 first
  rw [pay5_apply]
  pointwise

/-- The upper half of a block of the stream. -/
theorem upper_apply (x0 : Vec Ideal S1024x1024 .f32) (x1 : Vec Ideal S1024x512 .bf16) (x2 : Vec Ideal S1024x512 .f32) (x3 x4 : Vec Ideal S512x1024 .bf16)
    (x5 : Vec Ideal S1x1x1024 .f32) (x6 x7 : Vec Ideal S1x1024 .f32) (x8 x9 : Vec Ideal S1x1x1024 .f32) (x10 : Vec Ideal S1024x128 .bf16) (r : Fin 512) (j : Fin 1024) :
    k0_pay14 (k0_pay19 x0 x1 x2 x3 x4 x5 x6 x7 x8 x9 x10) (k0_pay20 x0 x1 x2 x3 x4 x5 x6 x7 x8 x9 x10) (k0_pay21 x0 x1 x2 x3 x4 x5 x6 x7 x8 x9 x10)
        (View.ld x6 r0_4) (View.ld x7 r0_4) (ix2 r j)
      = first x0 x1 x2 x3 x4 x5 x6 x7 ⟨512 + r.val, by omega⟩ j := by
  unfold k0_pay21 k0_pay20 k0_pay19 first
  rw [pay14_apply _ _ _ _ r j (pay12_apply _ _ _ _ _ _ r)]
  simp only [pay11_apply]
  pointwise

/-- What the body leaves of a block of the stream. -/
theorem out11_apply (x0 : Vec Ideal S1024x1024 .f32) (x1 : Vec Ideal S1024x512 .bf16) (x2 : Vec Ideal S1024x512 .f32) (x3 x4 : Vec Ideal S512x1024 .bf16)
    (x5 : Vec Ideal S1x1x1024 .f32) (x6 x7 : Vec Ideal S1x1024 .f32) (x8 x9 : Vec Ideal S1x1x1024 .f32) (x10 : Vec Ideal S1024x128 .bf16) (y : S1024x1024.Idx) :
    out0_11 x0 x1 x2 x3 x4 x5 x6 x7 x8 x9 x10 y = first x0 x1 x2 x3 x4 x5 x6 x7 (y 0) (y 1) := by
  unfold out0_11
  refine View.canon_apply_of_pieces (Val := Elt Ideal) (e := .f32) (fun y : S1024x1024.Idx => (first x0 x1 x2 x3 x4 x5 x6 x7 (y 0) (y 1) : EReal)) _ ?_ y (cover0_11 _ _ y)
  intro p hp
  simp only [List.mem_cons, List.not_mem_nil, or_false] at hp
  rcases hp with rfl | rfl
  · intro x
    obtain ⟨r, j, rfl⟩ : ∃ (r : Fin 512) (j : Fin 1024), x = ix2 r j := ⟨x 0, x 1, eq_ix2 x⟩
    dsimp only
    have e0 : r0_9.emb (ix2 r j) 0 = (⟨512 + r.val, by omega⟩ : Fin 1024) := Fin.ext (by simp [Rect.emb_apply])
    have e1 : r0_9.emb (ix2 r j) 1 = j := Fin.ext (by simp [Rect.emb_apply])
    rw [e0, e1]
    exact upper_apply _ _ _ _ _ _ _ _ _ _ _ r j
  · intro x
    obtain ⟨r, j, rfl⟩ : ∃ (r : Fin 512) (j : Fin 1024), x = ix2 r j := ⟨x 0, x 1, eq_ix2 x⟩
    dsimp only
    have e0 : r0_2.emb (ix2 r j) 0 = (⟨r.val, by omega⟩ : Fin 1024) := Fin.ext (by simp [Rect.emb_apply])
    have e1 : r0_2.emb (ix2 r j) 1 = j := Fin.ext (by simp [Rect.emb_apply])
    rw [e0, e1]
    exact lower_apply _ _ _ _ _ _ _ _ _ _ _ r j

/-- What the body leaves of a block of the scores. -/
theorem out13_apply (x0 : Vec Ideal S1024x1024 .f32) (x1 : Vec Ideal S1024x512 .bf16) (x2 : Vec Ideal S1024x512 .f32) (x3 x4 : Vec Ideal S512x1024 .bf16)
    (x5 : Vec Ideal S1x1x1024 .f32) (x6 x7 : Vec Ideal S1x1024 .f32) (x8 x9 : Vec Ideal S1x1x1024 .f32) (x10 : Vec Ideal S1024x128 .bf16) (y : S1024x128.Idx) :
    out0_13 x0 x1 x2 x3 x4 x5 x6 x7 x8 x9 x10 y
      = score (first x0 x1 x2 x3 x4 x5 x6 x7 (y 0)) (fun k => x9 (ix3 0 0 k)) (fun k => x8 (ix3 0 0 k)) (fun k => x10 (ix2 k (y 1))) := by
  have l3 (x : Vec Ideal S1x1x1024 .f32) (k : Fin 1024) : View.ld x r0_3 (ix3 0 0 k) = x (ix3 0 0 k) := by pointwise
  have l6 (x : Vec Ideal S1024x128 .bf16) (k : Fin 1024) (j : Fin 128) : View.ld x r0_6 (ix2 k j) = x (ix2 k j) := by pointwise
  unfold out0_13
  refine View.canon_apply_of_pieces (Val := Elt Ideal) (e := .f32) (fun y : S1024x128.Idx => (score (first x0 x1 x2 x3 x4 x5 x6 x7 (y 0)) (fun k => x9 (ix3 0 0 k))
    (fun k => x8 (ix3 0 0 k)) (fun k => x10 (ix2 k (y 1))) : EReal)) _ ?_ y (cover0_13 _ _ y)
  intro p hp
  simp only [List.mem_cons, List.not_mem_nil, or_false] at hp
  rcases hp with rfl | rfl
  · intro x
    obtain ⟨r, j, rfl⟩ : ∃ (r : Fin 512) (j : Fin 128), x = ix2 r j := ⟨x 0, x 1, eq_ix2 x⟩
    dsimp only
    have e0 : r0_11.emb (ix2 r j) 0 = (⟨512 + r.val, by omega⟩ : Fin 1024) := Fin.ext (by simp [Rect.emb_apply])
    have e1 : r0_11.emb (ix2 r j) 1 = j := Fin.ext (by simp [Rect.emb_apply])
    rw [e0, e1]
    unfold k0_pay22 k0_pay23 k0_pay24
    rw [pay3_apply]
    simp only [pay1_apply, upper_apply]
    exact score_eq rfl (fun k => l3 x9 k) (fun k => l3 x8 k) (fun k => l6 x10 k j)
  · intro x
    obtain ⟨r, j, rfl⟩ : ∃ (r : Fin 512) (j : Fin 128), x = ix2 r j := ⟨x 0, x 1, eq_ix2 x⟩
    dsimp only
    have e0 : r0_7.emb (ix2 r j) 0 = (⟨r.val, by omega⟩ : Fin 1024) := Fin.ext (by simp [Rect.emb_apply])
    have e1 : r0_7.emb (ix2 r j) 1 = j := Fin.ext (by simp [Rect.emb_apply])
    rw [e0, e1]
    rw [pay10_apply]
    simp only [pay6_apply, lower_apply]
    exact score_eq rfl (fun k => l3 x9 k) (fun k => l3 x8 k) (fun k => l6 x10 k j)

variable (m : (ℓ : Loc nD τ sig) → Buf (Elt Ideal) ℓ) (c : Dev nD)

/-- The region finds the rows of the stream, its batch elements one after another. -/
theorem V_stream : V m c main_v5 = shapeCast S16384x1024 (m ((c : Thread nD τ).loc main_arg0)) shapeCasts_S4x4096x1024_S16384x1024 := by
  show StableHlo.after (List.flatten [hostOps0]) _ _ = _
  rw [List.flatten_singleton]
  unfold hostOps0
  after_results_simp
  rfl

/-- The region finds the rows of the mLSTM's result. -/
theorem V_read : V m c main_v6 = (shapeCast S16384x512 (m ((c : Thread nD τ).loc main_arg1)) shapeCasts_S4x4096x512_S16384x512 : FVec Ideal S16384x512 .bf16) := by
  show StableHlo.after (List.flatten [hostOps0]) _ _ = _
  rw [List.flatten_singleton]
  unfold hostOps0
  after_results_simp
  rfl

/-- The region finds the rows of the Fourier mixing's result. -/
theorem V_four : V m c main_v7 = (shapeCast S16384x512 (m ((c : Thread nD τ).loc main_arg2)) shapeCasts_S4x4096x512_S16384x512 : FVec Ideal S16384x512 .f32) := by
  show StableHlo.after (List.flatten [hostOps0]) _ _ = _
  rw [List.flatten_singleton]
  unfold hostOps0
  after_results_simp
  rfl

/-- The region finds the weights' upper rows. -/
theorem V_upper : V m c main_v8 = (extractStridedSlice S512x1024 ![0, 0] (m ((c : Thread nD τ).loc main_arg3) : FVec Ideal S1024x1024 .f32) slices_S1024x1024_S512x1024_0_0 : S512x1024.Idx → EReal) := by
  show StableHlo.after (List.flatten [hostOps0]) _ _ = _
  rw [List.flatten_singleton]
  unfold hostOps0
  after_results_simp
  rfl

/-- The region finds the weights' lower rows. -/
theorem V_lower : V m c main_v9 = (extractStridedSlice S512x1024 ![512, 0] (m ((c : Thread nD τ).loc main_arg3) : FVec Ideal S1024x1024 .f32) slices_S1024x1024_S512x1024_512_0 : S512x1024.Idx → EReal) := by
  show StableHlo.after (List.flatten [hostOps0]) _ _ = _
  rw [List.flatten_singleton]
  unfold hostOps0
  after_results_simp
  rfl

/-- The region finds the gain as a row. -/
theorem V_gain : V m c main_v10 = broadcastInDim S1x1024 ![1] bcast_S1024_S1x1024_1 (m ((c : Thread nD τ).loc main_arg5)) := by
  show StableHlo.after (List.flatten [hostOps0]) _ _ = _
  rw [List.flatten_singleton]
  unfold hostOps0
  after_results_simp

/-- The region finds the bias as a row. -/
theorem V_bias : V m c main_v11 = broadcastInDim S1x1024 ![1] bcast_S1024_S1x1024_1 (m ((c : Thread nD τ).loc main_arg6)) := by
  show StableHlo.after (List.flatten [hostOps0]) _ _ = _
  rw [List.flatten_singleton]
  unfold hostOps0
  after_results_simp

/-- The region finds the router's weights laid out with their padding. -/
theorem V_router : V m c main_v4 = truncf .bf16 (padded (m ((c : Thread nD τ).loc main_arg9))) bitsLt_bf16_f32 := by
  show StableHlo.after (List.flatten [hostOps0]) _ _ = _
  rw [List.flatten_singleton]
  unfold hostOps0 padded
  after_results_simp

/-- Over the extended reals a cast changes nothing. -/
theorem cast_apply (a : FVec Ideal S1024x128 .f32) (i : S1024x128.Idx) : truncf .bf16 a bitsLt_bf16_f32 i = a i := rfl

/-- The stream's rows, element by element. -/
theorem rows_apply (a : FVec Ideal S4x4096x1024 .f32) (r : Fin 16384) (k : Fin 1024) :
    shapeCast S16384x1024 a shapeCasts_S4x4096x1024_S16384x1024 (ix2 r k)
      = a (ix3 (⟨r.val / 4096, by omega⟩ : Fin 4) (⟨r.val % 4096, by omega⟩ : Fin 4096) k) := by
  pointwise

/-- The rows of an array of 512 columns, element by element. -/
theorem half_apply (a : S4x4096x512.Idx → EReal) (r : Fin 16384) (k : Fin 512) :
    shapeCast S16384x512 a shapeCasts_S4x4096x512_S16384x512 (ix2 r k)
      = a (ix3 (⟨r.val / 4096, by omega⟩ : Fin 4) (⟨r.val % 4096, by omega⟩ : Fin 4096) k) := by
  pointwise

/-- A row of 1024 laid out as one row. -/
theorem row_apply (a : FVec Ideal S1024 .f32) (k : Fin 1024) : broadcastInDim S1x1024 ![1] bcast_S1024_S1x1024_1 a (ix2 0 k) = a (ix1 k) := by
  pointwise

/-- The weights' upper rows, element by element. -/
theorem top_apply (a : S1024x1024.Idx → EReal) (k : Fin 512) (j : Fin 1024) :
    extractStridedSlice S512x1024 ![0, 0] a slices_S1024x1024_S512x1024_0_0 (ix2 k j) = a (ix2 (⟨k.val, by omega⟩ : Fin 1024) j) := by
  pointwise

/-- The weights' lower rows, element by element. -/
theorem bottom_apply (a : S1024x1024.Idx → EReal) (k : Fin 512) (j : Fin 1024) :
    extractStridedSlice S512x1024 ![512, 0] a slices_S1024x1024_S512x1024_512_0 (ix2 k j) = a (ix2 (⟨512 + k.val, by omega⟩ : Fin 1024) j) := by
  pointwise

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val / 4, 0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val / 4, 0, 0] := (by decide +kernel : ∀ t : Fin grid0.N, _)
theorem e9 : ∀ t : Fin cfg0.N, win0_9.index t = ![t.val / 4, 0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![t.val, 0] := (by decide +kernel : ∀ t : Fin grid0.N, _)
theorem e13 : ∀ t : Fin cfg0.N, win0_13.index t = ![t.val, 0] := (by decide +kernel : ∀ t : Fin grid0.N, _)

/-- The stream after the mixer, of the arguments. -/
def result (r : Fin 16384) : Fin 1024 → EReal :=
  stream (fun b t k => m ((c : Thread nD τ).loc main_arg1) (ix3 b t k)) (fun b t k => m ((c : Thread nD τ).loc main_arg2) (ix3 b t k)) (fun k j => m ((c : Thread nD τ).loc main_arg3) (ix2 k j))
    (fun b t k => m ((c : Thread nD τ).loc main_arg0) (ix3 b t k)) (fun b k => m ((c : Thread nD τ).loc main_arg4) (ix3 b 0 k)) (fun k => m ((c : Thread nD τ).loc main_arg5) (ix1 k))
    (fun k => m ((c : Thread nD τ).loc main_arg6) (ix1 k)) r

/-- The scores, of the arguments, in the padded columns' order. -/
def scores (r : Fin 16384) (j : Fin 128) : EReal :=
  score (result m c r) (fun k => m ((c : Thread nD τ).loc main_arg8) (ix3 (⟨r.val / 4096, by omega⟩ : Fin 4) 0 k))
    (fun k => m ((c : Thread nD τ).loc main_arg7) (ix3 (⟨r.val / 4096, by omega⟩ : Fin 4) 0 k)) (fun k => padded (m ((c : Thread nD τ).loc main_arg9)) (ix2 k j))

set_option maxHeartbeats 1000000 in
/-- A row of a grid step's block is the stream's. -/
theorem first_eq (t : Fin cfg0.N) (r : Fin 1024) :
    first (iblk m c 0 t) (iblk m c 1 t) (iblk m c 2 t) (iblk m c 3 t) (iblk m c 4 t) (iblk m c 5 t) (iblk m c 6 t) (iblk m c 7 t) r
      = result m c (⟨t.val * 1024 + r.val, by have := t.isLt.trans_eq N_0; omega⟩ : Fin 16384) := by
  have ht : t.val < 16 := t.isLt.trans_eq N_0
  have h0 (k : Fin 1024) : (win0_0.blk t).view.emb (ix2 r k) = ix2 (⟨t.val * 1024 + r.val, by omega⟩ : Fin 16384) k := by
    blk_ext [e0]
  have h1 (k : Fin 512) : (win0_1.blk t).view.emb (ix2 r k) = ix2 (⟨t.val * 1024 + r.val, by omega⟩ : Fin 16384) k := by
    blk_ext [e1]
  have h2 (k : Fin 512) : (win0_2.blk t).view.emb (ix2 r k) = ix2 (⟨t.val * 1024 + r.val, by omega⟩ : Fin 16384) k := by
    blk_ext [e2]
  have h3 (k : Fin 512) (j : Fin 1024) : (win0_3.blk t).view.emb (ix2 k j) = ix2 k j := by
    blk_ext [e3]
  have h4 (k : Fin 512) (j : Fin 1024) : (win0_4.blk t).view.emb (ix2 k j) = ix2 k j := by
    blk_ext [e4]
  have h5 (k : Fin 1024) : (win0_5.blk t).view.emb (ix3 0 0 k) = ix3 (⟨t.val / 4, by omega⟩ : Fin 4) 0 k := by
    blk_ext [e5]
  have h6 (k : Fin 1024) : (win0_6.blk t).view.emb (ix2 0 k) = ix2 0 k := by
    blk_ext [e6]
  have h7 (k : Fin 1024) : (win0_7.blk t).view.emb (ix2 0 k) = ix2 0 k := by
    blk_ext [e7]
  refine stream_eq (⟨t.val * 1024 + r.val, by omega⟩ : Fin 16384) (fun k => ?_) (fun k => ?_) (fun k j => ?_) (fun k j => ?_) (fun k => ?_) (fun k => ?_) (fun k => ?_) fun k => ?_
  · blk_simp [iblk]; rw [h1 k]; exact (congrFun (V_read m c) _).trans (half_apply _ _ k)
  · blk_simp [iblk]; rw [h2 k]; exact (congrFun (V_four m c) _).trans (half_apply _ _ k)
  · blk_simp [iblk]; rw [h3 k j]; exact (congrFun (V_upper m c) _).trans (top_apply _ k j)
  · blk_simp [iblk]; rw [h4 k j]; exact (congrFun (V_lower m c) _).trans (bottom_apply _ k j)
  · blk_simp [iblk]; rw [h0 k]; exact (congrFun (V_stream m c) _).trans (rows_apply _ _ k)
  · blk_simp [iblk]; rw [h5 k]
    exact (congrFun (V_main_arg4 m c) _).trans (congrArg (fun b : Fin 4 => m ((c : Thread nD τ).loc main_arg4) (ix3 b 0 k)) (Fin.ext (by show t.val / 4 = (t.val * 1024 + r.val) / 4096; omega)))
  · blk_simp [iblk]; rw [h6 k]; exact (congrFun (V_gain m c) _).trans (row_apply _ k)
  · blk_simp [iblk]; rw [h7 k]; exact (congrFun (V_bias m c) _).trans (row_apply _ k)

set_option maxHeartbeats 1000000 in
/-- The stream that the kernel leaves. -/
theorem final11 : (dats m 0 c).arrAt 11 cfg0.N = (fun i : S16384x1024.Idx => (result m c (i 0) (i 1) : EReal)) := by
  refine (dats m 0 c).arrAt_eq_of_covers 11 _ (by decide +kernel) fun t hf y => ?_
  blk_simp
  rw [after0_11, out11_apply]
  have hy : (y 0).val < 1024 := (y 0).isLt
  have ht : t.val < 16 := t.isLt.trans_eq N_0
  have h11 : (win0_11.blk t).view.emb y = ix2 (⟨t.val * 1024 + (y 0).val, by omega⟩ : Fin 16384) (y 1) := by
    blk_ext [e11]
  rw [h11]
  exact congrFun (first_eq m c t (y 0)) (y 1)

set_option maxHeartbeats 1000000 in
/-- The scores that the kernel leaves. -/
theorem final13 : (dats m 0 c).arrAt 13 cfg0.N = (fun i : S16384x128.Idx => (scores m c (i 0) (i 1) : EReal)) := by
  refine (dats m 0 c).arrAt_eq_of_covers 13 _ (by decide +kernel) fun t hf y => ?_
  blk_simp
  rw [after0_13, out13_apply]
  have hy : (y 0).val < 1024 := (y 0).isLt
  have ht : t.val < 16 := t.isLt.trans_eq N_0
  have h8 (k : Fin 1024) : (win0_8.blk t).view.emb (ix3 0 0 k) = ix3 (⟨t.val / 4, by omega⟩ : Fin 4) 0 k := by
    blk_ext [e8]
  have h9 (k : Fin 1024) : (win0_9.blk t).view.emb (ix3 0 0 k) = ix3 (⟨t.val / 4, by omega⟩ : Fin 4) 0 k := by
    blk_ext [e9]
  have h10 (k : Fin 1024) : (win0_10.blk t).view.emb (ix2 k (y 1)) = ix2 k (y 1) := by
    blk_ext [e10]
  have h13 : (win0_13.blk t).view.emb y = ix2 (⟨t.val * 1024 + (y 0).val, by omega⟩ : Fin 16384) (y 1) := by
    blk_ext [e13]
  rw [h13]
  refine score_eq (first_eq m c t (y 0)) (fun k => ?_) (fun k => ?_) fun k => ?_
  · blk_simp [iblk]; rw [h9 k]
    exact (congrFun (V_main_arg8 m c) _).trans (congrArg (fun b : Fin 4 => m ((c : Thread nD τ).loc main_arg8) (ix3 b 0 k)) (Fin.ext (by show t.val / 4 = (t.val * 1024 + (y 0).val) / 4096; omega)))
  · blk_simp [iblk]; rw [h8 k]
    exact (congrFun (V_main_arg7 m c) _).trans (congrArg (fun b : Fin 4 => m ((c : Thread nD τ).loc main_arg7) (ix3 b 0 k)) (Fin.ext (by show t.val / 4 = (t.val * 1024 + (y 0).val) / 4096; omega)))
  · blk_simp [iblk]; rw [h10 k]; exact (congrFun (V_router m c) _).trans (cast_apply _ _)

/-- The stream, shaped as the batch's tokens. -/
def tokens : FVec Ideal S4x4096x1024 .f32 :=
  shapeCast S4x4096x1024 ((dats m 0 c).arrAt 11 cfg0.N : FVec Ideal S16384x1024 .f32) shapeCasts_S16384x1024_S4x4096x1024

/-- The scores, shaped as the batch's tokens, without the padding. -/
def routed : FVec Ideal S4x4096x64 .f32 :=
  extractStridedSlice S4x4096x64 ![0, 0, 0] (shapeCast S4x4096x128 ((dats m 0 c).arrAt 13 cfg0.N : FVec Ideal S16384x128 .f32) shapeCasts_S16384x128_S4x4096x128)
    slices_S4x4096x128_S4x4096x64_0_0_0

/-- An array of all tokens' rows, shaped as the batch's tokens, at a token. -/
theorem shaped_apply (a : FVec Ideal S16384x1024 .f32) (b : Fin 4) (t : Fin 4096) (j : Fin 1024) :
    shapeCast S4x4096x1024 a shapeCasts_S16384x1024_S4x4096x1024 (ix3 b t j) = a (ix2 (⟨b.val * 4096 + t.val, by omega⟩ : Fin 16384) j) :=
  shapeCast_apply a _ _ _ (by rw [Shape.rowMajor_val_three, Shape.rowMajor_val_two]; rfl)

/-- An array of all tokens' padded scores, shaped as the batch's tokens and cut, at a token. -/
theorem cut_apply (a : FVec Ideal S16384x128 .f32) (b : Fin 4) (t : Fin 4096) (j : Fin 64) :
    extractStridedSlice S4x4096x64 ![0, 0, 0] (shapeCast S4x4096x128 a shapeCasts_S16384x128_S4x4096x128) slices_S4x4096x128_S4x4096x64_0_0_0 (ix3 b t j)
      = a (ix2 (⟨b.val * 4096 + t.val, by omega⟩ : Fin 16384) (⟨j.val, by omega⟩ : Fin 128)) := by
  rw [extractStridedSlice_apply _ _ slices_S4x4096x128_S4x4096x64_0_0_0 _ (ix3 b t (⟨j.val, by omega⟩ : Fin 128)) (fun a => by match a with
      | ⟨0, _⟩ => exact (Nat.zero_add _).symm
      | ⟨1, _⟩ => exact (Nat.zero_add _).symm
      | ⟨2, _⟩ => exact (Nat.zero_add _).symm)]
  exact shapeCast_apply a _ _ _ (by rw [Shape.rowMajor_val_three, Shape.rowMajor_val_two]; rfl)

/-- The stream, element by element. -/
theorem tokens_apply (b : Fin 4) (t : Fin 4096) (j : Fin 1024) : tokens m c (ix3 b t j) = result m c ⟨b.val * 4096 + t.val, by omega⟩ j := by
  have e : tokens m c (ix3 b t j) = ((dats m 0 c).arrAt 11 cfg0.N : FVec Ideal S16384x1024 .f32)
      (ix2 (⟨b.val * 4096 + t.val, by omega⟩ : Fin 16384) j) := shaped_apply _ b t j
  rw [e, final11]
  rfl

/-- The scores, element by element. -/
theorem routed_apply (b : Fin 4) (t : Fin 4096) (j : Fin 64) :
    routed m c (ix3 b t j) = scores m c ⟨b.val * 4096 + t.val, by omega⟩ ⟨j.val, by omega⟩ := by
  have e : routed m c (ix3 b t j) = ((dats m 0 c).arrAt 13 cfg0.N : FVec Ideal S16384x128 .f32)
      (ix2 (⟨b.val * 4096 + t.val, by omega⟩ : Fin 16384) (⟨j.val, by omega⟩ : Fin 128)) := cut_apply _ b t j
  rw [e, final13]
  rfl

/-- The kernel's program ends with those arrays as its results, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v13) = tokens m c
      ∧ r.2.mem ((c.tc : Thread nD τ).loc main_v15) = routed m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (θ_run_and (run_main m ρ) (unchanged m ρ))
  obtain ⟨h, hu⟩ := h
  have h11 : Pipeline.withArrays (cfgs 0).spec c (V0 m c) (fun w => (dats m 0 c).arrAt w (cfgs 0).N) (Proc.devRef .tc main_v12_0)
      = (dats m 0 c).arrAt 11 cfg0.N := (dats m 0 c).withArrays_arrAt (by decide) (V0 m c) (A_eq m c) 11
  have h13 : Pipeline.withArrays (cfgs 0).spec c (V0 m c) (fun w => (dats m 0 c).arrAt w (cfgs 0).N) (Proc.devRef .tc main_v12_2)
      = (dats m 0 c).arrAt 13 cfg0.N := (dats m 0 c).withArrays_arrAt (by decide) (V0 m c) (A_eq m c) 13
  refine ⟨((h c).2 main_v13 (by decide)).trans ?_, ((h c).2 main_v15 (by decide)).trans ?_, hu c⟩
  · unfold Pipeline.afterTail₀
    rw [List.flatten_singleton]
    unfold hostOps1
    after_results_simp
    rw [h11]
    rfl
  · unfold Pipeline.afterTail₀
    rw [List.flatten_singleton]
    unfold hostOps1
    after_results_simp
    rw [h13]
    rfl

end Cert.MixIdeal.Hand
-- ==== Proof.MixPlain.lean ====
/-
  What the plain output projection leaves, element by element.
-/
module

public import proofs.«01_k».proof.Proof.Gen.MixPlainIdeal.Run
public import proofs.«01_k».proof.Proof.Mixed

@[expose] public section

noncomputable section

namespace Cert.MixPlainIdeal.Hand

open Cert.MixPlainIdeal Cert.MixPlainIdeal.Gen Idealize.ShloMosaic Idealize.ShloMosaic.TcCoe Idealize.SL.Sem
open Cert.Combined (normed)

/-- The product of the joined rows and the weights. -/
def mix (a1 : FVec Ideal S4x4096x512 .bf16) (a2 : FVec Ideal S4x4096x512 .f32) (a3 : FVec Ideal S1024x1024 .f32) : FVec Ideal S4x4096x1024 .f32 :=
  Host.dotGeneral dot_S4x4096x1024_S1024x1024_S4x4096x1024_2_0_01_1_n_n none (concatenate S4x4096x1024 2 [⟨S4x4096x512, (extf .f32 a1 bitsLt_bf16_f32)⟩, ⟨S4x4096x512, a2⟩] concatenates_S4x4096x512_S4x4096x512_S4x4096x1024_d2) a3

/-- The stream and the gated product. -/
def sum (a0 : FVec Ideal S4x4096x1024 .f32) (a1 : FVec Ideal S4x4096x512 .bf16) (a2 : FVec Ideal S4x4096x512 .f32) (a3 : FVec Ideal S1024x1024 .f32)
    (a4 : FVec Ideal S4x1x1024 .f32) : FVec Ideal S4x4096x1024 .f32 :=
  addf (mulf (broadcastInDim S4x4096x1024 ![] bcast_S_S4x4096x1024 (constant S_ .f32 0x3F9837F0#32)) a0) (mulf (broadcastInDim S4x4096x1024 ![0, 1, 2] bcast_S4x1x1024_S4x4096x1024_0_1_2 a4) (mix a1 a2 a3))

/-- The normalization. -/
def after (z : FVec Ideal S4x4096x1024 .f32) (a7 a8 : FVec Ideal S1024 .f32) : FVec Ideal S4x4096x1024 .f32 :=
  addf (mulf (mulf (subf z (broadcastInDim S4x4096x1024 ![0, 1, 2] bcast_S4x4096x1_S4x4096x1024_0_1_2 (Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32))))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (subf z (broadcastInDim S4x4096x1024 ![0, 1, 2] bcast_S4x4096x1_S4x4096x1024_0_1_2 (Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32))))) (subf z (broadcastInDim S4x4096x1024 ![0, 1, 2] bcast_S4x4096x1_S4x4096x1024_0_1_2 (Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32)))))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 a7))) (broadcastInDim S4x4096x1024 ![0, 1, 2] bcast_S1x1x1024_S4x4096x1024_0_1_2 (broadcastInDim S1x1x1024 ![2] bcast_S1024_S1x1x1024_2 a8))

/-- The normalization for the router. -/
def modulated (z : FVec Ideal S4x4096x1024 .f32) (a7 a8 : FVec Ideal S4x1x1024 .f32) : FVec Ideal S4x4096x1024 .f32 :=
  addf (mulf (mulf (subf z (broadcastInDim S4x4096x1024 ![0, 1, 2] bcast_S4x4096x1_S4x4096x1024_0_1_2 (Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32))))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (subf z (broadcastInDim S4x4096x1024 ![0, 1, 2] bcast_S4x4096x1_S4x4096x1024_0_1_2 (Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32))))) (subf z (broadcastInDim S4x4096x1024 ![0, 1, 2] bcast_S4x4096x1_S4x4096x1024_0_1_2 (Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32)))))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S4x1x1024_S4x4096x1024_0_1_2 (addf (broadcastInDim S4x1x1024 ![] bcast_S_S4x1x1024 (constant S_ .f32 0x3F800000#32)) a8))) (broadcastInDim S4x4096x1024 ![0, 1, 2] bcast_S4x1x1024_S4x4096x1024_0_1_2 a7)

/-- The router's scores. -/
def scores (x : FVec Ideal S4x4096x1024 .f32) (a9 : FVec Ideal S1024x64 .f32) : FVec Ideal S4x4096x64 .f32 :=
  Host.divf (broadcastInDim S4x4096x64 ![] bcast_S_S4x4096x64 (constant S_ .f32 0x3F800000#32)) (addf (broadcastInDim S4x4096x64 ![] bcast_S_S4x4096x64 (constant S_ .f32 0x3F800000#32)) (Host.exp (Host.negf (Host.dotGeneral dot_S4x4096x1024_S1024x64_S4x4096x64_2_0_01_1_n_n none x a9))))

/-- The product, element by element. -/
theorem mix_apply (a1 : FVec Ideal S4x4096x512 .bf16) (a2 : FVec Ideal S4x4096x512 .f32) (a3 : FVec Ideal S1024x1024 .f32) (b : Fin 4) (t : Fin 4096) (j : Fin 1024) :
    mix a1 a2 a3 (ix3 b t j) = ∑ k, Mixed.joined (fun k => a1 (ix3 b t k)) (fun k => a2 (ix3 b t k)) k * a3 (ix2 k j) := by
  unfold Mixed.joined
  pointwise [mix]

/-- The sum, element by element. -/
theorem sum_apply (a0 : FVec Ideal S4x4096x1024 .f32) (a1 : FVec Ideal S4x4096x512 .bf16) (a2 : FVec Ideal S4x4096x512 .f32) (a3 : FVec Ideal S1024x1024 .f32)
    (a4 : FVec Ideal S4x1x1024 .f32) (b : Fin 4) (t : Fin 4096) (j : Fin 1024) :
    sum a0 a1 a2 a3 a4 (ix3 b t j)
      = Mixed.before (fun k => a1 (ix3 b t k)) (fun k => a2 (ix3 b t k)) (fun k j => a3 (ix2 (⟨k.val, by omega⟩ : Fin 1024) j))
        (fun k j => a3 (ix2 (⟨512 + k.val, by omega⟩ : Fin 1024) j)) (fun k => a0 (ix3 b t k)) (fun k => a4 (ix3 b 0 k)) j := by
  unfold Mixed.before
  rw [Mixed.joined_eq (fun k => a1 (ix3 b t k)) (fun k => a2 (ix3 b t k)) (fun k => a3 (ix2 k j)), ← mix_apply]
  unfold sum
  generalize mix a1 a2 a3 = p
  pointwise

/-- The normalization, element by element. -/
theorem after_apply (z : FVec Ideal S4x4096x1024 .f32) (a7 a8 : FVec Ideal S1024 .f32) (b : Fin 4) (t : Fin 4096) (j : Fin 1024) :
    after z a7 a8 (ix3 b t j) = normed (fun k => z (ix3 b t k)) (fun k => a7 (ix1 k)) (fun k => a8 (ix1 k)) j := by
  unfold normed Projected.mean
  pointwise [after]

/-- The normalization for the router, element by element. -/
theorem modulated_apply (z : FVec Ideal S4x4096x1024 .f32) (a7 a8 : FVec Ideal S4x1x1024 .f32) (b : Fin 4) (t : Fin 4096) (j : Fin 1024) :
    modulated z a7 a8 (ix3 b t j) = Projected.row (fun k => z (ix3 b t k)) (fun k => a8 (ix3 b 0 k)) (fun k => a7 (ix3 b 0 k)) j := by
  unfold Projected.row Projected.mean
  pointwise [modulated]

/-- The scores, element by element. -/
theorem scores_apply (x : FVec Ideal S4x4096x1024 .f32) (a9 : FVec Ideal S1024x64 .f32) (b : Fin 4) (t : Fin 4096) (j : Fin 64) :
    scores x a9 (ix3 b t j) = Ideal.logistic (∑ k : Fin 1024, x (ix3 b t k) * a9 (ix2 k j)) := by
  unfold Ideal.logistic
  pointwise [scores]

variable (m : (ℓ : Loc nD τ sig) → Buf (Elt Ideal) ℓ) (c : Dev nD)

set_option maxRecDepth 8192 in
/-- The plain output projection's first result. -/
theorem res0_eq :
    Value.res_main_v31 m c = after (sum (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (m ((c.tc : Thread nD τ).loc main_arg5)) (m ((c.tc : Thread nD τ).loc main_arg6)) := by
  unfold Value.res_main_v31 after sum mix
  rfl

set_option maxRecDepth 8192 in
/-- Its second result, of the first. -/
theorem res1_eq :
    Value.res_main_v62 m c = scores (modulated (Value.res_main_v31 m c) (m ((c.tc : Thread nD τ).loc main_arg7)) (m ((c.tc : Thread nD τ).loc main_arg8)))
      (m ((c.tc : Thread nD τ).loc main_arg9)) := by
  unfold Value.res_main_v62 scores modulated Value.res_main_v31
  rfl

/-- The first result, element by element. -/
theorem res0_apply (b : Fin 4) (t : Fin 4096) :
    (fun j : Fin 1024 => Value.res_main_v31 m c (ix3 b t j))
      = normed (Mixed.before (fun k => m ((c.tc : Thread nD τ).loc main_arg1) (ix3 b t k)) (fun k => m ((c.tc : Thread nD τ).loc main_arg2) (ix3 b t k))
        (fun k j => m ((c.tc : Thread nD τ).loc main_arg3) (ix2 (⟨k.val, by omega⟩ : Fin 1024) j)) (fun k j => m ((c.tc : Thread nD τ).loc main_arg3) (ix2 (⟨512 + k.val, by omega⟩ : Fin 1024) j))
        (fun k => m ((c.tc : Thread nD τ).loc main_arg0) (ix3 b t k)) (fun k => m ((c.tc : Thread nD τ).loc main_arg4) (ix3 b 0 k)))
        (fun k => m ((c.tc : Thread nD τ).loc main_arg5) (ix1 k)) (fun k => m ((c.tc : Thread nD τ).loc main_arg6) (ix1 k)) := by
  funext j
  rw [res0_eq]
  refine (after_apply _ _ _ b t j).trans ?_
  exact congrArg (fun z => normed z _ _ j) (funext fun k => sum_apply _ _ _ _ _ b t k)

/-- The second result, element by element. -/
theorem res1_apply (b : Fin 4) (t : Fin 4096) (j : Fin 64) :
    Value.res_main_v62 m c (ix3 b t j)
      = Mixed.score (fun j : Fin 1024 => Value.res_main_v31 m c (ix3 b t j)) (fun k => m ((c.tc : Thread nD τ).loc main_arg8) (ix3 b 0 k))
        (fun k => m ((c.tc : Thread nD τ).loc main_arg7) (ix3 b 0 k)) (fun k => m ((c.tc : Thread nD τ).loc main_arg9) (ix2 k j)) := by
  rw [res1_eq]
  refine (scores_apply _ _ b t j).trans ?_
  unfold Mixed.score
  exact congrArg Ideal.logistic (Finset.sum_congr rfl fun k _ => congrArg (· * _) (modulated_apply _ _ _ b t k))

end Cert.MixPlainIdeal.Hand
-- ==== Proof.lean ====
/-
  The proof of `Cert.Claim`: the experts' kernel from the hand-written launch (Proof/Run.lean) at the tables the
  precondition describes (Proof/Groups.lean), the reference from the generated modules and Proof/RefRun.lean, the two
  results compared in Proof/Equation.lean; the input projection's kernel from Proof/ProjKernel.lean and its reference from
  Proof/ProjPlain.lean, each element of either being Proof/Norm.lean's; the combine's kernel from Proof/CombKernel.lean and
  its reference from Proof/CombPlain.lean, each element of either being Proof/Combined.lean's; the output projection's
  kernel from Proof/MixKernel.lean and its reference from Proof/MixPlain.lean, each element of either being
  Proof/Mixed.lean's.
-/
module

public import proofs.«01_k».proof.Defs
public import proofs.«01_k».proof.Proof.Gen.Kernel
public import proofs.«01_k».proof.Proof.Gen.Reference
public import proofs.«01_k».proof.Proof.Gen.Reference.Frame
public import proofs.«01_k».proof.Proof.Gen.Pre_groups_laid
public import proofs.«01_k».proof.Proof.Gen.On_rows_used
public import proofs.«01_k».proof.Proof.Gen.Proj
public import proofs.«01_k».proof.Proof.Gen.Proj.Frame
public import proofs.«01_k».proof.Proof.Gen.ProjIdeal
public import proofs.«01_k».proof.Proof.Gen.ProjPlainIdeal
public import proofs.«01_k».proof.Proof.Groups
public import proofs.«01_k».proof.Proof.ProjKernel
public import proofs.«01_k».proof.Proof.ProjPlain
public import proofs.«01_k».proof.Proof.RefRun
public import proofs.«01_k».proof.Proof.CombKernel
public import proofs.«01_k».proof.Proof.CombPlain
public import proofs.«01_k».proof.Proof.MixKernel
public import proofs.«01_k».proof.Proof.MixPlain
public import proofs.«01_k».proof.Proof.Gen.Comb
public import proofs.«01_k».proof.Proof.Gen.CombIdeal
public import proofs.«01_k».proof.Proof.Gen.CombPlainIdeal
public import proofs.«01_k».proof.Proof.Gen.Mix
public import proofs.«01_k».proof.Proof.Gen.MixIdeal
public import proofs.«01_k».proof.Proof.Gen.MixPlainIdeal
public import Idealize.ShloMosaic.Lib.Bf16PairInverse
public import Idealize.ShloMosaic.Lib.Quiescent

@[expose] public section

noncomputable section

namespace Cert.Proof

open Idealize.ShloMosaic Idealize.ShloMosaic.TcCoe Idealize.SL.Sem
open Cert.Kernel.Hand (first Laid Gof at1)

/-- The kernel's frame: the arguments unchanged and every counter at zero, of a memory the precondition holds of. -/
theorem kernel_frame : Cert.quiescent_Kernel (hKernel := Cert.Kernel.Gen.facts) (hPre_groups_laid := Cert.Pre_groups_laid.Gen.facts) := fun m g h =>
  (θ_run _ _ _).mono (fun _ e => ⟨fun c => (e.1 c).2, e.2⟩) (Cert.Kernel.Hand.run m g (Cert.Kernel.Hand.laid_of m h))

/-- Where the mask is set, the row lies in a block in use. -/
theorem row_used (a0 a1 : IVec Cert.On_rows_used.S64 32) (a2 : IVec Cert.On_rows_used.S1 32) (a3 : IVec Cert.On_rows_used.S163840x512 32)
    (a4 : FVec Bits Cert.On_rows_used.S64x1024x512 .f32) (a5 : FVec Bits Cert.On_rows_used.S64x256x1024 .f32) (R : Fin 163840) (c : Fin 512)
    (h2 : (a2 at1).toNat ≤ 320)
    (h : @Cert.On_rows_used.fn Cert.On_rows_used.Gen.facts Bits _ a0 a1 a2 a3 a4 a5 (ValueIdx.ix2 R c) = 1#1) : R.val / 512 < (a2 at1).toNat := by
  have hR := R.isLt
  have h' : IntOp.cmpi .slt (BitVec.ofNat 32 R.val)
      (broadcastInDim Cert.On_rows_used.S163840x512 ![1] Cert.On_rows_used.Gen.facts.bcast_S1_S163840x512_1
        (muli a2 (broadcastInDim Cert.On_rows_used.S1 ![] Cert.On_rows_used.Gen.facts.bcast_S_S1 (constantI Cert.On_rows_used.S_ 32 512#32))) (ValueIdx.ix2 R c)) = 1#1 := h
  rw [broadcastInDim_apply _ _ _ _ (at1 : Cert.On_rows_used.S1.Idx) (fun a => by match a with | ⟨0, _⟩ => rfl)] at h'
  have e1 : (IntOp.muli (a2 at1) 512#32).toNat = (a2 at1).toNat * 512 := by
    unfold IntOp.muli
    rw [BitVec.toNat_mul]
    have h512 : (512#32 : BitVec 32).toNat = 512 := by decide
    rw [h512]
    omega
  have e0 : (BitVec.ofNat 32 R.val).toNat = R.val := by rw [BitVec.toNat_ofNat]; omega
  have h3 : IntOp.cmpi .slt (BitVec.ofNat 32 R.val) (IntOp.muli (a2 at1) 512#32) = 1#1 := h'
  have := (StableHlo.Predicate.slt_iff_toNat (by omega) (by omega)).mp h3
  omega

/-- Kernel and reference agree bit for bit on the rows in use. -/
theorem agree : Cert.bitexact_Kernel_Reference_on_rows_used (hKernel := Cert.Kernel.Gen.facts) (hReference := Cert.Reference.Gen.facts)
    (hPre_groups_laid := Cert.Pre_groups_laid.Gen.facts) (hOn_rows_used := Cert.On_rows_used.Gen.facts) := fun m g m' g' hpre hagree => by
  have L := Cert.Kernel.Hand.laid_of m hpre
  refine ⟨fun c => Gof m, (θ_run _ _ _).mono (fun _ e c => ⟨fun i _ => congrFun (e.1 c).1 i, (e.1 c).2⟩) (Cert.Kernel.Hand.run m g L),
    (θ_run _ _ _).mono (fun _ e c => ⟨fun i hi => ?_, (e c).2⟩) (Cert.Reference.Hand.run m' g')⟩
  obtain rfl : c = 0 := Subsingleton.elim _ _
  obtain ⟨h0, h1, h2, h3, h4, h5⟩ := hagree 0
  obtain ⟨R, k, rfl⟩ : ∃ (R : Fin 163840) (k : Fin 512), i = ValueIdx.ix2 R k := ⟨i 0, i 1, ValueIdx.eq_ix2 i⟩
  have e64 : first m 64 = ((m (((0 : Dev Cert.Kernel.nD).tc : Thread Cert.Kernel.nD Cert.Kernel.τ).loc Cert.Kernel.main_arg2) : Cert.Kernel.S1.Idx → BitVec 32) at1).toNat := by
    unfold first; rw [dif_neg (by omega)]
  have hu := row_used (m (((0 : Dev Cert.Kernel.nD).tc : Thread Cert.Kernel.nD Cert.Kernel.τ).loc Cert.Kernel.main_arg0))
    (m (((0 : Dev Cert.Kernel.nD).tc : Thread Cert.Kernel.nD Cert.Kernel.τ).loc Cert.Kernel.main_arg1))
    (m (((0 : Dev Cert.Kernel.nD).tc : Thread Cert.Kernel.nD Cert.Kernel.τ).loc Cert.Kernel.main_arg2))
    (m (((0 : Dev Cert.Kernel.nD).tc : Thread Cert.Kernel.nD Cert.Kernel.τ).loc Cert.Kernel.main_arg3))
    (m (((0 : Dev Cert.Kernel.nD).tc : Thread Cert.Kernel.nD Cert.Kernel.τ).loc Cert.Kernel.main_arg4))
    (m (((0 : Dev Cert.Kernel.nD).tc : Thread Cert.Kernel.nD Cert.Kernel.τ).loc Cert.Kernel.main_arg5))
    R k (e64 ▸ L.top) hi
  rw [← e64] at hu
  refine (congrFun (e 0).1 _).trans ?_
  refine Eq.trans ?_ (Cert.Equation.result_eq m L R k hu).symm
  show Cert.Equation.refOf _ _ _ _ _ _ = Cert.Equation.refOf _ _ _ _ _ _
  rw [h0, h1, h3, h4, h5]

/-- Two arrays' runs of `n` columns are equal where their elements are. -/
theorem parts {n p q : ℕ} (o o' : ℕ) (hp : o + n ≤ p) (hq : o' + n ≤ q) (x : (⟨3, ![4, 4096, p]⟩ : Shape).Idx → EReal) (y : (⟨3, ![4, 4096, q]⟩ : Shape).Idx → EReal)
    (h : (⟨3, ![4, 4096, p]⟩ : Shape).Slices ![0, 0, o] ⟨3, ![4, 4096, n]⟩) (h' : (⟨3, ![4, 4096, q]⟩ : Shape).Slices ![0, 0, o'] ⟨3, ![4, 4096, n]⟩)
    (e : ∀ (b : Fin 4) (t : Fin 4096) (j : Fin n), x (ix3 b t ⟨o + j.val, by omega⟩) = y (ix3 b t ⟨o' + j.val, by omega⟩)) :
    extractStridedSlice ⟨3, ![4, 4096, n]⟩ ![0, 0, o] x h = extractStridedSlice ⟨3, ![4, 4096, n]⟩ ![0, 0, o'] y h' := by
  funext i
  obtain ⟨b, t, j, rfl⟩ : ∃ (b : Fin 4) (t : Fin 4096) (j : Fin n), i = ix3 b t j := ⟨i 0, i 1, i 2, eq_ix3 i⟩
  rw [extractStridedSlice_apply _ _ h _ (ix3 b t ⟨o + j.val, by omega⟩) (fun a => by match a with
      | ⟨0, _⟩ => exact (Nat.zero_add _).symm
      | ⟨1, _⟩ => exact (Nat.zero_add _).symm
      | ⟨2, _⟩ => rfl), e,
    extractStridedSlice_apply _ _ h' _ (ix3 b t ⟨o' + j.val, by omega⟩) (fun a => by match a with
      | ⟨0, _⟩ => exact (Nat.zero_add _).symm
      | ⟨1, _⟩ => exact (Nat.zero_add _).symm
      | ⟨2, _⟩ => rfl)]

/-- The plain projection's frame: it ends, the arguments unchanged, and it has no counters. -/
theorem plain_frame : Cert.quiescent_ProjPlainIdeal (hProjPlainIdeal := Cert.ProjPlainIdeal.Gen.facts) := fun m g _ =>
  (θ_run _ _ _).mono (fun r e => ⟨fun c => (e c).2.2.2.2.2, sem_eq_zero_of_no_sems rfl r.2⟩) (Cert.ProjPlainIdeal.Value.run m g)

/-- The input projection's kernel and the plain projection leave the same five arrays of extended reals. -/
theorem projected_agree : Cert.algebraic_ProjIdeal_ProjPlainIdeal (hProjIdeal := Cert.ProjIdeal.Gen.facts)
    (hProjPlainIdeal := Cert.ProjPlainIdeal.Gen.facts) := fun m g m' g' _ hagree => by
  refine ⟨_, _, _, _, _, Cert.ProjIdeal.Hand.run m g, (θ_run _ _ _).mono (fun _ e c => ?_) (Cert.ProjPlainIdeal.Hand.run m' g'
    (fun c => Cert.ProjPlainIdeal.Hand.product (m' ((c.tc : Thread _ _).loc Cert.ProjPlainIdeal.main_arg0))
      (m' ((c.tc : Thread _ _).loc Cert.ProjPlainIdeal.main_arg1)) (m' ((c.tc : Thread _ _).loc Cert.ProjPlainIdeal.main_arg2))
      (m' ((c.tc : Thread _ _).loc Cert.ProjPlainIdeal.main_arg3))) fun _ => rfl)⟩
  obtain ⟨h0, h1, h2, h3⟩ := hagree c
  have key : ∀ (b : Fin 4) (t : Fin 4096) (j : Fin 2688) (l : Fin 2576), (∀ w k, Cert.Projected.column w j k = w k l) →
      Cert.ProjPlainIdeal.Hand.product (m' ((c.tc : Thread _ _).loc Cert.ProjPlainIdeal.main_arg0))
        (m' ((c.tc : Thread _ _).loc Cert.ProjPlainIdeal.main_arg1)) (m' ((c.tc : Thread _ _).loc Cert.ProjPlainIdeal.main_arg2))
        (m' ((c.tc : Thread _ _).loc Cert.ProjPlainIdeal.main_arg3)) (ix3 b t l) = Cert.ProjIdeal.Hand.tokens m c (ix3 b t j) := by
    intro b t j l h
    rw [Cert.ProjIdeal.Hand.tokens_apply m c b t j l h, Cert.ProjPlainIdeal.Hand.product_apply, h0, h1, h2, h3]
  obtain ⟨e0, e1, e2, e3, e4, e5⟩ := e c
  refine ⟨e0.trans ?_, e1.trans ?_, e2.trans ?_, e3.trans ?_, e4.trans ?_, e5⟩
  · refine parts _ _ (by decide) (by decide) _ _ _ _ fun b t j => key b t _ _ fun w k => ?_
    exact Cert.Projected.column_low w _ _ (by show 0 + j.val < 2048; omega) rfl k
  · refine parts _ _ (by decide) (by decide) _ _ _ _ fun b t j => key b t _ _ fun w k => ?_
    exact Cert.Projected.column_low w _ _ (by show 1024 + j.val < 2048; omega) rfl k
  · refine parts _ _ (by decide) (by decide) _ _ _ _ fun b t j => key b t _ _ fun w k => ?_
    exact Cert.Projected.column_low w _ _ (by show 1536 + j.val < 2048; omega) rfl k
  · refine parts _ _ (by decide) (by decide) _ _ _ _ fun b t j => key b t _ _ fun w k => ?_
    exact Cert.Projected.column_high w _ _ (by show 2560 ≤ 2560 + j.val; omega) (by show 2560 + j.val < 2576; omega)
      (by show 2048 + j.val + 512 = 2560 + j.val; omega) k
  · refine parts _ _ (by decide) (by decide) _ _ _ _ fun b t j => key b t _ _ fun w k => ?_
    exact Cert.Projected.column_mid w _ _ (by show 2048 ≤ 2048 + j.val; omega) (by show 2048 + j.val < 2560; omega)
      (by show 2064 + j.val = 2048 + j.val + 16; omega) k

/-- The plain combine's frame: it ends, the arguments unchanged, and it has no counters. -/
theorem combine_plain_frame : Cert.quiescent_CombPlainIdeal (hCombPlainIdeal := Cert.CombPlainIdeal.Gen.facts) := fun m g _ =>
  (θ_run _ _ _).mono (fun r e => ⟨fun c => (e c).2, sem_eq_zero_of_no_sems rfl r.2⟩) (Cert.CombPlainIdeal.Value.run m g)

/-- The combine's kernel and the plain combine leave the same array of extended reals. -/
theorem combined_agree : Cert.algebraic_CombIdeal_CombPlainIdeal (hCombIdeal := Cert.CombIdeal.Gen.facts)
    (hCombPlainIdeal := Cert.CombPlainIdeal.Gen.facts) := fun m g m' g' _ hagree => by
  refine ⟨_, Cert.CombIdeal.Hand.run m g, (θ_run _ _ _).mono (fun _ e c => ⟨(e c).1.trans ?_, (e c).2⟩) (Cert.CombPlainIdeal.Value.run m' g')⟩
  obtain ⟨h0, h1, h2, h3, h4, h5, h6, h7, h8⟩ := hagree c
  rw [Cert.CombPlainIdeal.Hand.res_eq, h0, h1, h2, h3, h4, h5, h6, h7, h8]
  funext i
  obtain ⟨b, t, j, rfl⟩ : ∃ (b : Fin 4) (t : Fin 4096) (j : Fin 1024), i = ix3 b t j := ⟨i 0, i 1, i 2, eq_ix3 i⟩
  refine (Cert.CombPlainIdeal.Hand.after_apply _ _ _ b t j).trans (Eq.trans ?_ (Cert.CombIdeal.Hand.tokens_apply m c b t j).symm)
  have hb : (⟨(b.val * 4096 + t.val) / 4096, by omega⟩ : Fin 4) = b := Fin.ext (by show (b.val * 4096 + t.val) / 4096 = b.val; omega)
  have ht : (⟨(b.val * 4096 + t.val) % 4096, by omega⟩ : Fin 4096) = t := Fin.ext (by show (b.val * 4096 + t.val) % 4096 = t.val; omega)
  unfold Cert.CombIdeal.Hand.result Cert.Combined.combined
  dsimp only
  rw [hb, ht]
  exact congrArg (fun z => Cert.Combined.normed z _ _ j) (funext fun k => Cert.CombPlainIdeal.Hand.before_apply _ _ _ _ _ _ _ b t k)

/-- The rules by which the output projection's program is idealized change no meaning: words of two bf16 halves in a
    buffer, taken out and put in, and a word made of two halves. -/
theorem mixed_preserved : Cert.preserves_Mix_MixIdeal :=
  ⟨IdealRules.bf16_pair.bufferStatement Cert.MixIdeal.S16384x2x512 Cert.MixIdeal.S16384x1x512, IdealRules.bf16_pair.bufferStatement Cert.MixIdeal.S1024x2x512 Cert.MixIdeal.S1024x1x512,
    IdealRules.bf16_pair.statement Cert.MixIdeal.S512x2x512 Cert.MixIdeal.S512x1x512, IdealRules.bf16_pack.statement Cert.MixIdeal.S512x512⟩

/-- The plain output projection's frame: it ends, the arguments unchanged, and it has no counters. -/
theorem mix_plain_frame : Cert.quiescent_MixPlainIdeal (hMixPlainIdeal := Cert.MixPlainIdeal.Gen.facts) := fun m g _ =>
  (θ_run _ _ _).mono (fun r e => ⟨fun c => (e c).2.2, sem_eq_zero_of_no_sems rfl r.2⟩) (Cert.MixPlainIdeal.Value.run m g)

/-- The output projection's kernel and the plain one leave the same stream and the same scores, of extended reals. -/
theorem mixed_agree : Cert.algebraic_MixIdeal_MixPlainIdeal (hMixIdeal := Cert.MixIdeal.Gen.facts)
    (hMixPlainIdeal := Cert.MixPlainIdeal.Gen.facts) := fun m g m' g' _ hagree => by
  refine ⟨_, _, Cert.MixIdeal.Hand.run m g, (θ_run _ _ _).mono (fun _ e c => ?_) (Cert.MixPlainIdeal.Value.run m' g')⟩
  obtain ⟨h0, h1, h2, h3, h4, h5, h6, h7, h8, h9⟩ := hagree c
  have hb (b : Fin 4) (t : Fin 4096) : (⟨(b.val * 4096 + t.val) / 4096, by omega⟩ : Fin 4) = b := Fin.ext (by show (b.val * 4096 + t.val) / 4096 = b.val; omega)
  have ht (b : Fin 4) (t : Fin 4096) : (⟨(b.val * 4096 + t.val) % 4096, by omega⟩ : Fin 4096) = t := Fin.ext (by show (b.val * 4096 + t.val) % 4096 = t.val; omega)
  have key (b : Fin 4) (t : Fin 4096) : (fun j : Fin 1024 => Cert.MixPlainIdeal.Value.res_main_v31 m' c (ix3 b t j))
      = Cert.MixIdeal.Hand.result m c ⟨b.val * 4096 + t.val, by omega⟩ := by
    rw [Cert.MixPlainIdeal.Hand.res0_apply, h0, h1, h2, h3, h4, h5, h6]
    unfold Cert.MixIdeal.Hand.result Cert.Mixed.stream
    dsimp only
    rw [hb, ht]
  refine ⟨(e c).1.trans ?_, (e c).2.1.trans ?_, (e c).2.2⟩
  · funext i
    obtain ⟨b, t, j, rfl⟩ : ∃ (b : Fin 4) (t : Fin 4096) (j : Fin 1024), i = ix3 b t j := ⟨i 0, i 1, i 2, eq_ix3 i⟩
    exact (congrFun (key b t) j).trans (Cert.MixIdeal.Hand.tokens_apply m c b t j).symm
  · funext i
    obtain ⟨b, t, j, rfl⟩ : ∃ (b : Fin 4) (t : Fin 4096) (j : Fin 64), i = ix3 b t j := ⟨i 0, i 1, i 2, eq_ix3 i⟩
    refine (Cert.MixPlainIdeal.Hand.res1_apply m' c b t j).trans (Eq.trans ?_ (Cert.MixIdeal.Hand.routed_apply m c b t j).symm)
    rw [key, h7, h8, h9]
    unfold Cert.MixIdeal.Hand.scores
    dsimp only
    rw [hb]
    exact congrArg (Cert.Mixed.score _ _ _) (funext fun k => (Cert.MixIdeal.Hand.padded_apply _ k j).symm)

theorem claim : Cert.Claim := ⟨Cert.Kernel.Gen.facts, Cert.Reference.Gen.facts, Cert.Proj.Gen.facts, Cert.ProjIdeal.Gen.facts,
  Cert.ProjPlainIdeal.Gen.facts, Cert.Comb.Gen.facts, Cert.CombIdeal.Gen.facts, Cert.CombPlainIdeal.Gen.facts,
  Cert.Mix.Gen.facts, Cert.MixIdeal.Gen.facts, Cert.MixPlainIdeal.Gen.facts,
  Cert.Pre_groups_laid.Gen.facts, Cert.On_rows_used.Gen.facts,
  kernel_frame, fun m g _ => Cert.Reference.Gen.frame m g, fun m g _ => Cert.Proj.Gen.frame m g,
  fun m g _ => Cert.ProjIdeal.Gen.frame m g, plain_frame, fun m g _ => Cert.Comb.Gen.frame m g,
  fun m g _ => Cert.CombIdeal.Gen.frame m g, combine_plain_frame, fun m g _ => Cert.Mix.Gen.frame m g,
  fun m g _ => Cert.MixIdeal.Gen.frame m g, mix_plain_frame, agree, trivial, projected_agree, trivial, combined_agree,
  mixed_preserved, mixed_agree⟩

end Cert.Proof

end
